-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v858) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S64x128x33x33 : Shape := ⟨4, ![64, 128, 33, 33]⟩
abbrev S128x256 : Shape := ⟨2, ![128, 256]⟩
abbrev S256 : Shape := ⟨1, ![256]⟩
abbrev S1x1x256 : Shape := ⟨3, ![1, 1, 256]⟩
abbrev S4x256x1536 : Shape := ⟨3, ![4, 256, 1536]⟩
abbrev S4x512x256 : Shape := ⟨3, ![4, 512, 256]⟩
abbrev S4x256 : Shape := ⟨2, ![4, 256]⟩
abbrev S4x256x512 : Shape := ⟨3, ![4, 256, 512]⟩
abbrev S4x512 : Shape := ⟨2, ![4, 512]⟩
abbrev S256x16 : Shape := ⟨2, ![256, 16]⟩
abbrev S16 : Shape := ⟨1, ![16]⟩
abbrev S_ : Shape := ⟨0, ![]⟩

class Facts : Prop where
  bcast_S_S64x128x33x33 : S_.BroadcastsInDim S64x128x33x33 (![] : Fin 0 → Fin S64x128x33x33.rank)
  reducesTo_S64x128x33x33_S_d0_1_2_3 : S64x128x33x33.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S1x1x256 : S_.BroadcastsInDim S1x1x256 (![] : Fin 0 → Fin S1x1x256.rank)
  reducesTo_S1x1x256_S_d0_1_2 : S1x1x256.ReducesTo [0, 1, 2] S_
  bcast_S_S4x256x1536 : S_.BroadcastsInDim S4x256x1536 (![] : Fin 0 → Fin S4x256x1536.rank)
  reducesTo_S4x256x1536_S_d0_1_2 : S4x256x1536.ReducesTo [0, 1, 2] S_
  bcast_S_S4x512x256 : S_.BroadcastsInDim S4x512x256 (![] : Fin 0 → Fin S4x512x256.rank)
  reducesTo_S4x512x256_S_d0_1_2 : S4x512x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x512 : S_.BroadcastsInDim S4x256x512 (![] : Fin 0 → Fin S4x256x512.rank)
  reducesTo_S4x256x512_S_d0_1_2 : S4x256x512.ReducesTo [0, 1, 2] S_
  bcast_S_S4x512 : S_.BroadcastsInDim S4x512 (![] : Fin 0 → Fin S4x512.rank)
  reducesTo_S4x512_S_d0_1 : S4x512.ReducesTo [0, 1] S_

variable [Facts]

def fn_part4 {F : FTy → Type} [FloatOps F] (main_arg14 : FVec F S4x256 .f32) (main_v63 : IVec S_ 1) (main_v67 : IVec S_ 1) : IVec S_ 1 :=
  let main_v68 : IVec S_ 1 := andi main_v63 main_v67
  let main_v69 : FVec F S4x256 .f32 := Host.absf main_arg14
  let main_cst_26 : FVec F S_ .f32 := constant S_ .f32 0x7F800000#32
  let main_v70 : FVec F S4x256 .f32 := broadcastInDim S4x256 ![] bcast_S_S4x256 main_cst_26
  let main_v71 : IVec S4x256 1 := cmpf .olt main_v69 main_v70
  let main_c_27 : IVec S_ 1 := constantI S_ 1 1#1
  let main_v72 : IVec S_ 1 := (fun x v => Host.reduce IntOp.andi x v reducesTo_S4x256_S_d0_1 h_S_) main_v71 main_c_27
  let main_v73 : IVec S_ 1 := andi main_v68 main_v72
  main_v73

def fn_part3 {F : FTy → Type} [FloatOps F] (main_arg11 : FVec F S4x512x256 .f32) (main_arg12 : FVec F S4x256 .f32) (main_arg13 : FVec F S4x256 .f32) (main_arg14 : FVec F S4x256 .f32) (main_v48 : IVec S_ 1) (main_v49 : FVec F S4x512 .f32) (main_v50 : FVec F S4x512 .f32) : IVec S_ 1 :=
  let main_v51 : IVec S4x512 1 := cmpf .olt main_v49 main_v50
  let main_c_19 : IVec S_ 1 := constantI S_ 1 1#1
  let main_v52 : IVec S_ 1 := (fun x v => Host.reduce IntOp.andi x v reducesTo_S4x512_S_d0_1 h_S_) main_v51 main_c_19
  let main_v53 : IVec S_ 1 := andi main_v48 main_v52
  let main_v54 : FVec F S4x512x256 .f32 := Host.absf main_arg11
  let main_cst_20 : FVec F S_ .f32 := constant S_ .f32 0x7F800000#32
  let main_v55 : FVec F S4x512x256 .f32 := broadcastInDim S4x512x256 ![] bcast_S_S4x512x256 main_cst_20
  let main_v56 : IVec S4x512x256 1 := cmpf .olt main_v54 main_v55
  let main_c_21 : IVec S_ 1 := constantI S_ 1 1#1
  let main_v57 : IVec S_ 1 := (fun x v => Host.reduce IntOp.andi x v reducesTo_S4x512x256_S_d0_1_2 h_S_) main_v56 main_c_21
  let main_v58 : IVec S_ 1 := andi main_v53 main_v57
  let main_v59 : FVec F S4x256 .f32 := Host.absf main_arg12
  let main_cst_22 : FVec F S_ .f32 := constant S_ .f32 0x7F800000#32
  let main_v60 : FVec F S4x256 .f32 := broadcastInDim S4x256 ![] bcast_S_S4x256 main_cst_22
  let main_v61 : IVec S4x256 1 := cmpf .olt main_v59 main_v60
  let main_c_23 : IVec S_ 1 := constantI S_ 1 1#1
  let main_v62 : IVec S_ 1 := (fun x v => Host.reduce IntOp.andi x v reducesTo_S4x256_S_d0_1 h_S_) main_v61 main_c_23
  let main_v63 : IVec S_ 1 := andi main_v58 main_v62
  let main_v64 : FVec F S4x256 .f32 := Host.absf main_arg13
  let main_cst_24 : FVec F S_ .f32 := constant S_ .f32 0x7F800000#32
  let main_v65 : FVec F S4x256 .f32 := broadcastInDim S4x256 ![] bcast_S_S4x256 main_cst_24
  let main_v66 : IVec S4x256 1 := cmpf .olt main_v64 main_v65
  let main_c_25 : IVec S_ 1 := constantI S_ 1 1#1
  let main_v67 : IVec S_ 1 := (fun x v => Host.reduce IntOp.andi x v reducesTo_S4x256_S_d0_1 h_S_) main_v66 main_c_25
  fn_part4 (F := F) main_arg14 main_v63 main_v67

def fn_part2 {F : FTy → Type} [FloatOps F] (main_arg7 : FVec F S4x256 .f32) (main_arg8 : FVec F S4x256 .f32) (main_arg9 : FVec F S4x256x512 .f32) (main_arg10 : FVec F S4x512 .f32) (main_arg11 : FVec F S4x512x256 .f32) (main_arg12 : FVec F S4x256 .f32) (main_arg13 : FVec F S4x256 .f32) (main_arg14 : FVec F S4x256 .f32) (main_v33 : IVec S_ 1) : IVec S_ 1 :=
  let main_v34 : FVec F S4x256 .f32 := Host.absf main_arg7
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S4x256x512 .f32 := Host.absf main_arg9
  let main_cst_16 : FVec F S_ .f32 := constant S_ .f32 0x7F800000#32
  let main_v45 : FVec F S4x256x512 .f32 := broadcastInDim S4x256x512 ![] bcast_S_S4x256x512 main_cst_16
  let main_v46 : IVec S4x256x512 1 := cmpf .olt main_v44 main_v45
  let main_c_17 : IVec S_ 1 := constantI S_ 1 1#1
  let main_v47 : IVec S_ 1 := (fun x v => Host.reduce IntOp.andi x v reducesTo_S4x256x512_S_d0_1_2 h_S_) main_v46 main_c_17
  let main_v48 : IVec S_ 1 := andi main_v43 main_v47
  let main_v49 : FVec F S4x512 .f32 := Host.absf main_arg10
  let main_cst_18 : FVec F S_ .f32 := constant S_ .f32 0x7F800000#32
  let main_v50 : FVec F S4x512 .f32 := broadcastInDim S4x512 ![] bcast_S_S4x512 main_cst_18
  fn_part3 (F := F) main_arg11 main_arg12 main_arg13 main_arg14 main_v48 main_v49 main_v50

def fn_part1 {F : FTy → Type} [FloatOps F] (main_arg4 : FVec F S4x256x1536 .f32) (main_arg5 : FVec F S4x512x256 .f32) (main_arg6 : FVec F S4x256 .f32) (main_arg7 : FVec F S4x256 .f32) (main_arg8 : FVec F S4x256 .f32) (main_arg9 : FVec F S4x256x512 .f32) (main_arg10 : FVec F S4x512 .f32) (main_arg11 : FVec F S4x512x256 .f32) (main_arg12 : FVec F S4x256 .f32) (main_arg13 : FVec F S4x256 .f32) (main_arg14 : FVec F S4x256 .f32) (main_v13 : IVec S_ 1) (main_v16 : IVec S1x1x256 1) : IVec S_ 1 :=
  let main_c_5 : IVec S_ 1 := constantI S_ 1 1#1
  let main_v17 : IVec S_ 1 := (fun x v => Host.reduce IntOp.andi x v reducesTo_S1x1x256_S_d0_1_2 h_S_) main_v16 main_c_5
  let main_v18 : IVec S_ 1 := andi main_v13 main_v17
  let main_v19 : FVec F S4x256x1536 .f32 := Host.absf main_arg4
  let main_cst_6 : FVec F S_ .f32 := constant S_ .f32 0x7F800000#32
  let main_v20 : FVec F S4x256x1536 .f32 := broadcastInDim S4x256x1536 ![] bcast_S_S4x256x1536 main_cst_6
  let main_v21 : IVec S4x256x1536 1 := cmpf .olt main_v19 main_v20
  let main_c_7 : IVec S_ 1 := constantI S_ 1 1#1
  let main_v22 : IVec S_ 1 := (fun x v => Host.reduce IntOp.andi x v reducesTo_S4x256x1536_S_d0_1_2 h_S_) main_v21 main_c_7
  let main_v23 : IVec S_ 1 := andi main_v18 main_v22
  let main_v24 : FVec F S4x512x256 .f32 := Host.absf main_arg5
  let main_cst_8 : FVec F S_ .f32 := constant S_ .f32 0x7F800000#32
  let main_v25 : FVec F S4x512x256 .f32 := broadcastInDim S4x512x256 ![] bcast_S_S4x512x256 main_cst_8
  let main_v26 : IVec S4x512x256 1 := cmpf .olt main_v24 main_v25
  let main_c_9 : IVec S_ 1 := constantI S_ 1 1#1
  let main_v27 : IVec S_ 1 := (fun x v => Host.reduce IntOp.andi x v reducesTo_S4x512x256_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x128x33x33 .f32) (main_arg1 : FVec F S128x256 .f32) (main_arg2 : FVec F S256 .f32) (main_arg3 : FVec F S1x1x256 .f32) (main_arg4 : FVec F S4x256x1536 .f32) (main_arg5 : FVec F S4x512x256 .f32) (main_arg6 : FVec F S4x256 .f32) (main_arg7 : FVec F S4x256 .f32) (main_arg8 : FVec F S4x256 .f32) (main_arg9 : FVec F S4x256x512 .f32) (main_arg10 : FVec F S4x512 .f32) (main_arg11 : FVec F S4x512x256 .f32) (main_arg12 : FVec F S4x256 .f32) (main_arg13 : FVec F S4x256 .f32) (main_arg14 : FVec F S4x256 .f32) (main_arg15 : FVec F S256 .f32) (main_arg16 : FVec F S256 .f32) (main_arg17 : FVec F S256x16 .f32) (main_arg18 : FVec F S16 .f32) : IVec S_ 1 :=
  let main_v0 : FVec F S64x128x33x33 .f32 := Host.absf main_arg0
  let main_cst : FVec F S_ .f32 := constant S_ .f32 0x7F800000#32
  let main_v1 : FVec F S64x128x33x33 .f32 := broadcastInDim S64x128x33x33 ![] bcast_S_S64x128x33x33 main_cst
  let main_v2 : IVec S64x128x33x33 1 := cmpf .olt main_v0 main_v1
  let main_c : IVec S_ 1 := constantI S_ 1 1#1
  let main_v3 : IVec S_ 1 := (fun x v => Host.reduce IntOp.andi x v reducesTo_S64x128x33x33_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x1x256 .f32 := Host.absf main_arg3
  let main_cst_4 : FVec F S_ .f32 := constant S_ .f32 0x7F800000#32
  let main_v15 : FVec F S1x1x256 .f32 := broadcastInDim S1x1x256 ![] bcast_S_S1x1x256 main_cst_4
  let main_v16 : IVec S1x1x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x128x33x33 : Shape := ⟨4, ![64, 128, 33, 33]⟩
abbrev S128x256 : Shape := ⟨2, ![128, 256]⟩
abbrev S256 : Shape := ⟨1, ![256]⟩
abbrev S1x1x256 : Shape := ⟨3, ![1, 1, 256]⟩
abbrev S4x256x1536 : Shape := ⟨3, ![4, 256, 1536]⟩
abbrev S4x512x256 : Shape := ⟨3, ![4, 512, 256]⟩
abbrev S4x256 : Shape := ⟨2, ![4, 256]⟩
abbrev S4x256x512 : Shape := ⟨3, ![4, 256, 512]⟩
abbrev S4x512 : Shape := ⟨2, ![4, 512]⟩
abbrev S256x16 : Shape := ⟨2, ![256, 16]⟩
abbrev S16 : Shape := ⟨1, ![16]⟩
abbrev S1089x128 : Shape := ⟨2, ![1089, 128]⟩
abbrev S136x256 : Shape := ⟨2, ![136, 256]⟩
abbrev S64x128x1089 : Shape := ⟨3, ![64, 128, 1089]⟩
abbrev S_ : Shape := ⟨0, ![]⟩
abbrev S256x128 : Shape := ⟨2, ![256, 128]⟩
abbrev S128 : Shape := ⟨1, ![128]⟩
abbrev S1x128 : Shape := ⟨2, ![1, 128]⟩
abbrev S4x256x1024 : Shape := ⟨3, ![4, 256, 1024]⟩
abbrev S256x1 : Shape := ⟨2, ![256, 1]⟩
abbrev S1x256 : Shape := ⟨2, ![1, 256]⟩
abbrev S4x1x256 : Shape := ⟨3, ![4, 1, 256]⟩
abbrev S4x1x512 : Shape := ⟨3, ![4, 1, 512]⟩
abbrev S64x1x128 : Shape := ⟨3, ![64, 1, 128]⟩
abbrev S8x128x1089 : Shape := ⟨3, ![8, 128, 1089]⟩
abbrev S8x1x128 : Shape := ⟨3, ![8, 1, 128]⟩
abbrev S1088x256 : Shape := ⟨2, ![1088, 256]⟩
abbrev S1088x512 : Shape := ⟨2, ![1088, 512]⟩
abbrev S8x256 : Shape := ⟨2, ![8, 256]⟩
abbrev S136x128 : Shape := ⟨2, ![136, 128]⟩
abbrev S1x128x1089 : Shape := ⟨3, ![1, 128, 1089]⟩
abbrev S128x1089 : Shape := ⟨2, ![128, 1089]⟩
abbrev S128x128 : Shape := ⟨2, ![128, 128]⟩
abbrev S7x256 : Shape := ⟨2, ![7, 256]⟩
abbrev S1x136 : Shape := ⟨2, ![1, 136]⟩
abbrev S1088 : Shape := ⟨1, ![1088]⟩
abbrev S1088x1 : Shape := ⟨2, ![1088, 1]⟩
abbrev S1x256x1536 : Shape := ⟨3, ![1, 256, 1536]⟩
abbrev S256x1536 : Shape := ⟨2, ![256, 1536]⟩
abbrev S1088x1536 : Shape := ⟨2, ![1088, 1536]⟩
abbrev S136x64 : Shape := ⟨2, ![136, 64]⟩
abbrev S136x136 : Shape := ⟨2, ![136, 136]⟩
abbrev S136x1 : Shape := ⟨2, ![136, 1]⟩
abbrev S1x512x256 : Shape := ⟨3, ![1, 512, 256]⟩
abbrev S512x256 : Shape := ⟨2, ![512, 256]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩
abbrev S8 : Shape := ⟨1, ![8]⟩
abbrev S8x1 : Shape := ⟨2, ![8, 1]⟩
abbrev S8x128 : Shape := ⟨2, ![8, 128]⟩
abbrev S64x128 : Shape := ⟨2, ![64, 128]⟩
abbrev S64x16 : Shape := ⟨2, ![64, 16]⟩

abbrev nBuf : Space → Nat
  | .hbm => 71
  | .vmem => 28
  | .smem => 0
  | _ => 0

abbrev bufTy : (tb : Table) → Fin (tcTables nBuf tb) → BufTy
  | .hbm, ⟨0, _⟩ => ⟨S64x128x33x33, .f32⟩
  | .hbm, ⟨1, _⟩ => ⟨S128x256, .f32⟩
  | .hbm, ⟨2, _⟩ => ⟨S256, .f32⟩
  | .hbm, ⟨3, _⟩ => ⟨S1x1x256, .f32⟩
  | .hbm, ⟨4, _⟩ => ⟨S4x256x1536, .f32⟩
  | .hbm, ⟨5, _⟩ => ⟨S4x512x256, .f32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x256x512, .f32⟩
  | .hbm, ⟨10, _⟩ => ⟨S4x512, .f32⟩
  | .hbm, ⟨11, _⟩ => ⟨S4x512x256, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S256, .f32⟩
  | .hbm, ⟨16, _⟩ => ⟨S256, .f32⟩
  | .hbm, ⟨17, _⟩ => ⟨S256x16, .f32⟩
  | .hbm, ⟨18, _⟩ => ⟨S16, .f32⟩
  | .hbm, ⟨19, _⟩ => ⟨S1089x128, .f32⟩
  | .hbm, ⟨20, _⟩ => ⟨S136x256, .f32⟩
  | .hbm, ⟨21, _⟩ => ⟨S64x128x1089, .f32⟩
  | .hbm, ⟨22, _⟩ => ⟨S_, .i32⟩
  | .hbm, ⟨23, _⟩ => ⟨S_, .f32⟩
  | .hbm, ⟨24, _⟩ => ⟨S256x128, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S4x256x1024, .f32⟩
  | .hbm, ⟨34, _⟩ => ⟨S4x256x1536, .f32⟩
  | .hbm, ⟨35, _⟩ => ⟨S128, .i32⟩
  | .hbm, ⟨36, _⟩ => ⟨S1x128, .i32⟩
  | .hbm, ⟨37, _⟩ => ⟨S_, .i32⟩
  | .hbm, ⟨38, _⟩ => ⟨S1x128, .i32⟩
  | .hbm, ⟨39, _⟩ => ⟨S1x128, .i1⟩
  | .hbm, ⟨40, _⟩ => ⟨S_, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S256x1, .f32⟩
  | .hbm, ⟨47, _⟩ => ⟨S1x128, .f32⟩
  | .hbm, ⟨48, _⟩ => ⟨S256x128, .f32⟩
  | .hbm, ⟨49, _⟩ => ⟨S256x128, .f32⟩
  | .hbm, ⟨50, _⟩ => ⟨S256x128, .f32⟩
  | .hbm, ⟨51, _⟩ => ⟨S1089x128, .bf16⟩
  | .hbm, ⟨52, _⟩ => ⟨S128x256, .bf16⟩
  | .hbm, ⟨53, _⟩ => ⟨S1x256, .f32⟩
  | .hbm, ⟨54, _⟩ => ⟨S1x256, .f32⟩
  | .hbm, ⟨55, _⟩ => ⟨S4x256x1536, .bf16⟩
  | .hbm, ⟨56, _⟩ => ⟨S4x512x256, .bf16⟩
  | .hbm, ⟨57, _⟩ => ⟨S4x1x256, .f32⟩
  | .hbm, ⟨58, _⟩ => ⟨S4x1x256, .f32⟩
  | .hbm, ⟨59, _⟩ => ⟨S4x1x256, .f32⟩
  | .hbm, ⟨60, _⟩ => ⟨S4x256x512, .bf16⟩
  | .hbm, ⟨61, _⟩ => ⟨S4x1x512, .f32⟩
  | .hbm, ⟨62, _⟩ => ⟨S4x512x256, .bf16⟩
  | .hbm, ⟨63, _⟩ => ⟨S4x1x256, .f32⟩
  | .hbm, ⟨64, _⟩ => ⟨S4x1x256, .f32⟩
  | .hbm, ⟨65, _⟩ => ⟨S4x1x256, .f32⟩
  | .hbm, ⟨66, _⟩ => ⟨S1x256, .f32⟩
  | .hbm, ⟨67, _⟩ => ⟨S1x256, .f32⟩
  | .hbm, ⟨68, _⟩ => ⟨S64x1x128, .f32⟩
  | .hbm, ⟨69, _⟩ => ⟨S64x128, .f32⟩
  | .hbm, ⟨70, _⟩ => ⟨S64x16, .f32⟩
  | .local _ .vmem, ⟨0, _⟩ => ⟨S8x128x1089, .f32⟩
  | .local _ .vmem, ⟨1, _⟩ => ⟨S8x128x1089, .f32⟩
  | .local _ .vmem, ⟨2, _⟩ => ⟨S1089x128, .bf16⟩
  | .local _ .vmem, ⟨3, _⟩ => ⟨S136x256, .f32⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S4x256x1536, .bf16⟩
  | .local _ .vmem, ⟨8, _⟩ => ⟨S4x512x256, .bf16⟩
  | .local _ .vmem, ⟨9, _⟩ => ⟨S4x1x256, .f32⟩
  | .local _ .vmem, ⟨10, _⟩ => ⟨S4x1x256, .f32⟩
  | .local _ .vmem, ⟨11, _⟩ => ⟨S4x1x256, .f32⟩
  | .local _ .vmem, ⟨12, _⟩ => ⟨S4x256x512, .bf16⟩
  | .local _ .vmem, ⟨13, _⟩ => ⟨S4x1x512, .f32⟩
  | .local _ .vmem, ⟨14, _⟩ => ⟨S4x512x256, .bf16⟩
  | .local _ .vmem, ⟨15, _⟩ => ⟨S4x1x256, .f32⟩
  | .local _ .vmem, ⟨16, _⟩ => ⟨S4x1x256, .f32⟩
  | .local _ .vmem, ⟨17, _⟩ => ⟨S4x1x256, .f32⟩
  | .local _ .vmem, ⟨18, _⟩ => ⟨S1x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S8x1x128, .f32⟩
  | .local _ .vmem, ⟨23, _⟩ => ⟨S8x1x128, .f32⟩
  | .local _ .vmem, ⟨24, _⟩ => ⟨S1088x256, .f32⟩
  | .local _ .vmem, ⟨25, _⟩ => ⟨S1088x512, .f32⟩
  | .local _ .vmem, ⟨26, _⟩ => ⟨S8x256, .f32⟩
  | .local _ .vmem, ⟨27, _⟩ => ⟨S136x128, .bf16⟩
  | _, _ => ⟨S64x128x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_c_1 : Ref sig .tc := ⟨.hbm, 25, rfl⟩
abbrev main_call1_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_cst_4 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_v13 : Ref sig .tc := ⟨.hbm, 44, rfl⟩
abbrev main_cst_6 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1089 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1089x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S136x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S8x1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S64x128x33x33 : Shape := ⟨4, ![64, 128, 33, 33]⟩
abbrev S128x256 : Shape := ⟨2, ![128, 256]⟩
abbrev S256 : Shape := ⟨1, ![256]⟩
abbrev S1x1x256 : Shape := ⟨3, ![1, 1, 256]⟩
abbrev S4x256x1536 : Shape := ⟨3, ![4, 256, 1536]⟩
abbrev S4x512x256 : Shape := ⟨3, ![4, 512, 256]⟩
abbrev S4x256 : Shape := ⟨2, ![4, 256]⟩
abbrev S4x256x512 : Shape := ⟨3, ![4, 256, 512]⟩
abbrev S4x512 : Shape := ⟨2, ![4, 512]⟩
abbrev S256x16 : Shape := ⟨2, ![256, 16]⟩
abbrev S16 : Shape := ⟨1, ![16]⟩
abbrev S8 : Shape := ⟨1, ![8]⟩
abbrev S24 : Shape := ⟨1, ![24]⟩
abbrev S32 : Shape := ⟨1, ![32]⟩
abbrev S40 : Shape := ⟨1, ![40]⟩
abbrev S48 : Shape := ⟨1, ![48]⟩
abbrev S56 : Shape := ⟨1, ![56]⟩
abbrev S64 : Shape := ⟨1, ![64]⟩
abbrev S72 : Shape := ⟨1, ![72]⟩
abbrev S80 : Shape := ⟨1, ![80]⟩
abbrev S88 : Shape := ⟨1, ![88]⟩
abbrev S96 : Shape := ⟨1, ![96]⟩
abbrev S104 : Shape := ⟨1, ![104]⟩
abbrev S112 : Shape := ⟨1, ![112]⟩
abbrev S120 : Shape := ⟨1, ![120]⟩
abbrev S128 : Shape := ⟨1, ![128]⟩
abbrev S1x129x256 : Shape := ⟨3, ![1, 129, 256]⟩
abbrev S64x128x1089 : Shape := ⟨3, ![64, 128, 1089]⟩
abbrev S_ : Shape := ⟨0, ![]⟩
abbrev S8x1 : Shape := ⟨2, ![8, 1]⟩
abbrev S64x128x8 : Shape := ⟨3, ![64, 128, 8]⟩
abbrev S16x1 : Shape := ⟨2, ![16, 1]⟩
abbrev S64x128x16 : Shape := ⟨3, ![64, 128, 16]⟩
abbrev S24x1 : Shape := ⟨2, ![24, 1]⟩
abbrev S64x128x24 : Shape := ⟨3, ![64, 128, 24]⟩
abbrev S32x1 : Shape := ⟨2, ![32, 1]⟩
abbrev S64x128x32 : Shape := ⟨3, ![64, 128, 32]⟩
abbrev S40x1 : Shape := ⟨2, ![40, 1]⟩
abbrev S64x128x40 : Shape := ⟨3, ![64, 128, 40]⟩
abbrev S48x1 : Shape := ⟨2, ![48, 1]⟩
abbrev S64x128x48 : Shape := ⟨3, ![64, 128, 48]⟩
abbrev S56x1 : Shape := ⟨2, ![56, 1]⟩
abbrev S64x128x56 : Shape := ⟨3, ![64, 128, 56]⟩
abbrev S64x1 : Shape := ⟨2, ![64, 1]⟩
abbrev S64x128x64 : Shape := ⟨3, ![64, 128, 64]⟩
abbrev S72x1 : Shape := ⟨2, ![72, 1]⟩
abbrev S64x128x72 : Shape := ⟨3, ![64, 128, 72]⟩
abbrev S80x1 : Shape := ⟨2, ![80, 1]⟩
abbrev S64x128x80 : Shape := ⟨3, ![64, 128, 80]⟩
abbrev S88x1 : Shape := ⟨2, ![88, 1]⟩
abbrev S64x128x88 : Shape := ⟨3, ![64, 128, 88]⟩
abbrev S96x1 : Shape := ⟨2, ![96, 1]⟩
abbrev S64x128x96 : Shape := ⟨3, ![64, 128, 96]⟩
abbrev S104x1 : Shape := ⟨2, ![104, 1]⟩
abbrev S64x128x104 : Shape := ⟨3, ![64, 128, 104]⟩
abbrev S112x1 : Shape := ⟨2, ![112, 1]⟩
abbrev S64x128x112 : Shape := ⟨3, ![64, 128, 112]⟩
abbrev S120x1 : Shape := ⟨2, ![120, 1]⟩
abbrev S64x128x120 : Shape := ⟨3, ![64, 128, 120]⟩
abbrev S128x1 : Shape := ⟨2, ![128, 1]⟩
abbrev S64x128x128 : Shape := ⟨3, ![64, 128, 128]⟩
abbrev S64x128x256 : Shape := ⟨3, ![64, 128, 256]⟩
abbrev S64x1x256 : Shape := ⟨3, ![64, 1, 256]⟩
abbrev S64x129x256 : Shape := ⟨3, ![64, 129, 256]⟩
abbrev S1x256 : Shape := ⟨2, ![1, 256]⟩
abbrev S64x129 : Shape := ⟨2, ![64, 129]⟩
abbrev S64x129x1 : Shape := ⟨3, ![64, 129, 1]⟩
abbrev S1x256x1536 : Shape := ⟨3, ![1, 256, 1536]⟩
abbrev S256x1536 : Shape := ⟨2, ![256, 1536]⟩
abbrev S1x512x256 : Shape := ⟨3, ![1, 512, 256]⟩
abbrev S512x256 : Shape := ⟨2, ![512, 256]⟩
abbrev S64x129x1536 : Shape := ⟨3, ![64, 129, 1536]⟩
abbrev S64x129x512 : Shape := ⟨3, ![64, 129, 512]⟩
abbrev S64x129x8x64 : Shape := ⟨4, ![64, 129, 8, 64]⟩
abbrev S64x8x129x64 : Shape := ⟨4, ![64, 8, 129, 64]⟩
abbrev S64x8x64x129 : Shape := ⟨4, ![64, 8, 64, 129]⟩
abbrev S64x8x129x129 : Shape := ⟨4, ![64, 8, 129, 129]⟩
abbrev S64x8x129 : Shape := ⟨3, ![64, 8, 129]⟩
abbrev S64x8x129x1 : Shape := ⟨4, ![64, 8, 129, 1]⟩
abbrev S1x256x512 : Shape := ⟨3, ![1, 256, 512]⟩
abbrev S256x512 : Shape := ⟨2, ![256, 512]⟩
abbrev S1x512 : Shape := ⟨2, ![1, 512]⟩
abbrev S512 : Shape := ⟨1, ![512]⟩
abbrev S1x1x512 : Shape := ⟨3, ![1, 1, 512]⟩
abbrev S64x256 : Shape := ⟨2, ![64, 256]⟩
abbrev S64x16 : Shape := ⟨2, ![64, 16]⟩
abbrev S1x16 : Shape := ⟨2, ![1, 16]⟩

abbrev nBuf : Space → Nat
  | .hbm => 1336
  | .vmem => 0
  | .smem => 0
  | _ => 0

abbrev hbmTy0_0 (i : Nat) : BufTy := match i % 128 with
  | 0 => ⟨S64x128x33x33, .f32⟩
  | 1 => ⟨S128x256, .f32⟩
  | 2 => ⟨S256, .f32⟩
  | 3 => ⟨S1x1x256, .f32⟩
  | 4 => ⟨S4x256x1536, .f32⟩
  | 5 => ⟨S4x512x256, .f32⟩
  | 6 => ⟨S4x256, .f32⟩
  | 7 => ⟨S4x256, .f32⟩
  | 8 => ⟨S4x256, .f32⟩
  | 9 => ⟨S4x256x512, .f32⟩
  | 10 => ⟨S4x512, .f32⟩
  | 11 => ⟨S4x512x256, .f32⟩
  | 12 => ⟨S4x256, .f32⟩
  | 13 => ⟨S4x256, .f32⟩
  | 14 => ⟨S4x256, .f32⟩
  | 15 => ⟨S256, .f32⟩
  | 16 => ⟨S256, .f32⟩
  | 17 => ⟨S256x16, .f32⟩
  | 18 => ⟨S16, .f32⟩
  | 19 => ⟨S8, .i32⟩
  | 20 => ⟨S8, .i1⟩
  | 21 => ⟨S8, .i32⟩
  | 22 => ⟨S8, .i1⟩
  | 23 => ⟨S8, .i32⟩
  | 24 => ⟨S8, .i1⟩
  | 25 => ⟨S8, .i1⟩
  | 26 => ⟨S16, .i32⟩
  | 27 => ⟨S16, .i1⟩
  | 28 => ⟨S16, .i32⟩
  | 29 => ⟨S16, .i1⟩
  | 30 => ⟨S16, .i32⟩
  | 31 => ⟨S16, .i1⟩
  | 32 => ⟨S16, .i1⟩
  | 33 => ⟨S24, .i32⟩
  | 34 => ⟨S24, .i1⟩
  | 35 => ⟨S24, .i32⟩
  | 36 => ⟨S24, .i1⟩
  | 37 => ⟨S24, .i32⟩
  | 38 => ⟨S24, .i1⟩
  | 39 => ⟨S24, .i1⟩
  | 40 => ⟨S32, .i32⟩
  | 41 => ⟨S32, .i1⟩
  | 42 => ⟨S32, .i32⟩
  | 43 => ⟨S32, .i1⟩
  | 44 => ⟨S32, .i32⟩
  | 45 => ⟨S32, .i1⟩
  | 46 => ⟨S32, .i1⟩
  | 47 => ⟨S40, .i32⟩
  | 48 => ⟨S40, .i1⟩
  | 49 => ⟨S40, .i32⟩
  | 50 => ⟨S40, .i1⟩
  | 51 => ⟨S40, .i32⟩
  | 52 => ⟨S40, .i1⟩
  | 53 => ⟨S40, .i1⟩
  | 54 => ⟨S48, .i32⟩
  | 55 => ⟨S48, .i1⟩
  | 56 => ⟨S48, .i32⟩
  | 57 => ⟨S48, .i1⟩
  | 58 => ⟨S48, .i32⟩
  | 59 => ⟨S48, .i1⟩
  | 60 => ⟨S48, .i1⟩
  | 61 => ⟨S56, .i32⟩
  | 62 => ⟨S56, .i1⟩
  | 63 => ⟨S56, .i32⟩
  | 64 => ⟨S56, .i1⟩
  | 65 => ⟨S56, .i32⟩
  | 66 => ⟨S56, .i1⟩
  | 67 => ⟨S56, .i1⟩
  | 68 => ⟨S64, .i32⟩
  | 69 => ⟨S64, .i1⟩
  | 70 => ⟨S64, .i32⟩
  | 71 => ⟨S64, .i1⟩
  | 72 => ⟨S64, .i32⟩
  | 73 => ⟨S64, .i1⟩
  | 74 => ⟨S64, .i1⟩
  | 75 => ⟨S72, .i32⟩
  | 76 => ⟨S72, .i1⟩
  | 77 => ⟨S72, .i32⟩
  | 78 => ⟨S72, .i1⟩
  | 79 => ⟨S72, .i32⟩
  | 80 => ⟨S72, .i1⟩
  | 81 => ⟨S72, .i1⟩
  | 82 => ⟨S80, .i32⟩
  | 83 => ⟨S80, .i1⟩
  | 84 => ⟨S80, .i32⟩
  | 85 => ⟨S80, .i1⟩
  | 86 => ⟨S80, .i32⟩
  | 87 => ⟨S80, .i1⟩
  | 88 => ⟨S80, .i1⟩
  | 89 => ⟨S88, .i32⟩
  | 90 => ⟨S88, .i1⟩
  | 91 => ⟨S88, .i32⟩
  | 92 => ⟨S88, .i1⟩
  | 93 => ⟨S88, .i32⟩
  | 94 => ⟨S88, .i1⟩
  | 95 => ⟨S88, .i1⟩
  | 96 => ⟨S96, .i32⟩
  | 97 => ⟨S96, .i1⟩
  | 98 => ⟨S96, .i32⟩
  | 99 => ⟨S96, .i1⟩
  | 100 => ⟨S96, .i32⟩
  | 101 => ⟨S96, .i1⟩
  | 102 => ⟨S96, .i1⟩
  | 103 => ⟨S104, .i32⟩
  | 104 => ⟨S104, .i1⟩
  | 105 => ⟨S104, .i32⟩
  | 106 => ⟨S104, .i1⟩
  | 107 => ⟨S104, .i32⟩
  | 108 => ⟨S104, .i1⟩
  | 109 => ⟨S104, .i1⟩
  | 110 => ⟨S112, .i32⟩
  | 111 => ⟨S112, .i1⟩
  | 112 => ⟨S112, .i32⟩
  | 113 => ⟨S112, .i1⟩
  | 114 => ⟨S112, .i32⟩
  | 115 => ⟨S112, .i1⟩
  | 116 => ⟨S112, .i1⟩
  | 117 => ⟨S120, .i32⟩
  | 118 => ⟨S120, .i1⟩
  | 119 => ⟨S120, .i32⟩
  | 120 => ⟨S120, .i1⟩
  | 121 => ⟨S120, .i32⟩
  | 122 => ⟨S120, .i1⟩
  | 123 => ⟨S120, .i1⟩
  | 124 => ⟨S128, .i32⟩
  | 125 => ⟨S128, .i1⟩
  | 126 => ⟨S128, .i32⟩
  | 127 => ⟨S128, .i1⟩
  | _ => ⟨S64x128x33x33, .f32⟩

abbrev hbmTy0_1 (i : Nat) : BufTy := match i % 128 with
  | 0 => ⟨S128, .i32⟩
  | 1 => ⟨S128, .i1⟩
  | 2 => ⟨S128, .i1⟩
  | 3 => ⟨S128, .i32⟩
  | 4 => ⟨S128, .i1⟩
  | 5 => ⟨S128, .i1⟩
  | 6 => ⟨S1x129x256, .f32⟩
  | 7 => ⟨S64x128x1089, .f32⟩
  | 8 => ⟨S_, .i32⟩
  | 9 => ⟨S8, .i32⟩
  | 10 => ⟨S8, .i32⟩
  | 11 => ⟨S8, .i32⟩
  | 12 => ⟨S8x1, .i32⟩
  | 13 => ⟨S64x128x8, .f32⟩
  | 14 => ⟨S_, .i32⟩
  | 15 => ⟨S8, .i32⟩
  | 16 => ⟨S8, .i32⟩
  | 17 => ⟨S8, .i32⟩
  | 18 => ⟨S8x1, .i32⟩
  | 19 => ⟨S64x128x8, .f32⟩
  | 20 => ⟨S_, .i32⟩
  | 21 => ⟨S8, .i32⟩
  | 22 => ⟨S8, .i32⟩
  | 23 => ⟨S8, .i32⟩
  | 24 => ⟨S8x1, .i32⟩
  | 25 => ⟨S64x128x8, .f32⟩
  | 26 => ⟨S64x128x8, .f32⟩
  | 27 => ⟨S_, .f32⟩
  | 28 => ⟨S64x128x8, .f32⟩
  | 29 => ⟨S64x128x8, .f32⟩
  | 30 => ⟨S64x128x8, .f32⟩
  | 31 => ⟨S_, .i32⟩
  | 32 => ⟨S8, .i32⟩
  | 33 => ⟨S8, .i32⟩
  | 34 => ⟨S8, .i32⟩
  | 35 => ⟨S8x1, .i32⟩
  | 36 => ⟨S64x128x1089, .f32⟩
  | 37 => ⟨S_, .i32⟩
  | 38 => ⟨S16, .i32⟩
  | 39 => ⟨S16, .i32⟩
  | 40 => ⟨S16, .i32⟩
  | 41 => ⟨S16x1, .i32⟩
  | 42 => ⟨S64x128x16, .f32⟩
  | 43 => ⟨S_, .i32⟩
  | 44 => ⟨S16, .i32⟩
  | 45 => ⟨S16, .i32⟩
  | 46 => ⟨S16, .i32⟩
  | 47 => ⟨S16x1, .i32⟩
  | 48 => ⟨S64x128x16, .f32⟩
  | 49 => ⟨S_, .i32⟩
  | 50 => ⟨S16, .i32⟩
  | 51 => ⟨S16, .i32⟩
  | 52 => ⟨S16, .i32⟩
  | 53 => ⟨S16x1, .i32⟩
  | 54 => ⟨S64x128x16, .f32⟩
  | 55 => ⟨S64x128x16, .f32⟩
  | 56 => ⟨S_, .f32⟩
  | 57 => ⟨S64x128x16, .f32⟩
  | 58 => ⟨S64x128x16, .f32⟩
  | 59 => ⟨S64x128x16, .f32⟩
  | 60 => ⟨S_, .i32⟩
  | 61 => ⟨S16, .i32⟩
  | 62 => ⟨S16, .i32⟩
  | 63 => ⟨S16, .i32⟩
  | 64 => ⟨S16x1, .i32⟩
  | 65 => ⟨S64x128x1089, .f32⟩
  | 66 => ⟨S_, .i32⟩
  | 67 => ⟨S24, .i32⟩
  | 68 => ⟨S24, .i32⟩
  | 69 => ⟨S24, .i32⟩
  | 70 => ⟨S24x1, .i32⟩
  | 71 => ⟨S64x128x24, .f32⟩
  | 72 => ⟨S_, .i32⟩
  | 73 => ⟨S24, .i32⟩
  | 74 => ⟨S24, .i32⟩
  | 75 => ⟨S24, .i32⟩
  | 76 => ⟨S24x1, .i32⟩
  | 77 => ⟨S64x128x24, .f32⟩
  | 78 => ⟨S_, .i32⟩
  | 79 => ⟨S24, .i32⟩
  | 80 => ⟨S24, .i32⟩
  | 81 => ⟨S24, .i32⟩
  | 82 => ⟨S24x1, .i32⟩
  | 83 => ⟨S64x128x24, .f32⟩
  | 84 => ⟨S64x128x24, .f32⟩
  | 85 => ⟨S_, .f32⟩
  | 86 => ⟨S64x128x24, .f32⟩
  | 87 => ⟨S64x128x24, .f32⟩
  | 88 => ⟨S64x128x24, .f32⟩
  | 89 => ⟨S_, .i32⟩
  | 90 => ⟨S24, .i32⟩
  | 91 => ⟨S24, .i32⟩
  | 92 => ⟨S24, .i32⟩
  | 93 => ⟨S24x1, .i32⟩
  | 94 => ⟨S64x128x1089, .f32⟩
  | 95 => ⟨S_, .i32⟩
  | 96 => ⟨S32, .i32⟩
  | 97 => ⟨S32, .i32⟩
  | 98 => ⟨S32, .i32⟩
  | 99 => ⟨S32x1, .i32⟩
  | 100 => ⟨S64x128x32, .f32⟩
  | 101 => ⟨S_, .i32⟩
  | 102 => ⟨S32, .i32⟩
  | 103 => ⟨S32, .i32⟩
  | 104 => ⟨S32, .i32⟩
  | 105 => ⟨S32x1, .i32⟩
  | 106 => ⟨S64x128x32, .f32⟩
  | 107 => ⟨S_, .i32⟩
  | 108 => ⟨S32, .i32⟩
  | 109 => ⟨S32, .i32⟩
  | 110 => ⟨S32, .i32⟩
  | 111 => ⟨S32x1, .i32⟩
  | 112 => ⟨S64x128x32, .f32⟩
  | 113 => ⟨S64x128x32, .f32⟩
  | 114 => ⟨S_, .f32⟩
  | 115 => ⟨S64x128x32, .f32⟩
  | 116 => ⟨S64x128x32, .f32⟩
  | 117 => ⟨S64x128x32, .f32⟩
  | 118 => ⟨S_, .i32⟩
  | 119 => ⟨S32, .i32⟩
  | 120 => ⟨S32, .i32⟩
  | 121 => ⟨S32, .i32⟩
  | 122 => ⟨S32x1, .i32⟩
  | 123 => ⟨S64x128x1089, .f32⟩
  | 124 => ⟨S_, .i32⟩
  | 125 => ⟨S40, .i32⟩
  | 126 => ⟨S40, .i32⟩
  | 127 => ⟨S40, .i32⟩
  | _ => ⟨S64x128x33x33, .f32⟩

abbrev hbmTy0_2 (i : Nat) : BufTy := match i % 128 with
  | 0 => ⟨S40x1, .i32⟩
  | 1 => ⟨S64x128x40, .f32⟩
  | 2 => ⟨S_, .i32⟩
  | 3 => ⟨S40, .i32⟩
  | 4 => ⟨S40, .i32⟩
  | 5 => ⟨S40, .i32⟩
  | 6 => ⟨S40x1, .i32⟩
  | 7 => ⟨S64x128x40, .f32⟩
  | 8 => ⟨S_, .i32⟩
  | 9 => ⟨S40, .i32⟩
  | 10 => ⟨S40, .i32⟩
  | 11 => ⟨S40, .i32⟩
  | 12 => ⟨S40x1, .i32⟩
  | 13 => ⟨S64x128x40, .f32⟩
  | 14 => ⟨S64x128x40, .f32⟩
  | 15 => ⟨S_, .f32⟩
  | 16 => ⟨S64x128x40, .f32⟩
  | 17 => ⟨S64x128x40, .f32⟩
  | 18 => ⟨S64x128x40, .f32⟩
  | 19 => ⟨S_, .i32⟩
  | 20 => ⟨S40, .i32⟩
  | 21 => ⟨S40, .i32⟩
  | 22 => ⟨S40, .i32⟩
  | 23 => ⟨S40x1, .i32⟩
  | 24 => ⟨S64x128x1089, .f32⟩
  | 25 => ⟨S_, .i32⟩
  | 26 => ⟨S48, .i32⟩
  | 27 => ⟨S48, .i32⟩
  | 28 => ⟨S48, .i32⟩
  | 29 => ⟨S48x1, .i32⟩
  | 30 => ⟨S64x128x48, .f32⟩
  | 31 => ⟨S_, .i32⟩
  | 32 => ⟨S48, .i32⟩
  | 33 => ⟨S48, .i32⟩
  | 34 => ⟨S48, .i32⟩
  | 35 => ⟨S48x1, .i32⟩
  | 36 => ⟨S64x128x48, .f32⟩
  | 37 => ⟨S_, .i32⟩
  | 38 => ⟨S48, .i32⟩
  | 39 => ⟨S48, .i32⟩
  | 40 => ⟨S48, .i32⟩
  | 41 => ⟨S48x1, .i32⟩
  | 42 => ⟨S64x128x48, .f32⟩
  | 43 => ⟨S64x128x48, .f32⟩
  | 44 => ⟨S_, .f32⟩
  | 45 => ⟨S64x128x48, .f32⟩
  | 46 => ⟨S64x128x48, .f32⟩
  | 47 => ⟨S64x128x48, .f32⟩
  | 48 => ⟨S_, .i32⟩
  | 49 => ⟨S48, .i32⟩
  | 50 => ⟨S48, .i32⟩
  | 51 => ⟨S48, .i32⟩
  | 52 => ⟨S48x1, .i32⟩
  | 53 => ⟨S64x128x1089, .f32⟩
  | 54 => ⟨S_, .i32⟩
  | 55 => ⟨S56, .i32⟩
  | 56 => ⟨S56, .i32⟩
  | 57 => ⟨S56, .i32⟩
  | 58 => ⟨S56x1, .i32⟩
  | 59 => ⟨S64x128x56, .f32⟩
  | 60 => ⟨S_, .i32⟩
  | 61 => ⟨S56, .i32⟩
  | 62 => ⟨S56, .i32⟩
  | 63 => ⟨S56, .i32⟩
  | 64 => ⟨S56x1, .i32⟩
  | 65 => ⟨S64x128x56, .f32⟩
  | 66 => ⟨S_, .i32⟩
  | 67 => ⟨S56, .i32⟩
  | 68 => ⟨S56, .i32⟩
  | 69 => ⟨S56, .i32⟩
  | 70 => ⟨S56x1, .i32⟩
  | 71 => ⟨S64x128x56, .f32⟩
  | 72 => ⟨S64x128x56, .f32⟩
  | 73 => ⟨S_, .f32⟩
  | 74 => ⟨S64x128x56, .f32⟩
  | 75 => ⟨S64x128x56, .f32⟩
  | 76 => ⟨S64x128x56, .f32⟩
  | 77 => ⟨S_, .i32⟩
  | 78 => ⟨S56, .i32⟩
  | 79 => ⟨S56, .i32⟩
  | 80 => ⟨S56, .i32⟩
  | 81 => ⟨S56x1, .i32⟩
  | 82 => ⟨S64x128x1089, .f32⟩
  | 83 => ⟨S_, .i32⟩
  | 84 => ⟨S64, .i32⟩
  | 85 => ⟨S64, .i32⟩
  | 86 => ⟨S64, .i32⟩
  | 87 => ⟨S64x1, .i32⟩
  | 88 => ⟨S64x128x64, .f32⟩
  | 89 => ⟨S_, .i32⟩
  | 90 => ⟨S64, .i32⟩
  | 91 => ⟨S64, .i32⟩
  | 92 => ⟨S64, .i32⟩
  | 93 => ⟨S64x1, .i32⟩
  | 94 => ⟨S64x128x64, .f32⟩
  | 95 => ⟨S_, .i32⟩
  | 96 => ⟨S64, .i32⟩
  | 97 => ⟨S64, .i32⟩
  | 98 => ⟨S64, .i32⟩
  | 99 => ⟨S64x1, .i32⟩
  | 100 => ⟨S64x128x64, .f32⟩
  | 101 => ⟨S64x128x64, .f32⟩
  | 102 => ⟨S_, .f32⟩
  | 103 => ⟨S64x128x64, .f32⟩
  | 104 => ⟨S64x128x64, .f32⟩
  | 105 => ⟨S64x128x64, .f32⟩
  | 106 => ⟨S_, .i32⟩
  | 107 => ⟨S64, .i32⟩
  | 108 => ⟨S64, .i32⟩
  | 109 => ⟨S64, .i32⟩
  | 110 => ⟨S64x1, .i32⟩
  | 111 => ⟨S64x128x1089, .f32⟩
  | 112 => ⟨S_, .i32⟩
  | 113 => ⟨S72, .i32⟩
  | 114 => ⟨S72, .i32⟩
  | 115 => ⟨S72, .i32⟩
  | 116 => ⟨S72x1, .i32⟩
  | 117 => ⟨S64x128x72, .f32⟩
  | 118 => ⟨S_, .i32⟩
  | 119 => ⟨S72, .i32⟩
  | 120 => ⟨S72, .i32⟩
  | 121 => ⟨S72, .i32⟩
  | 122 => ⟨S72x1, .i32⟩
  | 123 => ⟨S64x128x72, .f32⟩
  | 124 => ⟨S_, .i32⟩
  | 125 => ⟨S72, .i32⟩
  | 126 => ⟨S72, .i32⟩
  | 127 => ⟨S72, .i32⟩
  | _ => ⟨S64x128x33x33, .f32⟩

abbrev hbmTy0_3 (i : Nat) : BufTy := match i % 128 with
  | 0 => ⟨S72x1, .i32⟩
  | 1 => ⟨S64x128x72, .f32⟩
  | 2 => ⟨S64x128x72, .f32⟩
  | 3 => ⟨S_, .f32⟩
  | 4 => ⟨S64x128x72, .f32⟩
  | 5 => ⟨S64x128x72, .f32⟩
  | 6 => ⟨S64x128x72, .f32⟩
  | 7 => ⟨S_, .i32⟩
  | 8 => ⟨S72, .i32⟩
  | 9 => ⟨S72, .i32⟩
  | 10 => ⟨S72, .i32⟩
  | 11 => ⟨S72x1, .i32⟩
  | 12 => ⟨S64x128x1089, .f32⟩
  | 13 => ⟨S_, .i32⟩
  | 14 => ⟨S80, .i32⟩
  | 15 => ⟨S80, .i32⟩
  | 16 => ⟨S80, .i32⟩
  | 17 => ⟨S80x1, .i32⟩
  | 18 => ⟨S64x128x80, .f32⟩
  | 19 => ⟨S_, .i32⟩
  | 20 => ⟨S80, .i32⟩
  | 21 => ⟨S80, .i32⟩
  | 22 => ⟨S80, .i32⟩
  | 23 => ⟨S80x1, .i32⟩
  | 24 => ⟨S64x128x80, .f32⟩
  | 25 => ⟨S_, .i32⟩
  | 26 => ⟨S80, .i32⟩
  | 27 => ⟨S80, .i32⟩
  | 28 => ⟨S80, .i32⟩
  | 29 => ⟨S80x1, .i32⟩
  | 30 => ⟨S64x128x80, .f32⟩
  | 31 => ⟨S64x128x80, .f32⟩
  | 32 => ⟨S_, .f32⟩
  | 33 => ⟨S64x128x80, .f32⟩
  | 34 => ⟨S64x128x80, .f32⟩
  | 35 => ⟨S64x128x80, .f32⟩
  | 36 => ⟨S_, .i32⟩
  | 37 => ⟨S80, .i32⟩
  | 38 => ⟨S80, .i32⟩
  | 39 => ⟨S80, .i32⟩
  | 40 => ⟨S80x1, .i32⟩
  | 41 => ⟨S64x128x1089, .f32⟩
  | 42 => ⟨S_, .i32⟩
  | 43 => ⟨S88, .i32⟩
  | 44 => ⟨S88, .i32⟩
  | 45 => ⟨S88, .i32⟩
  | 46 => ⟨S88x1, .i32⟩
  | 47 => ⟨S64x128x88, .f32⟩
  | 48 => ⟨S_, .i32⟩
  | 49 => ⟨S88, .i32⟩
  | 50 => ⟨S88, .i32⟩
  | 51 => ⟨S88, .i32⟩
  | 52 => ⟨S88x1, .i32⟩
  | 53 => ⟨S64x128x88, .f32⟩
  | 54 => ⟨S_, .i32⟩
  | 55 => ⟨S88, .i32⟩
  | 56 => ⟨S88, .i32⟩
  | 57 => ⟨S88, .i32⟩
  | 58 => ⟨S88x1, .i32⟩
  | 59 => ⟨S64x128x88, .f32⟩
  | 60 => ⟨S64x128x88, .f32⟩
  | 61 => ⟨S_, .f32⟩
  | 62 => ⟨S64x128x88, .f32⟩
  | 63 => ⟨S64x128x88, .f32⟩
  | 64 => ⟨S64x128x88, .f32⟩
  | 65 => ⟨S_, .i32⟩
  | 66 => ⟨S88, .i32⟩
  | 67 => ⟨S88, .i32⟩
  | 68 => ⟨S88, .i32⟩
  | 69 => ⟨S88x1, .i32⟩
  | 70 => ⟨S64x128x1089, .f32⟩
  | 71 => ⟨S_, .i32⟩
  | 72 => ⟨S96, .i32⟩
  | 73 => ⟨S96, .i32⟩
  | 74 => ⟨S96, .i32⟩
  | 75 => ⟨S96x1, .i32⟩
  | 76 => ⟨S64x128x96, .f32⟩
  | 77 => ⟨S_, .i32⟩
  | 78 => ⟨S96, .i32⟩
  | 79 => ⟨S96, .i32⟩
  | 80 => ⟨S96, .i32⟩
  | 81 => ⟨S96x1, .i32⟩
  | 82 => ⟨S64x128x96, .f32⟩
  | 83 => ⟨S_, .i32⟩
  | 84 => ⟨S96, .i32⟩
  | 85 => ⟨S96, .i32⟩
  | 86 => ⟨S96, .i32⟩
  | 87 => ⟨S96x1, .i32⟩
  | 88 => ⟨S64x128x96, .f32⟩
  | 89 => ⟨S64x128x96, .f32⟩
  | 90 => ⟨S_, .f32⟩
  | 91 => ⟨S64x128x96, .f32⟩
  | 92 => ⟨S64x128x96, .f32⟩
  | 93 => ⟨S64x128x96, .f32⟩
  | 94 => ⟨S_, .i32⟩
  | 95 => ⟨S96, .i32⟩
  | 96 => ⟨S96, .i32⟩
  | 97 => ⟨S96, .i32⟩
  | 98 => ⟨S96x1, .i32⟩
  | 99 => ⟨S64x128x1089, .f32⟩
  | 100 => ⟨S_, .i32⟩
  | 101 => ⟨S104, .i32⟩
  | 102 => ⟨S104, .i32⟩
  | 103 => ⟨S104, .i32⟩
  | 104 => ⟨S104x1, .i32⟩
  | 105 => ⟨S64x128x104, .f32⟩
  | 106 => ⟨S_, .i32⟩
  | 107 => ⟨S104, .i32⟩
  | 108 => ⟨S104, .i32⟩
  | 109 => ⟨S104, .i32⟩
  | 110 => ⟨S104x1, .i32⟩
  | 111 => ⟨S64x128x104, .f32⟩
  | 112 => ⟨S_, .i32⟩
  | 113 => ⟨S104, .i32⟩
  | 114 => ⟨S104, .i32⟩
  | 115 => ⟨S104, .i32⟩
  | 116 => ⟨S104x1, .i32⟩
  | 117 => ⟨S64x128x104, .f32⟩
  | 118 => ⟨S64x128x104, .f32⟩
  | 119 => ⟨S_, .f32⟩
  | 120 => ⟨S64x128x104, .f32⟩
  | 121 => ⟨S64x128x104, .f32⟩
  | 122 => ⟨S64x128x104, .f32⟩
  | 123 => ⟨S_, .i32⟩
  | 124 => ⟨S104, .i32⟩
  | 125 => ⟨S104, .i32⟩
  | 126 => ⟨S104, .i32⟩
  | 127 => ⟨S104x1, .i32⟩
  | _ => ⟨S64x128x33x33, .f32⟩

abbrev hbmTy0_4 (i : Nat) : BufTy := match i % 128 with
  | 0 => ⟨S64x128x1089, .f32⟩
  | 1 => ⟨S_, .i32⟩
  | 2 => ⟨S112, .i32⟩
  | 3 => ⟨S112, .i32⟩
  | 4 => ⟨S112, .i32⟩
  | 5 => ⟨S112x1, .i32⟩
  | 6 => ⟨S64x128x112, .f32⟩
  | 7 => ⟨S_, .i32⟩
  | 8 => ⟨S112, .i32⟩
  | 9 => ⟨S112, .i32⟩
  | 10 => ⟨S112, .i32⟩
  | 11 => ⟨S112x1, .i32⟩
  | 12 => ⟨S64x128x112, .f32⟩
  | 13 => ⟨S_, .i32⟩
  | 14 => ⟨S112, .i32⟩
  | 15 => ⟨S112, .i32⟩
  | 16 => ⟨S112, .i32⟩
  | 17 => ⟨S112x1, .i32⟩
  | 18 => ⟨S64x128x112, .f32⟩
  | 19 => ⟨S64x128x112, .f32⟩
  | 20 => ⟨S_, .f32⟩
  | 21 => ⟨S64x128x112, .f32⟩
  | 22 => ⟨S64x128x112, .f32⟩
  | 23 => ⟨S64x128x112, .f32⟩
  | 24 => ⟨S_, .i32⟩
  | 25 => ⟨S112, .i32⟩
  | 26 => ⟨S112, .i32⟩
  | 27 => ⟨S112, .i32⟩
  | 28 => ⟨S112x1, .i32⟩
  | 29 => ⟨S64x128x1089, .f32⟩
  | 30 => ⟨S_, .i32⟩
  | 31 => ⟨S120, .i32⟩
  | 32 => ⟨S120, .i32⟩
  | 33 => ⟨S120, .i32⟩
  | 34 => ⟨S120x1, .i32⟩
  | 35 => ⟨S64x128x120, .f32⟩
  | 36 => ⟨S_, .i32⟩
  | 37 => ⟨S120, .i32⟩
  | 38 => ⟨S120, .i32⟩
  | 39 => ⟨S120, .i32⟩
  | 40 => ⟨S120x1, .i32⟩
  | 41 => ⟨S64x128x120, .f32⟩
  | 42 => ⟨S_, .i32⟩
  | 43 => ⟨S120, .i32⟩
  | 44 => ⟨S120, .i32⟩
  | 45 => ⟨S120, .i32⟩
  | 46 => ⟨S120x1, .i32⟩
  | 47 => ⟨S64x128x120, .f32⟩
  | 48 => ⟨S64x128x120, .f32⟩
  | 49 => ⟨S_, .f32⟩
  | 50 => ⟨S64x128x120, .f32⟩
  | 51 => ⟨S64x128x120, .f32⟩
  | 52 => ⟨S64x128x120, .f32⟩
  | 53 => ⟨S_, .i32⟩
  | 54 => ⟨S120, .i32⟩
  | 55 => ⟨S120, .i32⟩
  | 56 => ⟨S120, .i32⟩
  | 57 => ⟨S120x1, .i32⟩
  | 58 => ⟨S64x128x1089, .f32⟩
  | 59 => ⟨S_, .i32⟩
  | 60 => ⟨S128, .i32⟩
  | 61 => ⟨S128, .i32⟩
  | 62 => ⟨S128, .i32⟩
  | 63 => ⟨S128x1, .i32⟩
  | 64 => ⟨S64x128x128, .f32⟩
  | 65 => ⟨S_, .i32⟩
  | 66 => ⟨S128, .i32⟩
  | 67 => ⟨S128, .i32⟩
  | 68 => ⟨S128, .i32⟩
  | 69 => ⟨S128x1, .i32⟩
  | 70 => ⟨S64x128x128, .f32⟩
  | 71 => ⟨S_, .i32⟩
  | 72 => ⟨S128, .i32⟩
  | 73 => ⟨S128, .i32⟩
  | 74 => ⟨S128, .i32⟩
  | 75 => ⟨S128x1, .i32⟩
  | 76 => ⟨S64x128x128, .f32⟩
  | 77 => ⟨S64x128x128, .f32⟩
  | 78 => ⟨S_, .f32⟩
  | 79 => ⟨S64x128x128, .f32⟩
  | 80 => ⟨S64x128x128, .f32⟩
  | 81 => ⟨S64x128x128, .f32⟩
  | 82 => ⟨S_, .i32⟩
  | 83 => ⟨S128, .i32⟩
  | 84 => ⟨S128, .i32⟩
  | 85 => ⟨S128, .i32⟩
  | 86 => ⟨S128x1, .i32⟩
  | 87 => ⟨S64x128x1089, .f32⟩
  | 88 => ⟨S_, .i32⟩
  | 89 => ⟨S128, .i32⟩
  | 90 => ⟨S128, .i32⟩
  | 91 => ⟨S128, .i32⟩
  | 92 => ⟨S128x1, .i32⟩
  | 93 => ⟨S64x128x128, .f32⟩
  | 94 => ⟨S_, .i32⟩
  | 95 => ⟨S128, .i32⟩
  | 96 => ⟨S128, .i32⟩
  | 97 => ⟨S128, .i32⟩
  | 98 => ⟨S128x1, .i32⟩
  | 99 => ⟨S64x128x128, .f32⟩
  | 100 => ⟨S64x128x128, .f32⟩
  | 101 => ⟨S64x128x128, .f32⟩
  | 102 => ⟨S64x128x128, .f32⟩
  | 103 => ⟨S64x128x256, .f32⟩
  | 104 => ⟨S1x1x256, .f32⟩
  | 105 => ⟨S64x128x256, .f32⟩
  | 106 => ⟨S64x128x256, .f32⟩
  | 107 => ⟨S64x1x256, .f32⟩
  | 108 => ⟨S64x129x256, .f32⟩
  | 109 => ⟨S64x129x256, .f32⟩
  | 110 => ⟨S64x129x256, .f32⟩
  | 111 => ⟨S1x256, .f32⟩
  | 112 => ⟨S256, .f32⟩
  | 113 => ⟨S1x256, .f32⟩
  | 114 => ⟨S256, .f32⟩
  | 115 => ⟨S_, .f32⟩
  | 116 => ⟨S64x129, .f32⟩
  | 117 => ⟨S64x129x1, .f32⟩
  | 118 => ⟨S_, .f32⟩
  | 119 => ⟨S64x129x1, .f32⟩
  | 120 => ⟨S64x129x1, .f32⟩
  | 121 => ⟨S_, .i32⟩
  | 122 => ⟨S_, .f32⟩
  | 123 => ⟨S64x129, .f32⟩
  | 124 => ⟨S64x129x1, .f32⟩
  | 125 => ⟨S_, .f32⟩
  | 126 => ⟨S64x129x1, .f32⟩
  | 127 => ⟨S64x129x1, .f32⟩
  | _ => ⟨S64x128x33x33, .f32⟩

abbrev hbmTy0_5 (i : Nat) : BufTy := match i % 128 with
  | 0 => ⟨S64x129x256, .f32⟩
  | 1 => ⟨S64x129x256, .f32⟩
  | 2 => ⟨S64x129x256, .f32⟩
  | 3 => ⟨S_, .f32⟩
  | 4 => ⟨S_, .f32⟩
  | 5 => ⟨S_, .f32⟩
  | 6 => ⟨S_, .f32⟩
  | 7 => ⟨S64x129, .f32⟩
  | 8 => ⟨S64x129x1, .f32⟩
  | 9 => ⟨S64x129x1, .f32⟩
  | 10 => ⟨S64x129x1, .f32⟩
  | 11 => ⟨S_, .f32⟩
  | 12 => ⟨S_, .i1⟩
  | 13 => ⟨S_, .f32⟩
  | 14 => ⟨S_, .f32⟩
  | 15 => ⟨S64x129x1, .f32⟩
  | 16 => ⟨S64x129x1, .f32⟩
  | 17 => ⟨S64x129x256, .f32⟩
  | 18 => ⟨S64x129x256, .f32⟩
  | 19 => ⟨S_, .f32⟩
  | 20 => ⟨S64x129x1, .f32⟩
  | 21 => ⟨S64x129x1, .f32⟩
  | 22 => ⟨S64x129x1, .f32⟩
  | 23 => ⟨S64x129x256, .f32⟩
  | 24 => ⟨S64x129x256, .f32⟩
  | 25 => ⟨S1x1x256, .f32⟩
  | 26 => ⟨S64x129x256, .f32⟩
  | 27 => ⟨S64x129x256, .f32⟩
  | 28 => ⟨S1x1x256, .f32⟩
  | 29 => ⟨S64x129x256, .f32⟩
  | 30 => ⟨S64x129x256, .f32⟩
  | 31 => ⟨S1x256x1536, .f32⟩
  | 32 => ⟨S256x1536, .f32⟩
  | 33 => ⟨S1x512x256, .f32⟩
  | 34 => ⟨S512x256, .f32⟩
  | 35 => ⟨S1x256, .f32⟩
  | 36 => ⟨S256, .f32⟩
  | 37 => ⟨S64x129x1536, .f32⟩
  | 38 => ⟨S64x129x512, .f32⟩
  | 39 => ⟨S64x129x512, .f32⟩
  | 40 => ⟨S64x129x512, .f32⟩
  | 41 => ⟨S64x129x8x64, .f32⟩
  | 42 => ⟨S64x8x129x64, .f32⟩
  | 43 => ⟨S64x129x8x64, .f32⟩
  | 44 => ⟨S64x8x129x64, .f32⟩
  | 45 => ⟨S64x129x8x64, .f32⟩
  | 46 => ⟨S64x8x129x64, .f32⟩
  | 47 => ⟨S64x8x64x129, .f32⟩
  | 48 => ⟨S64x8x129x129, .f32⟩
  | 49 => ⟨S_, .f32⟩
  | 50 => ⟨S64x8x129x129, .f32⟩
  | 51 => ⟨S64x8x129x129, .f32⟩
  | 52 => ⟨S_, .f32⟩
  | 53 => ⟨S64x8x129, .f32⟩
  | 54 => ⟨S_, .f32⟩
  | 55 => ⟨S64x8x129, .f32⟩
  | 56 => ⟨S64x8x129, .f32⟩
  | 57 => ⟨S64x8x129x1, .f32⟩
  | 58 => ⟨S64x8x129x129, .f32⟩
  | 59 => ⟨S64x8x129x129, .f32⟩
  | 60 => ⟨S64x8x129x129, .f32⟩
  | 61 => ⟨S_, .f32⟩
  | 62 => ⟨S64x8x129, .f32⟩
  | 63 => ⟨S64x8x129x1, .f32⟩
  | 64 => ⟨S64x8x129x129, .f32⟩
  | 65 => ⟨S64x8x129x129, .f32⟩
  | 66 => ⟨S64x8x129x64, .f32⟩
  | 67 => ⟨S64x129x8x64, .f32⟩
  | 68 => ⟨S64x129x512, .f32⟩
  | 69 => ⟨S64x129x256, .f32⟩
  | 70 => ⟨S1x1x256, .f32⟩
  | 71 => ⟨S64x129x256, .f32⟩
  | 72 => ⟨S64x129x256, .f32⟩
  | 73 => ⟨S64x129x256, .f32⟩
  | 74 => ⟨S1x256, .f32⟩
  | 75 => ⟨S256, .f32⟩
  | 76 => ⟨S1x256, .f32⟩
  | 77 => ⟨S256, .f32⟩
  | 78 => ⟨S_, .f32⟩
  | 79 => ⟨S64x129, .f32⟩
  | 80 => ⟨S64x129x1, .f32⟩
  | 81 => ⟨S_, .f32⟩
  | 82 => ⟨S64x129x1, .f32⟩
  | 83 => ⟨S64x129x1, .f32⟩
  | 84 => ⟨S_, .i32⟩
  | 85 => ⟨S_, .f32⟩
  | 86 => ⟨S64x129, .f32⟩
  | 87 => ⟨S64x129x1, .f32⟩
  | 88 => ⟨S_, .f32⟩
  | 89 => ⟨S64x129x1, .f32⟩
  | 90 => ⟨S64x129x1, .f32⟩
  | 91 => ⟨S64x129x256, .f32⟩
  | 92 => ⟨S64x129x256, .f32⟩
  | 93 => ⟨S64x129x256, .f32⟩
  | 94 => ⟨S_, .f32⟩
  | 95 => ⟨S_, .f32⟩
  | 96 => ⟨S_, .f32⟩
  | 97 => ⟨S_, .f32⟩
  | 98 => ⟨S64x129, .f32⟩
  | 99 => ⟨S64x129x1, .f32⟩
  | 100 => ⟨S64x129x1, .f32⟩
  | 101 => ⟨S64x129x1, .f32⟩
  | 102 => ⟨S_, .f32⟩
  | 103 => ⟨S_, .i1⟩
  | 104 => ⟨S_, .f32⟩
  | 105 => ⟨S_, .f32⟩
  | 106 => ⟨S64x129x1, .f32⟩
  | 107 => ⟨S64x129x1, .f32⟩
  | 108 => ⟨S64x129x256, .f32⟩
  | 109 => ⟨S64x129x256, .f32⟩
  | 110 => ⟨S_, .f32⟩
  | 111 => ⟨S64x129x1, .f32⟩
  | 112 => ⟨S64x129x1, .f32⟩
  | 113 => ⟨S64x129x1, .f32⟩
  | 114 => ⟨S64x129x256, .f32⟩
  | 115 => ⟨S64x129x256, .f32⟩
  | 116 => ⟨S1x1x256, .f32⟩
  | 117 => ⟨S64x129x256, .f32⟩
  | 118 => ⟨S64x129x256, .f32⟩
  | 119 => ⟨S1x1x256, .f32⟩
  | 120 => ⟨S64x129x256, .f32⟩
  | 121 => ⟨S64x129x256, .f32⟩
  | 122 => ⟨S1x256x512, .f32⟩
  | 123 => ⟨S256x512, .f32⟩
  | 124 => ⟨S64x129x512, .f32⟩
  | 125 => ⟨S1x512, .f32⟩
  | 126 => ⟨S512, .f32⟩
  | 127 => ⟨S1x1x512, .f32⟩
  | _ => ⟨S64x128x33x33, .f32⟩

abbrev hbmTy0_6 (i : Nat) : BufTy := match i % 128 with
  | 0 => ⟨S64x129x512, .f32⟩
  | 1 => ⟨S64x129x512, .f32⟩
  | 2 => ⟨S_, .f32⟩
  | 3 => ⟨S64x129x512, .f32⟩
  | 4 => ⟨S64x129x512, .f32⟩
  | 5 => ⟨S64x129x512, .f32⟩
  | 6 => ⟨S_, .f32⟩
  | 7 => ⟨S64x129x512, .f32⟩
  | 8 => ⟨S64x129x512, .f32⟩
  | 9 => ⟨S64x129x512, .f32⟩
  | 10 => ⟨S64x129x512, .f32⟩
  | 11 => ⟨S1x512x256, .f32⟩
  | 12 => ⟨S512x256, .f32⟩
  | 13 => ⟨S64x129x256, .f32⟩
  | 14 => ⟨S1x256, .f32⟩
  | 15 => ⟨S256, .f32⟩
  | 16 => ⟨S1x1x256, .f32⟩
  | 17 => ⟨S64x129x256, .f32⟩
  | 18 => ⟨S64x129x256, .f32⟩
  | 19 => ⟨S64x129x256, .f32⟩
  | 20 => ⟨S1x256, .f32⟩
  | 21 => ⟨S256, .f32⟩
  | 22 => ⟨S1x256, .f32⟩
  | 23 => ⟨S256, .f32⟩
  | 24 => ⟨S_, .f32⟩
  | 25 => ⟨S64x129, .f32⟩
  | 26 => ⟨S64x129x1, .f32⟩
  | 27 => ⟨S_, .f32⟩
  | 28 => ⟨S64x129x1, .f32⟩
  | 29 => ⟨S64x129x1, .f32⟩
  | 30 => ⟨S_, .i32⟩
  | 31 => ⟨S_, .f32⟩
  | 32 => ⟨S64x129, .f32⟩
  | 33 => ⟨S64x129x1, .f32⟩
  | 34 => ⟨S_, .f32⟩
  | 35 => ⟨S64x129x1, .f32⟩
  | 36 => ⟨S64x129x1, .f32⟩
  | 37 => ⟨S64x129x256, .f32⟩
  | 38 => ⟨S64x129x256, .f32⟩
  | 39 => ⟨S64x129x256, .f32⟩
  | 40 => ⟨S_, .f32⟩
  | 41 => ⟨S_, .f32⟩
  | 42 => ⟨S_, .f32⟩
  | 43 => ⟨S_, .f32⟩
  | 44 => ⟨S64x129, .f32⟩
  | 45 => ⟨S64x129x1, .f32⟩
  | 46 => ⟨S64x129x1, .f32⟩
  | 47 => ⟨S64x129x1, .f32⟩
  | 48 => ⟨S_, .f32⟩
  | 49 => ⟨S_, .i1⟩
  | 50 => ⟨S_, .f32⟩
  | 51 => ⟨S_, .f32⟩
  | 52 => ⟨S64x129x1, .f32⟩
  | 53 => ⟨S64x129x1, .f32⟩
  | 54 => ⟨S64x129x256, .f32⟩
  | 55 => ⟨S64x129x256, .f32⟩
  | 56 => ⟨S_, .f32⟩
  | 57 => ⟨S64x129x1, .f32⟩
  | 58 => ⟨S64x129x1, .f32⟩
  | 59 => ⟨S64x129x1, .f32⟩
  | 60 => ⟨S64x129x256, .f32⟩
  | 61 => ⟨S64x129x256, .f32⟩
  | 62 => ⟨S1x1x256, .f32⟩
  | 63 => ⟨S64x129x256, .f32⟩
  | 64 => ⟨S64x129x256, .f32⟩
  | 65 => ⟨S1x1x256, .f32⟩
  | 66 => ⟨S64x129x256, .f32⟩
  | 67 => ⟨S64x129x256, .f32⟩
  | 68 => ⟨S1x256x1536, .f32⟩
  | 69 => ⟨S256x1536, .f32⟩
  | 70 => ⟨S1x512x256, .f32⟩
  | 71 => ⟨S512x256, .f32⟩
  | 72 => ⟨S1x256, .f32⟩
  | 73 => ⟨S256, .f32⟩
  | 74 => ⟨S64x129x1536, .f32⟩
  | 75 => ⟨S64x129x512, .f32⟩
  | 76 => ⟨S64x129x512, .f32⟩
  | 77 => ⟨S64x129x512, .f32⟩
  | 78 => ⟨S64x129x8x64, .f32⟩
  | 79 => ⟨S64x8x129x64, .f32⟩
  | 80 => ⟨S64x129x8x64, .f32⟩
  | 81 => ⟨S64x8x129x64, .f32⟩
  | 82 => ⟨S64x129x8x64, .f32⟩
  | 83 => ⟨S64x8x129x64, .f32⟩
  | 84 => ⟨S64x8x64x129, .f32⟩
  | 85 => ⟨S64x8x129x129, .f32⟩
  | 86 => ⟨S_, .f32⟩
  | 87 => ⟨S64x8x129x129, .f32⟩
  | 88 => ⟨S64x8x129x129, .f32⟩
  | 89 => ⟨S_, .f32⟩
  | 90 => ⟨S64x8x129, .f32⟩
  | 91 => ⟨S_, .f32⟩
  | 92 => ⟨S64x8x129, .f32⟩
  | 93 => ⟨S64x8x129, .f32⟩
  | 94 => ⟨S64x8x129x1, .f32⟩
  | 95 => ⟨S64x8x129x129, .f32⟩
  | 96 => ⟨S64x8x129x129, .f32⟩
  | 97 => ⟨S64x8x129x129, .f32⟩
  | 98 => ⟨S_, .f32⟩
  | 99 => ⟨S64x8x129, .f32⟩
  | 100 => ⟨S64x8x129x1, .f32⟩
  | 101 => ⟨S64x8x129x129, .f32⟩
  | 102 => ⟨S64x8x129x129, .f32⟩
  | 103 => ⟨S64x8x129x64, .f32⟩
  | 104 => ⟨S64x129x8x64, .f32⟩
  | 105 => ⟨S64x129x512, .f32⟩
  | 106 => ⟨S64x129x256, .f32⟩
  | 107 => ⟨S1x1x256, .f32⟩
  | 108 => ⟨S64x129x256, .f32⟩
  | 109 => ⟨S64x129x256, .f32⟩
  | 110 => ⟨S64x129x256, .f32⟩
  | 111 => ⟨S1x256, .f32⟩
  | 112 => ⟨S256, .f32⟩
  | 113 => ⟨S1x256, .f32⟩
  | 114 => ⟨S256, .f32⟩
  | 115 => ⟨S_, .f32⟩
  | 116 => ⟨S64x129, .f32⟩
  | 117 => ⟨S64x129x1, .f32⟩
  | 118 => ⟨S_, .f32⟩
  | 119 => ⟨S64x129x1, .f32⟩
  | 120 => ⟨S64x129x1, .f32⟩
  | 121 => ⟨S_, .i32⟩
  | 122 => ⟨S_, .f32⟩
  | 123 => ⟨S64x129, .f32⟩
  | 124 => ⟨S64x129x1, .f32⟩
  | 125 => ⟨S_, .f32⟩
  | 126 => ⟨S64x129x1, .f32⟩
  | 127 => ⟨S64x129x1, .f32⟩
  | _ => ⟨S64x128x33x33, .f32⟩

abbrev hbmTy0_7 (i : Nat) : BufTy := match i % 128 with
  | 0 => ⟨S64x129x256, .f32⟩
  | 1 => ⟨S64x129x256, .f32⟩
  | 2 => ⟨S64x129x256, .f32⟩
  | 3 => ⟨S_, .f32⟩
  | 4 => ⟨S_, .f32⟩
  | 5 => ⟨S_, .f32⟩
  | 6 => ⟨S_, .f32⟩
  | 7 => ⟨S64x129, .f32⟩
  | 8 => ⟨S64x129x1, .f32⟩
  | 9 => ⟨S64x129x1, .f32⟩
  | 10 => ⟨S64x129x1, .f32⟩
  | 11 => ⟨S_, .f32⟩
  | 12 => ⟨S_, .i1⟩
  | 13 => ⟨S_, .f32⟩
  | 14 => ⟨S_, .f32⟩
  | 15 => ⟨S64x129x1, .f32⟩
  | 16 => ⟨S64x129x1, .f32⟩
  | 17 => ⟨S64x129x256, .f32⟩
  | 18 => ⟨S64x129x256, .f32⟩
  | 19 => ⟨S_, .f32⟩
  | 20 => ⟨S64x129x1, .f32⟩
  | 21 => ⟨S64x129x1, .f32⟩
  | 22 => ⟨S64x129x1, .f32⟩
  | 23 => ⟨S64x129x256, .f32⟩
  | 24 => ⟨S64x129x256, .f32⟩
  | 25 => ⟨S1x1x256, .f32⟩
  | 26 => ⟨S64x129x256, .f32⟩
  | 27 => ⟨S64x129x256, .f32⟩
  | 28 => ⟨S1x1x256, .f32⟩
  | 29 => ⟨S64x129x256, .f32⟩
  | 30 => ⟨S64x129x256, .f32⟩
  | 31 => ⟨S1x256x512, .f32⟩
  | 32 => ⟨S256x512, .f32⟩
  | 33 => ⟨S64x129x512, .f32⟩
  | 34 => ⟨S1x512, .f32⟩
  | 35 => ⟨S512, .f32⟩
  | 36 => ⟨S1x1x512, .f32⟩
  | 37 => ⟨S64x129x512, .f32⟩
  | 38 => ⟨S64x129x512, .f32⟩
  | 39 => ⟨S_, .f32⟩
  | 40 => ⟨S64x129x512, .f32⟩
  | 41 => ⟨S64x129x512, .f32⟩
  | 42 => ⟨S64x129x512, .f32⟩
  | 43 => ⟨S_, .f32⟩
  | 44 => ⟨S64x129x512, .f32⟩
  | 45 => ⟨S64x129x512, .f32⟩
  | 46 => ⟨S64x129x512, .f32⟩
  | 47 => ⟨S64x129x512, .f32⟩
  | 48 => ⟨S1x512x256, .f32⟩
  | 49 => ⟨S512x256, .f32⟩
  | 50 => ⟨S64x129x256, .f32⟩
  | 51 => ⟨S1x256, .f32⟩
  | 52 => ⟨S256, .f32⟩
  | 53 => ⟨S1x1x256, .f32⟩
  | 54 => ⟨S64x129x256, .f32⟩
  | 55 => ⟨S64x129x256, .f32⟩
  | 56 => ⟨S64x129x256, .f32⟩
  | 57 => ⟨S1x256, .f32⟩
  | 58 => ⟨S256, .f32⟩
  | 59 => ⟨S1x256, .f32⟩
  | 60 => ⟨S256, .f32⟩
  | 61 => ⟨S_, .f32⟩
  | 62 => ⟨S64x129, .f32⟩
  | 63 => ⟨S64x129x1, .f32⟩
  | 64 => ⟨S_, .f32⟩
  | 65 => ⟨S64x129x1, .f32⟩
  | 66 => ⟨S64x129x1, .f32⟩
  | 67 => ⟨S_, .i32⟩
  | 68 => ⟨S_, .f32⟩
  | 69 => ⟨S64x129, .f32⟩
  | 70 => ⟨S64x129x1, .f32⟩
  | 71 => ⟨S_, .f32⟩
  | 72 => ⟨S64x129x1, .f32⟩
  | 73 => ⟨S64x129x1, .f32⟩
  | 74 => ⟨S64x129x256, .f32⟩
  | 75 => ⟨S64x129x256, .f32⟩
  | 76 => ⟨S64x129x256, .f32⟩
  | 77 => ⟨S_, .f32⟩
  | 78 => ⟨S_, .f32⟩
  | 79 => ⟨S_, .f32⟩
  | 80 => ⟨S_, .f32⟩
  | 81 => ⟨S64x129, .f32⟩
  | 82 => ⟨S64x129x1, .f32⟩
  | 83 => ⟨S64x129x1, .f32⟩
  | 84 => ⟨S64x129x1, .f32⟩
  | 85 => ⟨S_, .f32⟩
  | 86 => ⟨S_, .i1⟩
  | 87 => ⟨S_, .f32⟩
  | 88 => ⟨S_, .f32⟩
  | 89 => ⟨S64x129x1, .f32⟩
  | 90 => ⟨S64x129x1, .f32⟩
  | 91 => ⟨S64x129x256, .f32⟩
  | 92 => ⟨S64x129x256, .f32⟩
  | 93 => ⟨S_, .f32⟩
  | 94 => ⟨S64x129x1, .f32⟩
  | 95 => ⟨S64x129x1, .f32⟩
  | 96 => ⟨S64x129x1, .f32⟩
  | 97 => ⟨S64x129x256, .f32⟩
  | 98 => ⟨S64x129x256, .f32⟩
  | 99 => ⟨S1x1x256, .f32⟩
  | 100 => ⟨S64x129x256, .f32⟩
  | 101 => ⟨S64x129x256, .f32⟩
  | 102 => ⟨S1x1x256, .f32⟩
  | 103 => ⟨S64x129x256, .f32⟩
  | 104 => ⟨S64x129x256, .f32⟩
  | 105 => ⟨S1x256x1536, .f32⟩
  | 106 => ⟨S256x1536, .f32⟩
  | 107 => ⟨S1x512x256, .f32⟩
  | 108 => ⟨S512x256, .f32⟩
  | 109 => ⟨S1x256, .f32⟩
  | 110 => ⟨S256, .f32⟩
  | 111 => ⟨S64x129x1536, .f32⟩
  | 112 => ⟨S64x129x512, .f32⟩
  | 113 => ⟨S64x129x512, .f32⟩
  | 114 => ⟨S64x129x512, .f32⟩
  | 115 => ⟨S64x129x8x64, .f32⟩
  | 116 => ⟨S64x8x129x64, .f32⟩
  | 117 => ⟨S64x129x8x64, .f32⟩
  | 118 => ⟨S64x8x129x64, .f32⟩
  | 119 => ⟨S64x129x8x64, .f32⟩
  | 120 => ⟨S64x8x129x64, .f32⟩
  | 121 => ⟨S64x8x64x129, .f32⟩
  | 122 => ⟨S64x8x129x129, .f32⟩
  | 123 => ⟨S_, .f32⟩
  | 124 => ⟨S64x8x129x129, .f32⟩
  | 125 => ⟨S64x8x129x129, .f32⟩
  | 126 => ⟨S_, .f32⟩
  | 127 => ⟨S64x8x129, .f32⟩
  | _ => ⟨S64x128x33x33, .f32⟩

abbrev hbmTy0_8 (i : Nat) : BufTy := match i % 128 with
  | 0 => ⟨S_, .f32⟩
  | 1 => ⟨S64x8x129, .f32⟩
  | 2 => ⟨S64x8x129, .f32⟩
  | 3 => ⟨S64x8x129x1, .f32⟩
  | 4 => ⟨S64x8x129x129, .f32⟩
  | 5 => ⟨S64x8x129x129, .f32⟩
  | 6 => ⟨S64x8x129x129, .f32⟩
  | 7 => ⟨S_, .f32⟩
  | 8 => ⟨S64x8x129, .f32⟩
  | 9 => ⟨S64x8x129x1, .f32⟩
  | 10 => ⟨S64x8x129x129, .f32⟩
  | 11 => ⟨S64x8x129x129, .f32⟩
  | 12 => ⟨S64x8x129x64, .f32⟩
  | 13 => ⟨S64x129x8x64, .f32⟩
  | 14 => ⟨S64x129x512, .f32⟩
  | 15 => ⟨S64x129x256, .f32⟩
  | 16 => ⟨S1x1x256, .f32⟩
  | 17 => ⟨S64x129x256, .f32⟩
  | 18 => ⟨S64x129x256, .f32⟩
  | 19 => ⟨S64x129x256, .f32⟩
  | 20 => ⟨S1x256, .f32⟩
  | 21 => ⟨S256, .f32⟩
  | 22 => ⟨S1x256, .f32⟩
  | 23 => ⟨S256, .f32⟩
  | 24 => ⟨S_, .f32⟩
  | 25 => ⟨S64x129, .f32⟩
  | 26 => ⟨S64x129x1, .f32⟩
  | 27 => ⟨S_, .f32⟩
  | 28 => ⟨S64x129x1, .f32⟩
  | 29 => ⟨S64x129x1, .f32⟩
  | 30 => ⟨S_, .i32⟩
  | 31 => ⟨S_, .f32⟩
  | 32 => ⟨S64x129, .f32⟩
  | 33 => ⟨S64x129x1, .f32⟩
  | 34 => ⟨S_, .f32⟩
  | 35 => ⟨S64x129x1, .f32⟩
  | 36 => ⟨S64x129x1, .f32⟩
  | 37 => ⟨S64x129x256, .f32⟩
  | 38 => ⟨S64x129x256, .f32⟩
  | 39 => ⟨S64x129x256, .f32⟩
  | 40 => ⟨S_, .f32⟩
  | 41 => ⟨S_, .f32⟩
  | 42 => ⟨S_, .f32⟩
  | 43 => ⟨S_, .f32⟩
  | 44 => ⟨S64x129, .f32⟩
  | 45 => ⟨S64x129x1, .f32⟩
  | 46 => ⟨S64x129x1, .f32⟩
  | 47 => ⟨S64x129x1, .f32⟩
  | 48 => ⟨S_, .f32⟩
  | 49 => ⟨S_, .i1⟩
  | 50 => ⟨S_, .f32⟩
  | 51 => ⟨S_, .f32⟩
  | 52 => ⟨S64x129x1, .f32⟩
  | 53 => ⟨S64x129x1, .f32⟩
  | 54 => ⟨S64x129x256, .f32⟩
  | 55 => ⟨S64x129x256, .f32⟩
  | 56 => ⟨S_, .f32⟩
  | 57 => ⟨S64x129x1, .f32⟩
  | 58 => ⟨S64x129x1, .f32⟩
  | 59 => ⟨S64x129x1, .f32⟩
  | 60 => ⟨S64x129x256, .f32⟩
  | 61 => ⟨S64x129x256, .f32⟩
  | 62 => ⟨S1x1x256, .f32⟩
  | 63 => ⟨S64x129x256, .f32⟩
  | 64 => ⟨S64x129x256, .f32⟩
  | 65 => ⟨S1x1x256, .f32⟩
  | 66 => ⟨S64x129x256, .f32⟩
  | 67 => ⟨S64x129x256, .f32⟩
  | 68 => ⟨S1x256x512, .f32⟩
  | 69 => ⟨S256x512, .f32⟩
  | 70 => ⟨S64x129x512, .f32⟩
  | 71 => ⟨S1x512, .f32⟩
  | 72 => ⟨S512, .f32⟩
  | 73 => ⟨S1x1x512, .f32⟩
  | 74 => ⟨S64x129x512, .f32⟩
  | 75 => ⟨S64x129x512, .f32⟩
  | 76 => ⟨S_, .f32⟩
  | 77 => ⟨S64x129x512, .f32⟩
  | 78 => ⟨S64x129x512, .f32⟩
  | 79 => ⟨S64x129x512, .f32⟩
  | 80 => ⟨S_, .f32⟩
  | 81 => ⟨S64x129x512, .f32⟩
  | 82 => ⟨S64x129x512, .f32⟩
  | 83 => ⟨S64x129x512, .f32⟩
  | 84 => ⟨S64x129x512, .f32⟩
  | 85 => ⟨S1x512x256, .f32⟩
  | 86 => ⟨S512x256, .f32⟩
  | 87 => ⟨S64x129x256, .f32⟩
  | 88 => ⟨S1x256, .f32⟩
  | 89 => ⟨S256, .f32⟩
  | 90 => ⟨S1x1x256, .f32⟩
  | 91 => ⟨S64x129x256, .f32⟩
  | 92 => ⟨S64x129x256, .f32⟩
  | 93 => ⟨S64x129x256, .f32⟩
  | 94 => ⟨S1x256, .f32⟩
  | 95 => ⟨S256, .f32⟩
  | 96 => ⟨S1x256, .f32⟩
  | 97 => ⟨S256, .f32⟩
  | 98 => ⟨S_, .f32⟩
  | 99 => ⟨S64x129, .f32⟩
  | 100 => ⟨S64x129x1, .f32⟩
  | 101 => ⟨S_, .f32⟩
  | 102 => ⟨S64x129x1, .f32⟩
  | 103 => ⟨S64x129x1, .f32⟩
  | 104 => ⟨S_, .i32⟩
  | 105 => ⟨S_, .f32⟩
  | 106 => ⟨S64x129, .f32⟩
  | 107 => ⟨S64x129x1, .f32⟩
  | 108 => ⟨S_, .f32⟩
  | 109 => ⟨S64x129x1, .f32⟩
  | 110 => ⟨S64x129x1, .f32⟩
  | 111 => ⟨S64x129x256, .f32⟩
  | 112 => ⟨S64x129x256, .f32⟩
  | 113 => ⟨S64x129x256, .f32⟩
  | 114 => ⟨S_, .f32⟩
  | 115 => ⟨S_, .f32⟩
  | 116 => ⟨S_, .f32⟩
  | 117 => ⟨S_, .f32⟩
  | 118 => ⟨S64x129, .f32⟩
  | 119 => ⟨S64x129x1, .f32⟩
  | 120 => ⟨S64x129x1, .f32⟩
  | 121 => ⟨S64x129x1, .f32⟩
  | 122 => ⟨S_, .f32⟩
  | 123 => ⟨S_, .i1⟩
  | 124 => ⟨S_, .f32⟩
  | 125 => ⟨S_, .f32⟩
  | 126 => ⟨S64x129x1, .f32⟩
  | 127 => ⟨S64x129x1, .f32⟩
  | _ => ⟨S64x128x33x33, .f32⟩

abbrev hbmTy0_9 (i : Nat) : BufTy := match i % 128 with
  | 0 => ⟨S64x129x256, .f32⟩
  | 1 => ⟨S64x129x256, .f32⟩
  | 2 => ⟨S_, .f32⟩
  | 3 => ⟨S64x129x1, .f32⟩
  | 4 => ⟨S64x129x1, .f32⟩
  | 5 => ⟨S64x129x1, .f32⟩
  | 6 => ⟨S64x129x256, .f32⟩
  | 7 => ⟨S64x129x256, .f32⟩
  | 8 => ⟨S1x1x256, .f32⟩
  | 9 => ⟨S64x129x256, .f32⟩
  | 10 => ⟨S64x129x256, .f32⟩
  | 11 => ⟨S1x1x256, .f32⟩
  | 12 => ⟨S64x129x256, .f32⟩
  | 13 => ⟨S64x129x256, .f32⟩
  | 14 => ⟨S1x256x1536, .f32⟩
  | 15 => ⟨S256x1536, .f32⟩
  | 16 => ⟨S1x512x256, .f32⟩
  | 17 => ⟨S512x256, .f32⟩
  | 18 => ⟨S1x256, .f32⟩
  | 19 => ⟨S256, .f32⟩
  | 20 => ⟨S64x129x1536, .f32⟩
  | 21 => ⟨S64x129x512, .f32⟩
  | 22 => ⟨S64x129x512, .f32⟩
  | 23 => ⟨S64x129x512, .f32⟩
  | 24 => ⟨S64x129x8x64, .f32⟩
  | 25 => ⟨S64x8x129x64, .f32⟩
  | 26 => ⟨S64x129x8x64, .f32⟩
  | 27 => ⟨S64x8x129x64, .f32⟩
  | 28 => ⟨S64x129x8x64, .f32⟩
  | 29 => ⟨S64x8x129x64, .f32⟩
  | 30 => ⟨S64x8x64x129, .f32⟩
  | 31 => ⟨S64x8x129x129, .f32⟩
  | 32 => ⟨S_, .f32⟩
  | 33 => ⟨S64x8x129x129, .f32⟩
  | 34 => ⟨S64x8x129x129, .f32⟩
  | 35 => ⟨S_, .f32⟩
  | 36 => ⟨S64x8x129, .f32⟩
  | 37 => ⟨S_, .f32⟩
  | 38 => ⟨S64x8x129, .f32⟩
  | 39 => ⟨S64x8x129, .f32⟩
  | 40 => ⟨S64x8x129x1, .f32⟩
  | 41 => ⟨S64x8x129x129, .f32⟩
  | 42 => ⟨S64x8x129x129, .f32⟩
  | 43 => ⟨S64x8x129x129, .f32⟩
  | 44 => ⟨S_, .f32⟩
  | 45 => ⟨S64x8x129, .f32⟩
  | 46 => ⟨S64x8x129x1, .f32⟩
  | 47 => ⟨S64x8x129x129, .f32⟩
  | 48 => ⟨S64x8x129x129, .f32⟩
  | 49 => ⟨S64x8x129x64, .f32⟩
  | 50 => ⟨S64x129x8x64, .f32⟩
  | 51 => ⟨S64x129x512, .f32⟩
  | 52 => ⟨S64x129x256, .f32⟩
  | 53 => ⟨S1x1x256, .f32⟩
  | 54 => ⟨S64x129x256, .f32⟩
  | 55 => ⟨S64x129x256, .f32⟩
  | 56 => ⟨S64x129x256, .f32⟩
  | 57 => ⟨S1x256, .f32⟩
  | 58 => ⟨S256, .f32⟩
  | 59 => ⟨S1x256, .f32⟩
  | 60 => ⟨S256, .f32⟩
  | 61 => ⟨S_, .f32⟩
  | 62 => ⟨S64x129, .f32⟩
  | 63 => ⟨S64x129x1, .f32⟩
  | 64 => ⟨S_, .f32⟩
  | 65 => ⟨S64x129x1, .f32⟩
  | 66 => ⟨S64x129x1, .f32⟩
  | 67 => ⟨S_, .i32⟩
  | 68 => ⟨S_, .f32⟩
  | 69 => ⟨S64x129, .f32⟩
  | 70 => ⟨S64x129x1, .f32⟩
  | 71 => ⟨S_, .f32⟩
  | 72 => ⟨S64x129x1, .f32⟩
  | 73 => ⟨S64x129x1, .f32⟩
  | 74 => ⟨S64x129x256, .f32⟩
  | 75 => ⟨S64x129x256, .f32⟩
  | 76 => ⟨S64x129x256, .f32⟩
  | 77 => ⟨S_, .f32⟩
  | 78 => ⟨S_, .f32⟩
  | 79 => ⟨S_, .f32⟩
  | 80 => ⟨S_, .f32⟩
  | 81 => ⟨S64x129, .f32⟩
  | 82 => ⟨S64x129x1, .f32⟩
  | 83 => ⟨S64x129x1, .f32⟩
  | 84 => ⟨S64x129x1, .f32⟩
  | 85 => ⟨S_, .f32⟩
  | 86 => ⟨S_, .i1⟩
  | 87 => ⟨S_, .f32⟩
  | 88 => ⟨S_, .f32⟩
  | 89 => ⟨S64x129x1, .f32⟩
  | 90 => ⟨S64x129x1, .f32⟩
  | 91 => ⟨S64x129x256, .f32⟩
  | 92 => ⟨S64x129x256, .f32⟩
  | 93 => ⟨S_, .f32⟩
  | 94 => ⟨S64x129x1, .f32⟩
  | 95 => ⟨S64x129x1, .f32⟩
  | 96 => ⟨S64x129x1, .f32⟩
  | 97 => ⟨S64x129x256, .f32⟩
  | 98 => ⟨S64x129x256, .f32⟩
  | 99 => ⟨S1x1x256, .f32⟩
  | 100 => ⟨S64x129x256, .f32⟩
  | 101 => ⟨S64x129x256, .f32⟩
  | 102 => ⟨S1x1x256, .f32⟩
  | 103 => ⟨S64x129x256, .f32⟩
  | 104 => ⟨S64x129x256, .f32⟩
  | 105 => ⟨S1x256x512, .f32⟩
  | 106 => ⟨S256x512, .f32⟩
  | 107 => ⟨S64x129x512, .f32⟩
  | 108 => ⟨S1x512, .f32⟩
  | 109 => ⟨S512, .f32⟩
  | 110 => ⟨S1x1x512, .f32⟩
  | 111 => ⟨S64x129x512, .f32⟩
  | 112 => ⟨S64x129x512, .f32⟩
  | 113 => ⟨S_, .f32⟩
  | 114 => ⟨S64x129x512, .f32⟩
  | 115 => ⟨S64x129x512, .f32⟩
  | 116 => ⟨S64x129x512, .f32⟩
  | 117 => ⟨S_, .f32⟩
  | 118 => ⟨S64x129x512, .f32⟩
  | 119 => ⟨S64x129x512, .f32⟩
  | 120 => ⟨S64x129x512, .f32⟩
  | 121 => ⟨S64x129x512, .f32⟩
  | 122 => ⟨S1x512x256, .f32⟩
  | 123 => ⟨S512x256, .f32⟩
  | 124 => ⟨S64x129x256, .f32⟩
  | 125 => ⟨S1x256, .f32⟩
  | 126 => ⟨S256, .f32⟩
  | 127 => ⟨S1x1x256, .f32⟩
  | _ => ⟨S64x128x33x33, .f32⟩

abbrev hbmTy0_10 (i : Nat) : BufTy := match i % 128 with
  | 0 => ⟨S64x129x256, .f32⟩
  | 1 => ⟨S64x129x256, .f32⟩
  | 2 => ⟨S64x129x256, .f32⟩
  | 3 => ⟨S_, .f32⟩
  | 4 => ⟨S64x256, .f32⟩
  | 5 => ⟨S_, .f32⟩
  | 6 => ⟨S64x256, .f32⟩
  | 7 => ⟨S64x256, .f32⟩
  | 8 => ⟨S_, .f32⟩
  | 9 => ⟨S64, .f32⟩
  | 10 => ⟨S64x1, .f32⟩
  | 11 => ⟨S_, .f32⟩
  | 12 => ⟨S64x1, .f32⟩
  | 13 => ⟨S64x1, .f32⟩
  | 14 => ⟨S_, .i32⟩
  | 15 => ⟨S_, .f32⟩
  | 16 => ⟨S64, .f32⟩
  | 17 => ⟨S64x1, .f32⟩
  | 18 => ⟨S_, .f32⟩
  | 19 => ⟨S64x1, .f32⟩
  | 20 => ⟨S64x1, .f32⟩
  | 21 => ⟨S64x256, .f32⟩
  | 22 => ⟨S64x256, .f32⟩
  | 23 => ⟨S64x256, .f32⟩
  | 24 => ⟨S_, .f32⟩
  | 25 => ⟨S_, .f32⟩
  | 26 => ⟨S_, .f32⟩
  | 27 => ⟨S_, .f32⟩
  | 28 => ⟨S64, .f32⟩
  | 29 => ⟨S64x1, .f32⟩
  | 30 => ⟨S64x1, .f32⟩
  | 31 => ⟨S64x1, .f32⟩
  | 32 => ⟨S_, .f32⟩
  | 33 => ⟨S_, .i1⟩
  | 34 => ⟨S_, .f32⟩
  | 35 => ⟨S_, .f32⟩
  | 36 => ⟨S64x1, .f32⟩
  | 37 => ⟨S64x1, .f32⟩
  | 38 => ⟨S64x256, .f32⟩
  | 39 => ⟨S64x256, .f32⟩
  | 40 => ⟨S_, .f32⟩
  | 41 => ⟨S64x1, .f32⟩
  | 42 => ⟨S64x1, .f32⟩
  | 43 => ⟨S64x1, .f32⟩
  | 44 => ⟨S64x256, .f32⟩
  | 45 => ⟨S64x256, .f32⟩
  | 46 => ⟨S1x256, .f32⟩
  | 47 => ⟨S64x256, .f32⟩
  | 48 => ⟨S64x256, .f32⟩
  | 49 => ⟨S1x256, .f32⟩
  | 50 => ⟨S64x256, .f32⟩
  | 51 => ⟨S64x256, .f32⟩
  | 52 => ⟨S64x16, .f32⟩
  | 53 => ⟨S1x16, .f32⟩
  | 54 => ⟨S64x16, .f32⟩
  | 55 => ⟨S64x16, .f32⟩
  | _ => ⟨S64x128x33x33, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S64x128x33x33, .f32⟩

abbrev bufTy : (tb : Table) → Fin (tcTables nBuf tb) → BufTy
  | .hbm, ⟨i, _⟩ => hbmTy i
  | _, _ => ⟨S64x128x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_c_1 : Ref sig .tc := ⟨.hbm, 21, rfl⟩
abbrev main_c_2 : Ref sig .tc := ⟨.hbm, 22, rfl⟩
abbrev main_c_3 : Ref sig .tc := ⟨.hbm, 23, rfl⟩
abbrev main_c_4 : Ref sig .tc := ⟨.hbm, 24, rfl⟩
abbrev main_c_5 : Ref sig .tc := ⟨.hbm, 25, rfl⟩
abbrev main_c_6 : Ref sig .tc := ⟨.hbm, 26, rfl⟩
abbrev main_c_7 : Ref sig .tc := ⟨.hbm, 27, rfl⟩
abbrev main_c_8 : Ref sig .tc := ⟨.hbm, 28, rfl⟩
abbrev main_c_9 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_c_13 : Ref sig .tc := ⟨.hbm, 33, rfl⟩
abbrev main_c_14 : Ref sig .tc := ⟨.hbm, 34, rfl⟩
abbrev main_c_15 : Ref sig .tc := ⟨.hbm, 35, rfl⟩
abbrev main_c_16 : Ref sig .tc := ⟨.hbm, 36, rfl⟩
abbrev main_c_17 : Ref sig .tc := ⟨.hbm, 37, rfl⟩
abbrev main_c_18 : Ref sig .tc := ⟨.hbm, 38, rfl⟩
abbrev main_c_19 : Ref sig .tc := ⟨.hbm, 39, rfl⟩
abbrev main_c_20 : Ref sig .tc := ⟨.hbm, 40, rfl⟩
abbrev main_c_21 : Ref sig .tc := ⟨.hbm, 41, rfl⟩
abbrev main_c_22 : Ref sig .tc := ⟨.hbm, 42, rfl⟩
abbrev main_c_23 : Ref sig .tc := ⟨.hbm, 43, rfl⟩
abbrev main_c_24 : Ref sig .tc := ⟨.hbm, 44, rfl⟩
abbrev main_c_25 : Ref sig .tc := ⟨.hbm, 45, rfl⟩
abbrev main_c_26 : Ref sig .tc := ⟨.hbm, 46, rfl⟩
abbrev main_c_27 : Ref sig .tc := ⟨.hbm, 47, rfl⟩
abbrev main_c_28 : Ref sig .tc := ⟨.hbm, 48, rfl⟩
abbrev main_c_29 : Ref sig .tc := ⟨.hbm, 49, rfl⟩
abbrev main_c_30 : Ref sig .tc := ⟨.hbm, 50, rfl⟩
abbrev main_c_31 : Ref sig .tc := ⟨.hbm, 51, rfl⟩
abbrev main_c_32 : Ref sig .tc := ⟨.hbm, 52, rfl⟩
abbrev main_c_33 : Ref sig .tc := ⟨.hbm, 53, rfl⟩
abbrev main_c_34 : Ref sig .tc := ⟨.hbm, 54, rfl⟩
abbrev main_c_35 : Ref sig .tc := ⟨.hbm, 55, rfl⟩
abbrev main_c_36 : Ref sig .tc := ⟨.hbm, 56, rfl⟩
abbrev main_c_37 : Ref sig .tc := ⟨.hbm, 57, rfl⟩
abbrev main_c_38 : Ref sig .tc := ⟨.hbm, 58, rfl⟩
abbrev main_c_39 : Ref sig .tc := ⟨.hbm, 59, rfl⟩
abbrev main_c_40 : Ref sig .tc := ⟨.hbm, 60, rfl⟩
abbrev main_c_41 : Ref sig .tc := ⟨.hbm, 61, rfl⟩
abbrev main_c_42 : Ref sig .tc := ⟨.hbm, 62, rfl⟩
abbrev main_c_43 : Ref sig .tc := ⟨.hbm, 63, rfl⟩
abbrev main_c_44 : Ref sig .tc := ⟨.hbm, 64, rfl⟩
abbrev main_c_45 : Ref sig .tc := ⟨.hbm, 65, rfl⟩
abbrev main_c_46 : Ref sig .tc := ⟨.hbm, 66, rfl⟩
abbrev main_c_47 : Ref sig .tc := ⟨.hbm, 67, rfl⟩
abbrev main_c_48 : Ref sig .tc := ⟨.hbm, 68, rfl⟩
abbrev main_c_49 : Ref sig .tc := ⟨.hbm, 69, rfl⟩
abbrev main_c_50 : Ref sig .tc := ⟨.hbm, 70, rfl⟩
abbrev main_c_51 : Ref sig .tc := ⟨.hbm, 71, rfl⟩
abbrev main_c_52 : Ref sig .tc := ⟨.hbm, 72, rfl⟩
abbrev main_c_53 : Ref sig .tc := ⟨.hbm, 73, rfl⟩
abbrev main_c_54 : Ref sig .tc := ⟨.hbm, 74, rfl⟩
abbrev main_c_55 : Ref sig .tc := ⟨.hbm, 75, rfl⟩
abbrev main_c_56 : Ref sig .tc := ⟨.hbm, 76, rfl⟩
abbrev main_c_57 : Ref sig .tc := ⟨.hbm, 77, rfl⟩
abbrev main_c_58 : Ref sig .tc := ⟨.hbm, 78, rfl⟩
abbrev main_c_59 : Ref sig .tc := ⟨.hbm, 79, rfl⟩
abbrev main_c_60 : Ref sig .tc := ⟨.hbm, 80, rfl⟩
abbrev main_c_61 : Ref sig .tc := ⟨.hbm, 81, rfl⟩
abbrev main_c_62 : Ref sig .tc := ⟨.hbm, 82, rfl⟩
abbrev main_c_63 : Ref sig .tc := ⟨.hbm, 83, rfl⟩
abbrev main_c_64 : Ref sig .tc := ⟨.hbm, 84, rfl⟩
abbrev main_c_65 : Ref sig .tc := ⟨.hbm, 85, rfl⟩
abbrev main_c_66 : Ref sig .tc := ⟨.hbm, 86, rfl⟩
abbrev main_c_67 : Ref sig .tc := ⟨.hbm, 87, rfl⟩
abbrev main_c_68 : Ref sig .tc := ⟨.hbm, 88, rfl⟩
abbrev main_c_69 : Ref sig .tc := ⟨.hbm, 89, rfl⟩
abbrev main_c_70 : Ref sig .tc := ⟨.hbm, 90, rfl⟩
abbrev main_c_71 : Ref sig .tc := ⟨.hbm, 91, rfl⟩
abbrev main_c_72 : Ref sig .tc := ⟨.hbm, 92, rfl⟩
abbrev main_c_73 : Ref sig .tc := ⟨.hbm, 93, rfl⟩
abbrev main_c_74 : Ref sig .tc := ⟨.hbm, 94, rfl⟩
abbrev main_c_75 : Ref sig .tc := ⟨.hbm, 95, rfl⟩
abbrev main_c_76 : Ref sig .tc := ⟨.hbm, 96, rfl⟩
abbrev main_c_77 : Ref sig .tc := ⟨.hbm, 97, rfl⟩
abbrev main_c_78 : Ref sig .tc := ⟨.hbm, 98, rfl⟩
abbrev main_c_79 : Ref sig .tc := ⟨.hbm, 99, rfl⟩
abbrev main_c_80 : Ref sig .tc := ⟨.hbm, 100, rfl⟩
abbrev main_c_81 : Ref sig .tc := ⟨.hbm, 101, rfl⟩
abbrev main_c_82 : Ref sig .tc := ⟨.hbm, 102, rfl⟩
abbrev main_c_83 : Ref sig .tc := ⟨.hbm, 103, rfl⟩
abbrev main_c_84 : Ref sig .tc := ⟨.hbm, 104, rfl⟩
abbrev main_c_85 : Ref sig .tc := ⟨.hbm, 105, rfl⟩
abbrev main_c_86 : Ref sig .tc := ⟨.hbm, 106, rfl⟩
abbrev main_c_87 : Ref sig .tc := ⟨.hbm, 107, rfl⟩
abbrev main_c_88 : Ref sig .tc := ⟨.hbm, 108, rfl⟩
abbrev main_c_89 : Ref sig .tc := ⟨.hbm, 109, rfl⟩
abbrev main_c_90 : Ref sig .tc := ⟨.hbm, 110, rfl⟩
abbrev main_c_91 : Ref sig .tc := ⟨.hbm, 111, rfl⟩
abbrev main_c_92 : Ref sig .tc := ⟨.hbm, 112, rfl⟩
abbrev main_c_93 : Ref sig .tc := ⟨.hbm, 113, rfl⟩
abbrev main_c_94 : Ref sig .tc := ⟨.hbm, 114, rfl⟩
abbrev main_c_95 : Ref sig .tc := ⟨.hbm, 115, rfl⟩
abbrev main_c_96 : Ref sig .tc := ⟨.hbm, 116, rfl⟩
abbrev main_c_97 : Ref sig .tc := ⟨.hbm, 117, rfl⟩
abbrev main_c_98 : Ref sig .tc := ⟨.hbm, 118, rfl⟩
abbrev main_c_99 : Ref sig .tc := ⟨.hbm, 119, rfl⟩
abbrev main_c_100 : Ref sig .tc := ⟨.hbm, 120, rfl⟩
abbrev main_c_101 : Ref sig .tc := ⟨.hbm, 121, rfl⟩
abbrev main_c_102 : Ref sig .tc := ⟨.hbm, 122, rfl⟩
abbrev main_c_103 : Ref sig .tc := ⟨.hbm, 123, rfl⟩
abbrev main_c_104 : Ref sig .tc := ⟨.hbm, 124, rfl⟩
abbrev main_c_105 : Ref sig .tc := ⟨.hbm, 125, rfl⟩
abbrev main_c_106 : Ref sig .tc := ⟨.hbm, 126, rfl⟩
abbrev main_c_107 : Ref sig .tc := ⟨.hbm, 127, rfl⟩
abbrev main_c_108 : Ref sig .tc := ⟨.hbm, 128, rfl⟩
abbrev main_c_109 : Ref sig .tc := ⟨.hbm, 129, rfl⟩
abbrev main_c_110 : Ref sig .tc := ⟨.hbm, 130, rfl⟩
abbrev main_c_111 : Ref sig .tc := ⟨.hbm, 131, rfl⟩
abbrev main_c_112 : Ref sig .tc := ⟨.hbm, 132, rfl⟩
abbrev main_c_113 : Ref sig .tc := ⟨.hbm, 133, rfl⟩
abbrev main_cst : Ref sig .tc := ⟨.hbm, 134, rfl⟩
abbrev main_v0 : Ref sig .tc := ⟨.hbm, 135, rfl⟩
abbrev main_c_114 : Ref sig .tc := ⟨.hbm, 136, rfl⟩
abbrev main_v1 : Ref sig .tc := ⟨.hbm, 137, rfl⟩
abbrev main_v2 : Ref sig .tc := ⟨.hbm, 138, rfl⟩
abbrev main_v3 : Ref sig .tc := ⟨.hbm, 139, rfl⟩
abbrev main_v4 : Ref sig .tc := ⟨.hbm, 140, rfl⟩
abbrev main_v5 : Ref sig .tc := ⟨.hbm, 141, rfl⟩
abbrev main_c_115 : Ref sig .tc := ⟨.hbm, 142, rfl⟩
abbrev main_v6 : Ref sig .tc := ⟨.hbm, 143, rfl⟩
abbrev main_v7 : Ref sig .tc := ⟨.hbm, 144, rfl⟩
abbrev main_v8 : Ref sig .tc := ⟨.hbm, 145, rfl⟩
abbrev main_v9 : Ref sig .tc := ⟨.hbm, 146, rfl⟩
abbrev main_v10 : Ref sig .tc := ⟨.hbm, 147, rfl⟩
abbrev main_c_116 : Ref sig .tc := ⟨.hbm, 148, rfl⟩
abbrev main_v11 : Ref sig .tc := ⟨.hbm, 149, rfl⟩
abbrev main_v12 : Ref sig .tc := ⟨.hbm, 150, rfl⟩
abbrev main_v13 : Ref sig .tc := ⟨.hbm, 151, rfl⟩
abbrev main_v14 : Ref sig .tc := ⟨.hbm, 152, rfl⟩
abbrev main_v15 : Ref sig .tc := ⟨.hbm, 153, rfl⟩
abbrev main_v16 : Ref sig .tc := ⟨.hbm, 154, rfl⟩
abbrev main_cst_117 : Ref sig .tc := ⟨.hbm, 155, rfl⟩
abbrev main_v17 : Ref sig .tc := ⟨.hbm, 156, rfl⟩
abbrev main_v18 : Ref sig .tc := ⟨.hbm, 157, rfl⟩
abbrev main_v19 : Ref sig .tc := ⟨.hbm, 158, rfl⟩
abbrev main_c_118 : Ref sig .tc := ⟨.hbm, 159, rfl⟩
abbrev main_v20 : Ref sig .tc := ⟨.hbm, 160, rfl⟩
abbrev main_v21 : Ref sig .tc := ⟨.hbm, 161, rfl⟩
abbrev main_v22 : Ref sig .tc := ⟨.hbm, 162, rfl⟩
abbrev main_v23 : Ref sig .tc := ⟨.hbm, 163, rfl⟩
abbrev main_v24 : Ref sig .tc := ⟨.hbm, 164, rfl⟩
abbrev main_c_119 : Ref sig .tc := ⟨.hbm, 165, rfl⟩
abbrev main_v25 : Ref sig .tc := ⟨.hbm, 166, rfl⟩
abbrev main_v26 : Ref sig .tc := ⟨.hbm, 167, rfl⟩
abbrev main_v27 : Ref sig .tc := ⟨.hbm, 168, rfl⟩
abbrev main_v28 : Ref sig .tc := ⟨.hbm, 169, rfl⟩
abbrev main_v29 : Ref sig .tc := ⟨.hbm, 170, rfl⟩
abbrev main_c_120 : Ref sig .tc := ⟨.hbm, 171, rfl⟩
abbrev main_v30 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩
abbrev main_c_121 : Ref sig .tc := ⟨.hbm, 177, rfl⟩
abbrev main_v35 : Ref sig .tc := ⟨.hbm, 178, rfl⟩
abbrev main_v36 : Ref sig .tc := ⟨.hbm, 179, rfl⟩
abbrev main_v37 : Ref sig .tc := ⟨.hbm, 180, rfl⟩
abbrev main_v38 : Ref sig .tc := ⟨.hbm, 181, rfl⟩
abbrev main_v39 : Ref sig .tc := ⟨.hbm, 182, rfl⟩
abbrev main_v40 : Ref sig .tc := ⟨.hbm, 183, rfl⟩
abbrev main_cst_122 : Ref sig .tc := ⟨.hbm, 184, rfl⟩
abbrev main_v41 : Ref sig .tc := ⟨.hbm, 185, rfl⟩
abbrev main_v42 : Ref sig .tc := ⟨.hbm, 186, rfl⟩
abbrev main_v43 : Ref sig .tc := ⟨.hbm, 187, rfl⟩
abbrev main_c_123 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_v47 : Ref sig .tc := ⟨.hbm, 192, rfl⟩
abbrev main_v48 : Ref sig .tc := ⟨.hbm, 193, rfl⟩
abbrev main_c_124 : Ref sig .tc := ⟨.hbm, 194, rfl⟩
abbrev main_v49 : Ref sig .tc := ⟨.hbm, 195, rfl⟩
abbrev main_v50 : Ref sig .tc := ⟨.hbm, 196, rfl⟩
abbrev main_v51 : Ref sig .tc := ⟨.hbm, 197, rfl⟩
abbrev main_v52 : Ref sig .tc := ⟨.hbm, 198, rfl⟩
abbrev main_v53 : Ref sig .tc := ⟨.hbm, 199, rfl⟩
abbrev main_c_125 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_v57 : Ref sig .tc := ⟨.hbm, 204, rfl⟩
abbrev main_v58 : Ref sig .tc := ⟨.hbm, 205, rfl⟩
abbrev main_c_126 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_v62 : Ref sig .tc := ⟨.hbm, 210, rfl⟩
abbrev main_v63 : Ref sig .tc := ⟨.hbm, 211, rfl⟩
abbrev main_v64 : Ref sig .tc := ⟨.hbm, 212, rfl⟩
abbrev main_cst_127 : Ref sig .tc := ⟨.hbm, 213, rfl⟩
abbrev main_v65 : Ref sig .tc := ⟨.hbm, 214, rfl⟩
abbrev main_v66 : Ref sig .tc := ⟨.hbm, 215, rfl⟩
abbrev main_v67 : Ref sig .tc := ⟨.hbm, 216, rfl⟩
abbrev main_c_128 : Ref sig .tc := ⟨.hbm, 217, rfl⟩
abbrev main_v68 : Ref sig .tc := ⟨.hbm, 218, rfl⟩
abbrev main_v69 : Ref sig .tc := ⟨.hbm, 219, rfl⟩
abbrev main_v70 : Ref sig .tc := ⟨.hbm, 220, rfl⟩
abbrev main_v71 : Ref sig .tc := ⟨.hbm, 221, rfl⟩
abbrev main_v72 : Ref sig .tc := ⟨.hbm, 222, rfl⟩
abbrev main_c_129 : Ref sig .tc := ⟨.hbm, 223, rfl⟩
abbrev main_v73 : Ref sig .tc := ⟨.hbm, 224, rfl⟩
abbrev main_v74 : Ref sig .tc := ⟨.hbm, 225, rfl⟩
abbrev main_v75 : Ref sig .tc := ⟨.hbm, 226, rfl⟩
abbrev main_v76 : Ref sig .tc := ⟨.hbm, 227, rfl⟩
abbrev main_v77 : Ref sig .tc := ⟨.hbm, 228, rfl⟩
abbrev main_c_130 : Ref sig .tc := ⟨.hbm, 229, rfl⟩
abbrev main_v78 : Ref sig .tc := ⟨.hbm, 230, rfl⟩
abbrev main_v79 : Ref sig .tc := ⟨.hbm, 231, rfl⟩
abbrev main_v80 : Ref sig .tc := ⟨.hbm, 232, rfl⟩
abbrev main_v81 : Ref sig .tc := ⟨.hbm, 233, rfl⟩
abbrev main_v82 : Ref sig .tc := ⟨.hbm, 234, rfl⟩
abbrev main_c_131 : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_v86 : Ref sig .tc := ⟨.hbm, 239, rfl⟩
abbrev main_v87 : Ref sig .tc := ⟨.hbm, 240, rfl⟩
abbrev main_v88 : Ref sig .tc := ⟨.hbm, 241, rfl⟩
abbrev main_cst_132 : Ref sig .tc := ⟨.hbm, 242, rfl⟩
abbrev main_v89 : Ref sig .tc := ⟨.hbm, 243, rfl⟩
abbrev main_v90 : Ref sig .tc := ⟨.hbm, 244, rfl⟩
abbrev main_v91 : Ref sig .tc := ⟨.hbm, 245, rfl⟩
abbrev main_c_133 : Ref sig .tc := ⟨.hbm, 246, rfl⟩
abbrev main_v92 : Ref sig .tc := ⟨.hbm, 247, rfl⟩
abbrev main_v93 : Ref sig .tc := ⟨.hbm, 248, rfl⟩
abbrev main_v94 : Ref sig .tc := ⟨.hbm, 249, rfl⟩
abbrev main_v95 : Ref sig .tc := ⟨.hbm, 250, rfl⟩
abbrev main_v96 : Ref sig .tc := ⟨.hbm, 251, rfl⟩
abbrev main_c_134 : Ref sig .tc := ⟨.hbm, 252, rfl⟩
abbrev main_v97 : Ref sig .tc := ⟨.hbm, 253, rfl⟩
abbrev main_v98 : Ref sig .tc := ⟨.hbm, 254, rfl⟩
abbrev main_v99 : Ref sig .tc := ⟨.hbm, 255, rfl⟩
abbrev main_v100 : Ref sig .tc := ⟨.hbm, 256, rfl⟩
abbrev main_v101 : Ref sig .tc := ⟨.hbm, 257, rfl⟩
abbrev main_c_135 : Ref sig .tc := ⟨.hbm, 258, rfl⟩
abbrev main_v102 : Ref sig .tc := ⟨.hbm, 259, rfl⟩
abbrev main_v103 : Ref sig .tc := ⟨.hbm, 260, rfl⟩
abbrev main_v104 : Ref sig .tc := ⟨.hbm, 261, rfl⟩
abbrev main_v105 : Ref sig .tc := ⟨.hbm, 262, rfl⟩
abbrev main_v106 : Ref sig .tc := ⟨.hbm, 263, rfl⟩
abbrev main_c_136 : Ref sig .tc := ⟨.hbm, 264, rfl⟩
abbrev main_v107 : Ref sig .tc := ⟨.hbm, 265, rfl⟩
abbrev main_v108 : Ref sig .tc := ⟨.hbm, 266, rfl⟩
abbrev main_v109 : Ref sig .tc := ⟨.hbm, 267, rfl⟩
abbrev main_v110 : Ref sig .tc := ⟨.hbm, 268, rfl⟩
abbrev main_v111 : Ref sig .tc := ⟨.hbm, 269, rfl⟩
abbrev main_v112 : Ref sig .tc := ⟨.hbm, 270, rfl⟩
abbrev main_cst_137 : Ref sig .tc := ⟨.hbm, 271, rfl⟩
abbrev main_v113 : Ref sig .tc := ⟨.hbm, 272, rfl⟩
abbrev main_v114 : Ref sig .tc := ⟨.hbm, 273, rfl⟩
abbrev main_v115 : Ref sig .tc := ⟨.hbm, 274, rfl⟩
abbrev main_c_138 : Ref sig .tc := ⟨.hbm, 275, rfl⟩
abbrev main_v116 : Ref sig .tc := ⟨.hbm, 276, rfl⟩
abbrev main_v117 : Ref sig .tc := ⟨.hbm, 277, rfl⟩
abbrev main_v118 : Ref sig .tc := ⟨.hbm, 278, rfl⟩
abbrev main_v119 : Ref sig .tc := ⟨.hbm, 279, rfl⟩
abbrev main_v120 : Ref sig .tc := ⟨.hbm, 280, rfl⟩
abbrev main_c_139 : Ref sig .tc := ⟨.hbm, 281, rfl⟩
abbrev main_v121 : Ref sig .tc := ⟨.hbm, 282, rfl⟩
abbrev main_v122 : Ref sig .tc := ⟨.hbm, 283, rfl⟩
abbrev main_v123 : Ref sig .tc := ⟨.hbm, 284, rfl⟩
abbrev main_v124 : Ref sig .tc := ⟨.hbm, 285, rfl⟩
abbrev main_v125 : Ref sig .tc := ⟨.hbm, 286, rfl⟩
abbrev main_c_140 : Ref sig .tc := ⟨.hbm, 287, rfl⟩
abbrev main_v126 : Ref sig .tc := ⟨.hbm, 288, rfl⟩
abbrev main_v127 : Ref sig .tc := ⟨.hbm, 289, rfl⟩
abbrev main_v128 : Ref sig .tc := ⟨.hbm, 290, rfl⟩
abbrev main_v129 : Ref sig .tc := ⟨.hbm, 291, rfl⟩
abbrev main_v130 : Ref sig .tc := ⟨.hbm, 292, rfl⟩
abbrev main_c_141 : Ref sig .tc := ⟨.hbm, 293, rfl⟩
abbrev main_v131 : Ref sig .tc := ⟨.hbm, 294, rfl⟩
abbrev main_v132 : Ref sig .tc := ⟨.hbm, 295, rfl⟩
abbrev main_v133 : Ref sig .tc := ⟨.hbm, 296, rfl⟩
abbrev main_v134 : Ref sig .tc := ⟨.hbm, 297, rfl⟩
abbrev main_v135 : Ref sig .tc := ⟨.hbm, 298, rfl⟩
abbrev main_v136 : Ref sig .tc := ⟨.hbm, 299, rfl⟩
abbrev main_cst_142 : Ref sig .tc := ⟨.hbm, 300, rfl⟩
abbrev main_v137 : Ref sig .tc := ⟨.hbm, 301, rfl⟩
abbrev main_v138 : Ref sig .tc := ⟨.hbm, 302, rfl⟩
abbrev main_v139 : Ref sig .tc := ⟨.hbm, 303, rfl⟩
abbrev main_c_143 : Ref sig .tc := ⟨.hbm, 304, rfl⟩
abbrev main_v140 : Ref sig .tc := ⟨.hbm, 305, rfl⟩
abbrev main_v141 : Ref sig .tc := ⟨.hbm, 306, rfl⟩
abbrev main_v142 : Ref sig .tc := ⟨.hbm, 307, rfl⟩
abbrev main_v143 : Ref sig .tc := ⟨.hbm, 308, rfl⟩
abbrev main_v144 : Ref sig .tc := ⟨.hbm, 309, rfl⟩
abbrev main_c_144 : Ref sig .tc := ⟨.hbm, 310, rfl⟩
abbrev main_v145 : Ref sig .tc := ⟨.hbm, 311, rfl⟩
abbrev main_v146 : Ref sig .tc := ⟨.hbm, 312, rfl⟩
abbrev main_v147 : Ref sig .tc := ⟨.hbm, 313, rfl⟩
abbrev main_v148 : Ref sig .tc := ⟨.hbm, 314, rfl⟩
abbrev main_v149 : Ref sig .tc := ⟨.hbm, 315, rfl⟩
abbrev main_c_145 : Ref sig .tc := ⟨.hbm, 316, rfl⟩
abbrev main_v150 : Ref sig .tc := ⟨.hbm, 317, rfl⟩
abbrev main_v151 : Ref sig .tc := ⟨.hbm, 318, rfl⟩
abbrev main_v152 : Ref sig .tc := ⟨.hbm, 319, rfl⟩
abbrev main_v153 : Ref sig .tc := ⟨.hbm, 320, rfl⟩
abbrev main_v154 : Ref sig .tc := ⟨.hbm, 321, rfl⟩
abbrev main_c_146 : Ref sig .tc := ⟨.hbm, 322, rfl⟩
abbrev main_v155 : Ref sig .tc := ⟨.hbm, 323, rfl⟩
abbrev main_v156 : Ref sig .tc := ⟨.hbm, 324, rfl⟩
abbrev main_v157 : Ref sig .tc := ⟨.hbm, 325, rfl⟩
abbrev main_v158 : Ref sig .tc := ⟨.hbm, 326, rfl⟩
abbrev main_v159 : Ref sig .tc := ⟨.hbm, 327, rfl⟩
abbrev main_v160 : Ref sig .tc := ⟨.hbm, 328, rfl⟩
abbrev main_cst_147 : Ref sig .tc := ⟨.hbm, 329, rfl⟩
abbrev main_v161 : Ref sig .tc := ⟨.hbm, 330, rfl⟩
abbrev main_v162 : Ref sig .tc := ⟨.hbm, 331, rfl⟩
abbrev main_v163 : Ref sig .tc := ⟨.hbm, 332, rfl⟩
abbrev main_c_148 : Ref sig .tc := ⟨.hbm, 333, rfl⟩
abbrev main_v164 : Ref sig .tc := ⟨.hbm, 334, rfl⟩
abbrev main_v165 : Ref sig .tc := ⟨.hbm, 335, rfl⟩
abbrev main_v166 : Ref sig .tc := ⟨.hbm, 336, rfl⟩
abbrev main_v167 : Ref sig .tc := ⟨.hbm, 337, rfl⟩
abbrev main_v168 : Ref sig .tc := ⟨.hbm, 338, rfl⟩
abbrev main_c_149 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_v172 : Ref sig .tc := ⟨.hbm, 343, rfl⟩
abbrev main_v173 : Ref sig .tc := ⟨.hbm, 344, rfl⟩
abbrev main_c_150 : Ref sig .tc := ⟨.hbm, 345, rfl⟩
abbrev main_v174 : Ref sig .tc := ⟨.hbm, 346, rfl⟩
abbrev main_v175 : Ref sig .tc := ⟨.hbm, 347, rfl⟩
abbrev main_v176 : Ref sig .tc := ⟨.hbm, 348, rfl⟩
abbrev main_v177 : Ref sig .tc := ⟨.hbm, 349, rfl⟩
abbrev main_v178 : Ref sig .tc := ⟨.hbm, 350, rfl⟩
abbrev main_c_151 : Ref sig .tc := ⟨.hbm, 351, rfl⟩
abbrev main_v179 : Ref sig .tc := ⟨.hbm, 352, rfl⟩
abbrev main_v180 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_cst_152 : Ref sig .tc := ⟨.hbm, 358, rfl⟩
abbrev main_v185 : Ref sig .tc := ⟨.hbm, 359, rfl⟩
abbrev main_v186 : Ref sig .tc := ⟨.hbm, 360, rfl⟩
abbrev main_v187 : Ref sig .tc := ⟨.hbm, 361, rfl⟩
abbrev main_c_153 : Ref sig .tc := ⟨.hbm, 362, rfl⟩
abbrev main_v188 : Ref sig .tc := ⟨.hbm, 363, rfl⟩
abbrev main_v189 : Ref sig .tc := ⟨.hbm, 364, rfl⟩
abbrev main_v190 : Ref sig .tc := ⟨.hbm, 365, rfl⟩
abbrev main_v191 : Ref sig .tc := ⟨.hbm, 366, rfl⟩
abbrev main_v192 : Ref sig .tc := ⟨.hbm, 367, rfl⟩
abbrev main_c_154 : Ref sig .tc := ⟨.hbm, 368, rfl⟩
abbrev main_v193 : Ref sig .tc := ⟨.hbm, 369, rfl⟩
abbrev main_v194 : Ref sig .tc := ⟨.hbm, 370, rfl⟩
abbrev main_v195 : Ref sig .tc := ⟨.hbm, 371, rfl⟩
abbrev main_v196 : Ref sig .tc := ⟨.hbm, 372, rfl⟩
abbrev main_v197 : Ref sig .tc := ⟨.hbm, 373, rfl⟩
abbrev main_c_155 : Ref sig .tc := ⟨.hbm, 374, rfl⟩
abbrev main_v198 : Ref sig .tc := ⟨.hbm, 375, rfl⟩
abbrev main_v199 : Ref sig .tc := ⟨.hbm, 376, rfl⟩
abbrev main_v200 : Ref sig .tc := ⟨.hbm, 377, rfl⟩
abbrev main_v201 : Ref sig .tc := ⟨.hbm, 378, rfl⟩
abbrev main_v202 : Ref sig .tc := ⟨.hbm, 379, rfl⟩
abbrev main_c_156 : Ref sig .tc := ⟨.hbm, 380, rfl⟩
abbrev main_v203 : Ref sig .tc := ⟨.hbm, 381, rfl⟩
abbrev main_v204 : Ref sig .tc := ⟨.hbm, 382, rfl⟩
abbrev main_v205 : Ref sig .tc := ⟨.hbm, 383, rfl⟩
abbrev main_v206 : Ref sig .tc := ⟨.hbm, 384, rfl⟩
abbrev main_v207 : Ref sig .tc := ⟨.hbm, 385, rfl⟩
abbrev main_v208 : Ref sig .tc := ⟨.hbm, 386, rfl⟩
abbrev main_cst_157 : Ref sig .tc := ⟨.hbm, 387, rfl⟩
abbrev main_v209 : Ref sig .tc := ⟨.hbm, 388, rfl⟩
abbrev main_v210 : Ref sig .tc := ⟨.hbm, 389, rfl⟩
abbrev main_v211 : Ref sig .tc := ⟨.hbm, 390, rfl⟩
abbrev main_c_158 : Ref sig .tc := ⟨.hbm, 391, rfl⟩
abbrev main_v212 : Ref sig .tc := ⟨.hbm, 392, rfl⟩
abbrev main_v213 : Ref sig .tc := ⟨.hbm, 393, rfl⟩
abbrev main_v214 : Ref sig .tc := ⟨.hbm, 394, rfl⟩
abbrev main_v215 : Ref sig .tc := ⟨.hbm, 395, rfl⟩
abbrev main_v216 : Ref sig .tc := ⟨.hbm, 396, rfl⟩
abbrev main_c_159 : Ref sig .tc := ⟨.hbm, 397, rfl⟩
abbrev main_v217 : Ref sig .tc := ⟨.hbm, 398, rfl⟩
abbrev main_v218 : Ref sig .tc := ⟨.hbm, 399, rfl⟩
abbrev main_v219 : Ref sig .tc := ⟨.hbm, 400, rfl⟩
abbrev main_v220 : Ref sig .tc := ⟨.hbm, 401, rfl⟩
abbrev main_v221 : Ref sig .tc := ⟨.hbm, 402, rfl⟩
abbrev main_c_160 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_v226 : Ref sig .tc := ⟨.hbm, 408, rfl⟩
abbrev main_c_161 : Ref sig .tc := ⟨.hbm, 409, rfl⟩
abbrev main_v227 : Ref sig .tc := ⟨.hbm, 410, rfl⟩
abbrev main_v228 : Ref sig .tc := ⟨.hbm, 411, rfl⟩
abbrev main_v229 : Ref sig .tc := ⟨.hbm, 412, rfl⟩
abbrev main_v230 : Ref sig .tc := ⟨.hbm, 413, rfl⟩
abbrev main_v231 : Ref sig .tc := ⟨.hbm, 414, rfl⟩
abbrev main_v232 : Ref sig .tc := ⟨.hbm, 415, rfl⟩
abbrev main_cst_162 : Ref sig .tc := ⟨.hbm, 416, rfl⟩
abbrev main_v233 : Ref sig .tc := ⟨.hbm, 417, rfl⟩
abbrev main_v234 : Ref sig .tc := ⟨.hbm, 418, rfl⟩
abbrev main_v235 : Ref sig .tc := ⟨.hbm, 419, rfl⟩
abbrev main_c_163 : Ref sig .tc := ⟨.hbm, 420, rfl⟩
abbrev main_v236 : Ref sig .tc := ⟨.hbm, 421, rfl⟩
abbrev main_v237 : Ref sig .tc := ⟨.hbm, 422, rfl⟩
abbrev main_v238 : Ref sig .tc := ⟨.hbm, 423, rfl⟩
abbrev main_v239 : Ref sig .tc := ⟨.hbm, 424, rfl⟩
abbrev main_v240 : Ref sig .tc := ⟨.hbm, 425, rfl⟩
abbrev main_c_164 : Ref sig .tc := ⟨.hbm, 426, rfl⟩
abbrev main_v241 : Ref sig .tc := ⟨.hbm, 427, rfl⟩
abbrev main_v242 : Ref sig .tc := ⟨.hbm, 428, rfl⟩
abbrev main_v243 : Ref sig .tc := ⟨.hbm, 429, rfl⟩
abbrev main_v244 : Ref sig .tc := ⟨.hbm, 430, rfl⟩
abbrev main_v245 : Ref sig .tc := ⟨.hbm, 431, rfl⟩
abbrev main_c_165 : Ref sig .tc := ⟨.hbm, 432, rfl⟩
abbrev main_v246 : Ref sig .tc := ⟨.hbm, 433, rfl⟩
abbrev main_v247 : Ref sig .tc := ⟨.hbm, 434, rfl⟩
abbrev main_v248 : Ref sig .tc := ⟨.hbm, 435, rfl⟩
abbrev main_v249 : Ref sig .tc := ⟨.hbm, 436, rfl⟩
abbrev main_v250 : Ref sig .tc := ⟨.hbm, 437, rfl⟩
abbrev main_c_166 : Ref sig .tc := ⟨.hbm, 438, rfl⟩
abbrev main_v251 : Ref sig .tc := ⟨.hbm, 439, rfl⟩
abbrev main_v252 : Ref sig .tc := ⟨.hbm, 440, rfl⟩
abbrev main_v253 : Ref sig .tc := ⟨.hbm, 441, rfl⟩
abbrev main_v254 : Ref sig .tc := ⟨.hbm, 442, rfl⟩
abbrev main_v255 : Ref sig .tc := ⟨.hbm, 443, rfl⟩
abbrev main_v256 : Ref sig .tc := ⟨.hbm, 444, rfl⟩
abbrev main_cst_167 : Ref sig .tc := ⟨.hbm, 445, rfl⟩
abbrev main_v257 : Ref sig .tc := ⟨.hbm, 446, rfl⟩
abbrev main_v258 : Ref sig .tc := ⟨.hbm, 447, rfl⟩
abbrev main_v259 : Ref sig .tc := ⟨.hbm, 448, rfl⟩
abbrev main_c_168 : Ref sig .tc := ⟨.hbm, 449, rfl⟩
abbrev main_v260 : Ref sig .tc := ⟨.hbm, 450, rfl⟩
abbrev main_v261 : Ref sig .tc := ⟨.hbm, 451, rfl⟩
abbrev main_v262 : Ref sig .tc := ⟨.hbm, 452, rfl⟩
abbrev main_v263 : Ref sig .tc := ⟨.hbm, 453, rfl⟩
abbrev main_v264 : Ref sig .tc := ⟨.hbm, 454, rfl⟩
abbrev main_c_169 : Ref sig .tc := ⟨.hbm, 455, rfl⟩
abbrev main_v265 : Ref sig .tc := ⟨.hbm, 456, rfl⟩
abbrev main_v266 : Ref sig .tc := ⟨.hbm, 457, rfl⟩
abbrev main_v267 : Ref sig .tc := ⟨.hbm, 458, rfl⟩
abbrev main_v268 : Ref sig .tc := ⟨.hbm, 459, rfl⟩
abbrev main_v269 : Ref sig .tc := ⟨.hbm, 460, rfl⟩
abbrev main_c_170 : Ref sig .tc := ⟨.hbm, 461, rfl⟩
abbrev main_v270 : Ref sig .tc := ⟨.hbm, 462, rfl⟩
abbrev main_v271 : Ref sig .tc := ⟨.hbm, 463, rfl⟩
abbrev main_v272 : Ref sig .tc := ⟨.hbm, 464, rfl⟩
abbrev main_v273 : Ref sig .tc := ⟨.hbm, 465, rfl⟩
abbrev main_v274 : Ref sig .tc := ⟨.hbm, 466, rfl⟩
abbrev main_c_171 : Ref sig .tc := ⟨.hbm, 467, rfl⟩
abbrev main_v275 : Ref sig .tc := ⟨.hbm, 468, rfl⟩
abbrev main_v276 : Ref sig .tc := ⟨.hbm, 469, rfl⟩
abbrev main_v277 : Ref sig .tc := ⟨.hbm, 470, rfl⟩
abbrev main_v278 : Ref sig .tc := ⟨.hbm, 471, rfl⟩
abbrev main_v279 : Ref sig .tc := ⟨.hbm, 472, rfl⟩
abbrev main_v280 : Ref sig .tc := ⟨.hbm, 473, rfl⟩
abbrev main_cst_172 : Ref sig .tc := ⟨.hbm, 474, rfl⟩
abbrev main_v281 : Ref sig .tc := ⟨.hbm, 475, rfl⟩
abbrev main_v282 : Ref sig .tc := ⟨.hbm, 476, rfl⟩
abbrev main_v283 : Ref sig .tc := ⟨.hbm, 477, rfl⟩
abbrev main_c_173 : Ref sig .tc := ⟨.hbm, 478, rfl⟩
abbrev main_v284 : Ref sig .tc := ⟨.hbm, 479, rfl⟩
abbrev main_v285 : Ref sig .tc := ⟨.hbm, 480, rfl⟩
abbrev main_v286 : Ref sig .tc := ⟨.hbm, 481, rfl⟩
abbrev main_v287 : Ref sig .tc := ⟨.hbm, 482, rfl⟩
abbrev main_v288 : Ref sig .tc := ⟨.hbm, 483, rfl⟩
abbrev main_c_174 : Ref sig .tc := ⟨.hbm, 484, rfl⟩
abbrev main_v289 : Ref sig .tc := ⟨.hbm, 485, rfl⟩
abbrev main_v290 : Ref sig .tc := ⟨.hbm, 486, rfl⟩
abbrev main_v291 : Ref sig .tc := ⟨.hbm, 487, rfl⟩
abbrev main_v292 : Ref sig .tc := ⟨.hbm, 488, rfl⟩
abbrev main_v293 : Ref sig .tc := ⟨.hbm, 489, rfl⟩
abbrev main_c_175 : Ref sig .tc := ⟨.hbm, 490, rfl⟩
abbrev main_v294 : Ref sig .tc := ⟨.hbm, 491, rfl⟩
abbrev main_v295 : Ref sig .tc := ⟨.hbm, 492, rfl⟩
abbrev main_v296 : Ref sig .tc := ⟨.hbm, 493, rfl⟩
abbrev main_v297 : Ref sig .tc := ⟨.hbm, 494, rfl⟩
abbrev main_v298 : Ref sig .tc := ⟨.hbm, 495, rfl⟩
abbrev main_c_176 : Ref sig .tc := ⟨.hbm, 496, rfl⟩
abbrev main_v299 : Ref sig .tc := ⟨.hbm, 497, rfl⟩
abbrev main_v300 : Ref sig .tc := ⟨.hbm, 498, rfl⟩
abbrev main_v301 : Ref sig .tc := ⟨.hbm, 499, rfl⟩
abbrev main_v302 : Ref sig .tc := ⟨.hbm, 500, rfl⟩
abbrev main_v303 : Ref sig .tc := ⟨.hbm, 501, rfl⟩
abbrev main_v304 : Ref sig .tc := ⟨.hbm, 502, rfl⟩
abbrev main_cst_177 : Ref sig .tc := ⟨.hbm, 503, rfl⟩
abbrev main_v305 : Ref sig .tc := ⟨.hbm, 504, rfl⟩
abbrev main_v306 : Ref sig .tc := ⟨.hbm, 505, rfl⟩
abbrev main_v307 : Ref sig .tc := ⟨.hbm, 506, rfl⟩
abbrev main_c_178 : Ref sig .tc := ⟨.hbm, 507, rfl⟩
abbrev main_v308 : Ref sig .tc := ⟨.hbm, 508, rfl⟩
abbrev main_v309 : Ref sig .tc := ⟨.hbm, 509, rfl⟩
abbrev main_v310 : Ref sig .tc := ⟨.hbm, 510, rfl⟩
abbrev main_v311 : Ref sig .tc := ⟨.hbm, 511, rfl⟩
abbrev main_v312 : Ref sig .tc := ⟨.hbm, 512, rfl⟩
abbrev main_c_179 : Ref sig .tc := ⟨.hbm, 513, rfl⟩
abbrev main_v313 : Ref sig .tc := ⟨.hbm, 514, rfl⟩
abbrev main_v314 : Ref sig .tc := ⟨.hbm, 515, rfl⟩
abbrev main_v315 : Ref sig .tc := ⟨.hbm, 516, rfl⟩
abbrev main_v316 : Ref sig .tc := ⟨.hbm, 517, rfl⟩
abbrev main_v317 : Ref sig .tc := ⟨.hbm, 518, rfl⟩
abbrev main_c_180 : Ref sig .tc := ⟨.hbm, 519, rfl⟩
abbrev main_v318 : Ref sig .tc := ⟨.hbm, 520, rfl⟩
abbrev main_v319 : Ref sig .tc := ⟨.hbm, 521, rfl⟩
abbrev main_v320 : Ref sig .tc := ⟨.hbm, 522, rfl⟩
abbrev main_v321 : Ref sig .tc := ⟨.hbm, 523, rfl⟩
abbrev main_v322 : Ref sig .tc := ⟨.hbm, 524, rfl⟩
abbrev main_c_181 : Ref sig .tc := ⟨.hbm, 525, rfl⟩
abbrev main_v323 : Ref sig .tc := ⟨.hbm, 526, rfl⟩
abbrev main_v324 : Ref sig .tc := ⟨.hbm, 527, rfl⟩
abbrev main_v325 : Ref sig .tc := ⟨.hbm, 528, rfl⟩
abbrev main_v326 : Ref sig .tc := ⟨.hbm, 529, rfl⟩
abbrev main_v327 : Ref sig .tc := ⟨.hbm, 530, rfl⟩
abbrev main_v328 : Ref sig .tc := ⟨.hbm, 531, rfl⟩
abbrev main_cst_182 : Ref sig .tc := ⟨.hbm, 532, rfl⟩
abbrev main_v329 : Ref sig .tc := ⟨.hbm, 533, rfl⟩
abbrev main_v330 : Ref sig .tc := ⟨.hbm, 534, rfl⟩
abbrev main_v331 : Ref sig .tc := ⟨.hbm, 535, rfl⟩
abbrev main_c_183 : Ref sig .tc := ⟨.hbm, 536, rfl⟩
abbrev main_v332 : Ref sig .tc := ⟨.hbm, 537, rfl⟩
abbrev main_v333 : Ref sig .tc := ⟨.hbm, 538, rfl⟩
abbrev main_v334 : Ref sig .tc := ⟨.hbm, 539, rfl⟩
abbrev main_v335 : Ref sig .tc := ⟨.hbm, 540, rfl⟩
abbrev main_v336 : Ref sig .tc := ⟨.hbm, 541, rfl⟩
abbrev main_c_184 : Ref sig .tc := ⟨.hbm, 542, rfl⟩
abbrev main_v337 : Ref sig .tc := ⟨.hbm, 543, rfl⟩
abbrev main_v338 : Ref sig .tc := ⟨.hbm, 544, rfl⟩
abbrev main_v339 : Ref sig .tc := ⟨.hbm, 545, rfl⟩
abbrev main_v340 : Ref sig .tc := ⟨.hbm, 546, rfl⟩
abbrev main_v341 : Ref sig .tc := ⟨.hbm, 547, rfl⟩
abbrev main_c_185 : Ref sig .tc := ⟨.hbm, 548, rfl⟩
abbrev main_v342 : Ref sig .tc := ⟨.hbm, 549, rfl⟩
abbrev main_v343 : Ref sig .tc := ⟨.hbm, 550, rfl⟩
abbrev main_v344 : Ref sig .tc := ⟨.hbm, 551, rfl⟩
abbrev main_v345 : Ref sig .tc := ⟨.hbm, 552, rfl⟩
abbrev main_v346 : Ref sig .tc := ⟨.hbm, 553, rfl⟩
abbrev main_c_186 : Ref sig .tc := ⟨.hbm, 554, rfl⟩
abbrev main_v347 : Ref sig .tc := ⟨.hbm, 555, rfl⟩
abbrev main_v348 : Ref sig .tc := ⟨.hbm, 556, rfl⟩
abbrev main_v349 : Ref sig .tc := ⟨.hbm, 557, rfl⟩
abbrev main_v350 : Ref sig .tc := ⟨.hbm, 558, rfl⟩
abbrev main_v351 : Ref sig .tc := ⟨.hbm, 559, rfl⟩
abbrev main_v352 : Ref sig .tc := ⟨.hbm, 560, rfl⟩
abbrev main_cst_187 : Ref sig .tc := ⟨.hbm, 561, rfl⟩
abbrev main_v353 : Ref sig .tc := ⟨.hbm, 562, rfl⟩
abbrev main_v354 : Ref sig .tc := ⟨.hbm, 563, rfl⟩
abbrev main_v355 : Ref sig .tc := ⟨.hbm, 564, rfl⟩
abbrev main_c_188 : Ref sig .tc := ⟨.hbm, 565, rfl⟩
abbrev main_v356 : Ref sig .tc := ⟨.hbm, 566, rfl⟩
abbrev main_v357 : Ref sig .tc := ⟨.hbm, 567, rfl⟩
abbrev main_v358 : Ref sig .tc := ⟨.hbm, 568, rfl⟩
abbrev main_v359 : Ref sig .tc := ⟨.hbm, 569, rfl⟩
abbrev main_v360 : Ref sig .tc := ⟨.hbm, 570, rfl⟩
abbrev main_c_189 : Ref sig .tc := ⟨.hbm, 571, rfl⟩
abbrev main_v361 : Ref sig .tc := ⟨.hbm, 572, rfl⟩
abbrev main_v362 : Ref sig .tc := ⟨.hbm, 573, rfl⟩
abbrev main_v363 : Ref sig .tc := ⟨.hbm, 574, rfl⟩
abbrev main_v364 : Ref sig .tc := ⟨.hbm, 575, rfl⟩
abbrev main_v365 : Ref sig .tc := ⟨.hbm, 576, rfl⟩
abbrev main_c_190 : Ref sig .tc := ⟨.hbm, 577, rfl⟩
abbrev main_v366 : Ref sig .tc := ⟨.hbm, 578, rfl⟩
abbrev main_v367 : Ref sig .tc := ⟨.hbm, 579, rfl⟩
abbrev main_v368 : Ref sig .tc := ⟨.hbm, 580, rfl⟩
abbrev main_v369 : Ref sig .tc := ⟨.hbm, 581, rfl⟩
abbrev main_v370 : Ref sig .tc := ⟨.hbm, 582, rfl⟩
abbrev main_c_191 : Ref sig .tc := ⟨.hbm, 583, rfl⟩
abbrev main_v371 : Ref sig .tc := ⟨.hbm, 584, rfl⟩
abbrev main_v372 : Ref sig .tc := ⟨.hbm, 585, rfl⟩
abbrev main_v373 : Ref sig .tc := ⟨.hbm, 586, rfl⟩
abbrev main_v374 : Ref sig .tc := ⟨.hbm, 587, rfl⟩
abbrev main_v375 : Ref sig .tc := ⟨.hbm, 588, rfl⟩
abbrev main_v376 : Ref sig .tc := ⟨.hbm, 589, rfl⟩
abbrev main_cst_192 : Ref sig .tc := ⟨.hbm, 590, rfl⟩
abbrev main_v377 : Ref sig .tc := ⟨.hbm, 591, rfl⟩
abbrev main_v378 : Ref sig .tc := ⟨.hbm, 592, rfl⟩
abbrev main_v379 : Ref sig .tc := ⟨.hbm, 593, rfl⟩
abbrev main_c_193 : Ref sig .tc := ⟨.hbm, 594, rfl⟩
abbrev main_v380 : Ref sig .tc := ⟨.hbm, 595, rfl⟩
abbrev main_v381 : Ref sig .tc := ⟨.hbm, 596, rfl⟩
abbrev main_v382 : Ref sig .tc := ⟨.hbm, 597, rfl⟩
abbrev main_v383 : Ref sig .tc := ⟨.hbm, 598, rfl⟩
abbrev main_v384 : Ref sig .tc := ⟨.hbm, 599, rfl⟩
abbrev main_c_194 : Ref sig .tc := ⟨.hbm, 600, rfl⟩
abbrev main_v385 : Ref sig .tc := ⟨.hbm, 601, rfl⟩
abbrev main_v386 : Ref sig .tc := ⟨.hbm, 602, rfl⟩
abbrev main_v387 : Ref sig .tc := ⟨.hbm, 603, rfl⟩
abbrev main_v388 : Ref sig .tc := ⟨.hbm, 604, rfl⟩
abbrev main_v389 : Ref sig .tc := ⟨.hbm, 605, rfl⟩
abbrev main_c_195 : Ref sig .tc := ⟨.hbm, 606, rfl⟩
abbrev main_v390 : Ref sig .tc := ⟨.hbm, 607, rfl⟩
abbrev main_v391 : Ref sig .tc := ⟨.hbm, 608, rfl⟩
abbrev main_v392 : Ref sig .tc := ⟨.hbm, 609, rfl⟩
abbrev main_v393 : Ref sig .tc := ⟨.hbm, 610, rfl⟩
abbrev main_v394 : Ref sig .tc := ⟨.hbm, 611, rfl⟩
abbrev main_v395 : Ref sig .tc := ⟨.hbm, 612, rfl⟩
abbrev main_v396 : Ref sig .tc := ⟨.hbm, 613, rfl⟩
abbrev main_v397 : Ref sig .tc := ⟨.hbm, 614, rfl⟩
abbrev main_v398 : Ref sig .tc := ⟨.hbm, 615, rfl⟩
abbrev main_v399 : Ref sig .tc := ⟨.hbm, 616, rfl⟩
abbrev main_v400 : Ref sig .tc := ⟨.hbm, 617, rfl⟩
abbrev main_v401 : Ref sig .tc := ⟨.hbm, 618, rfl⟩
abbrev main_v402 : Ref sig .tc := ⟨.hbm, 619, rfl⟩
abbrev main_v403 : Ref sig .tc := ⟨.hbm, 620, rfl⟩
abbrev main_v404 : Ref sig .tc := ⟨.hbm, 621, rfl⟩
abbrev main_v405 : Ref sig .tc := ⟨.hbm, 622, rfl⟩
abbrev main_v406 : Ref sig .tc := ⟨.hbm, 623, rfl⟩
abbrev main_v407 : Ref sig .tc := ⟨.hbm, 624, rfl⟩
abbrev main_v408 : Ref sig .tc := ⟨.hbm, 625, rfl⟩
abbrev main_v409 : Ref sig .tc := ⟨.hbm, 626, rfl⟩
abbrev main_cst_196 : Ref sig .tc := ⟨.hbm, 627, rfl⟩
abbrev main_v410 : Ref sig .tc := ⟨.hbm, 628, rfl⟩
abbrev main_v411 : Ref sig .tc := ⟨.hbm, 629, rfl⟩
abbrev main_cst_197 : Ref sig .tc := ⟨.hbm, 630, rfl⟩
abbrev main_v412 : Ref sig .tc := ⟨.hbm, 631, rfl⟩
abbrev main_v413 : Ref sig .tc := ⟨.hbm, 632, rfl⟩
abbrev main_c_198 : Ref sig .tc := ⟨.hbm, 633, rfl⟩
abbrev main_call0_cst : Ref sig .tc := ⟨.hbm, 634, rfl⟩
abbrev main_call0_v0 : Ref sig .tc := ⟨.hbm, 635, rfl⟩
abbrev main_call0_v1 : Ref sig .tc := ⟨.hbm, 636, rfl⟩
abbrev main_call0_cst_0 : Ref sig .tc := ⟨.hbm, 637, rfl⟩
abbrev main_call0_v2 : Ref sig .tc := ⟨.hbm, 638, rfl⟩
abbrev main_call0_v3 : Ref sig .tc := ⟨.hbm, 639, rfl⟩
abbrev main_call0_v4 : Ref sig .tc := ⟨.hbm, 640, rfl⟩
abbrev main_call0_v5 : Ref sig .tc := ⟨.hbm, 641, rfl⟩
abbrev main_call0_v6 : Ref sig .tc := ⟨.hbm, 642, rfl⟩
abbrev main_call0_v7 : Ref sig .tc := ⟨.hbm, 643, rfl⟩
abbrev main_call0_cst_1 : Ref sig .tc := ⟨.hbm, 644, rfl⟩
abbrev main_call0_v8 : Ref sig .tc := ⟨.hbm, 645, rfl⟩
abbrev main_call0_cst_2 : Ref sig .tc := ⟨.hbm, 646, rfl⟩
abbrev main_call0_v9 : Ref sig .tc := ⟨.hbm, 647, rfl⟩
abbrev main_call0_v10 : Ref sig .tc := ⟨.hbm, 648, rfl⟩
abbrev main_call0_v11 : Ref sig .tc := ⟨.hbm, 649, rfl⟩
abbrev main_call0_v12 : Ref sig .tc := ⟨.hbm, 650, rfl⟩
abbrev main_call0_cst_3 : Ref sig .tc := ⟨.hbm, 651, rfl⟩
abbrev main_call0_v13 : Ref sig .tc := ⟨.hbm, 652, rfl⟩
abbrev main_call0_cst_4 : Ref sig .tc := ⟨.hbm, 653, rfl⟩
abbrev main_call0_call0_v0 : Ref sig .tc := ⟨.hbm, 654, rfl⟩
abbrev main_call0_call0_v1 : Ref sig .tc := ⟨.hbm, 655, rfl⟩
abbrev main_v414 : Ref sig .tc := ⟨.hbm, 656, rfl⟩
abbrev main_v415 : Ref sig .tc := ⟨.hbm, 657, rfl⟩
abbrev main_v416 : Ref sig .tc := ⟨.hbm, 658, rfl⟩
abbrev main_cst_199 : Ref sig .tc := ⟨.hbm, 659, rfl⟩
abbrev main_v417 : Ref sig .tc := ⟨.hbm, 660, rfl⟩
abbrev main_v418 : Ref sig .tc := ⟨.hbm, 661, rfl⟩
abbrev main_v419 : Ref sig .tc := ⟨.hbm, 662, rfl⟩
abbrev main_v420 : Ref sig .tc := ⟨.hbm, 663, rfl⟩
abbrev main_v421 : Ref sig .tc := ⟨.hbm, 664, rfl⟩
abbrev main_v422 : Ref sig .tc := ⟨.hbm, 665, rfl⟩
abbrev main_v423 : Ref sig .tc := ⟨.hbm, 666, rfl⟩
abbrev main_v424 : Ref sig .tc := ⟨.hbm, 667, rfl⟩
abbrev main_v425 : Ref sig .tc := ⟨.hbm, 668, rfl⟩
abbrev main_v426 : Ref sig .tc := ⟨.hbm, 669, rfl⟩
abbrev main_v427 : Ref sig .tc := ⟨.hbm, 670, rfl⟩
abbrev main_v428 : Ref sig .tc := ⟨.hbm, 671, rfl⟩
abbrev main_v429 : Ref sig .tc := ⟨.hbm, 672, rfl⟩
abbrev main_v430 : Ref sig .tc := ⟨.hbm, 673, rfl⟩
abbrev main_v431 : Ref sig .tc := ⟨.hbm, 674, rfl⟩
abbrev main_v432 : Ref sig .tc := ⟨.hbm, 675, rfl⟩
abbrev main_v433 : Ref sig .tc := ⟨.hbm, 676, rfl⟩
abbrev main_v434 : Ref sig .tc := ⟨.hbm, 677, rfl⟩
abbrev main_v435 : Ref sig .tc := ⟨.hbm, 678, rfl⟩
abbrev main_v436 : Ref sig .tc := ⟨.hbm, 679, rfl⟩
abbrev main_v437 : Ref sig .tc := ⟨.hbm, 680, rfl⟩
abbrev main_v438 : Ref sig .tc := ⟨.hbm, 681, rfl⟩
abbrev main_v439 : Ref sig .tc := ⟨.hbm, 682, rfl⟩
abbrev main_v440 : Ref sig .tc := ⟨.hbm, 683, rfl⟩
abbrev main_v441 : Ref sig .tc := ⟨.hbm, 684, rfl⟩
abbrev main_v442 : Ref sig .tc := ⟨.hbm, 685, rfl⟩
abbrev main_v443 : Ref sig .tc := ⟨.hbm, 686, rfl⟩
abbrev main_v444 : Ref sig .tc := ⟨.hbm, 687, rfl⟩
abbrev main_v445 : Ref sig .tc := ⟨.hbm, 688, rfl⟩
abbrev main_cst_200 : Ref sig .tc := ⟨.hbm, 689, rfl⟩
abbrev main_v446 : Ref sig .tc := ⟨.hbm, 690, rfl⟩
abbrev main_v447 : Ref sig .tc := ⟨.hbm, 691, rfl⟩
abbrev main_cst_201 : Ref sig .tc := ⟨.hbm, 692, rfl⟩
abbrev main_v448 : Ref sig .tc := ⟨.hbm, 693, rfl⟩
abbrev main_cst_202 : Ref sig .tc := ⟨.hbm, 694, rfl⟩
abbrev main_v449 : Ref sig .tc := ⟨.hbm, 695, rfl⟩
abbrev main_v450 : Ref sig .tc := ⟨.hbm, 696, rfl⟩
abbrev main_v451 : Ref sig .tc := ⟨.hbm, 697, rfl⟩
abbrev main_v452 : Ref sig .tc := ⟨.hbm, 698, rfl⟩
abbrev main_v453 : Ref sig .tc := ⟨.hbm, 699, rfl⟩
abbrev main_v454 : Ref sig .tc := ⟨.hbm, 700, rfl⟩
abbrev main_cst_203 : Ref sig .tc := ⟨.hbm, 701, rfl⟩
abbrev main_v455 : Ref sig .tc := ⟨.hbm, 702, rfl⟩
abbrev main_v456 : Ref sig .tc := ⟨.hbm, 703, rfl⟩
abbrev main_v457 : Ref sig .tc := ⟨.hbm, 704, rfl⟩
abbrev main_v458 : Ref sig .tc := ⟨.hbm, 705, rfl⟩
abbrev main_v459 : Ref sig .tc := ⟨.hbm, 706, rfl⟩
abbrev main_v460 : Ref sig .tc := ⟨.hbm, 707, rfl⟩
abbrev main_v461 : Ref sig .tc := ⟨.hbm, 708, rfl⟩
abbrev main_v462 : Ref sig .tc := ⟨.hbm, 709, rfl⟩
abbrev main_v463 : Ref sig .tc := ⟨.hbm, 710, rfl⟩
abbrev main_v464 : Ref sig .tc := ⟨.hbm, 711, rfl⟩
abbrev main_v465 : Ref sig .tc := ⟨.hbm, 712, rfl⟩
abbrev main_v466 : Ref sig .tc := ⟨.hbm, 713, rfl⟩
abbrev main_v467 : Ref sig .tc := ⟨.hbm, 714, rfl⟩
abbrev main_v468 : Ref sig .tc := ⟨.hbm, 715, rfl⟩
abbrev main_v469 : Ref sig .tc := ⟨.hbm, 716, rfl⟩
abbrev main_v470 : Ref sig .tc := ⟨.hbm, 717, rfl⟩
abbrev main_cst_204 : Ref sig .tc := ⟨.hbm, 718, rfl⟩
abbrev main_v471 : Ref sig .tc := ⟨.hbm, 719, rfl⟩
abbrev main_v472 : Ref sig .tc := ⟨.hbm, 720, rfl⟩
abbrev main_cst_205 : Ref sig .tc := ⟨.hbm, 721, rfl⟩
abbrev main_v473 : Ref sig .tc := ⟨.hbm, 722, rfl⟩
abbrev main_v474 : Ref sig .tc := ⟨.hbm, 723, rfl⟩
abbrev main_c_206 : Ref sig .tc := ⟨.hbm, 724, rfl⟩
abbrev main_call1_cst : Ref sig .tc := ⟨.hbm, 725, rfl⟩
abbrev main_call1_v0 : Ref sig .tc := ⟨.hbm, 726, rfl⟩
abbrev main_call1_v1 : Ref sig .tc := ⟨.hbm, 727, rfl⟩
abbrev main_call1_cst_0 : Ref sig .tc := ⟨.hbm, 728, rfl⟩
abbrev main_call1_v2 : Ref sig .tc := ⟨.hbm, 729, rfl⟩
abbrev main_call1_v3 : Ref sig .tc := ⟨.hbm, 730, rfl⟩
abbrev main_call1_v4 : Ref sig .tc := ⟨.hbm, 731, rfl⟩
abbrev main_call1_v5 : Ref sig .tc := ⟨.hbm, 732, rfl⟩
abbrev main_call1_v6 : Ref sig .tc := ⟨.hbm, 733, rfl⟩
abbrev main_call1_v7 : Ref sig .tc := ⟨.hbm, 734, rfl⟩
abbrev main_call1_cst_1 : Ref sig .tc := ⟨.hbm, 735, rfl⟩
abbrev main_call1_v8 : Ref sig .tc := ⟨.hbm, 736, rfl⟩
abbrev main_call1_cst_2 : Ref sig .tc := ⟨.hbm, 737, rfl⟩
abbrev main_call1_v9 : Ref sig .tc := ⟨.hbm, 738, rfl⟩
abbrev main_call1_v10 : Ref sig .tc := ⟨.hbm, 739, rfl⟩
abbrev main_call1_v11 : Ref sig .tc := ⟨.hbm, 740, rfl⟩
abbrev main_call1_v12 : Ref sig .tc := ⟨.hbm, 741, rfl⟩
abbrev main_call1_cst_3 : Ref sig .tc := ⟨.hbm, 742, rfl⟩
abbrev main_call1_v13 : Ref sig .tc := ⟨.hbm, 743, rfl⟩
abbrev main_call1_cst_4 : Ref sig .tc := ⟨.hbm, 744, rfl⟩
abbrev main_call1_call0_v0 : Ref sig .tc := ⟨.hbm, 745, rfl⟩
abbrev main_call1_call0_v1 : Ref sig .tc := ⟨.hbm, 746, rfl⟩
abbrev main_v475 : Ref sig .tc := ⟨.hbm, 747, rfl⟩
abbrev main_v476 : Ref sig .tc := ⟨.hbm, 748, rfl⟩
abbrev main_v477 : Ref sig .tc := ⟨.hbm, 749, rfl⟩
abbrev main_cst_207 : Ref sig .tc := ⟨.hbm, 750, rfl⟩
abbrev main_v478 : Ref sig .tc := ⟨.hbm, 751, rfl⟩
abbrev main_v479 : Ref sig .tc := ⟨.hbm, 752, rfl⟩
abbrev main_v480 : Ref sig .tc := ⟨.hbm, 753, rfl⟩
abbrev main_v481 : Ref sig .tc := ⟨.hbm, 754, rfl⟩
abbrev main_v482 : Ref sig .tc := ⟨.hbm, 755, rfl⟩
abbrev main_v483 : Ref sig .tc := ⟨.hbm, 756, rfl⟩
abbrev main_v484 : Ref sig .tc := ⟨.hbm, 757, rfl⟩
abbrev main_v485 : Ref sig .tc := ⟨.hbm, 758, rfl⟩
abbrev main_v486 : Ref sig .tc := ⟨.hbm, 759, rfl⟩
abbrev main_v487 : Ref sig .tc := ⟨.hbm, 760, rfl⟩
abbrev main_v488 : Ref sig .tc := ⟨.hbm, 761, rfl⟩
abbrev main_v489 : Ref sig .tc := ⟨.hbm, 762, rfl⟩
abbrev main_v490 : Ref sig .tc := ⟨.hbm, 763, rfl⟩
abbrev main_v491 : Ref sig .tc := ⟨.hbm, 764, rfl⟩
abbrev main_v492 : Ref sig .tc := ⟨.hbm, 765, rfl⟩
abbrev main_v493 : Ref sig .tc := ⟨.hbm, 766, rfl⟩
abbrev main_v494 : Ref sig .tc := ⟨.hbm, 767, rfl⟩
abbrev main_v495 : Ref sig .tc := ⟨.hbm, 768, rfl⟩
abbrev main_v496 : Ref sig .tc := ⟨.hbm, 769, rfl⟩
abbrev main_cst_208 : Ref sig .tc := ⟨.hbm, 770, rfl⟩
abbrev main_v497 : Ref sig .tc := ⟨.hbm, 771, rfl⟩
abbrev main_v498 : Ref sig .tc := ⟨.hbm, 772, rfl⟩
abbrev main_v499 : Ref sig .tc := ⟨.hbm, 773, rfl⟩
abbrev main_cst_209 : Ref sig .tc := ⟨.hbm, 774, rfl⟩
abbrev main_v500 : Ref sig .tc := ⟨.hbm, 775, rfl⟩
abbrev main_v501 : Ref sig .tc := ⟨.hbm, 776, rfl⟩
abbrev main_v502 : Ref sig .tc := ⟨.hbm, 777, rfl⟩
abbrev main_v503 : Ref sig .tc := ⟨.hbm, 778, rfl⟩
abbrev main_v504 : Ref sig .tc := ⟨.hbm, 779, rfl⟩
abbrev main_v505 : Ref sig .tc := ⟨.hbm, 780, rfl⟩
abbrev main_v506 : Ref sig .tc := ⟨.hbm, 781, rfl⟩
abbrev main_v507 : Ref sig .tc := ⟨.hbm, 782, rfl⟩
abbrev main_v508 : Ref sig .tc := ⟨.hbm, 783, rfl⟩
abbrev main_v509 : Ref sig .tc := ⟨.hbm, 784, rfl⟩
abbrev main_v510 : Ref sig .tc := ⟨.hbm, 785, rfl⟩
abbrev main_v511 : Ref sig .tc := ⟨.hbm, 786, rfl⟩
abbrev main_v512 : Ref sig .tc := ⟨.hbm, 787, rfl⟩
abbrev main_v513 : Ref sig .tc := ⟨.hbm, 788, rfl⟩
abbrev main_v514 : Ref sig .tc := ⟨.hbm, 789, rfl⟩
abbrev main_v515 : Ref sig .tc := ⟨.hbm, 790, rfl⟩
abbrev main_v516 : Ref sig .tc := ⟨.hbm, 791, rfl⟩
abbrev main_cst_210 : Ref sig .tc := ⟨.hbm, 792, rfl⟩
abbrev main_v517 : Ref sig .tc := ⟨.hbm, 793, rfl⟩
abbrev main_v518 : Ref sig .tc := ⟨.hbm, 794, rfl⟩
abbrev main_cst_211 : Ref sig .tc := ⟨.hbm, 795, rfl⟩
abbrev main_v519 : Ref sig .tc := ⟨.hbm, 796, rfl⟩
abbrev main_v520 : Ref sig .tc := ⟨.hbm, 797, rfl⟩
abbrev main_c_212 : Ref sig .tc := ⟨.hbm, 798, rfl⟩
abbrev main_call2_cst : Ref sig .tc := ⟨.hbm, 799, rfl⟩
abbrev main_call2_v0 : Ref sig .tc := ⟨.hbm, 800, rfl⟩
abbrev main_call2_v1 : Ref sig .tc := ⟨.hbm, 801, rfl⟩
abbrev main_call2_cst_0 : Ref sig .tc := ⟨.hbm, 802, rfl⟩
abbrev main_call2_v2 : Ref sig .tc := ⟨.hbm, 803, rfl⟩
abbrev main_call2_v3 : Ref sig .tc := ⟨.hbm, 804, rfl⟩
abbrev main_call2_v4 : Ref sig .tc := ⟨.hbm, 805, rfl⟩
abbrev main_call2_v5 : Ref sig .tc := ⟨.hbm, 806, rfl⟩
abbrev main_call2_v6 : Ref sig .tc := ⟨.hbm, 807, rfl⟩
abbrev main_call2_v7 : Ref sig .tc := ⟨.hbm, 808, rfl⟩
abbrev main_call2_cst_1 : Ref sig .tc := ⟨.hbm, 809, rfl⟩
abbrev main_call2_v8 : Ref sig .tc := ⟨.hbm, 810, rfl⟩
abbrev main_call2_cst_2 : Ref sig .tc := ⟨.hbm, 811, rfl⟩
abbrev main_call2_v9 : Ref sig .tc := ⟨.hbm, 812, rfl⟩
abbrev main_call2_v10 : Ref sig .tc := ⟨.hbm, 813, rfl⟩
abbrev main_call2_v11 : Ref sig .tc := ⟨.hbm, 814, rfl⟩
abbrev main_call2_v12 : Ref sig .tc := ⟨.hbm, 815, rfl⟩
abbrev main_call2_cst_3 : Ref sig .tc := ⟨.hbm, 816, rfl⟩
abbrev main_call2_v13 : Ref sig .tc := ⟨.hbm, 817, rfl⟩
abbrev main_call2_cst_4 : Ref sig .tc := ⟨.hbm, 818, rfl⟩
abbrev main_call2_call0_v0 : Ref sig .tc := ⟨.hbm, 819, rfl⟩
abbrev main_call2_call0_v1 : Ref sig .tc := ⟨.hbm, 820, rfl⟩
abbrev main_v521 : Ref sig .tc := ⟨.hbm, 821, rfl⟩
abbrev main_v522 : Ref sig .tc := ⟨.hbm, 822, rfl⟩
abbrev main_v523 : Ref sig .tc := ⟨.hbm, 823, rfl⟩
abbrev main_cst_213 : Ref sig .tc := ⟨.hbm, 824, rfl⟩
abbrev main_v524 : Ref sig .tc := ⟨.hbm, 825, rfl⟩
abbrev main_v525 : Ref sig .tc := ⟨.hbm, 826, rfl⟩
abbrev main_v526 : Ref sig .tc := ⟨.hbm, 827, rfl⟩
abbrev main_v527 : Ref sig .tc := ⟨.hbm, 828, rfl⟩
abbrev main_v528 : Ref sig .tc := ⟨.hbm, 829, rfl⟩
abbrev main_v529 : Ref sig .tc := ⟨.hbm, 830, rfl⟩
abbrev main_v530 : Ref sig .tc := ⟨.hbm, 831, rfl⟩
abbrev main_v531 : Ref sig .tc := ⟨.hbm, 832, rfl⟩
abbrev main_v532 : Ref sig .tc := ⟨.hbm, 833, rfl⟩
abbrev main_v533 : Ref sig .tc := ⟨.hbm, 834, rfl⟩
abbrev main_v534 : Ref sig .tc := ⟨.hbm, 835, rfl⟩
abbrev main_v535 : Ref sig .tc := ⟨.hbm, 836, rfl⟩
abbrev main_v536 : Ref sig .tc := ⟨.hbm, 837, rfl⟩
abbrev main_v537 : Ref sig .tc := ⟨.hbm, 838, rfl⟩
abbrev main_v538 : Ref sig .tc := ⟨.hbm, 839, rfl⟩
abbrev main_v539 : Ref sig .tc := ⟨.hbm, 840, rfl⟩
abbrev main_v540 : Ref sig .tc := ⟨.hbm, 841, rfl⟩
abbrev main_v541 : Ref sig .tc := ⟨.hbm, 842, rfl⟩
abbrev main_v542 : Ref sig .tc := ⟨.hbm, 843, rfl⟩
abbrev main_v543 : Ref sig .tc := ⟨.hbm, 844, rfl⟩
abbrev main_v544 : Ref sig .tc := ⟨.hbm, 845, rfl⟩
abbrev main_v545 : Ref sig .tc := ⟨.hbm, 846, rfl⟩
abbrev main_v546 : Ref sig .tc := ⟨.hbm, 847, rfl⟩
abbrev main_v547 : Ref sig .tc := ⟨.hbm, 848, rfl⟩
abbrev main_v548 : Ref sig .tc := ⟨.hbm, 849, rfl⟩
abbrev main_v549 : Ref sig .tc := ⟨.hbm, 850, rfl⟩
abbrev main_v550 : Ref sig .tc := ⟨.hbm, 851, rfl⟩
abbrev main_v551 : Ref sig .tc := ⟨.hbm, 852, rfl⟩
abbrev main_v552 : Ref sig .tc := ⟨.hbm, 853, rfl⟩
abbrev main_cst_214 : Ref sig .tc := ⟨.hbm, 854, rfl⟩
abbrev main_v553 : Ref sig .tc := ⟨.hbm, 855, rfl⟩
abbrev main_v554 : Ref sig .tc := ⟨.hbm, 856, rfl⟩
abbrev main_cst_215 : Ref sig .tc := ⟨.hbm, 857, rfl⟩
abbrev main_v555 : Ref sig .tc := ⟨.hbm, 858, rfl⟩
abbrev main_cst_216 : Ref sig .tc := ⟨.hbm, 859, rfl⟩
abbrev main_v556 : Ref sig .tc := ⟨.hbm, 860, rfl⟩
abbrev main_v557 : Ref sig .tc := ⟨.hbm, 861, rfl⟩
abbrev main_v558 : Ref sig .tc := ⟨.hbm, 862, rfl⟩
abbrev main_v559 : Ref sig .tc := ⟨.hbm, 863, rfl⟩
abbrev main_v560 : Ref sig .tc := ⟨.hbm, 864, rfl⟩
abbrev main_v561 : Ref sig .tc := ⟨.hbm, 865, rfl⟩
abbrev main_cst_217 : Ref sig .tc := ⟨.hbm, 866, rfl⟩
abbrev main_v562 : Ref sig .tc := ⟨.hbm, 867, rfl⟩
abbrev main_v563 : Ref sig .tc := ⟨.hbm, 868, rfl⟩
abbrev main_v564 : Ref sig .tc := ⟨.hbm, 869, rfl⟩
abbrev main_v565 : Ref sig .tc := ⟨.hbm, 870, rfl⟩
abbrev main_v566 : Ref sig .tc := ⟨.hbm, 871, rfl⟩
abbrev main_v567 : Ref sig .tc := ⟨.hbm, 872, rfl⟩
abbrev main_v568 : Ref sig .tc := ⟨.hbm, 873, rfl⟩
abbrev main_v569 : Ref sig .tc := ⟨.hbm, 874, rfl⟩
abbrev main_v570 : Ref sig .tc := ⟨.hbm, 875, rfl⟩
abbrev main_v571 : Ref sig .tc := ⟨.hbm, 876, rfl⟩
abbrev main_v572 : Ref sig .tc := ⟨.hbm, 877, rfl⟩
abbrev main_v573 : Ref sig .tc := ⟨.hbm, 878, rfl⟩
abbrev main_v574 : Ref sig .tc := ⟨.hbm, 879, rfl⟩
abbrev main_v575 : Ref sig .tc := ⟨.hbm, 880, rfl⟩
abbrev main_v576 : Ref sig .tc := ⟨.hbm, 881, rfl⟩
abbrev main_v577 : Ref sig .tc := ⟨.hbm, 882, rfl⟩
abbrev main_cst_218 : Ref sig .tc := ⟨.hbm, 883, rfl⟩
abbrev main_v578 : Ref sig .tc := ⟨.hbm, 884, rfl⟩
abbrev main_v579 : Ref sig .tc := ⟨.hbm, 885, rfl⟩
abbrev main_cst_219 : Ref sig .tc := ⟨.hbm, 886, rfl⟩
abbrev main_v580 : Ref sig .tc := ⟨.hbm, 887, rfl⟩
abbrev main_v581 : Ref sig .tc := ⟨.hbm, 888, rfl⟩
abbrev main_c_220 : Ref sig .tc := ⟨.hbm, 889, rfl⟩
abbrev main_call3_cst : Ref sig .tc := ⟨.hbm, 890, rfl⟩
abbrev main_call3_v0 : Ref sig .tc := ⟨.hbm, 891, rfl⟩
abbrev main_call3_v1 : Ref sig .tc := ⟨.hbm, 892, rfl⟩
abbrev main_call3_cst_0 : Ref sig .tc := ⟨.hbm, 893, rfl⟩
abbrev main_call3_v2 : Ref sig .tc := ⟨.hbm, 894, rfl⟩
abbrev main_call3_v3 : Ref sig .tc := ⟨.hbm, 895, rfl⟩
abbrev main_call3_v4 : Ref sig .tc := ⟨.hbm, 896, rfl⟩
abbrev main_call3_v5 : Ref sig .tc := ⟨.hbm, 897, rfl⟩
abbrev main_call3_v6 : Ref sig .tc := ⟨.hbm, 898, rfl⟩
abbrev main_call3_v7 : Ref sig .tc := ⟨.hbm, 899, rfl⟩
abbrev main_call3_cst_1 : Ref sig .tc := ⟨.hbm, 900, rfl⟩
abbrev main_call3_v8 : Ref sig .tc := ⟨.hbm, 901, rfl⟩
abbrev main_call3_cst_2 : Ref sig .tc := ⟨.hbm, 902, rfl⟩
abbrev main_call3_v9 : Ref sig .tc := ⟨.hbm, 903, rfl⟩
abbrev main_call3_v10 : Ref sig .tc := ⟨.hbm, 904, rfl⟩
abbrev main_call3_v11 : Ref sig .tc := ⟨.hbm, 905, rfl⟩
abbrev main_call3_v12 : Ref sig .tc := ⟨.hbm, 906, rfl⟩
abbrev main_call3_cst_3 : Ref sig .tc := ⟨.hbm, 907, rfl⟩
abbrev main_call3_v13 : Ref sig .tc := ⟨.hbm, 908, rfl⟩
abbrev main_call3_cst_4 : Ref sig .tc := ⟨.hbm, 909, rfl⟩
abbrev main_call3_call0_v0 : Ref sig .tc := ⟨.hbm, 910, rfl⟩
abbrev main_call3_call0_v1 : Ref sig .tc := ⟨.hbm, 911, rfl⟩
abbrev main_v582 : Ref sig .tc := ⟨.hbm, 912, rfl⟩
abbrev main_v583 : Ref sig .tc := ⟨.hbm, 913, rfl⟩
abbrev main_v584 : Ref sig .tc := ⟨.hbm, 914, rfl⟩
abbrev main_cst_221 : Ref sig .tc := ⟨.hbm, 915, rfl⟩
abbrev main_v585 : Ref sig .tc := ⟨.hbm, 916, rfl⟩
abbrev main_v586 : Ref sig .tc := ⟨.hbm, 917, rfl⟩
abbrev main_v587 : Ref sig .tc := ⟨.hbm, 918, rfl⟩
abbrev main_v588 : Ref sig .tc := ⟨.hbm, 919, rfl⟩
abbrev main_v589 : Ref sig .tc := ⟨.hbm, 920, rfl⟩
abbrev main_v590 : Ref sig .tc := ⟨.hbm, 921, rfl⟩
abbrev main_v591 : Ref sig .tc := ⟨.hbm, 922, rfl⟩
abbrev main_v592 : Ref sig .tc := ⟨.hbm, 923, rfl⟩
abbrev main_v593 : Ref sig .tc := ⟨.hbm, 924, rfl⟩
abbrev main_v594 : Ref sig .tc := ⟨.hbm, 925, rfl⟩
abbrev main_v595 : Ref sig .tc := ⟨.hbm, 926, rfl⟩
abbrev main_v596 : Ref sig .tc := ⟨.hbm, 927, rfl⟩
abbrev main_v597 : Ref sig .tc := ⟨.hbm, 928, rfl⟩
abbrev main_v598 : Ref sig .tc := ⟨.hbm, 929, rfl⟩
abbrev main_v599 : Ref sig .tc := ⟨.hbm, 930, rfl⟩
abbrev main_v600 : Ref sig .tc := ⟨.hbm, 931, rfl⟩
abbrev main_v601 : Ref sig .tc := ⟨.hbm, 932, rfl⟩
abbrev main_v602 : Ref sig .tc := ⟨.hbm, 933, rfl⟩
abbrev main_v603 : Ref sig .tc := ⟨.hbm, 934, rfl⟩
abbrev main_cst_222 : Ref sig .tc := ⟨.hbm, 935, rfl⟩
abbrev main_v604 : Ref sig .tc := ⟨.hbm, 936, rfl⟩
abbrev main_v605 : Ref sig .tc := ⟨.hbm, 937, rfl⟩
abbrev main_v606 : Ref sig .tc := ⟨.hbm, 938, rfl⟩
abbrev main_cst_223 : Ref sig .tc := ⟨.hbm, 939, rfl⟩
abbrev main_v607 : Ref sig .tc := ⟨.hbm, 940, rfl⟩
abbrev main_v608 : Ref sig .tc := ⟨.hbm, 941, rfl⟩
abbrev main_v609 : Ref sig .tc := ⟨.hbm, 942, rfl⟩
abbrev main_v610 : Ref sig .tc := ⟨.hbm, 943, rfl⟩
abbrev main_v611 : Ref sig .tc := ⟨.hbm, 944, rfl⟩
abbrev main_v612 : Ref sig .tc := ⟨.hbm, 945, rfl⟩
abbrev main_v613 : Ref sig .tc := ⟨.hbm, 946, rfl⟩
abbrev main_v614 : Ref sig .tc := ⟨.hbm, 947, rfl⟩
abbrev main_v615 : Ref sig .tc := ⟨.hbm, 948, rfl⟩
abbrev main_v616 : Ref sig .tc := ⟨.hbm, 949, rfl⟩
abbrev main_v617 : Ref sig .tc := ⟨.hbm, 950, rfl⟩
abbrev main_v618 : Ref sig .tc := ⟨.hbm, 951, rfl⟩
abbrev main_v619 : Ref sig .tc := ⟨.hbm, 952, rfl⟩
abbrev main_v620 : Ref sig .tc := ⟨.hbm, 953, rfl⟩
abbrev main_v621 : Ref sig .tc := ⟨.hbm, 954, rfl⟩
abbrev main_v622 : Ref sig .tc := ⟨.hbm, 955, rfl⟩
abbrev main_v623 : Ref sig .tc := ⟨.hbm, 956, rfl⟩
abbrev main_cst_224 : Ref sig .tc := ⟨.hbm, 957, rfl⟩
abbrev main_v624 : Ref sig .tc := ⟨.hbm, 958, rfl⟩
abbrev main_v625 : Ref sig .tc := ⟨.hbm, 959, rfl⟩
abbrev main_cst_225 : Ref sig .tc := ⟨.hbm, 960, rfl⟩
abbrev main_v626 : Ref sig .tc := ⟨.hbm, 961, rfl⟩
abbrev main_v627 : Ref sig .tc := ⟨.hbm, 962, rfl⟩
abbrev main_c_226 : Ref sig .tc := ⟨.hbm, 963, rfl⟩
abbrev main_call4_cst : Ref sig .tc := ⟨.hbm, 964, rfl⟩
abbrev main_call4_v0 : Ref sig .tc := ⟨.hbm, 965, rfl⟩
abbrev main_call4_v1 : Ref sig .tc := ⟨.hbm, 966, rfl⟩
abbrev main_call4_cst_0 : Ref sig .tc := ⟨.hbm, 967, rfl⟩
abbrev main_call4_v2 : Ref sig .tc := ⟨.hbm, 968, rfl⟩
abbrev main_call4_v3 : Ref sig .tc := ⟨.hbm, 969, rfl⟩
abbrev main_call4_v4 : Ref sig .tc := ⟨.hbm, 970, rfl⟩
abbrev main_call4_v5 : Ref sig .tc := ⟨.hbm, 971, rfl⟩
abbrev main_call4_v6 : Ref sig .tc := ⟨.hbm, 972, rfl⟩
abbrev main_call4_v7 : Ref sig .tc := ⟨.hbm, 973, rfl⟩
abbrev main_call4_cst_1 : Ref sig .tc := ⟨.hbm, 974, rfl⟩
abbrev main_call4_v8 : Ref sig .tc := ⟨.hbm, 975, rfl⟩
abbrev main_call4_cst_2 : Ref sig .tc := ⟨.hbm, 976, rfl⟩
abbrev main_call4_v9 : Ref sig .tc := ⟨.hbm, 977, rfl⟩
abbrev main_call4_v10 : Ref sig .tc := ⟨.hbm, 978, rfl⟩
abbrev main_call4_v11 : Ref sig .tc := ⟨.hbm, 979, rfl⟩
abbrev main_call4_v12 : Ref sig .tc := ⟨.hbm, 980, rfl⟩
abbrev main_call4_cst_3 : Ref sig .tc := ⟨.hbm, 981, rfl⟩
abbrev main_call4_v13 : Ref sig .tc := ⟨.hbm, 982, rfl⟩
abbrev main_call4_cst_4 : Ref sig .tc := ⟨.hbm, 983, rfl⟩
abbrev main_call4_call0_v0 : Ref sig .tc := ⟨.hbm, 984, rfl⟩
abbrev main_call4_call0_v1 : Ref sig .tc := ⟨.hbm, 985, rfl⟩
abbrev main_v628 : Ref sig .tc := ⟨.hbm, 986, rfl⟩
abbrev main_v629 : Ref sig .tc := ⟨.hbm, 987, rfl⟩
abbrev main_v630 : Ref sig .tc := ⟨.hbm, 988, rfl⟩
abbrev main_cst_227 : Ref sig .tc := ⟨.hbm, 989, rfl⟩
abbrev main_v631 : Ref sig .tc := ⟨.hbm, 990, rfl⟩
abbrev main_v632 : Ref sig .tc := ⟨.hbm, 991, rfl⟩
abbrev main_v633 : Ref sig .tc := ⟨.hbm, 992, rfl⟩
abbrev main_v634 : Ref sig .tc := ⟨.hbm, 993, rfl⟩
abbrev main_v635 : Ref sig .tc := ⟨.hbm, 994, rfl⟩
abbrev main_v636 : Ref sig .tc := ⟨.hbm, 995, rfl⟩
abbrev main_v637 : Ref sig .tc := ⟨.hbm, 996, rfl⟩
abbrev main_v638 : Ref sig .tc := ⟨.hbm, 997, rfl⟩
abbrev main_v639 : Ref sig .tc := ⟨.hbm, 998, rfl⟩
abbrev main_v640 : Ref sig .tc := ⟨.hbm, 999, rfl⟩
abbrev main_v641 : Ref sig .tc := ⟨.hbm, 1000, rfl⟩
abbrev main_v642 : Ref sig .tc := ⟨.hbm, 1001, rfl⟩
abbrev main_v643 : Ref sig .tc := ⟨.hbm, 1002, rfl⟩
abbrev main_v644 : Ref sig .tc := ⟨.hbm, 1003, rfl⟩
abbrev main_v645 : Ref sig .tc := ⟨.hbm, 1004, rfl⟩
abbrev main_v646 : Ref sig .tc := ⟨.hbm, 1005, rfl⟩
abbrev main_v647 : Ref sig .tc := ⟨.hbm, 1006, rfl⟩
abbrev main_v648 : Ref sig .tc := ⟨.hbm, 1007, rfl⟩
abbrev main_v649 : Ref sig .tc := ⟨.hbm, 1008, rfl⟩
abbrev main_v650 : Ref sig .tc := ⟨.hbm, 1009, rfl⟩
abbrev main_v651 : Ref sig .tc := ⟨.hbm, 1010, rfl⟩
abbrev main_v652 : Ref sig .tc := ⟨.hbm, 1011, rfl⟩
abbrev main_v653 : Ref sig .tc := ⟨.hbm, 1012, rfl⟩
abbrev main_v654 : Ref sig .tc := ⟨.hbm, 1013, rfl⟩
abbrev main_v655 : Ref sig .tc := ⟨.hbm, 1014, rfl⟩
abbrev main_v656 : Ref sig .tc := ⟨.hbm, 1015, rfl⟩
abbrev main_v657 : Ref sig .tc := ⟨.hbm, 1016, rfl⟩
abbrev main_v658 : Ref sig .tc := ⟨.hbm, 1017, rfl⟩
abbrev main_v659 : Ref sig .tc := ⟨.hbm, 1018, rfl⟩
abbrev main_cst_228 : Ref sig .tc := ⟨.hbm, 1019, rfl⟩
abbrev main_v660 : Ref sig .tc := ⟨.hbm, 1020, rfl⟩
abbrev main_v661 : Ref sig .tc := ⟨.hbm, 1021, rfl⟩
abbrev main_cst_229 : Ref sig .tc := ⟨.hbm, 1022, rfl⟩
abbrev main_v662 : Ref sig .tc := ⟨.hbm, 1023, rfl⟩
abbrev main_cst_230 : Ref sig .tc := ⟨.hbm, 1024, rfl⟩
abbrev main_v663 : Ref sig .tc := ⟨.hbm, 1025, rfl⟩
abbrev main_v664 : Ref sig .tc := ⟨.hbm, 1026, rfl⟩
abbrev main_v665 : Ref sig .tc := ⟨.hbm, 1027, rfl⟩
abbrev main_v666 : Ref sig .tc := ⟨.hbm, 1028, rfl⟩
abbrev main_v667 : Ref sig .tc := ⟨.hbm, 1029, rfl⟩
abbrev main_v668 : Ref sig .tc := ⟨.hbm, 1030, rfl⟩
abbrev main_cst_231 : Ref sig .tc := ⟨.hbm, 1031, rfl⟩
abbrev main_v669 : Ref sig .tc := ⟨.hbm, 1032, rfl⟩
abbrev main_v670 : Ref sig .tc := ⟨.hbm, 1033, rfl⟩
abbrev main_v671 : Ref sig .tc := ⟨.hbm, 1034, rfl⟩
abbrev main_v672 : Ref sig .tc := ⟨.hbm, 1035, rfl⟩
abbrev main_v673 : Ref sig .tc := ⟨.hbm, 1036, rfl⟩
abbrev main_v674 : Ref sig .tc := ⟨.hbm, 1037, rfl⟩
abbrev main_v675 : Ref sig .tc := ⟨.hbm, 1038, rfl⟩
abbrev main_v676 : Ref sig .tc := ⟨.hbm, 1039, rfl⟩
abbrev main_v677 : Ref sig .tc := ⟨.hbm, 1040, rfl⟩
abbrev main_v678 : Ref sig .tc := ⟨.hbm, 1041, rfl⟩
abbrev main_v679 : Ref sig .tc := ⟨.hbm, 1042, rfl⟩
abbrev main_v680 : Ref sig .tc := ⟨.hbm, 1043, rfl⟩
abbrev main_v681 : Ref sig .tc := ⟨.hbm, 1044, rfl⟩
abbrev main_v682 : Ref sig .tc := ⟨.hbm, 1045, rfl⟩
abbrev main_v683 : Ref sig .tc := ⟨.hbm, 1046, rfl⟩
abbrev main_v684 : Ref sig .tc := ⟨.hbm, 1047, rfl⟩
abbrev main_cst_232 : Ref sig .tc := ⟨.hbm, 1048, rfl⟩
abbrev main_v685 : Ref sig .tc := ⟨.hbm, 1049, rfl⟩
abbrev main_v686 : Ref sig .tc := ⟨.hbm, 1050, rfl⟩
abbrev main_cst_233 : Ref sig .tc := ⟨.hbm, 1051, rfl⟩
abbrev main_v687 : Ref sig .tc := ⟨.hbm, 1052, rfl⟩
abbrev main_v688 : Ref sig .tc := ⟨.hbm, 1053, rfl⟩
abbrev main_c_234 : Ref sig .tc := ⟨.hbm, 1054, rfl⟩
abbrev main_call5_cst : Ref sig .tc := ⟨.hbm, 1055, rfl⟩
abbrev main_call5_v0 : Ref sig .tc := ⟨.hbm, 1056, rfl⟩
abbrev main_call5_v1 : Ref sig .tc := ⟨.hbm, 1057, rfl⟩
abbrev main_call5_cst_0 : Ref sig .tc := ⟨.hbm, 1058, rfl⟩
abbrev main_call5_v2 : Ref sig .tc := ⟨.hbm, 1059, rfl⟩
abbrev main_call5_v3 : Ref sig .tc := ⟨.hbm, 1060, rfl⟩
abbrev main_call5_v4 : Ref sig .tc := ⟨.hbm, 1061, rfl⟩
abbrev main_call5_v5 : Ref sig .tc := ⟨.hbm, 1062, rfl⟩
abbrev main_call5_v6 : Ref sig .tc := ⟨.hbm, 1063, rfl⟩
abbrev main_call5_v7 : Ref sig .tc := ⟨.hbm, 1064, rfl⟩
abbrev main_call5_cst_1 : Ref sig .tc := ⟨.hbm, 1065, rfl⟩
abbrev main_call5_v8 : Ref sig .tc := ⟨.hbm, 1066, rfl⟩
abbrev main_call5_cst_2 : Ref sig .tc := ⟨.hbm, 1067, rfl⟩
abbrev main_call5_v9 : Ref sig .tc := ⟨.hbm, 1068, rfl⟩
abbrev main_call5_v10 : Ref sig .tc := ⟨.hbm, 1069, rfl⟩
abbrev main_call5_v11 : Ref sig .tc := ⟨.hbm, 1070, rfl⟩
abbrev main_call5_v12 : Ref sig .tc := ⟨.hbm, 1071, rfl⟩
abbrev main_call5_cst_3 : Ref sig .tc := ⟨.hbm, 1072, rfl⟩
abbrev main_call5_v13 : Ref sig .tc := ⟨.hbm, 1073, rfl⟩
abbrev main_call5_cst_4 : Ref sig .tc := ⟨.hbm, 1074, rfl⟩
abbrev main_call5_call0_v0 : Ref sig .tc := ⟨.hbm, 1075, rfl⟩
abbrev main_call5_call0_v1 : Ref sig .tc := ⟨.hbm, 1076, rfl⟩
abbrev main_v689 : Ref sig .tc := ⟨.hbm, 1077, rfl⟩
abbrev main_v690 : Ref sig .tc := ⟨.hbm, 1078, rfl⟩
abbrev main_v691 : Ref sig .tc := ⟨.hbm, 1079, rfl⟩
abbrev main_cst_235 : Ref sig .tc := ⟨.hbm, 1080, rfl⟩
abbrev main_v692 : Ref sig .tc := ⟨.hbm, 1081, rfl⟩
abbrev main_v693 : Ref sig .tc := ⟨.hbm, 1082, rfl⟩
abbrev main_v694 : Ref sig .tc := ⟨.hbm, 1083, rfl⟩
abbrev main_v695 : Ref sig .tc := ⟨.hbm, 1084, rfl⟩
abbrev main_v696 : Ref sig .tc := ⟨.hbm, 1085, rfl⟩
abbrev main_v697 : Ref sig .tc := ⟨.hbm, 1086, rfl⟩
abbrev main_v698 : Ref sig .tc := ⟨.hbm, 1087, rfl⟩
abbrev main_v699 : Ref sig .tc := ⟨.hbm, 1088, rfl⟩
abbrev main_v700 : Ref sig .tc := ⟨.hbm, 1089, rfl⟩
abbrev main_v701 : Ref sig .tc := ⟨.hbm, 1090, rfl⟩
abbrev main_v702 : Ref sig .tc := ⟨.hbm, 1091, rfl⟩
abbrev main_v703 : Ref sig .tc := ⟨.hbm, 1092, rfl⟩
abbrev main_v704 : Ref sig .tc := ⟨.hbm, 1093, rfl⟩
abbrev main_v705 : Ref sig .tc := ⟨.hbm, 1094, rfl⟩
abbrev main_v706 : Ref sig .tc := ⟨.hbm, 1095, rfl⟩
abbrev main_v707 : Ref sig .tc := ⟨.hbm, 1096, rfl⟩
abbrev main_v708 : Ref sig .tc := ⟨.hbm, 1097, rfl⟩
abbrev main_v709 : Ref sig .tc := ⟨.hbm, 1098, rfl⟩
abbrev main_v710 : Ref sig .tc := ⟨.hbm, 1099, rfl⟩
abbrev main_cst_236 : Ref sig .tc := ⟨.hbm, 1100, rfl⟩
abbrev main_v711 : Ref sig .tc := ⟨.hbm, 1101, rfl⟩
abbrev main_v712 : Ref sig .tc := ⟨.hbm, 1102, rfl⟩
abbrev main_v713 : Ref sig .tc := ⟨.hbm, 1103, rfl⟩
abbrev main_cst_237 : Ref sig .tc := ⟨.hbm, 1104, rfl⟩
abbrev main_v714 : Ref sig .tc := ⟨.hbm, 1105, rfl⟩
abbrev main_v715 : Ref sig .tc := ⟨.hbm, 1106, rfl⟩
abbrev main_v716 : Ref sig .tc := ⟨.hbm, 1107, rfl⟩
abbrev main_v717 : Ref sig .tc := ⟨.hbm, 1108, rfl⟩
abbrev main_v718 : Ref sig .tc := ⟨.hbm, 1109, rfl⟩
abbrev main_v719 : Ref sig .tc := ⟨.hbm, 1110, rfl⟩
abbrev main_v720 : Ref sig .tc := ⟨.hbm, 1111, rfl⟩
abbrev main_v721 : Ref sig .tc := ⟨.hbm, 1112, rfl⟩
abbrev main_v722 : Ref sig .tc := ⟨.hbm, 1113, rfl⟩
abbrev main_v723 : Ref sig .tc := ⟨.hbm, 1114, rfl⟩
abbrev main_v724 : Ref sig .tc := ⟨.hbm, 1115, rfl⟩
abbrev main_v725 : Ref sig .tc := ⟨.hbm, 1116, rfl⟩
abbrev main_v726 : Ref sig .tc := ⟨.hbm, 1117, rfl⟩
abbrev main_v727 : Ref sig .tc := ⟨.hbm, 1118, rfl⟩
abbrev main_v728 : Ref sig .tc := ⟨.hbm, 1119, rfl⟩
abbrev main_v729 : Ref sig .tc := ⟨.hbm, 1120, rfl⟩
abbrev main_v730 : Ref sig .tc := ⟨.hbm, 1121, rfl⟩
abbrev main_cst_238 : Ref sig .tc := ⟨.hbm, 1122, rfl⟩
abbrev main_v731 : Ref sig .tc := ⟨.hbm, 1123, rfl⟩
abbrev main_v732 : Ref sig .tc := ⟨.hbm, 1124, rfl⟩
abbrev main_cst_239 : Ref sig .tc := ⟨.hbm, 1125, rfl⟩
abbrev main_v733 : Ref sig .tc := ⟨.hbm, 1126, rfl⟩
abbrev main_v734 : Ref sig .tc := ⟨.hbm, 1127, rfl⟩
abbrev main_c_240 : Ref sig .tc := ⟨.hbm, 1128, rfl⟩
abbrev main_call6_cst : Ref sig .tc := ⟨.hbm, 1129, rfl⟩
abbrev main_call6_v0 : Ref sig .tc := ⟨.hbm, 1130, rfl⟩
abbrev main_call6_v1 : Ref sig .tc := ⟨.hbm, 1131, rfl⟩
abbrev main_call6_cst_0 : Ref sig .tc := ⟨.hbm, 1132, rfl⟩
abbrev main_call6_v2 : Ref sig .tc := ⟨.hbm, 1133, rfl⟩
abbrev main_call6_v3 : Ref sig .tc := ⟨.hbm, 1134, rfl⟩
abbrev main_call6_v4 : Ref sig .tc := ⟨.hbm, 1135, rfl⟩
abbrev main_call6_v5 : Ref sig .tc := ⟨.hbm, 1136, rfl⟩
abbrev main_call6_v6 : Ref sig .tc := ⟨.hbm, 1137, rfl⟩
abbrev main_call6_v7 : Ref sig .tc := ⟨.hbm, 1138, rfl⟩
abbrev main_call6_cst_1 : Ref sig .tc := ⟨.hbm, 1139, rfl⟩
abbrev main_call6_v8 : Ref sig .tc := ⟨.hbm, 1140, rfl⟩
abbrev main_call6_cst_2 : Ref sig .tc := ⟨.hbm, 1141, rfl⟩
abbrev main_call6_v9 : Ref sig .tc := ⟨.hbm, 1142, rfl⟩
abbrev main_call6_v10 : Ref sig .tc := ⟨.hbm, 1143, rfl⟩
abbrev main_call6_v11 : Ref sig .tc := ⟨.hbm, 1144, rfl⟩
abbrev main_call6_v12 : Ref sig .tc := ⟨.hbm, 1145, rfl⟩
abbrev main_call6_cst_3 : Ref sig .tc := ⟨.hbm, 1146, rfl⟩
abbrev main_call6_v13 : Ref sig .tc := ⟨.hbm, 1147, rfl⟩
abbrev main_call6_cst_4 : Ref sig .tc := ⟨.hbm, 1148, rfl⟩
abbrev main_call6_call0_v0 : Ref sig .tc := ⟨.hbm, 1149, rfl⟩
abbrev main_call6_call0_v1 : Ref sig .tc := ⟨.hbm, 1150, rfl⟩
abbrev main_v735 : Ref sig .tc := ⟨.hbm, 1151, rfl⟩
abbrev main_v736 : Ref sig .tc := ⟨.hbm, 1152, rfl⟩
abbrev main_v737 : Ref sig .tc := ⟨.hbm, 1153, rfl⟩
abbrev main_cst_241 : Ref sig .tc := ⟨.hbm, 1154, rfl⟩
abbrev main_v738 : Ref sig .tc := ⟨.hbm, 1155, rfl⟩
abbrev main_v739 : Ref sig .tc := ⟨.hbm, 1156, rfl⟩
abbrev main_v740 : Ref sig .tc := ⟨.hbm, 1157, rfl⟩
abbrev main_v741 : Ref sig .tc := ⟨.hbm, 1158, rfl⟩
abbrev main_v742 : Ref sig .tc := ⟨.hbm, 1159, rfl⟩
abbrev main_v743 : Ref sig .tc := ⟨.hbm, 1160, rfl⟩
abbrev main_v744 : Ref sig .tc := ⟨.hbm, 1161, rfl⟩
abbrev main_v745 : Ref sig .tc := ⟨.hbm, 1162, rfl⟩
abbrev main_v746 : Ref sig .tc := ⟨.hbm, 1163, rfl⟩
abbrev main_v747 : Ref sig .tc := ⟨.hbm, 1164, rfl⟩
abbrev main_v748 : Ref sig .tc := ⟨.hbm, 1165, rfl⟩
abbrev main_v749 : Ref sig .tc := ⟨.hbm, 1166, rfl⟩
abbrev main_v750 : Ref sig .tc := ⟨.hbm, 1167, rfl⟩
abbrev main_v751 : Ref sig .tc := ⟨.hbm, 1168, rfl⟩
abbrev main_v752 : Ref sig .tc := ⟨.hbm, 1169, rfl⟩
abbrev main_v753 : Ref sig .tc := ⟨.hbm, 1170, rfl⟩
abbrev main_v754 : Ref sig .tc := ⟨.hbm, 1171, rfl⟩
abbrev main_v755 : Ref sig .tc := ⟨.hbm, 1172, rfl⟩
abbrev main_v756 : Ref sig .tc := ⟨.hbm, 1173, rfl⟩
abbrev main_v757 : Ref sig .tc := ⟨.hbm, 1174, rfl⟩
abbrev main_v758 : Ref sig .tc := ⟨.hbm, 1175, rfl⟩
abbrev main_v759 : Ref sig .tc := ⟨.hbm, 1176, rfl⟩
abbrev main_v760 : Ref sig .tc := ⟨.hbm, 1177, rfl⟩
abbrev main_v761 : Ref sig .tc := ⟨.hbm, 1178, rfl⟩
abbrev main_v762 : Ref sig .tc := ⟨.hbm, 1179, rfl⟩
abbrev main_v763 : Ref sig .tc := ⟨.hbm, 1180, rfl⟩
abbrev main_v764 : Ref sig .tc := ⟨.hbm, 1181, rfl⟩
abbrev main_v765 : Ref sig .tc := ⟨.hbm, 1182, rfl⟩
abbrev main_v766 : Ref sig .tc := ⟨.hbm, 1183, rfl⟩
abbrev main_cst_242 : Ref sig .tc := ⟨.hbm, 1184, rfl⟩
abbrev main_v767 : Ref sig .tc := ⟨.hbm, 1185, rfl⟩
abbrev main_v768 : Ref sig .tc := ⟨.hbm, 1186, rfl⟩
abbrev main_cst_243 : Ref sig .tc := ⟨.hbm, 1187, rfl⟩
abbrev main_v769 : Ref sig .tc := ⟨.hbm, 1188, rfl⟩
abbrev main_cst_244 : Ref sig .tc := ⟨.hbm, 1189, rfl⟩
abbrev main_v770 : Ref sig .tc := ⟨.hbm, 1190, rfl⟩
abbrev main_v771 : Ref sig .tc := ⟨.hbm, 1191, rfl⟩
abbrev main_v772 : Ref sig .tc := ⟨.hbm, 1192, rfl⟩
abbrev main_v773 : Ref sig .tc := ⟨.hbm, 1193, rfl⟩
abbrev main_v774 : Ref sig .tc := ⟨.hbm, 1194, rfl⟩
abbrev main_v775 : Ref sig .tc := ⟨.hbm, 1195, rfl⟩
abbrev main_cst_245 : Ref sig .tc := ⟨.hbm, 1196, rfl⟩
abbrev main_v776 : Ref sig .tc := ⟨.hbm, 1197, rfl⟩
abbrev main_v777 : Ref sig .tc := ⟨.hbm, 1198, rfl⟩
abbrev main_v778 : Ref sig .tc := ⟨.hbm, 1199, rfl⟩
abbrev main_v779 : Ref sig .tc := ⟨.hbm, 1200, rfl⟩
abbrev main_v780 : Ref sig .tc := ⟨.hbm, 1201, rfl⟩
abbrev main_v781 : Ref sig .tc := ⟨.hbm, 1202, rfl⟩
abbrev main_v782 : Ref sig .tc := ⟨.hbm, 1203, rfl⟩
abbrev main_v783 : Ref sig .tc := ⟨.hbm, 1204, rfl⟩
abbrev main_v784 : Ref sig .tc := ⟨.hbm, 1205, rfl⟩
abbrev main_v785 : Ref sig .tc := ⟨.hbm, 1206, rfl⟩
abbrev main_v786 : Ref sig .tc := ⟨.hbm, 1207, rfl⟩
abbrev main_v787 : Ref sig .tc := ⟨.hbm, 1208, rfl⟩
abbrev main_v788 : Ref sig .tc := ⟨.hbm, 1209, rfl⟩
abbrev main_v789 : Ref sig .tc := ⟨.hbm, 1210, rfl⟩
abbrev main_v790 : Ref sig .tc := ⟨.hbm, 1211, rfl⟩
abbrev main_v791 : Ref sig .tc := ⟨.hbm, 1212, rfl⟩
abbrev main_cst_246 : Ref sig .tc := ⟨.hbm, 1213, rfl⟩
abbrev main_v792 : Ref sig .tc := ⟨.hbm, 1214, rfl⟩
abbrev main_v793 : Ref sig .tc := ⟨.hbm, 1215, rfl⟩
abbrev main_cst_247 : Ref sig .tc := ⟨.hbm, 1216, rfl⟩
abbrev main_v794 : Ref sig .tc := ⟨.hbm, 1217, rfl⟩
abbrev main_v795 : Ref sig .tc := ⟨.hbm, 1218, rfl⟩
abbrev main_c_248 : Ref sig .tc := ⟨.hbm, 1219, rfl⟩
abbrev main_call7_cst : Ref sig .tc := ⟨.hbm, 1220, rfl⟩
abbrev main_call7_v0 : Ref sig .tc := ⟨.hbm, 1221, rfl⟩
abbrev main_call7_v1 : Ref sig .tc := ⟨.hbm, 1222, rfl⟩
abbrev main_call7_cst_0 : Ref sig .tc := ⟨.hbm, 1223, rfl⟩
abbrev main_call7_v2 : Ref sig .tc := ⟨.hbm, 1224, rfl⟩
abbrev main_call7_v3 : Ref sig .tc := ⟨.hbm, 1225, rfl⟩
abbrev main_call7_v4 : Ref sig .tc := ⟨.hbm, 1226, rfl⟩
abbrev main_call7_v5 : Ref sig .tc := ⟨.hbm, 1227, rfl⟩
abbrev main_call7_v6 : Ref sig .tc := ⟨.hbm, 1228, rfl⟩
abbrev main_call7_v7 : Ref sig .tc := ⟨.hbm, 1229, rfl⟩
abbrev main_call7_cst_1 : Ref sig .tc := ⟨.hbm, 1230, rfl⟩
abbrev main_call7_v8 : Ref sig .tc := ⟨.hbm, 1231, rfl⟩
abbrev main_call7_cst_2 : Ref sig .tc := ⟨.hbm, 1232, rfl⟩
abbrev main_call7_v9 : Ref sig .tc := ⟨.hbm, 1233, rfl⟩
abbrev main_call7_v10 : Ref sig .tc := ⟨.hbm, 1234, rfl⟩
abbrev main_call7_v11 : Ref sig .tc := ⟨.hbm, 1235, rfl⟩
abbrev main_call7_v12 : Ref sig .tc := ⟨.hbm, 1236, rfl⟩
abbrev main_call7_cst_3 : Ref sig .tc := ⟨.hbm, 1237, rfl⟩
abbrev main_call7_v13 : Ref sig .tc := ⟨.hbm, 1238, rfl⟩
abbrev main_call7_cst_4 : Ref sig .tc := ⟨.hbm, 1239, rfl⟩
abbrev main_call7_call0_v0 : Ref sig .tc := ⟨.hbm, 1240, rfl⟩
abbrev main_call7_call0_v1 : Ref sig .tc := ⟨.hbm, 1241, rfl⟩
abbrev main_v796 : Ref sig .tc := ⟨.hbm, 1242, rfl⟩
abbrev main_v797 : Ref sig .tc := ⟨.hbm, 1243, rfl⟩
abbrev main_v798 : Ref sig .tc := ⟨.hbm, 1244, rfl⟩
abbrev main_cst_249 : Ref sig .tc := ⟨.hbm, 1245, rfl⟩
abbrev main_v799 : Ref sig .tc := ⟨.hbm, 1246, rfl⟩
abbrev main_v800 : Ref sig .tc := ⟨.hbm, 1247, rfl⟩
abbrev main_v801 : Ref sig .tc := ⟨.hbm, 1248, rfl⟩
abbrev main_v802 : Ref sig .tc := ⟨.hbm, 1249, rfl⟩
abbrev main_v803 : Ref sig .tc := ⟨.hbm, 1250, rfl⟩
abbrev main_v804 : Ref sig .tc := ⟨.hbm, 1251, rfl⟩
abbrev main_v805 : Ref sig .tc := ⟨.hbm, 1252, rfl⟩
abbrev main_v806 : Ref sig .tc := ⟨.hbm, 1253, rfl⟩
abbrev main_v807 : Ref sig .tc := ⟨.hbm, 1254, rfl⟩
abbrev main_v808 : Ref sig .tc := ⟨.hbm, 1255, rfl⟩
abbrev main_v809 : Ref sig .tc := ⟨.hbm, 1256, rfl⟩
abbrev main_v810 : Ref sig .tc := ⟨.hbm, 1257, rfl⟩
abbrev main_v811 : Ref sig .tc := ⟨.hbm, 1258, rfl⟩
abbrev main_v812 : Ref sig .tc := ⟨.hbm, 1259, rfl⟩
abbrev main_v813 : Ref sig .tc := ⟨.hbm, 1260, rfl⟩
abbrev main_v814 : Ref sig .tc := ⟨.hbm, 1261, rfl⟩
abbrev main_v815 : Ref sig .tc := ⟨.hbm, 1262, rfl⟩
abbrev main_v816 : Ref sig .tc := ⟨.hbm, 1263, rfl⟩
abbrev main_v817 : Ref sig .tc := ⟨.hbm, 1264, rfl⟩
abbrev main_cst_250 : Ref sig .tc := ⟨.hbm, 1265, rfl⟩
abbrev main_v818 : Ref sig .tc := ⟨.hbm, 1266, rfl⟩
abbrev main_v819 : Ref sig .tc := ⟨.hbm, 1267, rfl⟩
abbrev main_v820 : Ref sig .tc := ⟨.hbm, 1268, rfl⟩
abbrev main_cst_251 : Ref sig .tc := ⟨.hbm, 1269, rfl⟩
abbrev main_v821 : Ref sig .tc := ⟨.hbm, 1270, rfl⟩
abbrev main_v822 : Ref sig .tc := ⟨.hbm, 1271, rfl⟩
abbrev main_v823 : Ref sig .tc := ⟨.hbm, 1272, rfl⟩
abbrev main_v824 : Ref sig .tc := ⟨.hbm, 1273, rfl⟩
abbrev main_v825 : Ref sig .tc := ⟨.hbm, 1274, rfl⟩
abbrev main_v826 : Ref sig .tc := ⟨.hbm, 1275, rfl⟩
abbrev main_v827 : Ref sig .tc := ⟨.hbm, 1276, rfl⟩
abbrev main_v828 : Ref sig .tc := ⟨.hbm, 1277, rfl⟩
abbrev main_v829 : Ref sig .tc := ⟨.hbm, 1278, rfl⟩
abbrev main_v830 : Ref sig .tc := ⟨.hbm, 1279, rfl⟩
abbrev main_v831 : Ref sig .tc := ⟨.hbm, 1280, rfl⟩
abbrev main_v832 : Ref sig .tc := ⟨.hbm, 1281, rfl⟩
abbrev main_v833 : Ref sig .tc := ⟨.hbm, 1282, rfl⟩
abbrev main_cst_252 : Ref sig .tc := ⟨.hbm, 1283, rfl⟩
abbrev main_v834 : Ref sig .tc := ⟨.hbm, 1284, rfl⟩
abbrev main_cst_253 : Ref sig .tc := ⟨.hbm, 1285, rfl⟩
abbrev main_v835 : Ref sig .tc := ⟨.hbm, 1286, rfl⟩
abbrev main_v836 : Ref sig .tc := ⟨.hbm, 1287, rfl⟩
abbrev main_cst_254 : Ref sig .tc := ⟨.hbm, 1288, rfl⟩
abbrev main_v837 : Ref sig .tc := ⟨.hbm, 1289, rfl⟩
abbrev main_v838 : Ref sig .tc := ⟨.hbm, 1290, rfl⟩
abbrev main_cst_255 : Ref sig .tc := ⟨.hbm, 1291, rfl⟩
abbrev main_v839 : Ref sig .tc := ⟨.hbm, 1292, rfl⟩
abbrev main_v840 : Ref sig .tc := ⟨.hbm, 1293, rfl⟩
abbrev main_c_256 : Ref sig .tc := ⟨.hbm, 1294, rfl⟩
abbrev main_call8_cst : Ref sig .tc := ⟨.hbm, 1295, rfl⟩
abbrev main_call8_v0 : Ref sig .tc := ⟨.hbm, 1296, rfl⟩
abbrev main_call8_v1 : Ref sig .tc := ⟨.hbm, 1297, rfl⟩
abbrev main_call8_cst_0 : Ref sig .tc := ⟨.hbm, 1298, rfl⟩
abbrev main_call8_v2 : Ref sig .tc := ⟨.hbm, 1299, rfl⟩
abbrev main_call8_v3 : Ref sig .tc := ⟨.hbm, 1300, rfl⟩
abbrev main_call8_v4 : Ref sig .tc := ⟨.hbm, 1301, rfl⟩
abbrev main_call8_v5 : Ref sig .tc := ⟨.hbm, 1302, rfl⟩
abbrev main_call8_v6 : Ref sig .tc := ⟨.hbm, 1303, rfl⟩
abbrev main_call8_v7 : Ref sig .tc := ⟨.hbm, 1304, rfl⟩
abbrev main_call8_cst_1 : Ref sig .tc := ⟨.hbm, 1305, rfl⟩
abbrev main_call8_v8 : Ref sig .tc := ⟨.hbm, 1306, rfl⟩
abbrev main_call8_cst_2 : Ref sig .tc := ⟨.hbm, 1307, rfl⟩
abbrev main_call8_v9 : Ref sig .tc := ⟨.hbm, 1308, rfl⟩
abbrev main_call8_v10 : Ref sig .tc := ⟨.hbm, 1309, rfl⟩
abbrev main_call8_v11 : Ref sig .tc := ⟨.hbm, 1310, rfl⟩
abbrev main_call8_v12 : Ref sig .tc := ⟨.hbm, 1311, rfl⟩
abbrev main_call8_cst_3 : Ref sig .tc := ⟨.hbm, 1312, rfl⟩
abbrev main_call8_v13 : Ref sig .tc := ⟨.hbm, 1313, rfl⟩
abbrev main_call8_cst_4 : Ref sig .tc := ⟨.hbm, 1314, rfl⟩
abbrev main_call8_call0_v0 : Ref sig .tc := ⟨.hbm, 1315, rfl⟩
abbrev main_call8_call0_v1 : Ref sig .tc := ⟨.hbm, 1316, rfl⟩
abbrev main_v841 : Ref sig .tc := ⟨.hbm, 1317, rfl⟩
abbrev main_v842 : Ref sig .tc := ⟨.hbm, 1318, rfl⟩
abbrev main_v843 : Ref sig .tc := ⟨.hbm, 1319, rfl⟩
abbrev main_cst_257 : Ref sig .tc := ⟨.hbm, 1320, rfl⟩
abbrev main_v844 : Ref sig .tc := ⟨.hbm, 1321, rfl⟩
abbrev main_v845 : Ref sig .tc := ⟨.hbm, 1322, rfl⟩
abbrev main_v846 : Ref sig .tc := ⟨.hbm, 1323, rfl⟩
abbrev main_v847 : Ref sig .tc := ⟨.hbm, 1324, rfl⟩
abbrev main_v848 : Ref sig .tc := ⟨.hbm, 1325, rfl⟩
abbrev main_v849 : Ref sig .tc := ⟨.hbm, 1326, rfl⟩
abbrev main_v850 : Ref sig .tc := ⟨.hbm, 1327, rfl⟩
abbrev main_v851 : Ref sig .tc := ⟨.hbm, 1328, rfl⟩
abbrev main_v852 : Ref sig .tc := ⟨.hbm, 1329, rfl⟩
abbrev main_v853 : Ref sig .tc := ⟨.hbm, 1330, rfl⟩
abbrev main_v854 : Ref sig .tc := ⟨.hbm, 1331, rfl⟩
abbrev main_v855 : Ref sig .tc := ⟨.hbm, 1332, rfl⟩
abbrev main_v856 : Ref sig .tc := ⟨.hbm, 1333, rfl⟩
abbrev main_v857 : Ref sig .tc := ⟨.hbm, 1334, rfl⟩
abbrev main_v858 : Ref sig .tc := ⟨.hbm, 1335, rfl⟩

abbrev nD : Nat := 1
abbrev τ : Topo := Topo.v7x

variable {F : FTy → Type} [FloatOps F]
-- ==== Proof.RealModel.lean ====
/- The transformer over the real numbers: layer normalisation, attention without a shift, the feed-forward part, one
   whole layer, over any finite family of tokens; and the laws that carry each operation on extended reals to the real
   numbers when its operands are real. -/
module

public import Idealize.ShloMosaic.Lib.Pointwise

@[expose] public section

noncomputable section

namespace Cert.Vit

open Idealize.ShloMosaic
open scoped BigOperators

/-! ### Extended reals that are real -/

/-- A finite sum of real numbers, taken among the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers, the divisor not zero. -/
theorem coe_div (x y : ℝ) (h : y ≠ 0) : Ideal.div (x : EReal) (y : EReal) = ((x / y : ℝ) : EReal) := by
  rw [Ideal.div_coe h, ← EReal.coe_mul]; congr 1; ring

/-- The exponential of a real number. -/
theorem coe_exp (x : ℝ) : Ideal.exp (x : EReal) = (Real.exp x : EReal) := rfl

/-- The square root of a real number that is not negative. -/
theorem coe_sqrt (x : ℝ) (h : 0 ≤ x) : Ideal.sqrt (x : EReal) = (Real.sqrt x : EReal) :=
  if_neg (not_lt.mpr h)

/-- The reciprocal square root of a positive real number. -/
theorem coe_rsqrt (x : ℝ) (h : 0 < x) : Ideal.rsqrt (x : EReal) = ((Real.sqrt x)⁻¹ : ℝ) :=
  (if_neg (not_lt.mpr h.le)).trans (if_neg h.ne')

/-- The error function on the real numbers. -/
def erfR (r : ℝ) : ℝ := 2 / Real.sqrt Real.pi * ∫ t in (0 : ℝ)..r, Real.exp (-(t ^ 2))

/-- The error function of a real number. -/
theorem coe_erf (x : ℝ) : Ideal.erf (x : EReal) = (erfR x : EReal) := rfl

/-- The least number added to a variance before its root is taken. -/
def eps : ℝ := 10995116 / 2 ^ 40

/-- The factor the exact activation scales its argument by. -/
def half2 : ℝ := 11863283 / 2 ^ 24

/-- The number added to a variance is positive. -/
theorem eps_pos : 0 < eps := by unfold eps; positivity

/-- What a positive word of ordinary size denotes, its exponent field at least 110: a multiple of `2 ^ -40`. -/
theorem word_pos (w : BitVec 32) (e f : Nat) (hs : w.extractLsb' 31 1 = 0#1) (he : (w.extractLsb' 23 8).toNat = 110 + e)
    (hf : (w.extractLsb' 0 23).toNat = f) (hm : e < 145) :
    Ideal.ofBits .f32 w = ((((2 ^ 23 + f) * 2 ^ e : Nat) / 2 ^ 40 : ℝ) : EReal) := by
  have h1 : ¬ (110 + e = 255) := by omega
  have h2 : ¬ (110 + e = 0) := by omega
  have h3 : ((110 + e : Nat) : Int) - 127 - 23 = (e : Int) - 40 := by push_cast; ring
  simp only [Ideal.ofBits, Ideal.ieee]
  norm_num only [Nat.reduceAdd]
  rw [he, hf, hs, if_neg h1, if_neg h2, h3, zpow_sub₀ (by norm_num)]
  refine congrArg Real.toEReal ?_
  push_cast
  norm_num
  ring

/-- The float word added to a variance is the real number `eps`. -/
theorem word_eps : Ideal.ofBits .f32 0x3727C5AC#32 = (eps : EReal) := by
  rw [word_pos 0x3727C5AC#32 0 2606508 (by decide) (by decide) (by decide) (by decide)]
  norm_num [eps]

/-- The float word near the root of one half is the real number `half2`. -/
theorem word_half2 : Ideal.ofBits .f32 0x3F3504F3#32 = (half2 : EReal) := by
  rw [word_pos 0x3F3504F3#32 16 3474675 (by decide) (by decide) (by decide) (by decide)]
  norm_num [half2]

/-- The float word of 256 is the real number 256. -/
theorem word_256 : Ideal.ofBits .f32 0x43800000#32 = ((256 : ℝ) : EReal) := by
  rw [word_pos 0x43800000#32 25 0 (by decide) (by decide) (by decide) (by decide)]
  norm_num

/-- The float word of 129 is the real number 129. -/
theorem word_129 : Ideal.ofBits .f32 0x43010000#32 = ((129 : ℝ) : EReal) := by
  rw [word_pos 0x43010000#32 24 65536 (by decide) (by decide) (by decide) (by decide)]
  norm_num

/-- The float word of one eighth is the real number one eighth. -/
theorem word_eighth : Ideal.ofBits .f32 0x3E000000#32 = ((1 / 8 : ℝ) : EReal) := by
  rw [word_pos 0x3E000000#32 14 0 (by decide) (by decide) (by decide) (by decide)]
  norm_num

/-- The float word of one half is the real number one half. -/
theorem word_half : Ideal.ofBits .f32 0x3F000000#32 = ((1 / 2 : ℝ) : EReal) := by
  rw [word_pos 0x3F000000#32 16 0 (by decide) (by decide) (by decide) (by decide)]
  norm_num

/-- The float word of zero is the real number zero. -/
theorem word_zero : Ideal.ofBits .f32 0x00000000#32 = ((0 : ℝ) : EReal) := by
  simp [Ideal.ofBits, Ideal.ieee]

/-- A word whose exponent field is not the greatest denotes a real number. -/
theorem word_real (w : BitVec 32) (h : (w.extractLsb' 23 8).toNat ≠ 255) : ∃ r : ℝ, Ideal.ofBits .f32 w = (r : EReal) := by
  have h' : ¬ ((w.extractLsb' 23 8).toNat = 2 ^ 8 - 1) := h
  simp only [Ideal.ofBits, Ideal.ieee]
  rw [if_neg h']
  split
  · exact ⟨_, rfl⟩
  · exact ⟨_, rfl⟩

/-- The float word of minus infinity is minus infinity. -/
theorem word_bot : Ideal.ofBits .f32 0xFF800000#32 = ⊥ := by
  have he : (0xFF800000#32 : BitVec 32).extractLsb' 23 8 = 255#8 := by decide
  have hf : (0xFF800000#32 : BitVec 32).extractLsb' 0 23 = 0#23 := by decide
  have hs : (0xFF800000#32 : BitVec 32).extractLsb' 31 1 = 1#1 := by decide
  simp only [Ideal.ofBits, Ideal.ieee]
  norm_num only [Nat.reduceAdd]
  rw [he, hf, hs]
  simp

/-! ### The model -/

/-- The mean of a row. -/
def mean (v : Fin 256 → ℝ) : ℝ := (∑ d, v d) / 256

/-- The variance of a row. -/
def var (v : Fin 256 → ℝ) : ℝ := (∑ d, (v d - mean v) * (v d - mean v)) / 256

/-- A variance is not negative. -/
theorem var_nonneg (v : Fin 256 → ℝ) : 0 ≤ var v :=
  div_nonneg (Finset.sum_nonneg fun _ _ => mul_self_nonneg _) (by norm_num)

/-- A variance with `eps` added is positive. -/
theorem var_eps_pos (v : Fin 256 → ℝ) : 0 < var v + eps := add_pos_of_nonneg_of_pos (var_nonneg v) eps_pos

/-- The deviation that a layer norm divides by is not zero. -/
theorem sd_ne (v : Fin 256 → ℝ) : Real.sqrt (var v + eps) ≠ 0 := (Real.sqrt_pos.mpr (var_eps_pos v)).ne'

/-- A row centred and divided by its deviation. -/
def unitRow (v : Fin 256 → ℝ) (d : Fin 256) : ℝ := (v d - mean v) / Real.sqrt (var v + eps)

/-- Layer normalisation of a row. -/
def ln (g b v : Fin 256 → ℝ) (d : Fin 256) : ℝ := unitRow v d * g d + b d

/-- The weights of one layer. -/
structure LayerW where
  wqkv : Fin 256 → Fin 1536 → ℝ
  wo : Fin 512 → Fin 256 → ℝ
  bo : Fin 256 → ℝ
  g1 : Fin 256 → ℝ
  be1 : Fin 256 → ℝ
  w1 : Fin 256 → Fin 512 → ℝ
  b1 : Fin 512 → ℝ
  w2 : Fin 512 → Fin 256 → ℝ
  b2 : Fin 256 → ℝ
  g2 : Fin 256 → ℝ
  be2 : Fin 256 → ℝ

/-- Column `64 h + t` of the part of the fused projection that starts at `o`. -/
def col (o : Nat) (ho : o ≤ 1024) (h : Fin 8) (t : Fin 64) : Fin 1536 := ⟨o + (h.val * 64 + t.val), by omega⟩

section Tokens
variable {ι : Type} [Fintype ι]

/-- The fused projection of the normalised tokens. -/
def qkv (W : LayerW) (X : ι → Fin 256 → ℝ) (i : ι) (e : Fin 1536) : ℝ := ∑ c, ln W.g1 W.be1 (X i) c * W.wqkv c e

/-- The scaled score of a pair of tokens in a head. -/
def score (Q : ι → Fin 1536 → ℝ) (h : Fin 8) (i j : ι) : ℝ :=
  (∑ t, Q i (col 0 (by omega) h t) * Q j (col 512 (by omega) h t)) * (1 / 8)

/-- The attention of a token in a head. -/
def att (Q : ι → Fin 1536 → ℝ) (h : Fin 8) (i : ι) (t : Fin 64) : ℝ :=
  (∑ j, Real.exp (score Q h i j) * Q j (col 1024 (by omega) h t)) / ∑ j, Real.exp (score Q h i j)

/-- The heads side by side. -/
def heads (Q : ι → Fin 1536 → ℝ) (i : ι) (e : Fin 512) : ℝ :=
  att Q ⟨e.val / 64, by omega⟩ i ⟨e.val % 64, Nat.mod_lt _ (by omega)⟩

/-- The tokens after the attention. -/
def mid (W : LayerW) (X : ι → Fin 256 → ℝ) (i : ι) (d : Fin 256) : ℝ :=
  X i d + ((∑ e, heads (qkv W X) i e * W.wo e d) + W.bo d)

end Tokens

/-- The exact activation. -/
def gelu (a : ℝ) : ℝ := a * (1 / 2) * (1 + erfR (a * half2))

/-- The feed-forward part on one row, with its residual. -/
def ffn (W : LayerW) (v : Fin 256 → ℝ) (d : Fin 256) : ℝ :=
  v d + ((∑ e, gelu ((∑ c, ln W.g2 W.be2 v c * W.w1 c e) + W.b1 e) * W.w2 e d) + W.b2 d)

/-- One layer. -/
def layer {ι : Type} [Fintype ι] (W : LayerW) (X : ι → Fin 256 → ℝ) (i : ι) : Fin 256 → ℝ := ffn W (mid W X i)

/-- A layer treats its tokens alike: renaming them before it or after it is the same. -/
theorem layer_rename {ι κ : Type} [Fintype ι] [Fintype κ] (e : ι ≃ κ) (W : LayerW) (X : κ → Fin 256 → ℝ) (i : ι) :
    layer W (fun i => X (e i)) i = layer W X (e i) := by
  have hq : ∀ i, qkv W (fun i => X (e i)) i = qkv W X (e i) := fun i => rfl
  have hs : ∀ h i j, score (qkv W fun i => X (e i)) h i j = score (qkv W X) h (e i) (e j) := fun h i j => rfl
  have ha : ∀ h i t, att (qkv W fun i => X (e i)) h i t = att (qkv W X) h (e i) t := by
    intro h i t
    unfold att
    simp only [hs, hq]
    rw [Equiv.sum_comp e fun j => Real.exp (score (qkv W X) h (e i) j) * qkv W X j (col 1024 (by omega) h t),
      Equiv.sum_comp e fun j => Real.exp (score (qkv W X) h (e i) j)]
  unfold layer
  congr 1
  funext d
  simp only [mid, heads, ha]

/-- The four layers in sequence, over a family of weights. -/
def layers {ι : Type} [Fintype ι] (W : Nat → LayerW) (X : ι → Fin 256 → ℝ) : Nat → ι → Fin 256 → ℝ
  | 0 => X
  | n + 1 => layer (W n) (layers W X n)

/-- Renaming the tokens before the layers is renaming them after. -/
theorem layers_rename {ι κ : Type} [Fintype ι] [Fintype κ] (e : ι ≃ κ) (W : Nat → LayerW) (X : κ → Fin 256 → ℝ) (n : Nat) :
    layers W (fun i => X (e i)) n = fun i => layers W X n (e i) := by
  induction n with
  | zero => rfl
  | succ n ih =>
    funext i
    rw [layers, ih]
    exact layer_rename e (W n) (layers W X n) i

/-- The mean over the tokens. -/
def pool (X : Fin 129 → Fin 256 → ℝ) (d : Fin 256) : ℝ := (∑ i, X i d) / 129

/-- A softmax shifted by any number is the softmax. -/
theorem shifted_softmax {n : Nat} (s : Fin n → ℝ) (v : Fin n → ℝ) (m : ℝ) :
    ∑ j, Real.exp (s j - m) / (∑ k, Real.exp (s k - m)) * v j = (∑ j, Real.exp (s j) * v j) / ∑ j, Real.exp (s j) := by
  have h : ∀ j, Real.exp (s j - m) = Real.exp (s j) * Real.exp (-m) := fun j => by rw [← Real.exp_add]; rfl
  have hm : Real.exp (-m) ≠ 0 := (Real.exp_pos _).ne'
  simp only [h, ← Finset.sum_mul]
  rw [Finset.sum_div]
  refine Finset.sum_congr rfl fun j _ => ?_
  rw [mul_div_mul_right _ _ hm]
  ring

end Cert.Vit

end
-- ==== Proof.RefLayer.lean ====
/- One layer of the reference as a function of its tokens and its weights, and what it computes at an index when all
   of them are real: the layer of the real model. -/
module

public import proofs.«01_k».proof.Proof.Gen.ReferenceIdeal
public import proofs.«01_k».proof.Proof.RealModel

@[expose] public section

set_option maxRecDepth 16384

noncomputable section

namespace Cert.ReferenceIdeal.Layer

open Cert.ReferenceIdeal Cert.ReferenceIdeal.Gen Idealize.ShloMosaic Cert.Vit
open scoped BigOperators

/-- The arrays of extended reals of a shape. -/
abbrev A (s : Shape) : Type := FVec Ideal s .f32

/-- The mean of every row, as a column. -/
def mu (x : A S64x129x256) : A S64x129x1 :=
  Host.divf (broadcastInDim S64x129x1 ![0, 1] bcast_S64x129_S64x129x1_0_1 (Host.reduceAdd x (constant S_ .f32 0x00000000#32) reducesTo_S64x129x256_S64x129_d2 h_S_)) (broadcastInDim S64x129x1 ![] bcast_S_S64x129x1 (constant S_ .f32 0x43800000#32))

/-- Every row less its mean. -/
def cen (x : A S64x129x256) : A S64x129x256 :=
  subf x (broadcastInDim S64x129x256 ![0, 1, 2] bcast_S64x129x1_S64x129x256_0_1_2 (mu x))

/-- The divisor of the variance: the row's length less no degree of freedom. -/
def dof : A S_ := subf (constant S_ .f32 0x43800000#32) (sitofp .f32 (constantI S_ 32 0#32))

/-- The variance of every row, as a column. -/
def vr (x : A S64x129x256) : A S64x129x1 :=
  select (broadcastInDim S64x129x1 ![] bcast_S_S64x129x1 (cmpf .ogt dof (constant S_ .f32 0x00000000#32))) (Host.divf (broadcastInDim S64x129x1 ![0, 1] bcast_S64x129_S64x129x1_0_1 (Host.reduceAdd (mulf (cen x) (cen x)) (constant S_ .f32 0x00000000#32) reducesTo_S64x129x256_S64x129_d2 h_S_)) (broadcastInDim S64x129x1 ![] bcast_S_S64x129x1 dof)) (broadcastInDim S64x129x1 ![] bcast_S_S64x129x1 (id (constant S_ .f32 0x7FC00000#32)))

/-- A vector along the last axis, the same for every row. -/
def alongRows (g : A S256) : A S64x129x256 :=
  broadcastInDim S64x129x256 ![0, 1, 2] bcast_S1x1x256_S64x129x256_0_1_2 (broadcastInDim S1x1x256 ![2] bcast_S256_S1x1x256_2 g)

/-- Layer normalisation of every row. -/
def lnv (x : A S64x129x256) (g b : A S256) : A S64x129x256 :=
  addf (mulf (Host.divf (cen x) (broadcastInDim S64x129x256 ![0, 1, 2] bcast_S64x129x1_S64x129x256_0_1_2 (Host.sqrt (addf (vr x) (broadcastInDim S64x129x1 ![] bcast_S_S64x129x1 (constant S_ .f32 0x3727C5AC#32)))))) (alongRows g)) (alongRows b)

/-- The fused projection. -/
def qkvv (h : A S64x129x256) (w : A S256x1536) : A S64x129x1536 :=
  Host.dotGeneral dot_S64x129x256_S256x1536_S64x129x1536_2_0_01_1_n_n none h w

/-- The queries, by head. -/
def qv (q : A S64x129x1536) : A S64x8x129x64 :=
  transpose S64x8x129x64 [0, 2, 1, 3] (shapeCast _ (extractStridedSlice S64x129x512 ![0, 0, 0] q slices_S64x129x1536_S64x129x512_0_0_0) shapeCasts_S64x129x512_S64x129x8x64) transposes_S64x129x8x64_S64x8x129x64_0_2_1_3

/-- The keys, by head. -/
def kv (q : A S64x129x1536) : A S64x8x129x64 :=
  transpose S64x8x129x64 [0, 2, 1, 3] (shapeCast _ (extractStridedSlice S64x129x512 ![0, 0, 512] q slices_S64x129x1536_S64x129x512_0_0_512) shapeCasts_S64x129x512_S64x129x8x64) transposes_S64x129x8x64_S64x8x129x64_0_2_1_3

/-- The values, by head. -/
def vv (q : A S64x129x1536) : A S64x8x129x64 :=
  transpose S64x8x129x64 [0, 2, 1, 3] (shapeCast _ (extractStridedSlice S64x129x512 ![0, 0, 1024] q slices_S64x129x1536_S64x129x512_0_0_1024) shapeCasts_S64x129x512_S64x129x8x64) transposes_S64x129x8x64_S64x8x129x64_0_2_1_3

/-- The scaled scores. -/
def sv (q : A S64x129x1536) : A S64x8x129x129 :=
  mulf (Host.dotGeneral dot_S64x8x129x64_S64x8x64x129_S64x8x129x129_3_2_2_3_01_01 none (qv q) (transpose S64x8x64x129 [0, 1, 3, 2] (kv q) transposes_S64x8x129x64_S64x8x64x129_0_1_3_2)) (broadcastInDim S64x8x129x129 ![] bcast_S_S64x8x129x129 (constant S_ .f32 0x3E000000#32))

/-- The greatest score of every row. -/
def mx (s : A S64x8x129x129) : A S64x8x129 :=
  maximumf (broadcastInDim S64x8x129 ![] bcast_S_S64x8x129 (constant S_ .f32 0xFF800000#32)) (Host.reduce FloatOps.maximumf s (constant S_ .f32 0xFF800000#32) reducesTo_S64x8x129x129_S64x8x129_d3 h_S_)

/-- The exponentials of the shifted scores. -/
def ev (s : A S64x8x129x129) : A S64x8x129x129 :=
  Host.exp (subf s (broadcastInDim S64x8x129x129 ![0, 1, 2, 3] bcast_S64x8x129x1_S64x8x129x129_0_1_2_3 (broadcastInDim S64x8x129x1 ![0, 1, 2] bcast_S64x8x129_S64x8x129x1_0_1_2 (mx s))))

/-- The attention weights. -/
def pv (e : A S64x8x129x129) : A S64x8x129x129 :=
  Host.divf e (broadcastInDim S64x8x129x129 ![0, 1, 2, 3] bcast_S64x8x129x1_S64x8x129x129_0_1_2_3 (broadcastInDim S64x8x129x1 ![0, 1, 2] bcast_S64x8x129_S64x8x129x1_0_1_2 (Host.reduceAdd e (constant S_ .f32 0x00000000#32) reducesTo_S64x8x129x129_S64x8x129_d3 h_S_)))

/-- The heads' results side by side. -/
def ov (q : A S64x129x1536) : A S64x129x512 :=
  shapeCast _ (transpose S64x129x8x64 [0, 2, 1, 3] (Host.dotGeneral dot_S64x8x129x129_S64x8x129x64_S64x8x129x64_3_2_2_3_01_01 none (pv (ev (sv q))) (vv q)) transposes_S64x8x129x64_S64x129x8x64_0_2_1_3) shapeCasts_S64x129x8x64_S64x129x512

/-- The tokens after the attention, the fused projection given. -/
def midv (x : A S64x129x256) (q : A S64x129x1536) (wo : A S512x256) (bo : A S256) : A S64x129x256 :=
  addf x (addf (Host.dotGeneral dot_S64x129x512_S512x256_S64x129x256_2_0_01_1_n_n none (ov q) wo) (alongRows bo))

/-- The feed-forward part's first product. -/
def upv (h : A S64x129x256) (w : A S256x512) (b : A S512) : A S64x129x512 :=
  addf (Host.dotGeneral dot_S64x129x256_S256x512_S64x129x512_2_0_01_1_n_n none h w) (broadcastInDim S64x129x512 ![0, 1, 2] bcast_S1x1x512_S64x129x512_0_1_2 (broadcastInDim S1x1x512 ![2] bcast_S512_S1x1x512_2 b))

/-- The exact activation. -/
def actv (a : A S64x129x512) : A S64x129x512 :=
  mulf (mulf (broadcastInDim S64x129x512 ![] bcast_S_S64x129x512 (constant S_ .f32 0x3F000000#32)) a) (Host.erfc (mulf (Host.negf a) (broadcastInDim S64x129x512 ![] bcast_S_S64x129x512 (constant S_ .f32 0x3F3504F3#32))))

/-- The feed-forward part's second product, with the residual. -/
def downv (x : A S64x129x256) (a : A S64x129x512) (w : A S512x256) (b : A S256) : A S64x129x256 :=
  addf x (addf (Host.dotGeneral dot_S64x129x512_S512x256_S64x129x256_2_0_01_1_n_n none a w) (alongRows b))

section Values
variable {x : A S64x129x256} {X : Fin 64 → Fin 129 → Fin 256 → ℝ}

/-- The reference's row mean is the mean of the real row. -/
theorem mu_at (hx : ∀ b n d, x (ix3 b n d) = (X b n d : EReal)) (b : Fin 64) (n : Fin 129) :
    mu x (ix3 b n 0) = (mean (X b n) : EReal) := by
  pointwise [mu]
  simp only [hx, coe_sum, word_256]
  exact coe_div _ _ (by norm_num)

/-- The reference's centred row is the real row less its mean. -/
theorem cen_at (hx : ∀ b n d, x (ix3 b n d) = (X b n d : EReal)) (b : Fin 64) (n : Fin 129) (d : Fin 256) :
    cen x (ix3 b n d) = ((X b n d - mean (X b n) : ℝ) : EReal) := by
  pointwise [cen]
  rw [mu_at hx, hx, EReal.coe_sub]

/-- The number that the reference divides a sum of squares by is 256. -/
theorem dof_at : dof ix0 = ((256 : ℝ) : EReal) := by
  have h0 : (FloatOps.sitofp .f32 0#32 : Ideal .f32) = ((0 : ℝ) : EReal) := by
    show (((((0#32 : BitVec 32).toInt : ℝ)) : EReal)) = _
    simp
  pointwise [dof]
  rw [h0, word_256, ← EReal.coe_sub, sub_zero]

/-- The reference's row variance is the variance of the real row. -/
theorem vr_at (hx : ∀ b n d, x (ix3 b n d) = (X b n d : EReal)) (b : Fin 64) (n : Fin 129) :
    vr x (ix3 b n 0) = (var (X b n) : EReal) := by
  pointwise [vr]
  rw [dof_at, if_pos (by exact_mod_cast (by norm_num : (0 : ℝ) < 256))]
  simp only [cen_at hx, ← EReal.coe_mul, coe_sum]
  exact coe_div _ _ (by norm_num)

/-- A vector repeated along the rows reads the same in every row. -/
theorem along_at (g : A S256) (b : Fin 64) (n : Fin 129) (d : Fin 256) : alongRows g (ix3 b n d) = g (ix1 d) := by
  pointwise [alongRows]

/-- The reference's layer norm of a real row is the model's. -/
theorem lnv_at (hx : ∀ b n d, x (ix3 b n d) = (X b n d : EReal)) {g c : A S256} {G C : Fin 256 → ℝ}
    (hg : ∀ d, g (ix1 d) = (G d : EReal)) (hc : ∀ d, c (ix1 d) = (C d : EReal)) (b : Fin 64) (n : Fin 129) (d : Fin 256) :
    lnv x g c (ix3 b n d) = (ln G C (X b n) d : EReal) := by
  pointwise [lnv]
  rw [along_at, along_at, hg, hc, cen_at hx, vr_at hx, word_eps, ← EReal.coe_add, coe_sqrt _ (var_eps_pos _).le,
    coe_div _ _ (sd_ne _), ← EReal.coe_mul, ← EReal.coe_add]
  rfl

/-- The reference's product for the queries, keys and values is the sum over the real row. -/
theorem qkvv_at {h : A S64x129x256} {H : Fin 64 → Fin 129 → Fin 256 → ℝ} (hh : ∀ b n d, h (ix3 b n d) = (H b n d : EReal))
    {w : A S256x1536} {W : Fin 256 → Fin 1536 → ℝ} (hw : ∀ c e, w (ix2 c e) = (W c e : EReal)) (b : Fin 64) (n : Fin 129)
    (e : Fin 1536) : qkvv h w (ix3 b n e) = ((∑ c, H b n c * W c e : ℝ) : EReal) := by
  pointwise [qkvv]
  simp only [hh, hw, ← EReal.coe_mul, coe_sum]

variable {q : A S64x129x1536} {Q : Fin 64 → Fin 129 → Fin 1536 → ℝ}

/-- The reference's score of two tokens is the model's. -/
theorem sv_at (hq : ∀ b n e, q (ix3 b n e) = (Q b n e : EReal)) (b : Fin 64) (h : Fin 8) (i j : Fin 129) :
    sv q (ix4 b h i j) = (score (Q b) h i j : EReal) := by
  pointwise [sv, qv, kv]
  simp only [hq, word_eighth, ← EReal.coe_mul, coe_sum]
  simp only [score, col, Nat.zero_add]

/-- The greatest of a nonempty list of real numbers, from minus infinity or a real number, is real. -/
theorem foldl_max_real (l : List EReal) (hl : ∀ a ∈ l, ∃ r : ℝ, a = (r : EReal)) (z : EReal)
    (hz : (z = ⊥ ∧ l ≠ []) ∨ ∃ r : ℝ, z = (r : EReal)) : ∃ r : ℝ, l.foldl max z = (r : EReal) := by
  induction l generalizing z with
  | nil =>
    rcases hz with ⟨_, h⟩ | h
    · exact absurd rfl h
    · exact h
  | cons a l ih =>
    obtain ⟨r, hr⟩ := hl a (by simp)
    refine ih (fun a ha => hl a (by simp [ha])) _ (Or.inr ?_)
    rcases hz with ⟨rfl, _⟩ | ⟨s, rfl⟩
    · exact ⟨r, by rw [hr, max_eq_right bot_le]⟩
    · exact ⟨max s r, by rw [hr]; exact (EReal.coe_strictMono.monotone.map_max (a := s) (b := r)).symm⟩

/-- The reduction by the greater of real numbers from minus infinity is real where something reduces. -/
theorem reduce_max_real {s t u : Shape} {axes : List (Fin s.rank)} (y : s.Idx → Ideal .f32) (init : u.Idx → Ideal .f32)
    (h : s.ReducesTo axes t) (hu : 0 < u.numel) (hy : ∀ i, ∃ r : ℝ, y i = (r : EReal)) (hi : ∀ i, init i = ⊥) (j : t.Idx)
    (i : s.Idx) (hj : h.drop i = j) : ∃ r : ℝ, Host.reduce FloatOps.maximumf y init h hu j = (r : EReal) := by
  have e : Host.reduce FloatOps.maximumf y init h hu j
      = (((List.finRange s.numel).filter fun n => h.drop (s.rowMajor.symm n) = j).map fun n => y (s.rowMajor.symm n)).foldl max
        (init (Shape.Idx.first hu)) := by
    rw [List.foldl_map]; rfl
  rw [e]
  refine foldl_max_real _ (fun a ha => ?_) _ (Or.inl ⟨hi _, fun hn => ?_⟩)
  · obtain ⟨n, -, rfl⟩ := List.mem_map.mp ha
    exact hy _
  · have hm : s.rowMajor i ∈ (List.finRange s.numel).filter fun n => h.drop (s.rowMajor.symm n) = j := by
      simp [hj]
    rw [List.map_eq_nil_iff] at hn
    rw [hn] at hm
    exact absurd hm (by simp)

/-- The greater of minus infinity and a real number is real. -/
theorem max_bot_real {s : Shape} (a c : s.Idx → Ideal .f32) (i : s.Idx) (ha : a i = ⊥) (hc : ∃ r : ℝ, c i = (r : EReal)) :
    ∃ r : ℝ, (maximumf a c : FVec Ideal s .f32) i = (r : EReal) := by
  obtain ⟨r, hr⟩ := hc
  exact ⟨r, by show max (a i) (c i) = _; rw [ha, hr, max_eq_right bot_le]⟩

/-- Dropping the last coordinate of an index of the scores leaves the first three. -/
theorem drop_last (b : Fin 64) (h : Fin 8) (i : Fin 129) (k : Fin 129) :
    Shape.ReducesTo.drop reducesTo_S64x8x129x129_S64x8x129_d3 (ix4 b h i k) = ix3 b h i := by
  funext a
  apply Fin.ext
  match a with
  | 0 => rfl
  | 1 => rfl
  | 2 => rfl

/-- The greatest score of a row of real scores is a real number. -/
theorem mx_real {s : A S64x8x129x129} (hs : ∀ i, ∃ r : ℝ, s i = (r : EReal)) (b : Fin 64) (h : Fin 8) (i : Fin 129) :
    ∃ r : ℝ, mx s (ix3 b h i) = (r : EReal) := by
  unfold mx
  exact max_bot_real _ _ _ word_bot (reduce_max_real s (constant S_ .f32 0xFF800000#32) reducesTo_S64x8x129x129_S64x8x129_d3 h_S_ hs
    (fun _ => word_bot) (ix3 b h i) (ix4 b h i 0) (drop_last b h i 0))

/-- The reference's exponentials of a row are those of the scores less one real number. -/
theorem ev_at {s : A S64x8x129x129} {S : Fin 64 → Fin 8 → Fin 129 → Fin 129 → ℝ}
    (hs : ∀ b h i j, s (ix4 b h i j) = (S b h i j : EReal)) (b : Fin 64) (h : Fin 8) (i : Fin 129) :
    ∃ m : ℝ, ∀ j, ev s (ix4 b h i j) = (Real.exp (S b h i j - m) : EReal) := by
  obtain ⟨m, hm⟩ := mx_real (s := s) (fun k => by
    rw [eq_ix4 k]; exact ⟨_, hs _ _ _ _⟩) b h i
  refine ⟨m, fun j => ?_⟩
  pointwise [ev]
  rw [hm, hs, ← EReal.coe_sub, coe_exp]

/-- A sum of exponentials over a nonempty set is not zero. -/
theorem exp_sum_ne {ι : Type} [Fintype ι] [Nonempty ι] (f : ι → ℝ) : ∑ k, Real.exp (f k) ≠ 0 :=
  (Finset.sum_pos (fun k _ => Real.exp_pos _) Finset.univ_nonempty).ne'

/-- The reference's attention output is the model's. -/
theorem ov_at (hq : ∀ b n e, q (ix3 b n e) = (Q b n e : EReal)) (b : Fin 64) (i : Fin 129) (e : Fin 512) :
    ov q (ix3 b i e) = (heads (Q b) i e : EReal) := by
  obtain ⟨m, hm⟩ := ev_at (sv_at hq) b ⟨e.val / 64, by omega⟩ i
  pointwise [ov, vv, pv]
  simp only [hm, hq, coe_sum]
  simp only [coe_div _ _ (exp_sum_ne _), ← EReal.coe_mul, coe_sum]
  rw [shifted_softmax]
  have hc : (⟨1024 + e.val, by omega⟩ : Fin 1536) = col 1024 (by omega) ⟨e.val / 64, by omega⟩ ⟨e.val % 64, Nat.mod_lt _ (by omega)⟩ :=
    Fin.ext (by show 1024 + e.val = 1024 + (e.val / 64 * 64 + e.val % 64); omega)
  unfold heads att
  rw [← hc]

/-- The reference's output projection of the attention with its residual is the model's. -/
theorem midv_at (hx : ∀ b n d, x (ix3 b n d) = (X b n d : EReal)) (hq : ∀ b n e, q (ix3 b n e) = (Q b n e : EReal))
    {wo : A S512x256} {WO : Fin 512 → Fin 256 → ℝ} (hw : ∀ e d, wo (ix2 e d) = (WO e d : EReal))
    {bo : A S256} {BO : Fin 256 → ℝ} (hb : ∀ d, bo (ix1 d) = (BO d : EReal)) (b : Fin 64) (i : Fin 129) (d : Fin 256) :
    midv x q wo bo (ix3 b i d) = ((X b i d + ((∑ e, heads (Q b) i e * WO e d) + BO d) : ℝ) : EReal) := by
  pointwise [midv]
  simp only [along_at, ov_at hq, hx, hw, hb, ← EReal.coe_mul, coe_sum, ← EReal.coe_add]

/-- The reference's first feed-forward product with its offset is the sum over the real row. -/
theorem upv_at {h : A S64x129x256} {H : Fin 64 → Fin 129 → Fin 256 → ℝ} (hh : ∀ b n d, h (ix3 b n d) = (H b n d : EReal))
    {w : A S256x512} {W : Fin 256 → Fin 512 → ℝ} (hw : ∀ c e, w (ix2 c e) = (W c e : EReal))
    {c : A S512} {C : Fin 512 → ℝ} (hc : ∀ d, c (ix1 d) = (C d : EReal)) (b : Fin 64) (n : Fin 129) (e : Fin 512) :
    upv h w c (ix3 b n e) = (((∑ k, H b n k * W k e) + C e : ℝ) : EReal) := by
  pointwise [upv]
  simp only [hh, hw, hc, ← EReal.coe_mul, coe_sum, ← EReal.coe_add]

/-- The reference's activation of a real number is the model's. -/
theorem actv_at {a : A S64x129x512} {B : Fin 64 → Fin 129 → Fin 512 → ℝ} (ha : ∀ b n e, a (ix3 b n e) = (B b n e : EReal))
    (b : Fin 64) (n : Fin 129) (e : Fin 512) : actv a (ix3 b n e) = (gelu (B b n e) : EReal) := by
  pointwise [actv]
  rw [ha, word_half, word_half2, ← EReal.coe_neg, ← EReal.coe_mul, ← EReal.coe_mul,
    show -B b n e * half2 = -(B b n e * half2) by ring, EReal.coe_neg, Ideal.erfc_neg, coe_erf, ← EReal.coe_one,
    ← EReal.coe_add, ← EReal.coe_mul]
  unfold gelu
  congr 1
  ring

/-- The reference's second feed-forward product with its residual is the model's. -/
theorem downv_at (hx : ∀ b n d, x (ix3 b n d) = (X b n d : EReal))
    {a : A S64x129x512} {B : Fin 64 → Fin 129 → Fin 512 → ℝ} (ha : ∀ b n e, a (ix3 b n e) = (B b n e : EReal))
    {w : A S512x256} {W : Fin 512 → Fin 256 → ℝ} (hw : ∀ e d, w (ix2 e d) = (W e d : EReal))
    {c : A S256} {C : Fin 256 → ℝ} (hc : ∀ d, c (ix1 d) = (C d : EReal)) (b : Fin 64) (i : Fin 129) (d : Fin 256) :
    downv x a w c (ix3 b i d) = ((X b i d + ((∑ e, B b i e * W e d) + C d) : ℝ) : EReal) := by
  pointwise [downv]
  simp only [along_at, ha, hx, hw, hc, ← EReal.coe_mul, coe_sum, ← EReal.coe_add]

end Values

/-- The reference's weights of one layer, as arrays. -/
structure Weights where
  wqkv : A S256x1536
  wo : A S512x256
  bo : A S256
  g1 : A S256
  be1 : A S256
  w1 : A S256x512
  b1 : A S512
  w2 : A S512x256
  b2 : A S256
  g2 : A S256
  be2 : A S256

/-- The arrays hold the real weights. -/
structure Weights.Real (w : Weights) (W : LayerW) : Prop where
  wqkv : ∀ c e, w.wqkv (ix2 c e) = (W.wqkv c e : EReal)
  wo : ∀ c e, w.wo (ix2 c e) = (W.wo c e : EReal)
  bo : ∀ d, w.bo (ix1 d) = (W.bo d : EReal)
  g1 : ∀ d, w.g1 (ix1 d) = (W.g1 d : EReal)
  be1 : ∀ d, w.be1 (ix1 d) = (W.be1 d : EReal)
  w1 : ∀ c e, w.w1 (ix2 c e) = (W.w1 c e : EReal)
  b1 : ∀ d, w.b1 (ix1 d) = (W.b1 d : EReal)
  w2 : ∀ c e, w.w2 (ix2 c e) = (W.w2 c e : EReal)
  b2 : ∀ d, w.b2 (ix1 d) = (W.b2 d : EReal)
  g2 : ∀ d, w.g2 (ix1 d) = (W.g2 d : EReal)
  be2 : ∀ d, w.be2 (ix1 d) = (W.be2 d : EReal)

/-- The tokens after the attention. -/
def attnStep (w : Weights) (x : A S64x129x256) : A S64x129x256 :=
  midv x (qkvv (lnv x w.g1 w.be1) w.wqkv) w.wo w.bo

/-- The tokens after the feed-forward part. -/
def ffnStep (w : Weights) (x : A S64x129x256) : A S64x129x256 :=
  downv x (actv (upv (lnv x w.g2 w.be2) w.w1 w.b1)) w.w2 w.b2

/-- One layer. -/
def layerv (w : Weights) (x : A S64x129x256) : A S64x129x256 := ffnStep w (attnStep w x)

/-- A layer of the reference on real tokens is the model's layer, image by image. -/
theorem layerv_at {w : Weights} {W : LayerW} (hw : w.Real W) {x : A S64x129x256} {X : Fin 64 → Fin 129 → Fin 256 → ℝ}
    (hx : ∀ b n d, x (ix3 b n d) = (X b n d : EReal)) (b : Fin 64) (n : Fin 129) (d : Fin 256) :
    layerv w x (ix3 b n d) = (layer W (X b) n d : EReal) := by
  have hm : ∀ b n d, attnStep w x (ix3 b n d) = (mid W (X b) n d : EReal) := fun b n d =>
    midv_at hx (Q := fun b => qkv W (X b)) (fun b n e => qkvv_at (lnv_at hx hw.g1 hw.be1) hw.wqkv b n e) hw.wo hw.bo b n d
  exact downv_at hm (actv_at (upv_at (lnv_at hm hw.g2 hw.be2) hw.w1 hw.b1)) hw.w2 hw.b2 b n d

end Cert.ReferenceIdeal.Layer

end
-- ==== Proof.KerModel.lean ====
/- What the kernel's body computes at one grid point, as functions of the vectors it loads: the pieces it stores in its
   scratch buffers, image by image and head by head, and the values it makes of them. -/
module

public import proofs.«01_k».proof.Proof.Gen.KernelIdeal.Frame
public import proofs.«01_k».proof.Proof.RefLayer

@[expose] public section

set_option maxRecDepth 16384

noncomputable section

namespace Cert.KernelIdeal.Body

open Cert.KernelIdeal Cert.KernelIdeal.Gen Idealize.ShloMosaic Idealize.ShloMosaic.Tactic

variable {F : FTy → Type} [FloatOps F] [Named F]

/-- The vectors the body loads: the image `g` of a block, the weights of a layer `l`, and what is loaded once. -/
structure Loads (F : FTy → Type) where
  x : Nat → Vec F S1x128x1089 .f32
  wsp : Vec F S1089x128 .bf16
  pe : Vec F S128x256 .f32
  peLast : Vec F S1x256 .f32
  ew : Vec F S128x256 .bf16
  eb : Vec F S1x256 .f32
  cls : Vec F S1x256 .f32
  wqkv : Nat → Vec F S1x256x1536 .bf16
  wo : Nat → Vec F S1x512x256 .bf16
  bo : Nat → Vec F S1x1x256 .f32
  g1 : Nat → Vec F S1x1x256 .f32
  be1 : Nat → Vec F S1x1x256 .f32
  w1 : Nat → Vec F S1x256x512 .bf16
  b1 : Nat → Vec F S1x1x512 .f32
  w2 : Nat → Vec F S1x512x256 .bf16
  b2 : Nat → Vec F S1x1x256 .f32
  g2 : Nat → Vec F S1x1x256 .f32
  be2 : Nat → Vec F S1x1x256 .f32
  hg : Vec F S1x256 .f32
  hb : Vec F S1x256 .f32
  wh : Vec F S256x128 .f32
  bh : Vec F S1x128 .f32

/-- A scalar word at every index. -/
abbrev splat (s : Shape) (w : BitVec 32) : FVec F s .f32 := broadcast s (Scalar.ofBits .f32 w : F .f32)

/-! ## The tokens -/

/-- The embedded tokens of image `g`. -/
def embedded (w : Loads F) (g : Nat) : FVec F S128x256 .f32 :=
  shapeCast S128x256 (addf (addf (matmul dot_S128x128_S128x256_S128x256_1_0_0_1_n_n none (truncf .bf16 (transpose S128x128 [1, 0] (matmul dot_S128x1089_S1089x128_S128x128_1_0_0_1_n_n none (truncf .bf16 (shapeCast S128x1089 (w.x g) shapeCasts_S1x128x1089_S128x1089 : FVec F S128x1089 .f32) bitsLt_bf16_f32) (shapeCast S1089x128 w.wsp shapeCasts_S1089x128_S1089x128 : FVec F S1089x128 .bf16) (constant S128x128 .f32 0x00000000#32)) transposes_S128x128_p1_0_S128x128 : FVec F S128x128 .f32) bitsLt_bf16_f32) (shapeCast S128x256 w.ew shapeCasts_S128x256_S128x256 : FVec F S128x256 .bf16) (constant S128x256 .f32 0x00000000#32)) (broadcastTo S128x256 (shapeCast S1x256 w.eb shapeCasts_S1x256_S1x256) broadcasts_S1x256_S128x256)) w.pe) shapeCasts_S128x256_S128x256

/-- The class token. -/
def clsRow (w : Loads F) : FVec F S1x256 .f32 :=
  shapeCast S1x256 (addf (shapeCast S1x256 w.cls shapeCasts_S1x256_S1x256) w.peLast) shapeCasts_S1x256_S1x256

/-- The padding rows. -/
def padRows : FVec F S7x256 .f32 := shapeCast S7x256 (splat S7x256 0x00000000#32) shapeCasts_S7x256_S7x256

/-- The rows of an image's patch tokens lie in the token buffer. -/
theorem inb_tok (g : Nat) : ∀ a, (![136 * (g % 8), 0] : Fin 2 → Nat) a + S128x256.size a ≤ S1088x256.size a := by
  intro a; fin_cases a <;> simp <;> omega

/-- The row of an image's class token lies in the token buffer. -/
theorem inb_cls (g : Nat) : ∀ a, (![136 * (g % 8) + 128, 0] : Fin 2 → Nat) a + S1x256.size a ≤ S1088x256.size a := by
  intro a; fin_cases a <;> simp <;> omega

/-- The padding rows of an image lie in the token buffer. -/
theorem inb_pad (g : Nat) : ∀ a, (![136 * (g % 8) + 129, 0] : Fin 2 → Nat) a + S7x256.size a ≤ S1088x256.size a := by
  intro a; fin_cases a <;> simp <;> omega

/-- The stores into the token scratch of the first `n` images, the last first. -/
def tokPieces (w : Loads F) (n : Nat) : List (View.Piece (Elt F) S1088x256 .f32) :=
  Nat.rec (motive := fun _ => List (View.Piece (Elt F) S1088x256 .f32)) []
    (fun g L => ⟨Rect.unit ![136 * (g % 8) + 129, 0] S7x256.size (inb_pad g), padRows⟩ :: ⟨Rect.unit ![136 * (g % 8) + 128, 0] S1x256.size (inb_cls g), clsRow w⟩ :: ⟨Rect.unit ![136 * (g % 8), 0] S128x256.size (inb_tok g), embedded w g⟩ :: L) n

/-! ## A layer -/

/-- The row mean as a column. -/
def muK (x : FVec F S1088x256 .f32) : FVec F S1088x1 .f32 :=
  divf (shapeCast S1088x1 (multiReduction .add [1] S1088 x 0x00000000#32 reduces_S1088x256_S1088 (.inl rfl) rfl : FVec F S1088 .f32) shapeCasts_S1088_S1088x1) (splat S1088x1 0x43800000#32)

/-- Every row less its mean. -/
def cenK (x : FVec F S1088x256 .f32) : FVec F S1088x256 .f32 :=
  subf x (broadcastTo S1088x256 (muK x) broadcasts_S1088x1_S1088x256)

/-- A one-row vector along every row. -/
def rowsK (g : Vec F S1x1x256 .f32) : FVec F S1088x256 .f32 :=
  broadcastTo S1088x256 (shapeCast S1x256 g shapeCasts_S1x1x256_S1x256 : FVec F S1x256 .f32) broadcasts_S1x256_S1088x256

/-- The layer norm of every row. -/
def lnK (x : FVec F S1088x256 .f32) (g b : Vec F S1x1x256 .f32) : FVec F S1088x256 .f32 :=
  addf (mulf (mulf (cenK x) (broadcastTo S1088x256 (rsqrt (addf (muK (mulf (cenK x) (cenK x))) (splat S1088x1 0x3727C5AC#32))) broadcasts_S1088x1_S1088x256)) (rowsK g)) (rowsK b)

/-- The queries, keys and values of every row. -/
def qkvK (h : FVec F S1088x256 .f32) (w : Vec F S1x256x1536 .bf16) : FVec F S1088x1536 .f32 :=
  matmul dot_S1088x256_S256x1536_S1088x1536_1_0_0_1_n_n none (truncf .bf16 h bitsLt_bf16_f32) (shapeCast S256x1536 w shapeCasts_S1x256x1536_S256x1536 : FVec F S256x1536 .bf16) (constant S1088x1536 .f32 0x00000000#32)

/-- The block of one image and one head lies in the fused projection. -/
theorem inb_slice (o k : Nat) (ho : o ≤ 1024) : S1088x1536.Slices ![136 * (k / 8 % 8), o + 64 * (k % 8)] S136x64 := by
  refine ⟨rfl, fun a => ?_⟩
  fin_cases a <;> simp <;> omega

/-- The head's block of image `k / 8`, head `k % 8`, in the columns from `o` on. -/
def blk (o : Nat) (ho : o ≤ 1024) (q : FVec F S1088x1536 .f32) (k : Nat) : FVec F S136x64 .f32 :=
  extractStridedSlice S136x64 ![136 * (k / 8 % 8), o + 64 * (k % 8)] q (inb_slice o k ho)

/-- The values of a head. -/
def vals (q : FVec F S1088x1536 .f32) (k : Nat) : FVec F S136x64 .bf16 :=
  shapeCast S136x64 (truncf .bf16 (blk 1024 (by omega) q k) bitsLt_bf16_f32) shapeCasts_S136x64_S136x64

/-- The exponentials of a head's scores. -/
def expo (q : FVec F S1088x1536 .f32) (k : Nat) : FVec F S136x136 .f32 :=
  exp (addf (matmul dot_S136x64_S136x64_S136x136_1_1_0_0_n_n none (truncf .bf16 (mulf (blk 0 (by omega) q k) (splat S136x64 0x3E000000#32)) bitsLt_bf16_f32) (truncf .bf16 (blk 512 (by omega) q k) bitsLt_bf16_f32) (constant S136x136 .f32 0x00000000#32)) (broadcastTo S136x136 (k0_pay32 : FVec F S1x136 .f32) broadcasts_S1x136_S136x136))

/-- The exponentials against the values and the column of ones. -/
def sums (q : FVec F S1088x1536 .f32) (k : Nat) (v : Vec F S136x128 .bf16) : FVec F S136x128 .f32 :=
  matmul dot_S136x136_S136x128_S136x128_1_0_0_1_n_n none (truncf .bf16 (expo q k) bitsLt_bf16_f32) (v : FVec F S136x128 .bf16) (constant S136x128 .f32 0x00000000#32)

/-- A head's result. -/
def headK (q : FVec F S1088x1536 .f32) (k : Nat) (v : Vec F S136x128 .bf16) : FVec F S136x64 .f32 :=
  shapeCast S136x64 (divf (extractStridedSlice S136x64 ![0, 0] (sums q k v) slices_S136x128_o0_0_S136x64) (broadcastTo S136x64 (extractStridedSlice S136x1 ![0, 64] (sums q k v) slices_S136x128_o0_64_S136x1 : FVec F S136x1 .f32) broadcasts_S136x1_S136x64)) shapeCasts_S136x64_S136x64

/-- The column of ones, stored first. -/
def ones : List (View.Piece (Elt F) S136x128 .bf16) :=
  [⟨Rect.unit ![0, 0] S136x128.size inb_S136x128_S136x128_0_0, (shapeCast S136x128 (truncf .bf16 (select (cmpi .eq (iota .tc S136x128 32 [1] iota_S136x128_d1_w32) (broadcast S136x128 64#32)) (splat S136x128 0x3F800000#32) (splat S136x128 0x00000000#32) : FVec F S136x128 .f32) bitsLt_bf16_f32) shapeCasts_S136x128_S136x128 : FVec F S136x128 .bf16)⟩]

/-- The stores of the first `n` heads' values over earlier stores `B`. -/
def valPieces (q : FVec F S1088x1536 .f32) (B : List (View.Piece (Elt F) S136x128 .bf16)) (n : Nat) :
    List (View.Piece (Elt F) S136x128 .bf16) :=
  Nat.rec (motive := fun _ => List (View.Piece (Elt F) S136x128 .bf16)) B
    (fun k L => ⟨Rect.unit ![0, 0] S136x64.size inb_S136x128_S136x64_0_0, vals q k⟩ :: L) n

/-- The block of one image and one head lies in the buffer of attention outputs. -/
theorem inb_head (k : Nat) : ∀ a, (![136 * (k / 8 % 8), 64 * (k % 8)] : Fin 2 → Nat) a + S136x64.size a ≤ S1088x512.size a := by
  intro a; fin_cases a <;> simp <;> omega

/-- The stores of the first `n` heads' results over earlier stores `C`. -/
def headPieces (va : Memref sig .tc .vmem S136x128 .bf16) (q : FVec F S1088x1536 .f32)
    (B : List (View.Piece (Elt F) S136x128 .bf16)) (C : List (View.Piece (Elt F) S1088x512 .f32)) (n : Nat) :
    List (View.Piece (Elt F) S1088x512 .f32) :=
  Nat.rec (motive := fun _ => List (View.Piece (Elt F) S1088x512 .f32)) C
    (fun k L => ⟨Rect.unit ![136 * (k / 8 % 8), 64 * (k % 8)] S136x64.size (inb_head k), headK q k (va.view.readCov (valPieces q B (k + 1)) (Rect.unit ![0, 0] S136x128.size inb_S136x128_S136x128_0_0).toLoadRect)⟩ :: L) n

/-- The residual stream after attention. -/
def midK (x : FVec F S1088x256 .f32) (o : Vec F S1088x512 .f32) (wo : Vec F S1x512x256 .bf16) (bo : Vec F S1x1x256 .f32) : FVec F S1088x256 .f32 :=
  addf (addf x (matmul dot_S1088x512_S512x256_S1088x256_1_0_0_1_n_n none (truncf .bf16 (o : FVec F S1088x512 .f32) bitsLt_bf16_f32) (shapeCast S512x256 wo shapeCasts_S1x512x256_S512x256 : FVec F S512x256 .bf16) (constant S1088x256 .f32 0x00000000#32))) (rowsK bo)

/-- The hidden units before their activation. -/
def upK (h : FVec F S1088x256 .f32) (w1 : Vec F S1x256x512 .bf16) (b1 : Vec F S1x1x512 .f32) : FVec F S1088x512 .f32 :=
  addf (matmul dot_S1088x256_S256x512_S1088x512_1_0_0_1_n_n none (truncf .bf16 h bitsLt_bf16_f32) (shapeCast S256x512 w1 shapeCasts_S1x256x512_S256x512 : FVec F S256x512 .bf16) (constant S1088x512 .f32 0x00000000#32)) (broadcastTo S1088x512 (shapeCast S1x512 b1 shapeCasts_S1x1x512_S1x512 : FVec F S1x512 .f32) broadcasts_S1x512_S1088x512)

/-- The activation. -/
def actK (a : FVec F S1088x512 .f32) : FVec F S1088x512 .f32 :=
  mulf (mulf a (splat S1088x512 0x3F000000#32)) (addf (splat S1088x512 0x3F800000#32) (erf (mulf a (splat S1088x512 0x3F3504F3#32))))

/-- The residual stream after the hidden units. -/
def downK (y : FVec F S1088x256 .f32) (a : FVec F S1088x512 .f32) (w2 : Vec F S1x512x256 .bf16) (b2 : Vec F S1x1x256 .f32) : FVec F S1088x256 .f32 :=
  addf (addf y (matmul dot_S1088x512_S512x256_S1088x256_1_0_0_1_n_n none (truncf .bf16 a bitsLt_bf16_f32) (shapeCast S512x256 w2 shapeCasts_S1x512x256_S512x256 : FVec F S512x256 .bf16) (constant S1088x256 .f32 0x00000000#32))) (rowsK b2)

/-- A layer's queries, keys and values from the stream before it. -/
def qkvOf (w : Loads F) (l : Nat) (x : FVec F S1088x256 .f32) : FVec F S1088x1536 .f32 :=
  qkvK (lnK x (w.g1 l) (w.be1 l)) (w.wqkv l)

/-- The second half of a layer. -/
def ffnK (w : Loads F) (l : Nat) (y : FVec F S1088x256 .f32) : FVec F S1088x256 .f32 :=
  downK y (actK (upK (lnK y (w.g2 l) (w.be2 l)) (w.w1 l) (w.b1 l))) (w.w2 l) (w.b2 l)

/-- The stream, the stores into the values' scratch and those into the results' scratch. -/
structure St (F : FTy → Type) where
  x : FVec F S1088x256 .f32
  B : List (View.Piece (Elt F) S136x128 .bf16)
  C : List (View.Piece (Elt F) S1088x512 .f32)

/-- A layer. -/
def stepK (o : Memref sig .tc .vmem S1088x512 .f32) (va : Memref sig .tc .vmem S136x128 .bf16) (w : Loads F) (l : Nat) (s : St F) : St F :=
  ⟨ffnK w l (midK s.x (o.view.readCov (headPieces va (qkvOf w l s.x) s.B s.C 64) (Rect.unit ![0, 0] S1088x512.size inb_S1088x512_S1088x512_0_0).toLoadRect) (w.wo l) (w.bo l)),
    valPieces (qkvOf w l s.x) s.B 64, headPieces va (qkvOf w l s.x) s.B s.C 64⟩

/-- The tokens, before any layer. -/
def startK (t : Memref sig .tc .vmem S1088x256 .f32) (w : Loads F) : St F :=
  ⟨t.view.readCov (tokPieces w 8) (Rect.unit ![0, 0] S1088x256.size inb_S1088x256_S1088x256_0_0).toLoadRect, ones, []⟩

/-- The state after `n` layers. -/
def statesK (t : Memref sig .tc .vmem S1088x256 .f32) (o : Memref sig .tc .vmem S1088x512 .f32) (va : Memref sig .tc .vmem S136x128 .bf16) (w : Loads F) (n : Nat) : St F :=
  Nat.rec (motive := fun _ => St F) (startK t w) (fun l s => stepK o va w l s) n

/-! ## The pooled tokens and the head -/

/-- The rows of one image lie in the residual stream. -/
theorem inb_img (g : Nat) : S1088x256.Slices ![136 * (g % 8), 0] S136x256 := by
  refine ⟨rfl, fun a => ?_⟩
  fin_cases a <;> simp <;> omega

/-- The mean of an image's tokens. -/
def poolK (x : FVec F S1088x256 .f32) (g : Nat) : FVec F S1x256 .f32 :=
  shapeCast S1x256 (divf (shapeCast S1x256 (multiReduction .add [0] S256 (select (cmpi .slt (iota .tc S136x256 32 [0] iota_S136x256_d0_w32) (broadcast S136x256 129#32)) (extractStridedSlice S136x256 ![136 * (g % 8), 0] x (inb_img g)) (splat S136x256 0x00000000#32) : FVec F S136x256 .f32) 0x00000000#32 reduces_S136x256_S256 (.inl rfl) rfl : FVec F S256 .f32) shapeCasts_S256_S1x256) (splat S1x256 0x43010000#32)) shapeCasts_S1x256_S1x256

/-- The row of one image lies in the buffer of pooled tokens. -/
theorem inb_pool (g : Nat) : ∀ a, (![g % 8, 0] : Fin 2 → Nat) a + S1x256.size a ≤ S8x256.size a := by
  intro a; fin_cases a <;> simp <;> omega

/-- The stores of the first `n` images' means. -/
def poolPieces (x : FVec F S1088x256 .f32) (n : Nat) : List (View.Piece (Elt F) S8x256 .f32) :=
  Nat.rec (motive := fun _ => List (View.Piece (Elt F) S8x256 .f32)) []
    (fun g L => ⟨Rect.unit ![g % 8, 0] S1x256.size (inb_pool g), poolK x g⟩ :: L) n

/-- The mean of every image's row, as a column. -/
def muH (p : FVec F S8x256 .f32) : FVec F S8x1 .f32 :=
  divf (shapeCast S8x1 (multiReduction .add [1] S8 p 0x00000000#32 reduces_S8x256_S8 (.inl rfl) rfl : FVec F S8 .f32) shapeCasts_S8_S8x1) (splat S8x1 0x43800000#32)

/-- Every image's row less its mean. -/
def cenH (p : FVec F S8x256 .f32) : FVec F S8x256 .f32 :=
  subf p (broadcastTo S8x256 (muH p) broadcasts_S8x1_S8x256)

/-- Every image's row less its mean over its deviation. -/
def unitH (p : FVec F S8x256 .f32) : FVec F S8x256 .f32 :=
  mulf (cenH p) (broadcastTo S8x256 (rsqrt (addf (muH (mulf (cenH p) (cenH p))) (splat S8x1 0x3727C5AC#32))) broadcasts_S8x1_S8x256)

/-- The scores of every image. -/
def scores (w : Loads F) (p : FVec F S8x256 .f32) : FVec F S8x1x128 .f32 :=
  shapeCast S8x1x128 (addf (matmul dot_S8x256_S256x128_S8x128_1_0_0_1_n_n none (addf (mulf (unitH p) (broadcastTo S8x256 (shapeCast S1x256 w.hg shapeCasts_S1x256_S1x256 : FVec F S1x256 .f32) broadcasts_S1x256_S8x256)) (broadcastTo S8x256 (shapeCast S1x256 w.hb shapeCasts_S1x256_S1x256 : FVec F S1x256 .f32) broadcasts_S1x256_S8x256)) (shapeCast S256x128 w.wh shapeCasts_S256x128_S256x128 : FVec F S256x128 .f32) (constant S8x128 .f32 0x00000000#32)) (broadcastTo S8x128 (shapeCast S1x128 w.bh shapeCasts_S1x128_S1x128 : FVec F S1x128 .f32) broadcasts_S1x128_S8x128)) shapeCasts_S8x128_S8x1x128

/-- What the body stores in its output block. -/
def outK (t : Memref sig .tc .vmem S1088x256 .f32) (o : Memref sig .tc .vmem S1088x512 .f32) (p : Memref sig .tc .vmem S8x256 .f32) (va : Memref sig .tc .vmem S136x128 .bf16) (w : Loads F) : FVec F S8x1x128 .f32 :=
  scores w (p.view.readCov (poolPieces (statesK t o va w 4).x 8) (Rect.unit ![0, 0] S8x256.size inb_S8x256_S8x256_0_0).toLoadRect)

end Cert.KernelIdeal.Body
-- ==== Proof.KerLayer.lean ====
/- What one layer of the kernel computes at a token: the layer of the real model, whatever the padding rows hold. -/
module

public import proofs.«01_k».proof.Proof.KerModel

@[expose] public section

set_option maxRecDepth 16384

noncomputable section

namespace Cert.KernelIdeal.Body

open Cert.KernelIdeal Cert.KernelIdeal.Gen Idealize.ShloMosaic Idealize.ShloMosaic.Tactic Cert.Vit
open scoped BigOperators

/-- Row `i` of image `g`. -/
def row (g : Fin 8) (i : Fin 136) : Fin 1088 := ⟨136 * g.val + i.val, by omega⟩

/-- A token's row of an image. -/
def tok (i : Fin 129) : Fin 136 := ⟨i.val, by omega⟩

section Rows
variable {x : FVec Ideal S1088x256 .f32} {v : Fin 256 → ℝ} {r : Fin 1088}

/-- The row mean that the kernel computes is the mean of the real row. -/
theorem muK_at (hx : ∀ d, x (ix2 r d) = (v d : EReal)) : muK x (ix2 r 0) = (mean v : EReal) := by
  pointwise [muK]
  simp only [hx, coe_sum, word_256]
  exact coe_div _ _ (by norm_num)

/-- The centred row that the kernel computes is the real row less its mean. -/
theorem cenK_at (hx : ∀ d, x (ix2 r d) = (v d : EReal)) (d : Fin 256) :
    cenK x (ix2 r d) = ((v d - mean v : ℝ) : EReal) := by
  pointwise [cenK]
  rw [muK_at hx, hx, EReal.coe_sub]

/-- The row variance that the kernel computes is the variance of the real row. -/
theorem varK_at (hx : ∀ d, x (ix2 r d) = (v d : EReal)) : muK (mulf (cenK x) (cenK x)) (ix2 r 0) = (var v : EReal) :=
  muK_at (v := fun d => (v d - mean v) * (v d - mean v)) fun d => by
    pointwise
    rw [cenK_at hx, ← EReal.coe_mul]

/-- A one-row vector repeated along the rows reads the same in every row. -/
theorem rowsK_at (g : Vec Ideal S1x1x256 .f32) (r : Fin 1088) (d : Fin 256) : rowsK g (ix2 r d) = g (ix3 0 0 d) := by
  pointwise [rowsK]

/-- The kernel's layer norm of a real row is the model's layer norm. -/
theorem lnK_at (hx : ∀ d, x (ix2 r d) = (v d : EReal)) {g b : Vec Ideal S1x1x256 .f32} {G B : Fin 256 → ℝ}
    (hg : ∀ d, g (ix3 0 0 d) = (G d : EReal)) (hb : ∀ d, b (ix3 0 0 d) = (B d : EReal)) (d : Fin 256) :
    lnK x g b (ix2 r d) = (ln G B v d : EReal) := by
  pointwise [lnK]
  rw [rowsK_at, rowsK_at, hg, hb, cenK_at hx, varK_at hx, word_eps, ← EReal.coe_add, coe_rsqrt _ (var_eps_pos _),
    ← EReal.coe_mul, ← EReal.coe_mul, ← EReal.coe_add]
  simp only [ln, unitRow, div_eq_mul_inv]

/-- The kernel's product for the queries, keys and values is the sum over the real row. -/
theorem qkvK_at {h : FVec Ideal S1088x256 .f32} {H : Fin 256 → ℝ} (hh : ∀ d, h (ix2 r d) = (H d : EReal))
    {w : Vec Ideal S1x256x1536 .bf16} {W : Fin 256 → Fin 1536 → ℝ} (hw : ∀ c e, w (ix3 0 c e) = (W c e : EReal))
    (e : Fin 1536) : qkvK h w (ix2 r e) = ((∑ c, H c * W c e : ℝ) : EReal) := by
  pointwise [qkvK]
  simp only [hh, hw, ← EReal.coe_mul, coe_sum]

/-- The kernel's first feed-forward product with its offset is the sum over the real row. -/
theorem upK_at {h : FVec Ideal S1088x256 .f32} {H : Fin 256 → ℝ} (hh : ∀ d, h (ix2 r d) = (H d : EReal))
    {w : Vec Ideal S1x256x512 .bf16} {W : Fin 256 → Fin 512 → ℝ} (hw : ∀ c e, w (ix3 0 c e) = (W c e : EReal))
    {b : Vec Ideal S1x1x512 .f32} {B : Fin 512 → ℝ} (hb : ∀ e, b (ix3 0 0 e) = (B e : EReal)) (e : Fin 512) :
    upK h w b (ix2 r e) = (((∑ c, H c * W c e) + B e : ℝ) : EReal) := by
  pointwise [upK]
  simp only [hh, hw, hb, ← EReal.coe_mul, coe_sum, ← EReal.coe_add]

/-- The float word of one is the real number one. -/
theorem word_one : Ideal.ofBits .f32 0x3F800000#32 = ((1 : ℝ) : EReal) := by
  rw [word_pos 0x3F800000#32 17 0 (by decide) (by decide) (by decide) (by decide)]
  norm_num

/-- The kernel's activation of a real number is the model's. -/
theorem actK_at {a : FVec Ideal S1088x512 .f32} {A : Fin 512 → ℝ} (ha : ∀ e, a (ix2 r e) = (A e : EReal)) (e : Fin 512) :
    actK a (ix2 r e) = (gelu (A e) : EReal) := by
  pointwise [actK]
  simp only [ha, word_half, word_half2, ← EReal.coe_mul, coe_erf, ← EReal.coe_one, ← EReal.coe_add]
  rfl

/-- The kernel's second feed-forward product with its residual is the model's. -/
theorem downK_at {y : FVec Ideal S1088x256 .f32} (hy : ∀ d, y (ix2 r d) = (v d : EReal))
    {a : FVec Ideal S1088x512 .f32} {A : Fin 512 → ℝ} (ha : ∀ e, a (ix2 r e) = (A e : EReal))
    {w : Vec Ideal S1x512x256 .bf16} {W : Fin 512 → Fin 256 → ℝ} (hw : ∀ e d, w (ix3 0 e d) = (W e d : EReal))
    {b : Vec Ideal S1x1x256 .f32} {B : Fin 256 → ℝ} (hb : ∀ d, b (ix3 0 0 d) = (B d : EReal)) (d : Fin 256) :
    downK y a w b (ix2 r d) = ((v d + ((∑ e, A e * W e d) + B d) : ℝ) : EReal) := by
  pointwise [downK]
  simp only [rowsK_at, ha, hy, hw, hb, ← EReal.coe_mul, coe_sum, ← EReal.coe_add, add_assoc]

/-- The kernel's output projection of the attention with its residual is the model's. -/
theorem midK_at {o : Vec Ideal S1088x512 .f32} (hx : ∀ d, x (ix2 r d) = (v d : EReal))
    {O : Fin 512 → ℝ} (ho : ∀ e, o (ix2 r e) = (O e : EReal))
    {w : Vec Ideal S1x512x256 .bf16} {W : Fin 512 → Fin 256 → ℝ} (hw : ∀ e d, w (ix3 0 e d) = (W e d : EReal))
    {b : Vec Ideal S1x1x256 .f32} {B : Fin 256 → ℝ} (hb : ∀ d, b (ix3 0 0 d) = (B d : EReal)) (d : Fin 256) :
    midK x o w b (ix2 r d) = ((v d + ((∑ e, O e * W e d) + B d) : ℝ) : EReal) := by
  pointwise [midK]
  simp only [rowsK_at, ho, hx, hw, hb, ← EReal.coe_mul, coe_sum, ← EReal.coe_add, add_assoc]

end Rows

/-! ## Pieces read back -/

/-- The last store read at an index it holds. -/
theorem canon_hit {s : Shape} {e : EltTy} {off size : Fin s.rank → Nat} (inb : ∀ a, off a + size a ≤ s.size a)
    (w : (Rect.unit off size inb).shape.Idx → Elt Ideal e) (L : List (View.Piece (Elt Ideal) s e)) (y : s.Idx)
    (x : (Rect.unit off size inb).shape.Idx) (h : ∀ a, (y a).val = off a + (x a).val) :
    View.canon (⟨Rect.unit off size inb, w⟩ :: L) y = w x := by
  have hy : y = (Rect.unit off size inb).emb x := by
    funext a
    apply Fin.ext
    rw [h a, Rect.emb_apply]
    show _ = off a + 1 * _
    omega
  rw [hy]
  exact View.canon_cons_emb _ w L x

/-- The last store read at an index it does not hold: what the earlier ones left. -/
theorem canon_miss {s : Shape} {e : EltTy} {off size : Fin s.rank → Nat} (inb : ∀ a, off a + size a ≤ s.size a)
    (w : (Rect.unit off size inb).shape.Idx → Elt Ideal e) (L : List (View.Piece (Elt Ideal) s e)) (y : s.Idx) (a : Fin s.rank)
    (h : (y a).val < off a ∨ off a + size a ≤ (y a).val) : View.canon (⟨Rect.unit off size inb, w⟩ :: L) y = View.canon L y := by
  refine View.canon_cons_of_not_mem _ L fun hm => ?_
  obtain ⟨j, hj, e⟩ := (LoadRect.mem_set _).mp hm a
  change j < size a at hj
  change (y a).val = off a + 1 * j at e
  omega

/-! ## Attention -/

/-- A block of one image and one head reads the fused projection at that image's row and that head's column. -/
theorem blk_at (o : Nat) (ho : o ≤ 1024) (q : FVec Ideal S1088x1536 .f32) (g h : Fin 8) (i : Fin 136) (t : Fin 64) :
    blk o ho q (8 * g.val + h.val) (ix2 i t) = q (ix2 (row g i) (col o ho h t)) := by
  unfold blk extractStridedSlice
  congr 1
  funext a
  apply Fin.ext
  match a with
  | 0 => show 136 * ((8 * g.val + h.val) / 8 % 8) + i.val = 136 * g.val + i.val; omega
  | 1 => show o + 64 * ((8 * g.val + h.val) % 8) + t.val = o + (h.val * 64 + t.val); omega

/-- The kernel's comparison of a row number with the number of tokens is the comparison of natural numbers. -/
theorem lt129 (n : Nat) (hn : n < 136) :
    IntOp.cmpi CmpIPredicate.slt (BitVec.ofNat 32 n) 129#32 = if n < 129 then 1#1 else 0#1 := by
  have : ∀ n : Fin 136, IntOp.cmpi CmpIPredicate.slt (BitVec.ofNat 32 n.val) 129#32 = if n.val < 129 then 1#1 else 0#1 := by
    decide
  exact this ⟨n, hn⟩

/-- The mask is zero at a token and minus infinity at a padding row. -/
theorem mask_at (j : Fin 136) : (k0_pay32 : FVec Ideal S1x136 .f32) (ix2 0 j) = if j.val < 129 then 0 else ⊥ := by
  pointwise [k0_pay32]
  rw [lt129 _ j.isLt]
  split
  · exact if_pos rfl
  · exact if_neg (by decide)

/-- A sum over an image's rows whose padding terms vanish is the sum over its tokens. -/
theorem sum_rows (f : Fin 136 → EReal) (h : ∀ j, 129 ≤ j.val → f j = 0) : ∑ j, f j = ∑ j : Fin 129, f (tok j) := by
  refine (Fin.sum_univ_add (a := 129) (b := 7) f).trans ?_
  rw [Finset.sum_eq_zero (s := Finset.univ) (f := fun i : Fin 7 => f (Fin.natAdd 129 i)) fun i _ => h _ (by simp), add_zero]
  rfl

section Head
variable {q : FVec Ideal S1088x1536 .f32} {g : Fin 8} {Q : Fin 129 → Fin 1536 → ℝ}
  (hq : ∀ i e, q (ix2 (row g (tok i)) e) = (Q i e : EReal)) (h : Fin 8)
include hq

/-- Between two tokens the kernel's exponential is that of the model's score. -/
theorem expo_tok (i j : Fin 129) : expo q (8 * g.val + h.val) (ix2 (tok i) (tok j)) = (Real.exp (score Q h i j) : EReal) := by
  pointwise [expo]
  simp only [blk_at, hq, mask_at, word_eighth, ← EReal.coe_mul, coe_sum]
  rw [if_pos (show (tok j).val < 129 from j.isLt), add_zero, coe_exp]
  unfold score
  rw [Finset.sum_mul]
  congr 2
  exact Finset.sum_congr rfl fun t _ => by ring

omit hq in
/-- At a padding row the kernel's exponential is zero. -/
theorem expo_pad (i : Fin 136) (j : Fin 136) (hj : 129 ≤ j.val) (k : Nat) : expo q k (ix2 i j) = 0 := by
  pointwise [expo]
  rw [mask_at, if_neg (by omega), EReal.add_bot]
  rfl

/-- One head's output at a token is the model's attention, if the value buffer holds the values and a column of ones. -/
theorem headK_at {v : Vec Ideal S136x128 .bf16} (hv : ∀ (j : Fin 136) (t : Fin 64), v (ix2 j ⟨t.val, by omega⟩) = vals q (8 * g.val + h.val) (ix2 j t))
    (h1 : ∀ j : Fin 136, v (ix2 j 64) = 1) (i : Fin 129) (t : Fin 64) :
    headK q (8 * g.val + h.val) v (ix2 (tok i) t) = (att Q h i t : EReal) := by
  pointwise [headK, sums]
  rw [sum_rows _ fun j hj => by rw [expo_pad _ _ hj, zero_mul], sum_rows _ fun j hj => by rw [expo_pad _ _ hj, zero_mul]]
  have hval : ∀ j : Fin 129, v (ix2 (tok j) ⟨t.val, by omega⟩) = (Q j (col 1024 (by omega) h t) : EReal) := fun j => by
    rw [hv]
    pointwise [vals]
    rw [blk_at, hq]
  simp only [expo_tok hq, hval, h1, mul_one, ← EReal.coe_mul, coe_sum]
  exact coe_div _ _ (Finset.sum_pos (fun k _ => Real.exp_pos _) Finset.univ_nonempty).ne'

end Head

/-! ## The scratch of the values and of the results -/

/-- A load of a whole scratch buffer, read at an index. -/
theorem readCov_whole {n m : Nat} {e : EltTy} (v : View sig .tc .vmem ⟨2, ![n, m]⟩ e) (L : List (View.Piece (Elt Ideal) ⟨2, ![n, m]⟩ e))
    (inb : ∀ a, (![0, 0] : Fin 2 → Nat) a + (⟨2, ![n, m]⟩ : Shape).size a ≤ (⟨2, ![n, m]⟩ : Shape).size a) (i : Fin n) (j : Fin m) :
    v.readCov L (Rect.unit (s := ⟨2, ![n, m]⟩) ![0, 0] (⟨2, ![n, m]⟩ : Shape).size inb).toLoadRect (ix2 i j) = View.canon L (ix2 i j) := by
  rw [View.readCov_eq_canon']
  refine congrArg (View.canon L) (funext fun a => Fin.ext ?_)
  match a with
  | 0 => show 0 + 1 * i.val = i.val; omega
  | 1 => show 0 + 1 * j.val = j.val; omega

/-- The value buffer starts with ones in the column after the values. -/
theorem ones_at (j : Fin 136) : View.canon (ones (F := Ideal)) (ix2 j 64) = 1 := by
  unfold ones
  rw [canon_hit _ _ _ _ (ix2 j 64) (fun a => by
    match a with
    | 0 => exact (Nat.zero_add _).symm
    | 1 => exact (Nat.zero_add _).symm)]
  pointwise

/-- The next head stores its values in front of the earlier stores. -/
theorem valPieces_succ (q : FVec Ideal S1088x1536 .f32) (B : List (View.Piece (Elt Ideal) S136x128 .bf16)) (n : Nat) :
    valPieces q B (n + 1) = ⟨Rect.unit ![0, 0] S136x64.size inb_S136x128_S136x64_0_0, vals q n⟩ :: valPieces q B n := rfl

/-- The stores of the values leave the column of ones as it was. -/
theorem valPieces_one (q : FVec Ideal S1088x1536 .f32) (B : List (View.Piece (Elt Ideal) S136x128 .bf16)) (n : Nat) (j : Fin 136) :
    View.canon (valPieces q B n) (ix2 j 64) = View.canon B (ix2 j 64) := by
  induction n with
  | zero => rfl
  | succ n ih =>
    rw [valPieces_succ]
    exact (canon_miss (s := S136x128) (e := .bf16) (off := ![0, 0]) (size := S136x64.size) inb_S136x128_S136x64_0_0 (vals q n) (valPieces q B n) (ix2 j 64) (1 : Fin 2)
      (Or.inr (Nat.le_refl 64))).trans ih

/-- After a head's store the value buffer reads that head's values. -/
theorem valPieces_val (q : FVec Ideal S1088x1536 .f32) (B : List (View.Piece (Elt Ideal) S136x128 .bf16)) (k : Nat) (j : Fin 136) (t : Fin 64) :
    View.canon (valPieces q B (k + 1)) (ix2 j ⟨t.val, by omega⟩) = vals q k (ix2 j t) := by
  rw [valPieces_succ]
  refine canon_hit (s := S136x128) (e := .bf16) (off := ![0, 0]) (size := S136x64.size) inb_S136x128_S136x64_0_0 (vals q k) (valPieces q B k) _ (ix2 j t) fun a => ?_
  match a with
  | 0 => exact (Nat.zero_add _).symm
  | 1 => exact (Nat.zero_add _).symm

section Step
variable (va : Memref sig .tc .vmem S136x128 .bf16) (q : FVec Ideal S1088x1536 .f32)
  (B : List (View.Piece (Elt Ideal) S136x128 .bf16)) (C : List (View.Piece (Elt Ideal) S1088x512 .f32))

/-- What the `k`-th head stores. -/
def headVal (k : Nat) : FVec Ideal S136x64 .f32 :=
  headK q k (va.view.readCov (valPieces q B (k + 1)) (Rect.unit ![0, 0] S136x128.size inb_S136x128_S136x128_0_0).toLoadRect)

/-- The next head stores its output in front of the earlier stores. -/
theorem headPieces_succ (n : Nat) : headPieces va q B C (n + 1) = ⟨Rect.unit (s := S1088x512) ![136 * (n / 8 % 8), 64 * (n % 8)] S136x64.size (inb_head n),
    headVal va q B n⟩ :: headPieces va q B C n := rfl

/-- One head's stores leave the place they cover holding that head's value. -/
theorem head_hit (n : Nat) (w : FVec Ideal S136x64 .f32) (L : List (View.Piece (Elt Ideal) S1088x512 .f32)) (y : S1088x512.Idx) (x : S136x64.Idx)
    (h0 : (y 0).val = 136 * (n / 8 % 8) + (x 0).val) (h1 : (y 1).val = 64 * (n % 8) + (x 1).val) :
    View.canon (⟨Rect.unit (s := S1088x512) ![136 * (n / 8 % 8), 64 * (n % 8)] S136x64.size (inb_head n), w⟩ :: L : List (View.Piece (Elt Ideal) S1088x512 .f32)) y = w x := by
  refine canon_hit (s := S1088x512) (e := .f32) (inb_head n) w L y x fun a => ?_
  match a with
  | 0 => exact h0
  | 1 => exact h1

/-- Elsewhere they change nothing. -/
theorem head_miss (n : Nat) (w : FVec Ideal S136x64 .f32) (L : List (View.Piece (Elt Ideal) S1088x512 .f32)) (y : S1088x512.Idx)
    (h : ((y 0).val < 136 * (n / 8 % 8) ∨ 136 * (n / 8 % 8) + 136 ≤ (y 0).val) ∨ ((y 1).val < 64 * (n % 8) ∨ 64 * (n % 8) + 64 ≤ (y 1).val)) :
    View.canon (⟨Rect.unit (s := S1088x512) ![136 * (n / 8 % 8), 64 * (n % 8)] S136x64.size (inb_head n), w⟩ :: L : List (View.Piece (Elt Ideal) S1088x512 .f32)) y = View.canon L y := by
  rcases h with h | h
  · exact canon_miss (s := S1088x512) (e := .f32) (inb_head n) w L y (0 : Fin 2) h
  · exact canon_miss (s := S1088x512) (e := .f32) (inb_head n) w L y (1 : Fin 2) h

/-- What head `h` of image `g` stores is what is left there. -/
theorem headPieces_at (g h : Fin 8) (i : Fin 136) (t : Fin 64) (n : Nat) (hn : 8 * g.val + h.val < n) (hn' : n ≤ 64) :
    View.canon (headPieces va q B C n) (ix2 (row g i) ⟨h.val * 64 + t.val, by omega⟩) = headVal va q B (8 * g.val + h.val) (ix2 i t) := by
  induction n with
  | zero => omega
  | succ n ih =>
    rw [headPieces_succ]
    by_cases hk : n = 8 * g.val + h.val
    · rw [← hk]
      refine head_hit n _ _ _ _ ?_ ?_
      · show 136 * g.val + i.val = 136 * (n / 8 % 8) + i.val; omega
      · show h.val * 64 + t.val = 64 * (n % 8) + t.val; omega
    · refine (head_miss n _ _ _ ?_).trans (ih (by omega) (by omega))
      show (136 * g.val + i.val < 136 * (n / 8 % 8) ∨ 136 * (n / 8 % 8) + 136 ≤ 136 * g.val + i.val)
        ∨ (h.val * 64 + t.val < 64 * (n % 8) ∨ 64 * (n % 8) + 64 ≤ h.val * 64 + t.val)
      omega

variable {q B}

/-- The results' scratch after all heads holds every token's heads side by side. -/
theorem headPieces_tok {g : Fin 8} {Q : Fin 129 → Fin 1536 → ℝ} (hq : ∀ i e, q (ix2 (row g (tok i)) e) = (Q i e : EReal))
    (hB : ∀ j : Fin 136, View.canon B (ix2 j 64) = 1) (i : Fin 129) (e : Fin 512) :
    View.canon (headPieces va q B C 64) (ix2 (row g (tok i)) e) = (heads Q i e : EReal) := by
  have he : e = ⟨(e.val / 64) * 64 + e.val % 64, by omega⟩ := Fin.ext (by show e.val = e.val / 64 * 64 + e.val % 64; omega)
  rw [heads, he]
  refine (headPieces_at va q B C g ⟨e.val / 64, by omega⟩ (tok i) ⟨e.val % 64, Nat.mod_lt _ (by omega)⟩ 64 (by
    show 8 * g.val + e.val / 64 < 64; omega) (le_refl _)).trans ?_
  refine (headK_at hq _ (fun j t => ?_) (fun j => ?_) i _).trans ?_
  · exact (readCov_whole _ _ _ _ _).trans (valPieces_val _ _ _ _ _)
  · exact (readCov_whole _ _ _ _ _).trans ((valPieces_one _ _ _ _).trans (hB j))
  · have h1 : (e.val / 64 * 64 + e.val % 64) / 64 = e.val / 64 := by omega
    have h2 : (e.val / 64 * 64 + e.val % 64) % 64 = e.val % 64 := by omega
    simp only [h1, h2]

end Step

/-- The loads of layer `l` hold the real weights. -/
structure Loads.Real (w : Loads Ideal) (l : Nat) (W : LayerW) : Prop where
  wqkv : ∀ c e, w.wqkv l (ix3 0 c e) = (W.wqkv c e : EReal)
  wo : ∀ c e, w.wo l (ix3 0 c e) = (W.wo c e : EReal)
  bo : ∀ d, w.bo l (ix3 0 0 d) = (W.bo d : EReal)
  g1 : ∀ d, w.g1 l (ix3 0 0 d) = (W.g1 d : EReal)
  be1 : ∀ d, w.be1 l (ix3 0 0 d) = (W.be1 d : EReal)
  w1 : ∀ c e, w.w1 l (ix3 0 c e) = (W.w1 c e : EReal)
  b1 : ∀ d, w.b1 l (ix3 0 0 d) = (W.b1 d : EReal)
  w2 : ∀ c e, w.w2 l (ix3 0 c e) = (W.w2 c e : EReal)
  b2 : ∀ d, w.b2 l (ix3 0 0 d) = (W.b2 d : EReal)
  g2 : ∀ d, w.g2 l (ix3 0 0 d) = (W.g2 d : EReal)
  be2 : ∀ d, w.be2 l (ix3 0 0 d) = (W.be2 d : EReal)

/-- The stream holds the real tokens of every image, and the values' scratch its column of ones. -/
structure St.Holds (s : St Ideal) (X : Fin 8 → Fin 129 → Fin 256 → ℝ) : Prop where
  x : ∀ g i d, s.x (ix2 (row g (tok i)) d) = (X g i d : EReal)
  one : ∀ j : Fin 136, View.canon s.B (ix2 j 64) = 1

/-- A layer of the kernel on real tokens is the model's layer, image by image. -/
theorem stepK_holds (o : Memref sig .tc .vmem S1088x512 .f32) (va : Memref sig .tc .vmem S136x128 .bf16) {w : Loads Ideal} {l : Nat}
    {W : LayerW} (hw : w.Real l W) {s : St Ideal} {X : Fin 8 → Fin 129 → Fin 256 → ℝ} (hs : s.Holds X) :
    (stepK o va w l s).Holds (fun g => layer W (X g)) where
  x g i d := by
    have hm : ∀ d, midK s.x (o.view.readCov (headPieces va (qkvOf w l s.x) s.B s.C 64) (Rect.unit ![0, 0] S1088x512.size inb_S1088x512_S1088x512_0_0).toLoadRect) (w.wo l) (w.bo l) (ix2 (row g (tok i)) d) = (mid W (X g) i d : EReal) :=
      midK_at (hs.x g i) (fun e => (readCov_whole _ _ _ _ _).trans (headPieces_tok va s.C (Q := qkv W (X g))
        (fun i e => qkvK_at (lnK_at (hs.x g i) hw.g1 hw.be1) hw.wqkv e) hs.one i e)) hw.wo hw.bo
    exact downK_at hm (actK_at (upK_at (lnK_at hm hw.g2 hw.be2) hw.w1 hw.b1)) hw.w2 hw.b2 d
  one j := (valPieces_one (qkvOf w l s.x) s.B 64 j).trans (hs.one j)

/-- After any number of layers. -/
theorem statesK_holds (t : Memref sig .tc .vmem S1088x256 .f32) (o : Memref sig .tc .vmem S1088x512 .f32) (va : Memref sig .tc .vmem S136x128 .bf16)
    {w : Loads Ideal} {W : Nat → LayerW} (n : Nat) (hw : ∀ l < n, w.Real l (W l)) {X : Fin 8 → Fin 129 → Fin 256 → ℝ} (h0 : (startK t w).Holds X) :
    (statesK t o va w n).Holds (fun g => layers W (X g) n) := by
  induction n with
  | zero => exact h0
  | succ n ih => exact stepK_holds o va (hw n (by omega)) (ih fun l hl => hw l (by omega))

end Cert.KernelIdeal.Body

end
-- ==== Proof.KerOut.lean ====
/- The tokens the kernel starts from, the means it ends with and the scores it stores. -/
module

public import proofs.«01_k».proof.Proof.KerLayer

@[expose] public section

set_option maxRecDepth 16384

noncomputable section

namespace Cert.KernelIdeal.Body

open Cert.KernelIdeal Cert.KernelIdeal.Gen Idealize.ShloMosaic Idealize.ShloMosaic.Tactic Cert.Vit
open scoped BigOperators

section Strips
variable {N m : Nat} (o : Nat) (inb : ∀ a, (![o, 0] : Fin 2 → Nat) a + (⟨2, ![m, 256]⟩ : Shape).size a ≤ (⟨2, ![N, 256]⟩ : Shape).size a)
  (w : FVec Ideal ⟨2, ![m, 256]⟩ .f32) (L : List (View.Piece (Elt Ideal) ⟨2, ![N, 256]⟩ .f32)) (i : Fin N) (d : Fin 256)

/-- A store of rows read at one of them. -/
theorem strip_hit (j : Fin m) (h : i.val = o + j.val) :
    View.canon (⟨Rect.unit (s := ⟨2, ![N, 256]⟩) ![o, 0] (⟨2, ![m, 256]⟩ : Shape).size inb, w⟩ :: L : List (View.Piece (Elt Ideal) ⟨2, ![N, 256]⟩ .f32)) (ix2 i d)
      = w (ix2 j d) := by
  refine canon_hit (s := ⟨2, ![N, 256]⟩) (e := .f32) inb w L (ix2 i d) (ix2 j d) fun a => ?_
  match a with
  | 0 => exact h
  | 1 => exact (Nat.zero_add _).symm

/-- A store of rows read at another row. -/
theorem strip_miss (h : i.val < o ∨ o + m ≤ i.val) :
    View.canon (⟨Rect.unit (s := ⟨2, ![N, 256]⟩) ![o, 0] (⟨2, ![m, 256]⟩ : Shape).size inb, w⟩ :: L : List (View.Piece (Elt Ideal) ⟨2, ![N, 256]⟩ .f32)) (ix2 i d)
      = View.canon L (ix2 i d) :=
  canon_miss (s := ⟨2, ![N, 256]⟩) (e := .f32) inb w L (ix2 i d) (0 : Fin 2) h

end Strips

variable {w : Loads Ideal}

/-- The next image stores its patch tokens, its class token and its padding in front of the earlier stores. -/
theorem tokPieces_succ (n : Nat) : tokPieces w (n + 1) = ⟨Rect.unit (s := S1088x256) ![136 * (n % 8) + 129, 0] S7x256.size (inb_pad n), padRows (F := Ideal)⟩
    :: ⟨Rect.unit (s := S1088x256) ![136 * (n % 8) + 128, 0] S1x256.size (inb_cls n), clsRow w⟩
    :: ⟨Rect.unit (s := S1088x256) ![136 * (n % 8), 0] S128x256.size (inb_tok n), embedded w n⟩ :: tokPieces w n := rfl

/-- The token buffer holds the embedded patch tokens of every image stored so far. -/
theorem tokPieces_patch (g : Fin 8) (i : Fin 128) (d : Fin 256) (n : Nat) (hg : g.val < n) (hn : n ≤ 8) :
    View.canon (tokPieces w n) (ix2 (row g ⟨i.val, by omega⟩) d) = embedded w g.val (ix2 i d) := by
  induction n with
  | zero => omega
  | succ n ih =>
    have hi : (row g ⟨i.val, by omega⟩).val = 136 * g.val + i.val := rfl
    rw [tokPieces_succ]
    by_cases hk : n = g.val
    · refine (strip_miss (m := 7) _ (inb_pad n) _ _ _ _ (by rw [hi]; omega)).trans ?_
      refine (strip_miss (m := 1) _ (inb_cls n) _ _ _ _ (by rw [hi]; omega)).trans ?_
      rw [← hk]
      exact strip_hit (m := 128) _ (inb_tok n) _ _ _ _ i (by rw [hi]; omega)
    · refine (strip_miss (m := 7) _ (inb_pad n) _ _ _ _ (by rw [hi]; omega)).trans ?_
      refine (strip_miss (m := 1) _ (inb_cls n) _ _ _ _ (by rw [hi]; omega)).trans ?_
      exact (strip_miss (m := 128) _ (inb_tok n) _ _ _ _ (by rw [hi]; omega)).trans (ih (by omega) (by omega))

/-- The token buffer holds the class token of every image stored so far. -/
theorem tokPieces_cls (g : Fin 8) (d : Fin 256) (n : Nat) (hg : g.val < n) (hn : n ≤ 8) :
    View.canon (tokPieces w n) (ix2 (row g ⟨128, by omega⟩) d) = clsRow w (ix2 0 d) := by
  induction n with
  | zero => omega
  | succ n ih =>
    have hi : (row g ⟨128, by omega⟩).val = 136 * g.val + 128 := rfl
    rw [tokPieces_succ]
    refine (strip_miss (m := 7) _ (inb_pad n) _ _ _ _ (by rw [hi]; omega)).trans ?_
    by_cases hk : n = g.val
    · exact strip_hit (m := 1) _ (inb_cls n) _ _ _ _ 0 (by rw [hi]; omega)
    · refine (strip_miss (m := 1) _ (inb_cls n) _ _ _ _ (by rw [hi]; omega)).trans ?_
      exact (strip_miss (m := 128) _ (inb_tok n) _ _ _ _ (by rw [hi]; omega)).trans (ih (by omega) (by omega))

/-- The stream the layers start from holds the patch tokens and then the class token. -/
theorem startK_holds (t : Memref sig .tc .vmem S1088x256 .f32) {X : Fin 8 → Fin 129 → Fin 256 → ℝ}
    (hp : ∀ (g : Fin 8) (i : Fin 128) d, embedded w g.val (ix2 i d) = (X g i.castSucc d : EReal))
    (hc : ∀ g d, clsRow w (ix2 0 d) = (X g (Fin.last 128) d : EReal)) : (startK t w).Holds X where
  x g i d := by
    refine (readCov_whole t.view (tokPieces w 8) _ _ _).trans ?_
    induction i using Fin.lastCases with
    | last => exact (tokPieces_cls g d 8 g.isLt (le_refl _)).trans (hc g d)
    | cast i => exact (tokPieces_patch g i d 8 g.isLt (le_refl _)).trans (hp g i d)
  one j := ones_at j

/-- The mean of an image's tokens. -/
theorem poolK_at {x : FVec Ideal S1088x256 .f32} {g : Fin 8} {X : Fin 129 → Fin 256 → ℝ}
    (hx : ∀ i d, x (ix2 (row g (tok i)) d) = (X i d : EReal)) (d : Fin 256) : poolK x g.val (ix2 0 d) = (pool X d : EReal) := by
  pointwise [poolK]
  rw [sum_rows _ fun j hj => ?_, word_129]
  · have h : ∀ j : Fin 129, Scalar.select (IntOp.cmpi .slt (BitVec.ofNat 32 (tok j).val) 129#32) (x (ix2 (row g (tok j)) d)) (0 : EReal) = (X j d : EReal) := fun j => by
      rw [lt129 _ (tok j).isLt, if_pos (show (tok j).val < 129 from j.isLt), hx]
      exact if_pos rfl
    refine (congrArg (fun s => Ideal.div s _) (Finset.sum_congr rfl fun j _ => ?_)).trans ((congrArg (fun s => Ideal.div s _) (coe_sum Finset.univ fun j => X j d)).trans (coe_div _ _ (by norm_num)))
    refine Eq.trans ?_ (h j)
    congr 1
    congr 2
    exact Fin.ext (by show 136 * (g.val % 8) + _ = 136 * g.val + _; rw [Nat.mod_eq_of_lt g.isLt])
  · rw [lt129 _ j.isLt, if_neg (by omega)]
    exact if_neg (by decide)

/-- The next image stores its pooled row in front of the earlier stores. -/
theorem poolPieces_succ (x : FVec Ideal S1088x256 .f32) (n : Nat) :
    poolPieces x (n + 1) = ⟨Rect.unit (s := S8x256) ![n % 8, 0] S1x256.size (inb_pool n), poolK x n⟩ :: poolPieces x n := rfl

/-- The pooled buffer holds the row of every image stored so far. -/
theorem poolPieces_at (x : FVec Ideal S1088x256 .f32) (g : Fin 8) (d : Fin 256) (n : Nat) (hg : g.val < n) (hn : n ≤ 8) :
    View.canon (poolPieces x n) (ix2 g d) = poolK x g.val (ix2 0 d) := by
  induction n with
  | zero => omega
  | succ n ih =>
    rw [poolPieces_succ]
    by_cases hk : n = g.val
    · rw [← hk]
      exact strip_hit (m := 1) _ (inb_pool n) _ _ _ _ 0 (by show g.val = n % 8 + 0; omega)
    · exact (strip_miss (m := 1) _ (inb_pool n) _ _ _ _ (by omega)).trans (ih (by omega) (by omega))

section Head
variable {p : FVec Ideal S8x256 .f32} {g : Fin 8} {v : Fin 256 → ℝ}

/-- The head's row mean is the mean of the real row. -/
theorem muH_at (hp : ∀ d, p (ix2 g d) = (v d : EReal)) : muH p (ix2 g 0) = (mean v : EReal) := by
  pointwise [muH]
  simp only [hp, coe_sum, word_256]
  exact coe_div _ _ (by norm_num)

/-- The head's centred row is the real row less its mean. -/
theorem cenH_at (hp : ∀ d, p (ix2 g d) = (v d : EReal)) (d : Fin 256) : cenH p (ix2 g d) = ((v d - mean v : ℝ) : EReal) := by
  pointwise [cenH]
  rw [muH_at hp, hp, EReal.coe_sub]

/-- The head's normalised row is the model's. -/
theorem unitH_at (hp : ∀ d, p (ix2 g d) = (v d : EReal)) (d : Fin 256) : unitH p (ix2 g d) = (unitRow v d : EReal) := by
  have hv : muH (mulf (cenH p) (cenH p)) (ix2 g 0) = (var v : EReal) :=
    muH_at (v := fun d => (v d - mean v) * (v d - mean v)) fun d => by
      pointwise
      rw [cenH_at hp, ← EReal.coe_mul]
  pointwise [unitH]
  rw [cenH_at hp, hv, word_eps, ← EReal.coe_add, coe_rsqrt _ (var_eps_pos _), ← EReal.coe_mul]
  simp only [unitRow, div_eq_mul_inv]

/-- The scores of an image, the head's parameters unrestricted. -/
theorem scores_at (hp : ∀ d, p (ix2 g d) = (v d : EReal)) (c : Fin 128) :
    scores w p (ix3 g 0 c) = (∑ d, ((unitRow v d : EReal) * w.hg (ix2 0 d) + w.hb (ix2 0 d)) * w.wh (ix2 d c)) + w.bh (ix2 0 c) := by
  pointwise [scores]
  simp only [unitH_at hp]

end Head

/-- What the body stores for an image. -/
theorem outK_at (t : Memref sig .tc .vmem S1088x256 .f32) (o : Memref sig .tc .vmem S1088x512 .f32) (p : Memref sig .tc .vmem S8x256 .f32)
    (va : Memref sig .tc .vmem S136x128 .bf16) {W : Nat → LayerW} (hw : ∀ l < 4, w.Real l (W l)) {X : Fin 8 → Fin 129 → Fin 256 → ℝ}
    (hp : ∀ (g : Fin 8) (i : Fin 128) d, embedded w g.val (ix2 i d) = (X g i.castSucc d : EReal))
    (hc : ∀ g d, clsRow w (ix2 0 d) = (X g (Fin.last 128) d : EReal)) (g : Fin 8) (c : Fin 128) :
    outK t o p va w (ix3 g 0 c)
      = (∑ d, ((unitRow (pool (layers W (X g) 4)) d : EReal) * w.hg (ix2 0 d) + w.hb (ix2 0 d)) * w.wh (ix2 d c)) + w.bh (ix2 0 c) :=
  scores_at (fun d => (readCov_whole p.view _ _ _ _).trans ((poolPieces_at _ g d 8 g.isLt (le_refl _)).trans
    (poolK_at ((statesK_holds t o va 4 hw (startK_holds t hp hc)).x g) d))) c

end Cert.KernelIdeal.Body

end
-- ==== Proof.RefRun.lean ====
/- The reference's result in terms of its layers: what it computes from its tokens on. -/
module

public import proofs.«01_k».proof.Proof.Gen.ReferenceIdeal.Run
public import proofs.«01_k».proof.Proof.KerOut

@[expose] public section

set_option maxRecDepth 16384

noncomputable section

namespace Cert.ReferenceIdeal.Layer

open Cert.ReferenceIdeal Cert.ReferenceIdeal.Gen Cert.ReferenceIdeal.Value Idealize.ShloMosaic Idealize.ShloMosaic.Tactic Cert.Vit
open scoped BigOperators

/-- One layer lies in an array of four matrices. -/
theorem inb3 {p q : Nat} (l : Nat) : (⟨3, ![4, p, q]⟩ : Shape).Slices ![l % 4, 0, 0] ⟨3, ![1, p, q]⟩ := by
  refine ⟨rfl, fun a => ?_⟩
  fin_cases a <;> simp <;> omega

/-- One layer lies in an array of four rows. -/
theorem inb2 {p : Nat} (l : Nat) : (⟨2, ![4, p]⟩ : Shape).Slices ![l % 4, 0] ⟨2, ![1, p]⟩ := by
  refine ⟨rfl, fun a => ?_⟩
  fin_cases a <;> simp <;> omega

/-- The weights of a layer, cut out of the arguments. -/
def weights (V : Valuation τ sig (Elt Ideal)) (l : Nat) : Weights where
  wqkv := shapeCast _ (extractStridedSlice S1x256x1536 ![l % 4, 0, 0] (V (Proc.devRef .tc main_arg4)) (inb3 l)) shapeCasts_S1x256x1536_S256x1536
  wo := shapeCast _ (extractStridedSlice S1x512x256 ![l % 4, 0, 0] (V (Proc.devRef .tc main_arg5)) (inb3 l)) shapeCasts_S1x512x256_S512x256
  bo := shapeCast _ (extractStridedSlice S1x256 ![l % 4, 0] (V (Proc.devRef .tc main_arg6)) (inb2 l)) shapeCasts_S1x256_S256
  g1 := shapeCast _ (extractStridedSlice S1x256 ![l % 4, 0] (V (Proc.devRef .tc main_arg7)) (inb2 l)) shapeCasts_S1x256_S256
  be1 := shapeCast _ (extractStridedSlice S1x256 ![l % 4, 0] (V (Proc.devRef .tc main_arg8)) (inb2 l)) shapeCasts_S1x256_S256
  w1 := shapeCast _ (extractStridedSlice S1x256x512 ![l % 4, 0, 0] (V (Proc.devRef .tc main_arg9)) (inb3 l)) shapeCasts_S1x256x512_S256x512
  b1 := shapeCast _ (extractStridedSlice S1x512 ![l % 4, 0] (V (Proc.devRef .tc main_arg10)) (inb2 l)) shapeCasts_S1x512_S512
  w2 := shapeCast _ (extractStridedSlice S1x512x256 ![l % 4, 0, 0] (V (Proc.devRef .tc main_arg11)) (inb3 l)) shapeCasts_S1x512x256_S512x256
  b2 := shapeCast _ (extractStridedSlice S1x256 ![l % 4, 0] (V (Proc.devRef .tc main_arg12)) (inb2 l)) shapeCasts_S1x256_S256
  g2 := shapeCast _ (extractStridedSlice S1x256 ![l % 4, 0] (V (Proc.devRef .tc main_arg13)) (inb2 l)) shapeCasts_S1x256_S256
  be2 := shapeCast _ (extractStridedSlice S1x256 ![l % 4, 0] (V (Proc.devRef .tc main_arg14)) (inb2 l)) shapeCasts_S1x256_S256

variable (V : Valuation τ sig (Elt Ideal))

/-- The tokens after `n` layers. -/
def layersv (x : A S64x129x256) (n : Nat) : A S64x129x256 :=
  Nat.rec (motive := fun _ => A S64x129x256) x (fun l y => layerv (weights V l) y) n

/-- The mean of every image's tokens. -/
def poolv (x : A S64x129x256) : A S64x256 :=
  Host.divf (Host.reduceAdd x (constant S_ .f32 0x00000000#32) reducesTo_S64x129x256_S64x256_d1 h_S_) (broadcastInDim S64x256 ![] bcast_S_S64x256 (constant S_ .f32 0x43010000#32))

/-- The reference's value after the first layer is that layer of the embedded tokens. -/
theorem run_layer0 : res_main_v512 V = layerv (weights V 0) (res_main_v405 V) := by sl_kernel_rfl

/-- The reference's value after the second layer is that layer of the value before it. -/
theorem run_layer1 : res_main_v619 V = layerv (weights V 1) (res_main_v512 V) := by sl_kernel_rfl

/-- The reference's value after the third layer is that layer of the value before it. -/
theorem run_layer2 : res_main_v726 V = layerv (weights V 2) (res_main_v619 V) := by sl_kernel_rfl

/-- The reference's pooled tokens are the mean after the fourth layer. -/
theorem run_pool : res_main_v836 V = poolv (layerv (weights V 3) (res_main_v726 V)) := by sl_kernel_rfl

/-- The pooled tokens are those after four layers. -/
theorem run_pooled : res_main_v836 V = poolv (layersv V (res_main_v405 V) 4) := by
  rw [run_pool, run_layer2, run_layer1, run_layer0]
  rfl

/-! ## The head -/

/-- The mean of every pooled row, as a column. -/
def muP (p : A S64x256) : A S64x1 :=
  Host.divf (broadcastInDim S64x1 ![0] bcast_S64_S64x1_0 (Host.reduceAdd p (constant S_ .f32 0x00000000#32) reducesTo_S64x256_S64_d1 h_S_)) (broadcastInDim S64x1 ![] bcast_S_S64x1 (constant S_ .f32 0x43800000#32))

/-- Every pooled row less its mean. -/
def cenP (p : A S64x256) : A S64x256 := subf p (broadcastInDim S64x256 ![0, 1] bcast_S64x1_S64x256_0_1 (muP p))

/-- The variance of every pooled row, as a column. -/
def vrP (p : A S64x256) : A S64x1 :=
  select (broadcastInDim S64x1 ![] bcast_S_S64x1 (cmpf .ogt dof (constant S_ .f32 0x00000000#32))) (Host.divf (broadcastInDim S64x1 ![0] bcast_S64_S64x1_0 (Host.reduceAdd (mulf (cenP p) (cenP p)) (constant S_ .f32 0x00000000#32) reducesTo_S64x256_S64_d1 h_S_)) (broadcastInDim S64x1 ![] bcast_S_S64x1 dof)) (broadcastInDim S64x1 ![] bcast_S_S64x1 (id (constant S_ .f32 0x7FC00000#32)))

/-- Every pooled row centred and divided by its deviation. -/
def unitP (p : A S64x256) : A S64x256 :=
  Host.divf (cenP p) (broadcastInDim S64x256 ![0, 1] bcast_S64x1_S64x256_0_1 (Host.sqrt (addf (vrP p) (broadcastInDim S64x1 ![] bcast_S_S64x1 (constant S_ .f32 0x3727C5AC#32)))))

/-- The scores. -/
def headv (p : A S64x256) (g b : A S256) (w : A S256x16) (c : A S16) : A S64x16 :=
  addf (Host.dotGeneral dot_S64x256_S256x16_S64x16_1_0_0_1_n_n none (addf (mulf (unitP p) (broadcastInDim S64x256 ![0, 1] bcast_S1x256_S64x256_0_1 (broadcastInDim S1x256 ![1] bcast_S256_S1x256_1 g))) (broadcastInDim S64x256 ![0, 1] bcast_S1x256_S64x256_0_1 (broadcastInDim S1x256 ![1] bcast_S256_S1x256_1 b))) w) (broadcastInDim S64x16 ![0, 1] bcast_S1x16_S64x16_0_1 (broadcastInDim S1x16 ![1] bcast_S16_S1x16_1 c))

section Head
variable {p : A S64x256} {P : Fin 64 → Fin 256 → ℝ}

/-- The mean of a pooled row is the mean of the real row. -/
theorem muP_at (hp : ∀ b d, p (ix2 b d) = (P b d : EReal)) (b : Fin 64) : muP p (ix2 b 0) = (mean (P b) : EReal) := by
  pointwise [muP]
  simp only [hp, coe_sum, word_256]
  exact coe_div _ _ (by norm_num)

/-- A centred pooled row is the real row less its mean. -/
theorem cenP_at (hp : ∀ b d, p (ix2 b d) = (P b d : EReal)) (b : Fin 64) (d : Fin 256) :
    cenP p (ix2 b d) = ((P b d - mean (P b) : ℝ) : EReal) := by
  pointwise [cenP]
  rw [muP_at hp, hp, EReal.coe_sub]

/-- The variance of a pooled row is the variance of the real row. -/
theorem vrP_at (hp : ∀ b d, p (ix2 b d) = (P b d : EReal)) (b : Fin 64) : vrP p (ix2 b 0) = (var (P b) : EReal) := by
  pointwise [vrP]
  rw [dof_at, if_pos (by exact_mod_cast (by norm_num : (0 : ℝ) < 256))]
  simp only [cenP_at hp, ← EReal.coe_mul, coe_sum]
  exact coe_div _ _ (by norm_num)

/-- A normalised pooled row is the model's. -/
theorem unitP_at (hp : ∀ b d, p (ix2 b d) = (P b d : EReal)) (b : Fin 64) (d : Fin 256) : unitP p (ix2 b d) = (unitRow (P b) d : EReal) := by
  pointwise [unitP]
  rw [cenP_at hp, vrP_at hp, word_eps, ← EReal.coe_add, coe_sqrt _ (var_eps_pos _).le, coe_div _ _ (sd_ne _)]
  rfl

/-- The scores of an image, the head's parameters unrestricted. -/
theorem headv_at (hp : ∀ b d, p (ix2 b d) = (P b d : EReal)) (g c : A S256) (w : A S256x16) (e : A S16) (b : Fin 64) (k : Fin 16) :
    headv p g c w e (ix2 b k) = (∑ d, ((unitRow (P b) d : EReal) * g (ix1 d) + c (ix1 d)) * w (ix2 d k)) + e (ix1 k) := by
  pointwise [headv]
  simp only [unitP_at hp]

end Head

/-- The reference's mean over the tokens is the model's. -/
theorem poolv_at {x : A S64x129x256} {X : Fin 64 → Fin 129 → Fin 256 → ℝ} (hx : ∀ b n d, x (ix3 b n d) = (X b n d : EReal)) (b : Fin 64)
    (d : Fin 256) : poolv x (ix2 b d) = (pool (X b) d : EReal) := by
  pointwise [poolv]
  simp only [hx, coe_sum, word_129]
  exact coe_div _ _ (by norm_num)

variable {V}

/-- The layers of the reference on real tokens are the model's. -/
theorem layersv_at {W : Nat → LayerW} {x : A S64x129x256} {X : Fin 64 → Fin 129 → Fin 256 → ℝ} (n : Nat) (hw : ∀ l < n, (weights V l).Real (W l))
    (hx : ∀ b i d, x (ix3 b i d) = (X b i d : EReal)) (b : Fin 64) (i : Fin 129) (d : Fin 256) :
    layersv V x n (ix3 b i d) = (layers W (X b) n i d : EReal) := by
  induction n generalizing b i d with
  | zero => exact hx b i d
  | succ n ih => exact layerv_at (hw n (by omega)) (X := fun b => layers W (X b) n) (fun b i d => ih (fun l hl => hw l (by omega)) b i d) b i d

/-- A layer number below four, reduced modulo four, is itself. -/
theorem layer_index {l : Nat} (hl : l < 4) : (⟨l % 4, Nat.mod_lt _ (by omega)⟩ : Fin 4) = ⟨l, hl⟩ :=
  Fin.ext (Nat.mod_eq_of_lt hl)

/-- The real arguments hold real weights. -/
theorem weights_real (W : Nat → LayerW)
    (h4 : ∀ (l : Fin 4) c e, (V (Proc.devRef .tc main_arg4) : A S4x256x1536) (ix3 l c e) = ((W l).wqkv c e : EReal))
    (h5 : ∀ (l : Fin 4) c e, (V (Proc.devRef .tc main_arg5) : A S4x512x256) (ix3 l c e) = ((W l).wo c e : EReal))
    (h6 : ∀ (l : Fin 4) d, (V (Proc.devRef .tc main_arg6) : A S4x256) (ix2 l d) = ((W l).bo d : EReal))
    (h7 : ∀ (l : Fin 4) d, (V (Proc.devRef .tc main_arg7) : A S4x256) (ix2 l d) = ((W l).g1 d : EReal))
    (h8 : ∀ (l : Fin 4) d, (V (Proc.devRef .tc main_arg8) : A S4x256) (ix2 l d) = ((W l).be1 d : EReal))
    (h9 : ∀ (l : Fin 4) c e, (V (Proc.devRef .tc main_arg9) : A S4x256x512) (ix3 l c e) = ((W l).w1 c e : EReal))
    (h10 : ∀ (l : Fin 4) d, (V (Proc.devRef .tc main_arg10) : A S4x512) (ix2 l d) = ((W l).b1 d : EReal))
    (h11 : ∀ (l : Fin 4) c e, (V (Proc.devRef .tc main_arg11) : A S4x512x256) (ix3 l c e) = ((W l).w2 c e : EReal))
    (h12 : ∀ (l : Fin 4) d, (V (Proc.devRef .tc main_arg12) : A S4x256) (ix2 l d) = ((W l).b2 d : EReal))
    (h13 : ∀ (l : Fin 4) d, (V (Proc.devRef .tc main_arg13) : A S4x256) (ix2 l d) = ((W l).g2 d : EReal))
    (h14 : ∀ (l : Fin 4) d, (V (Proc.devRef .tc main_arg14) : A S4x256) (ix2 l d) = ((W l).be2 d : EReal))
    (l : Nat) (hl : l < 4) : (weights V l).Real (W l) where
  wqkv c e := by pointwise [weights]; exact (h4 ⟨l % 4, Nat.mod_lt _ (by omega)⟩ c e).trans (by rw [layer_index hl])
  wo c e := by pointwise [weights]; exact (h5 ⟨l % 4, Nat.mod_lt _ (by omega)⟩ c e).trans (by rw [layer_index hl])
  bo d := by pointwise [weights]; exact (h6 ⟨l % 4, Nat.mod_lt _ (by omega)⟩ d).trans (by rw [layer_index hl])
  g1 d := by pointwise [weights]; exact (h7 ⟨l % 4, Nat.mod_lt _ (by omega)⟩ d).trans (by rw [layer_index hl])
  be1 d := by pointwise [weights]; exact (h8 ⟨l % 4, Nat.mod_lt _ (by omega)⟩ d).trans (by rw [layer_index hl])
  w1 c e := by pointwise [weights]; exact (h9 ⟨l % 4, Nat.mod_lt _ (by omega)⟩ c e).trans (by rw [layer_index hl])
  b1 d := by pointwise [weights]; exact (h10 ⟨l % 4, Nat.mod_lt _ (by omega)⟩ d).trans (by rw [layer_index hl])
  w2 c e := by pointwise [weights]; exact (h11 ⟨l % 4, Nat.mod_lt _ (by omega)⟩ c e).trans (by rw [layer_index hl])
  b2 d := by pointwise [weights]; exact (h12 ⟨l % 4, Nat.mod_lt _ (by omega)⟩ d).trans (by rw [layer_index hl])
  g2 d := by pointwise [weights]; exact (h13 ⟨l % 4, Nat.mod_lt _ (by omega)⟩ d).trans (by rw [layer_index hl])
  be2 d := by pointwise [weights]; exact (h14 ⟨l % 4, Nat.mod_lt _ (by omega)⟩ d).trans (by rw [layer_index hl])

end Cert.ReferenceIdeal.Layer

end
-- ==== Proof.SpiralCoef.lean ====
/- The spiral as a computation on natural numbers. After every ring the value at each of its places is a combination of
   the entries of the picture with natural coefficients over a power of two; the coefficients of one place are the
   digits of one number. -/
module

public import proofs.«01_k».proof.Proof.RealModel

@[expose] public section

set_option maxRecDepth 16384

namespace Cert.Vit

open scoped BigOperators

/-- The rings from the inside out: each place with the two places of the ring before that it takes from. -/
def rings : List (List (Nat × Nat × Nat)) := [
  [(510, 544, 544), (511, 544, 544), (512, 544, 544), (545, 544, 544), (578, 544, 544), (577, 544, 544),
   (576, 544, 544), (543, 544, 544)],
  [(476, 510, 510), (477, 510, 511), (478, 511, 511), (479, 512, 511), (480, 512, 512), (513, 512, 545),
   (546, 545, 545), (579, 578, 545), (612, 578, 578), (611, 578, 577), (610, 577, 577), (609, 576, 577),
   (608, 576, 576), (575, 576, 543), (542, 543, 543), (509, 510, 543)],
  [(442, 476, 476), (443, 476, 477), (444, 477, 478), (445, 478, 478), (446, 479, 478), (447, 480, 479),
   (448, 480, 480), (481, 480, 513), (514, 513, 546), (547, 546, 546), (580, 579, 546), (613, 612, 579),
   (646, 612, 612), (645, 612, 611), (644, 611, 610), (643, 610, 610), (642, 609, 610), (641, 608, 609),
   (640, 608, 608), (607, 608, 575), (574, 575, 542), (541, 542, 542), (508, 509, 542), (475, 476, 509)],
  [(408, 442, 442), (409, 442, 443), (410, 443, 444), (411, 444, 445), (412, 445, 445), (413, 446, 445),
   (414, 447, 446), (415, 448, 447), (416, 448, 448), (449, 448, 481), (482, 481, 514), (515, 514, 547),
   (548, 547, 547), (581, 580, 547), (614, 613, 580), (647, 646, 613), (680, 646, 646), (679, 646, 645),
   (678, 645, 644), (677, 644, 643), (676, 643, 643), (675, 642, 643), (674, 641, 642), (673, 640, 641),
   (672, 640, 640), (639, 640, 607), (606, 607, 574), (573, 574, 541), (540, 541, 541), (507, 508, 541),
   (474, 475, 508), (441, 442, 475)],
  [(374, 408, 408), (375, 408, 409), (376, 409, 410), (377, 410, 411), (378, 411, 412), (379, 412, 412),
   (380, 413, 412), (381, 414, 413), (382, 415, 414), (383, 416, 415), (384, 416, 416), (417, 416, 449),
   (450, 449, 482), (483, 482, 515), (516, 515, 548), (549, 548, 548), (582, 581, 548), (615, 614, 581),
   (648, 647, 614), (681, 680, 647), (714, 680, 680), (713, 680, 679), (712, 679, 678), (711, 678, 677),
   (710, 677, 676), (709, 676, 676), (708, 675, 676), (707, 674, 675), (706, 673, 674), (705, 672, 673),
   (704, 672, 672), (671, 672, 639), (638, 639, 606), (605, 606, 573), (572, 573, 540), (539, 540, 540),
   (506, 507, 540), (473, 474, 507), (440, 441, 474), (407, 408, 441)],
  [(340, 374, 374), (341, 374, 375), (342, 375, 376), (343, 376, 377), (344, 377, 378), (345, 378, 379),
   (346, 379, 379), (347, 380, 379), (348, 381, 380), (349, 382, 381), (350, 383, 382), (351, 384, 383),
   (352, 384, 384), (385, 384, 417), (418, 417, 450), (451, 450, 483), (484, 483, 516), (517, 516, 549),
   (550, 549, 549), (583, 582, 549), (616, 615, 582), (649, 648, 615), (682, 681, 648), (715, 714, 681),
   (748, 714, 714), (747, 714, 713), (746, 713, 712), (745, 712, 711), (744, 711, 710), (743, 710, 709),
   (742, 709, 709), (741, 708, 709), (740, 707, 708), (739, 706, 707), (738, 705, 706), (737, 704, 705),
   (736, 704, 704), (703, 704, 671), (670, 671, 638), (637, 638, 605), (604, 605, 572), (571, 572, 539),
   (538, 539, 539), (505, 506, 539), (472, 473, 506), (439, 440, 473), (406, 407, 440), (373, 374, 407)],
  [(306, 340, 340), (307, 340, 341), (308, 341, 342), (309, 342, 343), (310, 343, 344), (311, 344, 345),
   (312, 345, 346), (313, 346, 346), (314, 347, 346), (315, 348, 347), (316, 349, 348), (317, 350, 349),
   (318, 351, 350), (319, 352, 351), (320, 352, 352), (353, 352, 385), (386, 385, 418), (419, 418, 451),
   (452, 451, 484), (485, 484, 517), (518, 517, 550), (551, 550, 550), (584, 583, 550), (617, 616, 583),
   (650, 649, 616), (683, 682, 649), (716, 715, 682), (749, 748, 715), (782, 748, 748), (781, 748, 747),
   (780, 747, 746), (779, 746, 745), (778, 745, 744), (777, 744, 743), (776, 743, 742), (775, 742, 742),
   (774, 741, 742), (773, 740, 741), (772, 739, 740), (771, 738, 739), (770, 737, 738), (769, 736, 737),
   (768, 736, 736), (735, 736, 703), (702, 703, 670), (669, 670, 637), (636, 637, 604), (603, 604, 571),
   (570, 571, 538), (537, 538, 538), (504, 505, 538), (471, 472, 505), (438, 439, 472), (405, 406, 439),
   (372, 373, 406), (339, 340, 373)],
  [(272, 306, 306), (273, 306, 307), (274, 307, 308), (275, 308, 309), (276, 309, 310), (277, 310, 311),
   (278, 311, 312), (279, 312, 313), (280, 313, 313), (281, 314, 313), (282, 315, 314), (283, 316, 315),
   (284, 317, 316), (285, 318, 317), (286, 319, 318), (287, 320, 319), (288, 320, 320), (321, 320, 353),
   (354, 353, 386), (387, 386, 419), (420, 419, 452), (453, 452, 485), (486, 485, 518), (519, 518, 551),
   (552, 551, 551), (585, 584, 551), (618, 617, 584), (651, 650, 617), (684, 683, 650), (717, 716, 683),
   (750, 749, 716), (783, 782, 749), (816, 782, 782), (815, 782, 781), (814, 781, 780), (813, 780, 779),
   (812, 779, 778), (811, 778, 777), (810, 777, 776), (809, 776, 775), (808, 775, 775), (807, 774, 775),
   (806, 773, 774), (805, 772, 773), (804, 771, 772), (803, 770, 771), (802, 769, 770), (801, 768, 769),
   (800, 768, 768), (767, 768, 735), (734, 735, 702), (701, 702, 669), (668, 669, 636), (635, 636, 603),
   (602, 603, 570), (569, 570, 537), (536, 537, 537), (503, 504, 537), (470, 471, 504), (437, 438, 471),
   (404, 405, 438), (371, 372, 405), (338, 339, 372), (305, 306, 339)],
  [(238, 272, 272), (239, 272, 273), (240, 273, 274), (241, 274, 275), (242, 275, 276), (243, 276, 277),
   (244, 277, 278), (245, 278, 279), (246, 279, 280), (247, 280, 280), (248, 281, 280), (249, 282, 281),
   (250, 283, 282), (251, 284, 283), (252, 285, 284), (253, 286, 285), (254, 287, 286), (255, 288, 287),
   (256, 288, 288), (289, 288, 321), (322, 321, 354), (355, 354, 387), (388, 387, 420), (421, 420, 453),
   (454, 453, 486), (487, 486, 519), (520, 519, 552), (553, 552, 552), (586, 585, 552), (619, 618, 585),
   (652, 651, 618), (685, 684, 651), (718, 717, 684), (751, 750, 717), (784, 783, 750), (817, 816, 783),
   (850, 816, 816), (849, 816, 815), (848, 815, 814), (847, 814, 813), (846, 813, 812), (845, 812, 811),
   (844, 811, 810), (843, 810, 809), (842, 809, 808), (841, 808, 808), (840, 807, 808), (839, 806, 807),
   (838, 805, 806), (837, 804, 805), (836, 803, 804), (835, 802, 803), (834, 801, 802), (833, 800, 801),
   (832, 800, 800), (799, 800, 767), (766, 767, 734), (733, 734, 701), (700, 701, 668), (667, 668, 635),
   (634, 635, 602), (601, 602, 569), (568, 569, 536), (535, 536, 536), (502, 503, 536), (469, 470, 503),
   (436, 437, 470), (403, 404, 437), (370, 371, 404), (337, 338, 371), (304, 305, 338), (271, 272, 305)],
  [(204, 238, 238), (205, 238, 239), (206, 239, 240), (207, 240, 241), (208, 241, 242), (209, 242, 243),
   (210, 243, 244), (211, 244, 245), (212, 245, 246), (213, 246, 247), (214, 247, 247), (215, 248, 247),
   (216, 249, 248), (217, 250, 249), (218, 251, 250), (219, 252, 251), (220, 253, 252), (221, 254, 253),
   (222, 255, 254), (223, 256, 255), (224, 256, 256), (257, 256, 289), (290, 289, 322), (323, 322, 355),
   (356, 355, 388), (389, 388, 421), (422, 421, 454), (455, 454, 487), (488, 487, 520), (521, 520, 553),
   (554, 553, 553), (587, 586, 553), (620, 619, 586), (653, 652, 619), (686, 685, 652), (719, 718, 685),
   (752, 751, 718), (785, 784, 751), (818, 817, 784), (851, 850, 817), (884, 850, 850), (883, 850, 849),
   (882, 849, 848), (881, 848, 847), (880, 847, 846), (879, 846, 845), (878, 845, 844), (877, 844, 843),
   (876, 843, 842), (875, 842, 841), (874, 841, 841), (873, 840, 841), (872, 839, 840), (871, 838, 839),
   (870, 837, 838), (869, 836, 837), (868, 835, 836), (867, 834, 835), (866, 833, 834), (865, 832, 833),
   (864, 832, 832), (831, 832, 799), (798, 799, 766), (765, 766, 733), (732, 733, 700), (699, 700, 667),
   (666, 667, 634), (633, 634, 601), (600, 601, 568), (567, 568, 535), (534, 535, 535), (501, 502, 535),
   (468, 469, 502), (435, 436, 469), (402, 403, 436), (369, 370, 403), (336, 337, 370), (303, 304, 337),
   (270, 271, 304), (237, 238, 271)],
  [(170, 204, 204), (171, 204, 205), (172, 205, 206), (173, 206, 207), (174, 207, 208), (175, 208, 209),
   (176, 209, 210), (177, 210, 211), (178, 211, 212), (179, 212, 213), (180, 213, 214), (181, 214, 214),
   (182, 215, 214), (183, 216, 215), (184, 217, 216), (185, 218, 217), (186, 219, 218), (187, 220, 219),
   (188, 221, 220), (189, 222, 221), (190, 223, 222), (191, 224, 223), (192, 224, 224), (225, 224, 257),
   (258, 257, 290), (291, 290, 323), (324, 323, 356), (357, 356, 389), (390, 389, 422), (423, 422, 455),
   (456, 455, 488), (489, 488, 521), (522, 521, 554), (555, 554, 554), (588, 587, 554), (621, 620, 587),
   (654, 653, 620), (687, 686, 653), (720, 719, 686), (753, 752, 719), (786, 785, 752), (819, 818, 785),
   (852, 851, 818), (885, 884, 851), (918, 884, 884), (917, 884, 883), (916, 883, 882), (915, 882, 881),
   (914, 881, 880), (913, 880, 879), (912, 879, 878), (911, 878, 877), (910, 877, 876), (909, 876, 875),
   (908, 875, 874), (907, 874, 874), (906, 873, 874), (905, 872, 873), (904, 871, 872), (903, 870, 871),
   (902, 869, 870), (901, 868, 869), (900, 867, 868), (899, 866, 867), (898, 865, 866), (897, 864, 865),
   (896, 864, 864), (863, 864, 831), (830, 831, 798), (797, 798, 765), (764, 765, 732), (731, 732, 699),
   (698, 699, 666), (665, 666, 633), (632, 633, 600), (599, 600, 567), (566, 567, 534), (533, 534, 534),
   (500, 501, 534), (467, 468, 501), (434, 435, 468), (401, 402, 435), (368, 369, 402), (335, 336, 369),
   (302, 303, 336), (269, 270, 303), (236, 237, 270), (203, 204, 237)],
  [(136, 170, 170), (137, 170, 171), (138, 171, 172), (139, 172, 173), (140, 173, 174), (141, 174, 175),
   (142, 175, 176), (143, 176, 177), (144, 177, 178), (145, 178, 179), (146, 179, 180), (147, 180, 181),
   (148, 181, 181), (149, 182, 181), (150, 183, 182), (151, 184, 183), (152, 185, 184), (153, 186, 185),
   (154, 187, 186), (155, 188, 187), (156, 189, 188), (157, 190, 189), (158, 191, 190), (159, 192, 191),
   (160, 192, 192), (193, 192, 225), (226, 225, 258), (259, 258, 291), (292, 291, 324), (325, 324, 357),
   (358, 357, 390), (391, 390, 423), (424, 423, 456), (457, 456, 489), (490, 489, 522), (523, 522, 555),
   (556, 555, 555), (589, 588, 555), (622, 621, 588), (655, 654, 621), (688, 687, 654), (721, 720, 687),
   (754, 753, 720), (787, 786, 753), (820, 819, 786), (853, 852, 819), (886, 885, 852), (919, 918, 885),
   (952, 918, 918), (951, 918, 917), (950, 917, 916), (949, 916, 915), (948, 915, 914), (947, 914, 913),
   (946, 913, 912), (945, 912, 911), (944, 911, 910), (943, 910, 909), (942, 909, 908), (941, 908, 907),
   (940, 907, 907), (939, 906, 907), (938, 905, 906), (937, 904, 905), (936, 903, 904), (935, 902, 903),
   (934, 901, 902), (933, 900, 901), (932, 899, 900), (931, 898, 899), (930, 897, 898), (929, 896, 897),
   (928, 896, 896), (895, 896, 863), (862, 863, 830), (829, 830, 797), (796, 797, 764), (763, 764, 731),
   (730, 731, 698), (697, 698, 665), (664, 665, 632), (631, 632, 599), (598, 599, 566), (565, 566, 533),
   (532, 533, 533), (499, 500, 533), (466, 467, 500), (433, 434, 467), (400, 401, 434), (367, 368, 401),
   (334, 335, 368), (301, 302, 335), (268, 269, 302), (235, 236, 269), (202, 203, 236), (169, 170, 203)],
  [(102, 136, 136), (103, 136, 137), (104, 137, 138), (105, 138, 139), (106, 139, 140), (107, 140, 141),
   (108, 141, 142), (109, 142, 143), (110, 143, 144), (111, 144, 145), (112, 145, 146), (113, 146, 147),
   (114, 147, 148), (115, 148, 148), (116, 149, 148), (117, 150, 149), (118, 151, 150), (119, 152, 151),
   (120, 153, 152), (121, 154, 153), (122, 155, 154), (123, 156, 155), (124, 157, 156), (125, 158, 157),
   (126, 159, 158), (127, 160, 159), (128, 160, 160), (161, 160, 193), (194, 193, 226), (227, 226, 259),
   (260, 259, 292), (293, 292, 325), (326, 325, 358), (359, 358, 391), (392, 391, 424), (425, 424, 457),
   (458, 457, 490), (491, 490, 523), (524, 523, 556), (557, 556, 556), (590, 589, 556), (623, 622, 589),
   (656, 655, 622), (689, 688, 655), (722, 721, 688), (755, 754, 721), (788, 787, 754), (821, 820, 787),
   (854, 853, 820), (887, 886, 853), (920, 919, 886), (953, 952, 919), (986, 952, 952), (985, 952, 951),
   (984, 951, 950), (983, 950, 949), (982, 949, 948), (981, 948, 947), (980, 947, 946), (979, 946, 945),
   (978, 945, 944), (977, 944, 943), (976, 943, 942), (975, 942, 941), (974, 941, 940), (973, 940, 940),
   (972, 939, 940), (971, 938, 939), (970, 937, 938), (969, 936, 937), (968, 935, 936), (967, 934, 935),
   (966, 933, 934), (965, 932, 933), (964, 931, 932), (963, 930, 931), (962, 929, 930), (961, 928, 929),
   (960, 928, 928), (927, 928, 895), (894, 895, 862), (861, 862, 829), (828, 829, 796), (795, 796, 763),
   (762, 763, 730), (729, 730, 697), (696, 697, 664), (663, 664, 631), (630, 631, 598), (597, 598, 565),
   (564, 565, 532), (531, 532, 532), (498, 499, 532), (465, 466, 499), (432, 433, 466), (399, 400, 433),
   (366, 367, 400), (333, 334, 367), (300, 301, 334), (267, 268, 301), (234, 235, 268), (201, 202, 235),
   (168, 169, 202), (135, 136, 169)],
  [(68, 102, 102), (69, 102, 103), (70, 103, 104), (71, 104, 105), (72, 105, 106), (73, 106, 107), (74, 107, 108),
   (75, 108, 109), (76, 109, 110), (77, 110, 111), (78, 111, 112), (79, 112, 113), (80, 113, 114), (81, 114, 115),
   (82, 115, 115), (83, 116, 115), (84, 117, 116), (85, 118, 117), (86, 119, 118), (87, 120, 119), (88, 121, 120),
   (89, 122, 121), (90, 123, 122), (91, 124, 123), (92, 125, 124), (93, 126, 125), (94, 127, 126), (95, 128, 127),
   (96, 128, 128), (129, 128, 161), (162, 161, 194), (195, 194, 227), (228, 227, 260), (261, 260, 293),
   (294, 293, 326), (327, 326, 359), (360, 359, 392), (393, 392, 425), (426, 425, 458), (459, 458, 491),
   (492, 491, 524), (525, 524, 557), (558, 557, 557), (591, 590, 557), (624, 623, 590), (657, 656, 623),
   (690, 689, 656), (723, 722, 689), (756, 755, 722), (789, 788, 755), (822, 821, 788), (855, 854, 821),
   (888, 887, 854), (921, 920, 887), (954, 953, 920), (987, 986, 953), (1020, 986, 986), (1019, 986, 985),
   (1018, 985, 984), (1017, 984, 983), (1016, 983, 982), (1015, 982, 981), (1014, 981, 980), (1013, 980, 979),
   (1012, 979, 978), (1011, 978, 977), (1010, 977, 976), (1009, 976, 975), (1008, 975, 974), (1007, 974, 973),
   (1006, 973, 973), (1005, 972, 973), (1004, 971, 972), (1003, 970, 971), (1002, 969, 970), (1001, 968, 969),
   (1000, 967, 968), (999, 966, 967), (998, 965, 966), (997, 964, 965), (996, 963, 964), (995, 962, 963),
   (994, 961, 962), (993, 960, 961), (992, 960, 960), (959, 960, 927), (926, 927, 894), (893, 894, 861),
   (860, 861, 828), (827, 828, 795), (794, 795, 762), (761, 762, 729), (728, 729, 696), (695, 696, 663),
   (662, 663, 630), (629, 630, 597), (596, 597, 564), (563, 564, 531), (530, 531, 531), (497, 498, 531),
   (464, 465, 498), (431, 432, 465), (398, 399, 432), (365, 366, 399), (332, 333, 366), (299, 300, 333),
   (266, 267, 300), (233, 234, 267), (200, 201, 234), (167, 168, 201), (134, 135, 168), (101, 102, 135)],
  [(34, 68, 68), (35, 68, 69), (36, 69, 70), (37, 70, 71), (38, 71, 72), (39, 72, 73), (40, 73, 74), (41, 74, 75),
   (42, 75, 76), (43, 76, 77), (44, 77, 78), (45, 78, 79), (46, 79, 80), (47, 80, 81), (48, 81, 82), (49, 82, 82),
   (50, 83, 82), (51, 84, 83), (52, 85, 84), (53, 86, 85), (54, 87, 86), (55, 88, 87), (56, 89, 88), (57, 90, 89),
   (58, 91, 90), (59, 92, 91), (60, 93, 92), (61, 94, 93), (62, 95, 94), (63, 96, 95), (64, 96, 96), (97, 96, 129),
   (130, 129, 162), (163, 162, 195), (196, 195, 228), (229, 228, 261), (262, 261, 294), (295, 294, 327),
   (328, 327, 360), (361, 360, 393), (394, 393, 426), (427, 426, 459), (460, 459, 492), (493, 492, 525),
   (526, 525, 558), (559, 558, 558), (592, 591, 558), (625, 624, 591), (658, 657, 624), (691, 690, 657),
   (724, 723, 690), (757, 756, 723), (790, 789, 756), (823, 822, 789), (856, 855, 822), (889, 888, 855),
   (922, 921, 888), (955, 954, 921), (988, 987, 954), (1021, 1020, 987), (1054, 1020, 1020), (1053, 1020, 1019),
   (1052, 1019, 1018), (1051, 1018, 1017), (1050, 1017, 1016), (1049, 1016, 1015), (1048, 1015, 1014),
   (1047, 1014, 1013), (1046, 1013, 1012), (1045, 1012, 1011), (1044, 1011, 1010), (1043, 1010, 1009),
   (1042, 1009, 1008), (1041, 1008, 1007), (1040, 1007, 1006), (1039, 1006, 1006), (1038, 1005, 1006),
   (1037, 1004, 1005), (1036, 1003, 1004), (1035, 1002, 1003), (1034, 1001, 1002), (1033, 1000, 1001),
   (1032, 999, 1000), (1031, 998, 999), (1030, 997, 998), (1029, 996, 997), (1028, 995, 996), (1027, 994, 995),
   (1026, 993, 994), (1025, 992, 993), (1024, 992, 992), (991, 992, 959), (958, 959, 926), (925, 926, 893),
   (892, 893, 860), (859, 860, 827), (826, 827, 794), (793, 794, 761), (760, 761, 728), (727, 728, 695),
   (694, 695, 662), (661, 662, 629), (628, 629, 596), (595, 596, 563), (562, 563, 530), (529, 530, 530),
   (496, 497, 530), (463, 464, 497), (430, 431, 464), (397, 398, 431), (364, 365, 398), (331, 332, 365),
   (298, 299, 332), (265, 266, 299), (232, 233, 266), (199, 200, 233), (166, 167, 200), (133, 134, 167),
   (100, 101, 134), (67, 68, 101)],
  [(0, 34, 34), (1, 34, 35), (2, 35, 36), (3, 36, 37), (4, 37, 38), (5, 38, 39), (6, 39, 40), (7, 40, 41),
   (8, 41, 42), (9, 42, 43), (10, 43, 44), (11, 44, 45), (12, 45, 46), (13, 46, 47), (14, 47, 48), (15, 48, 49),
   (16, 49, 49), (17, 50, 49), (18, 51, 50), (19, 52, 51), (20, 53, 52), (21, 54, 53), (22, 55, 54), (23, 56, 55),
   (24, 57, 56), (25, 58, 57), (26, 59, 58), (27, 60, 59), (28, 61, 60), (29, 62, 61), (30, 63, 62), (31, 64, 63),
   (32, 64, 64), (65, 64, 97), (98, 97, 130), (131, 130, 163), (164, 163, 196), (197, 196, 229), (230, 229, 262),
   (263, 262, 295), (296, 295, 328), (329, 328, 361), (362, 361, 394), (395, 394, 427), (428, 427, 460),
   (461, 460, 493), (494, 493, 526), (527, 526, 559), (560, 559, 559), (593, 592, 559), (626, 625, 592),
   (659, 658, 625), (692, 691, 658), (725, 724, 691), (758, 757, 724), (791, 790, 757), (824, 823, 790),
   (857, 856, 823), (890, 889, 856), (923, 922, 889), (956, 955, 922), (989, 988, 955), (1022, 1021, 988),
   (1055, 1054, 1021), (1088, 1054, 1054), (1087, 1054, 1053), (1086, 1053, 1052), (1085, 1052, 1051),
   (1084, 1051, 1050), (1083, 1050, 1049), (1082, 1049, 1048), (1081, 1048, 1047), (1080, 1047, 1046),
   (1079, 1046, 1045), (1078, 1045, 1044), (1077, 1044, 1043), (1076, 1043, 1042), (1075, 1042, 1041),
   (1074, 1041, 1040), (1073, 1040, 1039), (1072, 1039, 1039), (1071, 1038, 1039), (1070, 1037, 1038),
   (1069, 1036, 1037), (1068, 1035, 1036), (1067, 1034, 1035), (1066, 1033, 1034), (1065, 1032, 1033),
   (1064, 1031, 1032), (1063, 1030, 1031), (1062, 1029, 1030), (1061, 1028, 1029), (1060, 1027, 1028),
   (1059, 1026, 1027), (1058, 1025, 1026), (1057, 1024, 1025), (1056, 1024, 1024), (1023, 1024, 991),
   (990, 991, 958), (957, 958, 925), (924, 925, 892), (891, 892, 859), (858, 859, 826), (825, 826, 793),
   (792, 793, 760), (759, 760, 727), (726, 727, 694), (693, 694, 661), (660, 661, 628), (627, 628, 595),
   (594, 595, 562), (561, 562, 529), (528, 529, 529), (495, 496, 529), (462, 463, 496), (429, 430, 463),
   (396, 397, 430), (363, 364, 397), (330, 331, 364), (297, 298, 331), (264, 265, 298), (231, 232, 265),
   (198, 199, 232), (165, 166, 199), (132, 133, 166), (99, 100, 133), (66, 67, 100), (33, 34, 67)]]

/-- The base the coefficients are the digits of. -/
def base : Nat := 2 ^ 40

/-- The number listed for a place. -/
def look (l : List (Nat × Nat)) (a : Nat) : Nat :=
  List.rec (motive := fun _ => Nat) 0 (fun q _ r => cond (Nat.beq q.1 a) q.2 r) l

/-- Whether a place is listed. -/
def has (l : List (Nat × Nat)) (a : Nat) : Bool :=
  List.rec (motive := fun _ => Bool) false (fun q _ r => cond (Nat.beq q.1 a) true r) l

/-- The coefficients at the places of the next ring. -/
def next (r : Nat) (l : List (Nat × Nat)) (ring : List (Nat × Nat × Nat)) : List (Nat × Nat) :=
  ring.map fun t => (t.1, Nat.add (Nat.mul (2 ^ (r + 1)) (Nat.pow base t.1)) (Nat.add (look l t.2.1) (look l t.2.2)))

/-- The ring a place lies on. -/
def lvl (p : Nat) : Nat := max (max (p / 33 - 16) (16 - p / 33)) (max (p % 33 - 16) (16 - p % 33))

/-- The ring of number `r`. -/
def ringAt (r : Nat) : List (Nat × Nat × Nat) := rings.getD r []

/-- The coefficients at the places of ring `r`; ring `0` is the middle. -/
def coefs (r : Nat) : List (Nat × Nat) :=
  Nat.rec (motive := fun _ => List (Nat × Nat)) [(544, Nat.pow base 544)] (fun r l => next r l (ringAt r)) r

/-- What the computation needs of the ring after ring `r`: its places lie on it, and it takes from listed places. -/
def ringOk (r : Nat) : Bool :=
  (ringAt r).all fun t => Nat.beq (lvl t.1) (r + 1) && Nat.ble t.1 1088 && has (coefs r) t.2.1 && has (coefs r) t.2.2

/-- Every ring has its places at its own level and takes from places that the ring inside lists. -/
theorem rings_ok : ((List.range 16).all ringOk) = true := by decide +kernel

/-- The places of a ring are distinct. -/
theorem rings_distinct : ((List.range 16).all fun r => decide ((ringAt r).map (·.1)).Nodup) = true := by decide +kernel

/-- The coefficients of the tokens. -/
def cols : List Nat := (coefs 16).map (·.2)

end Cert.Vit
-- ==== Proof.Ring.lean ====
/- One ring of the spiral in the reference: what the gathers read, where the scatter writes. -/
module

public import proofs.«01_k».proof.Proof.RefRun
public import proofs.«01_k».proof.Proof.SpiralCoef
public import Idealize.ShloMosaic.Lib.Routing.OpsOne

@[expose] public section

set_option maxRecDepth 16384

noncomputable section

namespace Cert.ReferenceIdeal.Spiral

open Cert.ReferenceIdeal Cert.ReferenceIdeal.Gen Cert.ReferenceIdeal.Value Idealize.ShloMosaic Idealize.ShloMosaic.Tactic Cert.Vit Cert.ReferenceIdeal.Layer Idealize.ShloMosaic.Routing
open scoped BigOperators

/-- The values of `n` places of every channel of every image. -/
abbrev T3 (n : Nat) : Shape := ⟨3, ![64, 128, n]⟩

/-- A column of `n` index words. -/
abbrev T2 (n : Nat) : Shape := ⟨2, ![n, 1]⟩

/-- A list of `n` index words. -/
abbrev T1 (n : Nat) : Shape := ⟨1, ![n]⟩

/-- Reading `n` places of every channel. -/
abbrev gdims (n : Nat) (h : GatherDims.WF S64x128x1089 (T2 n) (T3 n) [0, 1] [2] [] [2] [] 1 ![64, 128, 1]) :
    GatherDims S64x128x1089 (T2 n) (T3 n) where
  offsetDims := [0, 1]
  collapsedSliceDims := [2]
  operandBatchingDims := []
  startIndicesBatchingDims := []
  startIndexMap := [2]
  indexVectorDim := 1
  sliceSizes := ![64, 128, 1]
  wf := h

/-- Writing `n` places of every channel. -/
abbrev sdims (n : Nat) (h : ScatterDims.WF S64x128x1089 (T2 n) (T3 n) [0, 1] [2] [2] 1) :
    ScatterDims S64x128x1089 (T2 n) (T3 n) where
  updateWindowDims := [0, 1]
  insertedWindowDims := [2]
  scatterDimsToOperandDims := [2]
  indexVectorDim := 1
  wf := h

/-- Gathering at index words reads the place that the word names. -/
theorem gather_at {n : Nat} (h) (x : A S64x128x1089) (idx : IVec (T2 n) 32) (b : Fin 64) (c : Fin 128) (j : Fin n) (k : Fin 1089)
    (hk : (idx (ix2 j (0 : Fin 1))).toInt = (k.val : Int)) :
    Host.gather (gdims n h) x idx (ix3 b c j) = x (ix3 b c k) := by
  refine congrArg x (funext fun a => Fin.ext ?_)
  have hs : (gdims n h).siIdx (ix3 b c j) ⟨0, Nat.zero_lt_one⟩ = ix2 j (0 : Fin 1) := by
    funext e
    fin_cases e
    · rfl
    · rfl
  fin_cases a
  · exact Nat.zero_add _
  · exact Nat.zero_add _
  · show min (idx ((gdims n h).siIdx (ix3 b c j) ⟨0, Nat.zero_lt_one⟩)).toInt.toNat (1089 - 1) + 0 + 0 = k.val
    rw [hs, hk]
    have := k.isLt
    omega

/-- A scattered value lands at a place exactly if image and channel agree and the index word names the place. -/
theorem lands_iff {n : Nat} (h) (idx : IVec (T2 n) 32) (b b' : Fin 64) (c c' : Fin 128) (j : Fin n) (p : Fin 1089) :
    (sdims n h).resultIdx? (ix3 b' c' j) idx = some (ix3 b c p)
      ↔ b' = b ∧ c' = c ∧ (idx (ix2 j (0 : Fin 1))).toInt = (p.val : Int) := by
  have hs : (sdims n h).siIdx (ix3 b' c' j) ⟨0, Nat.zero_lt_one⟩ = ix2 j (0 : Fin 1) := by
    funext e
    fin_cases e
    · rfl
    · rfl
  have h2 : (sdims n h).start (ix3 b' c' j) idx 2 = (idx (ix2 j (0 : Fin 1))).toInt := by
    show (idx ((sdims n h).siIdx (ix3 b' c' j) ⟨0, Nat.zero_lt_one⟩)).toInt = _
    rw [hs]
  have e0 : (sdims n h).start (ix3 b' c' j) idx 0 = 0 := rfl
  have e1 : (sdims n h).start (ix3 b' c' j) idx 1 = 0 := rfl
  have w0 : (sdims n h).window (ix3 b' c' j) 0 = b'.val := rfl
  have w1 : (sdims n h).window (ix3 b' c' j) 1 = c'.val := rfl
  have w2 : (sdims n h).window (ix3 b' c' j) 2 = 0 := rfl
  rw [resultIdx?_eq_some]
  constructor
  · intro q
    have q0 := q 0
    have q1 := q 1
    have q2 := q 2
    rw [e0, w0] at q0
    rw [e1, w1] at q1
    rw [h2, w2] at q2
    have q0 : (0 : Int) + (b'.val : Int) = (b.val : Int) := q0
    have q1 : (0 : Int) + (c'.val : Int) = (c.val : Int) := q1
    have q2 : (idx (ix2 j (0 : Fin 1))).toInt + ((0 : Nat) : Int) = (p.val : Int) := q2
    exact ⟨Fin.ext (by omega), Fin.ext (by omega), by omega⟩
  · rintro ⟨rfl, rfl, q⟩ a
    fin_cases a
    · show (sdims n h).start (ix3 b' c' j) idx 0 + ((sdims n h).window (ix3 b' c' j) 0 : Int) = (b'.val : Int)
      rw [e0, w0, zero_add]
    · show (sdims n h).start (ix3 b' c' j) idx 1 + ((sdims n h).window (ix3 b' c' j) 1 : Int) = (c'.val : Int)
      rw [e1, w1, zero_add]
    · show (sdims n h).start (ix3 b' c' j) idx 2 + ((sdims n h).window (ix3 b' c' j) 2 : Int) = (p.val : Int)
      rw [h2, w2, q]
      rfl

/-- The index words of a ring as the reference prepares them. -/
abbrev prep {n : Nat} (h1 : (T1 n).BroadcastsInDim (T2 n) (![0] : Fin 1 → Fin (T2 n).rank))
    (h2 : S_.BroadcastsInDim (T1 n) (![] : Fin 0 → Fin (T1 n).rank)) (I : IVec (T1 n) 32) : IVec (T2 n) 32 :=
  broadcastInDim (T2 n) ![0] h1 (select (constantI (T1 n) 1 0#1) (addi I (broadcastInDim (T1 n) ![] h2 (constantI S_ 32 1089#32))) I)

/-- The prepared index words are the words themselves. -/
theorem prep_at {n : Nat} (h1) (h2) (I : IVec (T1 n) 32) (j : Fin n) : prep h1 h2 I (ix2 j (0 : Fin 1)) = I (ix1 j) := by
  unfold prep
  have e : ∀ i : (T2 n).Idx, i = ix2 j (0 : Fin 1) →
      broadcastInDim (T2 n) ![0] h1 (select (constantI (T1 n) 1 0#1) (addi I (broadcastInDim (T1 n) ![] h2 (constantI S_ 32 1089#32))) I) i
        = I (ix1 j) := by
    rintro i rfl
    pointwise []
    refine congrArg I (funext fun a => Fin.ext ?_)
    fin_cases a
    by_cases hn : n = 1
    · subst hn
      obtain rfl : j = 0 := Subsingleton.elim _ _
      rfl
    · simp [Shape.Idx.norm, hn]
  exact e _ rfl

/-- One ring of the spiral: every place of the ring gains half the sum of its two sources. -/
abbrev ringv {n : Nat} (hg : GatherDims.WF S64x128x1089 (T2 n) (T3 n) [0, 1] [2] [] [2] [] 1 ![64, 128, 1])
    (hs : ScatterDims.WF S64x128x1089 (T2 n) (T3 n) [0, 1] [2] [2] 1)
    (h1 : (T1 n).BroadcastsInDim (T2 n) (![0] : Fin 1 → Fin (T2 n).rank))
    (h2 : S_.BroadcastsInDim (T1 n) (![] : Fin 0 → Fin (T1 n).rank))
    (h3 : S_.BroadcastsInDim (T3 n) (![] : Fin 0 → Fin (T3 n).rank)) (cur : A S64x128x1089) (I J K : IVec (T1 n) 32) : A S64x128x1089 :=
  Host.scatter (sdims n hs) (fun _ b => b) cur (prep h1 h2 I)
    (addf (Host.gather (gdims n hg) cur (prep h1 h2 I))
      (mulf (addf (Host.gather (gdims n hg) cur (prep h1 h2 J)) (Host.gather (gdims n hg) cur (prep h1 h2 K)))
        (broadcastInDim (T3 n) ![] h3 (constant (F := Ideal) S_ .f32 0x3F000000#32))))

variable {n : Nat} (hg : GatherDims.WF S64x128x1089 (T2 n) (T3 n) [0, 1] [2] [] [2] [] 1 ![64, 128, 1])
  (hs : ScatterDims.WF S64x128x1089 (T2 n) (T3 n) [0, 1] [2] [2] 1)
  (h1 : (T1 n).BroadcastsInDim (T2 n) (![0] : Fin 1 → Fin (T2 n).rank))
  (h2 : S_.BroadcastsInDim (T1 n) (![] : Fin 0 → Fin (T1 n).rank))
  (h3 : S_.BroadcastsInDim (T3 n) (![] : Fin 0 → Fin (T3 n).rank)) (cur : A S64x128x1089) (I J K : IVec (T1 n) 32)
  (i j k : Fin n → Fin 1089)

/-- A place of the ring. -/
theorem ringv_hit (hI : ∀ t, (I (ix1 t)).toInt = ((i t).val : Int)) (hJ : ∀ t, (J (ix1 t)).toInt = ((j t).val : Int))
    (hK : ∀ t, (K (ix1 t)).toInt = ((k t).val : Int)) (inj : Function.Injective i) (b : Fin 64) (c : Fin 128) (t : Fin n) :
    ringv hg hs h1 h2 h3 cur I J K (ix3 b c (i t))
      = cur (ix3 b c (i t)) + (cur (ix3 b c (j t)) + cur (ix3 b c (k t))) * ((1 / 2 : ℝ) : EReal) := by
  have e : ∀ (b : Fin 64) (c : Fin 128) (t : Fin n),
      (addf (Host.gather (gdims n hg) cur (prep h1 h2 I))
        (mulf (addf (Host.gather (gdims n hg) cur (prep h1 h2 J)) (Host.gather (gdims n hg) cur (prep h1 h2 K)))
          (broadcastInDim (T3 n) ![] h3 (constant (F := Ideal) S_ .f32 0x3F000000#32)))) (ix3 b c t)
        = cur (ix3 b c (i t)) + (cur (ix3 b c (j t)) + cur (ix3 b c (k t))) * ((1 / 2 : ℝ) : EReal) := by
    intro b c t
    show Host.gather (gdims n hg) cur (prep h1 h2 I) (ix3 b c t)
      + (Host.gather (gdims n hg) cur (prep h1 h2 J) (ix3 b c t) + Host.gather (gdims n hg) cur (prep h1 h2 K) (ix3 b c t))
        * Ideal.ofBits .f32 0x3F000000#32 = _
    rw [gather_at hg cur _ b c t (i t) (by rw [prep_at, hI]), gather_at hg cur _ b c t (j t) (by rw [prep_at, hJ]),
      gather_at hg cur _ b c t (k t) (by rw [prep_at, hK]), word_half]
  refine scatter_set_hit (sdims n hs) cur (prep h1 h2 I) _ (ix3 b c (i t)) _ (fun q hq => ?_) (ix3 b c t)
    ((lands_iff hs _ b b c c t (i t)).2 ⟨rfl, rfl, by rw [prep_at, hI]⟩)
  obtain ⟨b', c', t', rfl⟩ : ∃ b' c' t', q = ix3 b' c' t' := ⟨q 0, q 1, q 2, by funext a; fin_cases a <;> rfl⟩
  obtain ⟨rfl, rfl, h⟩ := (lands_iff hs _ b b' c c' t' (i t)).1 hq
  rw [prep_at, hI] at h
  obtain rfl : t' = t := inj (Fin.ext (by exact_mod_cast h))
  exact e _ _ _

/-- A place off the ring. -/
theorem ringv_miss (hI : ∀ t, (I (ix1 t)).toInt = ((i t).val : Int)) (b : Fin 64) (c : Fin 128) (p : Fin 1089)
    (hp : ∀ t, i t ≠ p) : ringv hg hs h1 h2 h3 cur I J K (ix3 b c p) = cur (ix3 b c p) := by
  refine scatter_set_miss (sdims n hs) cur (prep h1 h2 I) _ (ix3 b c p) fun q hq => ?_
  obtain ⟨b', c', t', rfl⟩ : ∃ b' c' t', q = ix3 b' c' t' := ⟨q 0, q 1, q 2, by funext a; fin_cases a <;> rfl⟩
  obtain ⟨-, -, h⟩ := (lands_iff hs _ b b' c c' t' p).1 hq
  rw [prep_at, hI] at h
  exact hp t' (Fin.ext (by exact_mod_cast h))

end Cert.ReferenceIdeal.Spiral
-- ==== Proof.Spiral.lean ====
/- The spiral of the reference in real numbers: after every ring its places hold the combinations that the coefficients
   of the computation on natural numbers give. -/
module

public import proofs.«01_k».proof.Proof.Ring

@[expose] public section

set_option maxRecDepth 16384

noncomputable section

namespace Cert.ReferenceIdeal.Spiral

open Cert.ReferenceIdeal Cert.ReferenceIdeal.Gen Cert.ReferenceIdeal.Value Idealize.ShloMosaic Idealize.ShloMosaic.Tactic Cert.Vit Cert.ReferenceIdeal.Layer Idealize.ShloMosaic.Routing
open scoped BigOperators

/-- The digits of a number are the coefficients it is made of. -/
theorem digit_sum (f : Nat → Nat) (hf : ∀ m, f m < base) (n m : Nat) (hm : m < n) :
    (∑ i ∈ Finset.range n, f i * base ^ i) / base ^ m % base = f m := by
  have hb : 0 < base := by unfold base; positivity
  induction m generalizing f n with
  | zero =>
    obtain ⟨k, rfl⟩ : ∃ k, n = k + 1 := ⟨n - 1, by omega⟩
    rw [Finset.sum_range_succ', pow_zero, mul_one, Nat.div_one]
    have : ∑ i ∈ Finset.range k, f (i + 1) * base ^ (i + 1) = base * ∑ i ∈ Finset.range k, f (i + 1) * base ^ i := by
      rw [Finset.mul_sum]
      exact Finset.sum_congr rfl fun i _ => by ring
    rw [this, Nat.mul_add_mod, Nat.mod_eq_of_lt (hf 0)]
  | succ m ih =>
    obtain ⟨k, rfl⟩ : ∃ k, n = k + 1 := ⟨n - 1, by omega⟩
    have e : ∑ i ∈ Finset.range k, f (i + 1) * base ^ (i + 1) = base * ∑ i ∈ Finset.range k, f (i + 1) * base ^ i := by
      rw [Finset.mul_sum]
      exact Finset.sum_congr rfl fun i _ => by ring
    rw [Finset.sum_range_succ', pow_zero, mul_one, e, pow_succ', ← Nat.div_div_eq_div_mul, Nat.mul_add_div hb,
      Nat.div_eq_of_lt (hf 0), add_zero]
    exact ih (fun i => f (i + 1)) (fun i => hf _) k (by omega)

/-- A number lists the coefficients with which place `p` holds its combination of the entries, over `2 ^ r`. -/
def Rep (X : Fin 64 → Fin 128 → Fin 1089 → ℝ) (cur : A S64x128x1089) (r N p : Nat) : Prop :=
  ∃ (hp : p < 1089) (f : Nat → Nat), (∀ m, f m ≤ 4 ^ r) ∧ N = ∑ m ∈ Finset.range 1089, f m * base ^ m
    ∧ ∀ b c, cur (ix3 b c (⟨p, hp⟩ : Fin 1089)) = (((∑ m : Fin 1089, (f m.val : ℝ) * X b c m) / 2 ^ r : ℝ) : EReal)

/-- What holds after `r` rings. -/
structure Inv (X : Fin 64 → Fin 128 → Fin 1089 → ℝ) (r : Nat) (cur : A S64x128x1089) : Prop where
  places : ∀ q ∈ coefs r, Rep X cur r q.2 q.1
  rest : ∀ p : Fin 1089, r < lvl p.val → ∀ b c, cur (ix3 b c p) = ((X b c p : ℝ) : EReal)

/-- Before the first ring. -/
theorem inv_zero {X : Fin 64 → Fin 128 → Fin 1089 → ℝ} {cur : A S64x128x1089}
    (h : ∀ b c p, cur (ix3 b c p) = ((X b c p : ℝ) : EReal)) : Inv X 0 cur := by
  refine ⟨fun q hq => ?_, fun p _ b c => h b c p⟩
  obtain rfl : q = (544, Nat.pow base 544) := List.mem_singleton.1 hq
  refine ⟨by decide, fun m => if m = 544 then 1 else 0, fun m => ?_, ?_, fun b c => ?_⟩
  · dsimp only
    split <;> simp
  · simp only [ite_mul, one_mul, zero_mul]
    rw [Finset.sum_ite_eq' (Finset.range 1089) 544 (fun m => base ^ m), if_pos (by decide)]
    rfl
  · rw [h]
    congr 1
    rw [pow_zero, div_one, Finset.sum_eq_single (⟨544, by decide⟩ : Fin 1089)]
    · simp
    · intro m _ hm
      have : m.val ≠ 544 := fun e => hm (Fin.ext e)
      simp [this]
    · simp

/-- Reading a list within its length. -/
theorem getD_getElem {α : Type} (l : List α) (d : α) {i : Nat} (h : i < l.length) : l.getD i d = l[i] := by simp [h]

/-- A listed place is listed with the number `look` gives. -/
theorem look_mem (l : List (Nat × Nat)) (a : Nat) (h : has l a = true) : (a, look l a) ∈ l := by
  induction l with
  | nil => cases h
  | cons q l ih =>
    have hh : has (q :: l) a = cond (Nat.beq q.1 a) true (has l a) := rfl
    have hl : look (q :: l) a = cond (Nat.beq q.1 a) q.2 (look l a) := rfl
    rw [hh] at h
    rw [hl]
    cases e : Nat.beq q.1 a with
    | true =>
      obtain rfl : q.1 = a := Nat.eq_of_beq_eq_true e
      exact List.mem_cons_self
    | false =>
      rw [e] at h
      exact List.mem_cons_of_mem _ (ih h)

variable {n : Nat} (hg : GatherDims.WF S64x128x1089 (T2 n) (T3 n) [0, 1] [2] [] [2] [] 1 ![64, 128, 1])
  (hs : ScatterDims.WF S64x128x1089 (T2 n) (T3 n) [0, 1] [2] [2] 1)
  (h1 : (T1 n).BroadcastsInDim (T2 n) (![0] : Fin 1 → Fin (T2 n).rank))
  (h2 : S_.BroadcastsInDim (T1 n) (![] : Fin 0 → Fin (T1 n).rank))
  (h3 : S_.BroadcastsInDim (T3 n) (![] : Fin 0 → Fin (T3 n).rank)) (cur : A S64x128x1089) (I J K : IVec (T1 n) 32)

/-- The index words of ring `r`. -/
def Words {n : Nat} (r : Nat) (g : Nat × Nat × Nat → Nat) (I : IVec (T1 n) 32) : Prop :=
  ∀ t : Fin n, (I (ix1 t)).toInt = (g ((ringAt r).getD t.val (0, 0, 0)) : Int)

/-- One more ring. -/
theorem inv_succ {X : Fin 64 → Fin 128 → Fin 1089 → ℝ} {r : Nat} (hr : r < 16) (inv : Inv X r cur)
    (hn : (ringAt r).length = n) (hI : Words r (fun t => t.1) I) (hJ : Words r (fun t => t.2.1) J)
    (hK : Words r (fun t => t.2.2) K) : Inv X (r + 1) (ringv hg hs h1 h2 h3 cur I J K) := by
  have ok : ∀ t ∈ ringAt r, lvl t.1 = r + 1 ∧ t.1 < 1089 ∧ (t.2.1, look (coefs r) t.2.1) ∈ coefs r
      ∧ (t.2.2, look (coefs r) t.2.2) ∈ coefs r := by
    intro t ht
    have a := List.all_eq_true.1 rings_ok r (List.mem_range.2 hr)
    have q := List.all_eq_true.1 a t ht
    simp only [Bool.and_eq_true] at q
    obtain ⟨⟨⟨q1, q2⟩, q3⟩, q4⟩ := q
    exact ⟨Nat.eq_of_beq_eq_true q1, Nat.lt_succ_of_le (Nat.le_of_ble_eq_true q2), look_mem _ _ q3, look_mem _ _ q4⟩
  have nd : ((ringAt r).map (·.1)).Nodup := of_decide_eq_true (List.all_eq_true.1 rings_distinct r (List.mem_range.2 hr))
  have mem : ∀ t : Fin n, (ringAt r).getD t.val (0, 0, 0) ∈ ringAt r := by
    intro t
    rw [getD_getElem _ _ (by rw [hn]; exact t.isLt)]
    exact List.getElem_mem _
  have lt2 : ∀ t : Fin n, ((ringAt r).getD t.val (0, 0, 0)).2.1 < 1089 := fun t => (inv.places _ (ok _ (mem t)).2.2.1).1
  have lt3 : ∀ t : Fin n, ((ringAt r).getD t.val (0, 0, 0)).2.2 < 1089 := fun t => (inv.places _ (ok _ (mem t)).2.2.2).1
  let i : Fin n → Fin 1089 := fun t => ⟨((ringAt r).getD t.val (0, 0, 0)).1, (ok _ (mem t)).2.1⟩
  let j : Fin n → Fin 1089 := fun t => ⟨((ringAt r).getD t.val (0, 0, 0)).2.1, lt2 t⟩
  let k : Fin n → Fin 1089 := fun t => ⟨((ringAt r).getD t.val (0, 0, 0)).2.2, lt3 t⟩
  have inj : Function.Injective i := by
    intro s t e
    have e : ((ringAt r).getD s.val (0, 0, 0)).1 = ((ringAt r).getD t.val (0, 0, 0)).1 := congrArg Fin.val e
    have hs' : s.val < (ringAt r).length := by rw [hn]; exact s.isLt
    have ht' : t.val < (ringAt r).length := by rw [hn]; exact t.isLt
    rw [getD_getElem _ _ hs', getD_getElem _ _ ht'] at e
    refine Fin.ext ((List.Nodup.getElem_inj_iff nd (hi := by simpa using hs') (hj := by simpa using ht')).1 ?_)
    rw [List.getElem_map, List.getElem_map]
    exact e
  refine ⟨fun q hq => ?_, fun p hp b c => ?_⟩
  · obtain ⟨t, ht, rfl⟩ := List.mem_map.1 hq
    obtain ⟨s, hsl, rfl⟩ := List.mem_iff_getElem.1 ht
    have hsn : s < n := by rw [← hn]; exact hsl
    have eg : (ringAt r).getD s (0, 0, 0) = (ringAt r)[s] := getD_getElem _ _ hsl
    obtain ⟨o1, o2, o3, o4⟩ := ok _ ht
    obtain ⟨ha, f, hf, ef, vf⟩ := inv.places _ o3
    obtain ⟨hb, g, hg', eg', vg⟩ := inv.places _ o4
    have hit := fun b c => ringv_hit hg hs h1 h2 h3 cur I J K i j k hI hJ hK inj b c ⟨s, hsn⟩
    have ei : i ⟨s, hsn⟩ = ⟨((ringAt r)[s]).1, o2⟩ := Fin.ext (congrArg (·.1) eg)
    have ej : j ⟨s, hsn⟩ = ⟨((ringAt r)[s]).2.1, ha⟩ := Fin.ext (congrArg (·.2.1) eg)
    have ek : k ⟨s, hsn⟩ = ⟨((ringAt r)[s]).2.2, hb⟩ := Fin.ext (congrArg (·.2.2) eg)
    rw [ei, ej, ek] at hit
    generalize (ringAt r)[s] = t at *
    refine ⟨o2, fun m => 2 ^ (r + 1) * (if m = t.1 then 1 else 0) + (f m + g m), fun m => ?_, ?_, fun b c => ?_⟩
    · have p2 : 2 ^ r ≤ 4 ^ r := Nat.pow_le_pow_left (by decide) r
      have := hf m
      have := hg' m
      have e2 : 2 ^ (r + 1) = 2 * 2 ^ r := pow_succ' 2 r
      have e4 : 4 ^ (r + 1) = 4 * 4 ^ r := pow_succ' 4 r
      dsimp only
      split <;> omega
    · show Nat.add (Nat.mul (2 ^ (r + 1)) (Nat.pow base t.1)) (Nat.add (look (coefs r) t.2.1) (look (coefs r) t.2.2)) = _
      have e1 : ∀ m, (2 ^ (r + 1) * (if m = t.1 then 1 else 0) + (f m + g m)) * base ^ m
          = (if m = t.1 then 2 ^ (r + 1) * base ^ m else 0) + (f m * base ^ m + g m * base ^ m) := by
        intro m
        split <;> ring
      simp only [e1, Finset.sum_add_distrib]
      rw [Finset.sum_ite_eq' (Finset.range 1089) t.1 (fun m => 2 ^ (r + 1) * base ^ m), if_pos (Finset.mem_range.2 o2), ← ef, ← eg']
      rfl
    · have hx := inv.rest ⟨t.1, o2⟩ (by show r < lvl t.1; omega) b c
      rw [hit b c, hx, vf b c, vg b c, ← EReal.coe_add, ← EReal.coe_mul, ← EReal.coe_add]
      congr 1
      have e3 : ∑ m : Fin 1089, (((2 ^ (r + 1) * (if m.val = t.1 then 1 else 0) + (f m.val + g m.val) : Nat) : ℝ)) * X b c m
          = 2 ^ (r + 1) * X b c ⟨t.1, o2⟩ + (∑ m : Fin 1089, (f m.val : ℝ) * X b c m + ∑ m : Fin 1089, (g m.val : ℝ) * X b c m) := by
        have e5 : ∀ m : Fin 1089, (((2 ^ (r + 1) * (if m.val = t.1 then 1 else 0) + (f m.val + g m.val) : Nat) : ℝ)) * X b c m
            = (if m = ⟨t.1, o2⟩ then 2 ^ (r + 1) * X b c m else 0) + ((f m.val : ℝ) * X b c m + (g m.val : ℝ) * X b c m) := by
          intro m
          by_cases hm : m = ⟨t.1, o2⟩
          · have hm' : m.val = t.1 := congrArg Fin.val hm
            rw [if_pos hm, if_pos hm']
            push_cast
            ring
          · have hm' : m.val ≠ t.1 := fun e => hm (Fin.ext e)
            rw [if_neg hm, if_neg hm']
            push_cast
            ring
        simp only [e5, Finset.sum_add_distrib]
        rw [Finset.sum_ite_eq' Finset.univ (⟨t.1, o2⟩ : Fin 1089) (fun m => 2 ^ (r + 1) * X b c m), if_pos (Finset.mem_univ _)]
      rw [e3, pow_succ]
      field_simp
  · rw [ringv_miss hg hs h1 h2 h3 cur I J K i hI b c p fun t e => ?_]
    · exact inv.rest p (by omega) b c
    · have : lvl p.val = r + 1 := by rw [← e]; exact (ok _ (mem t)).1
      omega

/-- Whether the index words of a ring are its places can be decided. -/
instance {n : Nat} (r : Nat) (g : Nat × Nat × Nat → Nat) (I : IVec (T1 n) 32) : Decidable (Words r g I) :=
  inferInstanceAs (Decidable (∀ t : Fin n, _))

variable (V : Valuation τ sig (Elt Ideal))

/-- The values after the last ring. -/
def lastv : A S64x128x1089 :=
  ringv gather_S64x128x1089_S128x1_S64x128x128_01_2_n_n_2_1_641281_wf scatter_S64x128x1089_S128x1_S64x128x128_01_2_2_1_wf
    bcast_S128_S128x1_0 bcast_S_S128 bcast_S_S64x128x128 (res_main_v360 V) (res_main_c_104 V) (res_main_c_106 V) (res_main_c_108 V)

/-- The coefficients hold after all the rings. -/
theorem inv_last {X : Fin 64 → Fin 128 → Fin 1089 → ℝ} (h : ∀ b c p, res_main_v0 V (ix3 b c p) = ((X b c p : ℝ) : EReal)) :
    Inv X 16 (lastv V) := by
  have i0 := inv_zero h
  have i1 : Inv X 1 (res_main_v24 V) :=
    inv_succ gather_S64x128x1089_S8x1_S64x128x8_01_2_n_n_2_1_641281_wf scatter_S64x128x1089_S8x1_S64x128x8_01_2_2_1_wf
      bcast_S8_S8x1_0 bcast_S_S8 bcast_S_S64x128x8 (res_main_v0 V) (res_main_c V) (res_main_c_1 V)
      (res_main_c_3 V) (by decide) i0 rfl
      (by decide +kernel : Words 0 (fun t => t.1) (fun i => lit0 (S8.rowMajor i)))
      (by decide +kernel : Words 0 (fun t => t.2.1) (constantI S8 32 544#32))
      (by decide +kernel : Words 0 (fun t => t.2.2) (constantI S8 32 544#32))
  have i2 : Inv X 2 (res_main_v48 V) :=
    inv_succ gather_S64x128x1089_S16x1_S64x128x16_01_2_n_n_2_1_641281_wf scatter_S64x128x1089_S16x1_S64x128x16_01_2_2_1_wf
      bcast_S16_S16x1_0 bcast_S_S16 bcast_S_S64x128x16 (res_main_v24 V) (res_main_c_6 V) (res_main_c_8 V)
      (res_main_c_10 V) (by decide) i1 rfl
      (by decide +kernel : Words 1 (fun t => t.1) (fun i => lit1 (S16.rowMajor i)))
      (by decide +kernel : Words 1 (fun t => t.2.1) (fun i => lit2 (S16.rowMajor i)))
      (by decide +kernel : Words 1 (fun t => t.2.2) (fun i => lit3 (S16.rowMajor i)))
  have i3 : Inv X 3 (res_main_v72 V) :=
    inv_succ gather_S64x128x1089_S24x1_S64x128x24_01_2_n_n_2_1_641281_wf scatter_S64x128x1089_S24x1_S64x128x24_01_2_2_1_wf
      bcast_S24_S24x1_0 bcast_S_S24 bcast_S_S64x128x24 (res_main_v48 V) (res_main_c_13 V) (res_main_c_15 V)
      (res_main_c_17 V) (by decide) i2 rfl
      (by decide +kernel : Words 2 (fun t => t.1) (fun i => lit4 (S24.rowMajor i)))
      (by decide +kernel : Words 2 (fun t => t.2.1) (fun i => lit5 (S24.rowMajor i)))
      (by decide +kernel : Words 2 (fun t => t.2.2) (fun i => lit6 (S24.rowMajor i)))
  have i4 : Inv X 4 (res_main_v96 V) :=
    inv_succ gather_S64x128x1089_S32x1_S64x128x32_01_2_n_n_2_1_641281_wf scatter_S64x128x1089_S32x1_S64x128x32_01_2_2_1_wf
      bcast_S32_S32x1_0 bcast_S_S32 bcast_S_S64x128x32 (res_main_v72 V) (res_main_c_20 V) (res_main_c_22 V)
      (res_main_c_24 V) (by decide) i3 rfl
      (by decide +kernel : Words 3 (fun t => t.1) (fun i => lit7 (S32.rowMajor i)))
      (by decide +kernel : Words 3 (fun t => t.2.1) (fun i => lit8 (S32.rowMajor i)))
      (by decide +kernel : Words 3 (fun t => t.2.2) (fun i => lit9 (S32.rowMajor i)))
  have i5 : Inv X 5 (res_main_v120 V) :=
    inv_succ gather_S64x128x1089_S40x1_S64x128x40_01_2_n_n_2_1_641281_wf scatter_S64x128x1089_S40x1_S64x128x40_01_2_2_1_wf
      bcast_S40_S40x1_0 bcast_S_S40 bcast_S_S64x128x40 (res_main_v96 V) (res_main_c_27 V) (res_main_c_29 V)
      (res_main_c_31 V) (by decide) i4 rfl
      (by decide +kernel : Words 4 (fun t => t.1) (fun i => lit10 (S40.rowMajor i)))
      (by decide +kernel : Words 4 (fun t => t.2.1) (fun i => lit11 (S40.rowMajor i)))
      (by decide +kernel : Words 4 (fun t => t.2.2) (fun i => lit12 (S40.rowMajor i)))
  have i6 : Inv X 6 (res_main_v144 V) :=
    inv_succ gather_S64x128x1089_S48x1_S64x128x48_01_2_n_n_2_1_641281_wf scatter_S64x128x1089_S48x1_S64x128x48_01_2_2_1_wf
      bcast_S48_S48x1_0 bcast_S_S48 bcast_S_S64x128x48 (res_main_v120 V) (res_main_c_34 V) (res_main_c_36 V)
      (res_main_c_38 V) (by decide) i5 rfl
      (by decide +kernel : Words 5 (fun t => t.1) (fun i => lit13 (S48.rowMajor i)))
      (by decide +kernel : Words 5 (fun t => t.2.1) (fun i => lit14 (S48.rowMajor i)))
      (by decide +kernel : Words 5 (fun t => t.2.2) (fun i => lit15 (S48.rowMajor i)))
  have i7 : Inv X 7 (res_main_v168 V) :=
    inv_succ gather_S64x128x1089_S56x1_S64x128x56_01_2_n_n_2_1_641281_wf scatter_S64x128x1089_S56x1_S64x128x56_01_2_2_1_wf
      bcast_S56_S56x1_0 bcast_S_S56 bcast_S_S64x128x56 (res_main_v144 V) (res_main_c_41 V) (res_main_c_43 V)
      (res_main_c_45 V) (by decide) i6 rfl
      (by decide +kernel : Words 6 (fun t => t.1) (fun i => lit16 (S56.rowMajor i)))
      (by decide +kernel : Words 6 (fun t => t.2.1) (fun i => lit17 (S56.rowMajor i)))
      (by decide +kernel : Words 6 (fun t => t.2.2) (fun i => lit18 (S56.rowMajor i)))
  have i8 : Inv X 8 (res_main_v192 V) :=
    inv_succ gather_S64x128x1089_S64x1_S64x128x64_01_2_n_n_2_1_641281_wf scatter_S64x128x1089_S64x1_S64x128x64_01_2_2_1_wf
      bcast_S64_S64x1_0 bcast_S_S64 bcast_S_S64x128x64 (res_main_v168 V) (res_main_c_48 V) (res_main_c_50 V)
      (res_main_c_52 V) (by decide) i7 rfl
      (by decide +kernel : Words 7 (fun t => t.1) (fun i => lit19 (S64.rowMajor i)))
      (by decide +kernel : Words 7 (fun t => t.2.1) (fun i => lit20 (S64.rowMajor i)))
      (by decide +kernel : Words 7 (fun t => t.2.2) (fun i => lit21 (S64.rowMajor i)))
  have i9 : Inv X 9 (res_main_v216 V) :=
    inv_succ gather_S64x128x1089_S72x1_S64x128x72_01_2_n_n_2_1_641281_wf scatter_S64x128x1089_S72x1_S64x128x72_01_2_2_1_wf
      bcast_S72_S72x1_0 bcast_S_S72 bcast_S_S64x128x72 (res_main_v192 V) (res_main_c_55 V) (res_main_c_57 V)
      (res_main_c_59 V) (by decide) i8 rfl
      (by decide +kernel : Words 8 (fun t => t.1) (fun i => lit22 (S72.rowMajor i)))
      (by decide +kernel : Words 8 (fun t => t.2.1) (fun i => lit23 (S72.rowMajor i)))
      (by decide +kernel : Words 8 (fun t => t.2.2) (fun i => lit24 (S72.rowMajor i)))
  have i10 : Inv X 10 (res_main_v240 V) :=
    inv_succ gather_S64x128x1089_S80x1_S64x128x80_01_2_n_n_2_1_641281_wf scatter_S64x128x1089_S80x1_S64x128x80_01_2_2_1_wf
      bcast_S80_S80x1_0 bcast_S_S80 bcast_S_S64x128x80 (res_main_v216 V) (res_main_c_62 V) (res_main_c_64 V)
      (res_main_c_66 V) (by decide) i9 rfl
      (by decide +kernel : Words 9 (fun t => t.1) (fun i => lit25 (S80.rowMajor i)))
      (by decide +kernel : Words 9 (fun t => t.2.1) (fun i => lit26 (S80.rowMajor i)))
      (by decide +kernel : Words 9 (fun t => t.2.2) (fun i => lit27 (S80.rowMajor i)))
  have i11 : Inv X 11 (res_main_v264 V) :=
    inv_succ gather_S64x128x1089_S88x1_S64x128x88_01_2_n_n_2_1_641281_wf scatter_S64x128x1089_S88x1_S64x128x88_01_2_2_1_wf
      bcast_S88_S88x1_0 bcast_S_S88 bcast_S_S64x128x88 (res_main_v240 V) (res_main_c_69 V) (res_main_c_71 V)
      (res_main_c_73 V) (by decide) i10 rfl
      (by decide +kernel : Words 10 (fun t => t.1) (fun i => lit28 (S88.rowMajor i)))
      (by decide +kernel : Words 10 (fun t => t.2.1) (fun i => lit29 (S88.rowMajor i)))
      (by decide +kernel : Words 10 (fun t => t.2.2) (fun i => lit30 (S88.rowMajor i)))
  have i12 : Inv X 12 (res_main_v288 V) :=
    inv_succ gather_S64x128x1089_S96x1_S64x128x96_01_2_n_n_2_1_641281_wf scatter_S64x128x1089_S96x1_S64x128x96_01_2_2_1_wf
      bcast_S96_S96x1_0 bcast_S_S96 bcast_S_S64x128x96 (res_main_v264 V) (res_main_c_76 V) (res_main_c_78 V)
      (res_main_c_80 V) (by decide) i11 rfl
      (by decide +kernel : Words 11 (fun t => t.1) (fun i => lit31 (S96.rowMajor i)))
      (by decide +kernel : Words 11 (fun t => t.2.1) (fun i => lit32 (S96.rowMajor i)))
      (by decide +kernel : Words 11 (fun t => t.2.2) (fun i => lit33 (S96.rowMajor i)))
  have i13 : Inv X 13 (res_main_v312 V) :=
    inv_succ gather_S64x128x1089_S104x1_S64x128x104_01_2_n_n_2_1_641281_wf scatter_S64x128x1089_S104x1_S64x128x104_01_2_2_1_wf
      bcast_S104_S104x1_0 bcast_S_S104 bcast_S_S64x128x104 (res_main_v288 V) (res_main_c_83 V) (res_main_c_85 V)
      (res_main_c_87 V) (by decide) i12 rfl
      (by decide +kernel : Words 12 (fun t => t.1) (fun i => lit34 (S104.rowMajor i)))
      (by decide +kernel : Words 12 (fun t => t.2.1) (fun i => lit35 (S104.rowMajor i)))
      (by decide +kernel : Words 12 (fun t => t.2.2) (fun i => lit36 (S104.rowMajor i)))
  have i14 : Inv X 14 (res_main_v336 V) :=
    inv_succ gather_S64x128x1089_S112x1_S64x128x112_01_2_n_n_2_1_641281_wf scatter_S64x128x1089_S112x1_S64x128x112_01_2_2_1_wf
      bcast_S112_S112x1_0 bcast_S_S112 bcast_S_S64x128x112 (res_main_v312 V) (res_main_c_90 V) (res_main_c_92 V)
      (res_main_c_94 V) (by decide) i13 rfl
      (by decide +kernel : Words 13 (fun t => t.1) (fun i => lit37 (S112.rowMajor i)))
      (by decide +kernel : Words 13 (fun t => t.2.1) (fun i => lit38 (S112.rowMajor i)))
      (by decide +kernel : Words 13 (fun t => t.2.2) (fun i => lit39 (S112.rowMajor i)))
  have i15 : Inv X 15 (res_main_v360 V) :=
    inv_succ gather_S64x128x1089_S120x1_S64x128x120_01_2_n_n_2_1_641281_wf scatter_S64x128x1089_S120x1_S64x128x120_01_2_2_1_wf
      bcast_S120_S120x1_0 bcast_S_S120 bcast_S_S64x128x120 (res_main_v336 V) (res_main_c_97 V) (res_main_c_99 V)
      (res_main_c_101 V) (by decide) i14 rfl
      (by decide +kernel : Words 14 (fun t => t.1) (fun i => lit40 (S120.rowMajor i)))
      (by decide +kernel : Words 14 (fun t => t.2.1) (fun i => lit41 (S120.rowMajor i)))
      (by decide +kernel : Words 14 (fun t => t.2.2) (fun i => lit42 (S120.rowMajor i)))
  have i16 : Inv X 16 (lastv V) :=
    inv_succ gather_S64x128x1089_S128x1_S64x128x128_01_2_n_n_2_1_641281_wf scatter_S64x128x1089_S128x1_S64x128x128_01_2_2_1_wf
      bcast_S128_S128x1_0 bcast_S_S128 bcast_S_S64x128x128 (res_main_v360 V) (res_main_c_104 V) (res_main_c_106 V)
      (res_main_c_108 V) (by decide) i15 rfl
      (by decide +kernel : Words 15 (fun t => t.1) (fun i => lit43 (S128.rowMajor i)))
      (by decide +kernel : Words 15 (fun t => t.2.1) (fun i => lit44 (S128.rowMajor i)))
      (by decide +kernel : Words 15 (fun t => t.2.2) (fun i => lit45 (S128.rowMajor i)))
  exact i16

end Cert.ReferenceIdeal.Spiral
-- ==== Proof.Table.lean ====
/- The matrix of the spiral that the kernel multiplies with, read row by row, and that its entries are the coefficients
   of the spiral. -/
module

public import proofs.«01_k».proof.KernelIdeal
public import proofs.«01_k».proof.Proof.SpiralCoef

@[expose] public section

set_option maxRecDepth 16384

noncomputable section

namespace Cert.KernelIdeal.Table

open Cert.KernelIdeal Cert.Vit

/-! ### Tables of 128 words, and tables of 128 tables -/

/-- A table that lists its words in a period of 128. -/
structure Row (f : Nat → BitVec 32) (l : List (BitVec 32)) : Prop where
  reads : ∀ i, f i = l.getD (i % 128) 0#32

/-- The table of 128 words. -/
def pick (h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 h65 h66 h67 h68 h69 h70 h71 h72 h73 h74 h75 h76 h77 h78 h79 h80 h81 h82 h83 h84 h85 h86
    h87 h88 h89 h90 h91 h92 h93 h94 h95 h96 h97 h98 h99 h100 h101 h102 h103 h104 h105 h106 h107 h108 h109 h110 h111
    h112 h113 h114 h115 h116 h117 h118 h119 h120 h121 h122 h123 h124 h125 h126 h127 : BitVec 32) : Nat → BitVec 32 := fun i =>
  lit0t0_0.match_1 (fun _ => BitVec 32) (i % 128)
    (fun _ => h0) (fun _ => h1) (fun _ => h2) (fun _ => h3) (fun _ => h4) (fun _ => h5) (fun _ => h6) (fun _ => h7)
    (fun _ => h8) (fun _ => h9) (fun _ => h10) (fun _ => h11) (fun _ => h12) (fun _ => h13) (fun _ => h14)
    (fun _ => h15) (fun _ => h16) (fun _ => h17) (fun _ => h18) (fun _ => h19) (fun _ => h20) (fun _ => h21)
    (fun _ => h22) (fun _ => h23) (fun _ => h24) (fun _ => h25) (fun _ => h26) (fun _ => h27) (fun _ => h28)
    (fun _ => h29) (fun _ => h30) (fun _ => h31) (fun _ => h32) (fun _ => h33) (fun _ => h34) (fun _ => h35)
    (fun _ => h36) (fun _ => h37) (fun _ => h38) (fun _ => h39) (fun _ => h40) (fun _ => h41) (fun _ => h42)
    (fun _ => h43) (fun _ => h44) (fun _ => h45) (fun _ => h46) (fun _ => h47) (fun _ => h48) (fun _ => h49)
    (fun _ => h50) (fun _ => h51) (fun _ => h52) (fun _ => h53) (fun _ => h54) (fun _ => h55) (fun _ => h56)
    (fun _ => h57) (fun _ => h58) (fun _ => h59) (fun _ => h60) (fun _ => h61) (fun _ => h62) (fun _ => h63)
    (fun _ => h64) (fun _ => h65) (fun _ => h66) (fun _ => h67) (fun _ => h68) (fun _ => h69) (fun _ => h70)
    (fun _ => h71) (fun _ => h72) (fun _ => h73) (fun _ => h74) (fun _ => h75) (fun _ => h76) (fun _ => h77)
    (fun _ => h78) (fun _ => h79) (fun _ => h80) (fun _ => h81) (fun _ => h82) (fun _ => h83) (fun _ => h84)
    (fun _ => h85) (fun _ => h86) (fun _ => h87) (fun _ => h88) (fun _ => h89) (fun _ => h90) (fun _ => h91)
    (fun _ => h92) (fun _ => h93) (fun _ => h94) (fun _ => h95) (fun _ => h96) (fun _ => h97) (fun _ => h98)
    (fun _ => h99) (fun _ => h100) (fun _ => h101) (fun _ => h102) (fun _ => h103) (fun _ => h104) (fun _ => h105)
    (fun _ => h106) (fun _ => h107) (fun _ => h108) (fun _ => h109) (fun _ => h110) (fun _ => h111) (fun _ => h112)
    (fun _ => h113) (fun _ => h114) (fun _ => h115) (fun _ => h116) (fun _ => h117) (fun _ => h118) (fun _ => h119)
    (fun _ => h120) (fun _ => h121) (fun _ => h122) (fun _ => h123) (fun _ => h124) (fun _ => h125) (fun _ => h126)
    (fun _ => h127)
    (fun _ => 0#32)

/-- A table that selects among 128 words reads the list of those words. -/
theorem row_of (h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 h65 h66 h67 h68 h69 h70 h71 h72 h73 h74 h75 h76 h77 h78 h79 h80 h81 h82 h83 h84 h85 h86
    h87 h88 h89 h90 h91 h92 h93 h94 h95 h96 h97 h98 h99 h100 h101 h102 h103 h104 h105 h106 h107 h108 h109 h110 h111
    h112 h113 h114 h115 h116 h117 h118 h119 h120 h121 h122 h123 h124 h125 h126 h127 : BitVec 32) :
    Row (pick
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56 h57
      h58 h59 h60 h61 h62 h63 h64 h65 h66 h67 h68 h69 h70 h71 h72 h73 h74 h75 h76 h77 h78 h79 h80 h81 h82 h83 h84 h85
      h86 h87 h88 h89 h90 h91 h92 h93 h94 h95 h96 h97 h98 h99 h100 h101 h102 h103 h104 h105 h106 h107 h108 h109 h110
      h111 h112 h113 h114 h115 h116 h117 h118 h119 h120 h121 h122 h123 h124 h125 h126 h127)
      [h0, h1, h2, h3, h4, h5, h6, h7, h8, h9, h10, h11, h12, h13, h14, h15, h16, h17, h18, h19, h20, h21, h22, h23,
       h24, h25, h26, h27, h28, h29, h30, h31, h32, h33, h34, h35, h36, h37, h38, h39, h40, h41, h42, h43, h44, h45,
       h46, h47, h48, h49, h50, h51, h52, h53, h54, h55, h56, h57, h58, h59, h60, h61, h62, h63, h64, h65, h66, h67,
       h68, h69, h70, h71, h72, h73, h74, h75, h76, h77, h78, h79, h80, h81, h82, h83, h84, h85, h86, h87, h88, h89,
       h90, h91, h92, h93, h94, h95, h96, h97, h98, h99, h100, h101, h102, h103, h104, h105, h106, h107, h108, h109,
       h110, h111, h112, h113, h114, h115, h116, h117, h118, h119, h120, h121, h122, h123, h124, h125, h126, h127] := by
  refine ⟨fun i => ?_⟩
  unfold pick
  have h : i % 128 < 128 := Nat.mod_lt _ (by decide)
  beta_reduce
  generalize i % 128 = x at h ⊢
  interval_cases x <;> rfl

/-- A table made of tables, one for every 128 places. -/
structure Node (f : Nat → BitVec 32) (l : List (Nat → BitVec 32)) : Prop where
  reads : ∀ i, f i = (l.getD (i / 128 % 128) fun _ => 0#32) i

/-- The table of 128 tables. -/
def node (h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 h65 h66 h67 h68 h69 h70 h71 h72 h73 h74 h75 h76 h77 h78 h79 h80 h81 h82 h83 h84 h85 h86
    h87 h88 h89 h90 h91 h92 h93 h94 h95 h96 h97 h98 h99 h100 h101 h102 h103 h104 h105 h106 h107 h108 h109 h110 h111
    h112 h113 h114 h115 h116 h117 h118 h119 h120 h121 h122 h123 h124 h125 h126 h127 : Nat → BitVec 32) : Nat → BitVec 32 := fun i =>
  lit0t0_0.match_1 (fun _ => BitVec 32) (i / 128 % 128)
    (fun _ => h0 i) (fun _ => h1 i) (fun _ => h2 i) (fun _ => h3 i) (fun _ => h4 i) (fun _ => h5 i) (fun _ => h6 i)
    (fun _ => h7 i) (fun _ => h8 i) (fun _ => h9 i) (fun _ => h10 i) (fun _ => h11 i) (fun _ => h12 i)
    (fun _ => h13 i) (fun _ => h14 i) (fun _ => h15 i) (fun _ => h16 i) (fun _ => h17 i) (fun _ => h18 i)
    (fun _ => h19 i) (fun _ => h20 i) (fun _ => h21 i) (fun _ => h22 i) (fun _ => h23 i) (fun _ => h24 i)
    (fun _ => h25 i) (fun _ => h26 i) (fun _ => h27 i) (fun _ => h28 i) (fun _ => h29 i) (fun _ => h30 i)
    (fun _ => h31 i) (fun _ => h32 i) (fun _ => h33 i) (fun _ => h34 i) (fun _ => h35 i) (fun _ => h36 i)
    (fun _ => h37 i) (fun _ => h38 i) (fun _ => h39 i) (fun _ => h40 i) (fun _ => h41 i) (fun _ => h42 i)
    (fun _ => h43 i) (fun _ => h44 i) (fun _ => h45 i) (fun _ => h46 i) (fun _ => h47 i) (fun _ => h48 i)
    (fun _ => h49 i) (fun _ => h50 i) (fun _ => h51 i) (fun _ => h52 i) (fun _ => h53 i) (fun _ => h54 i)
    (fun _ => h55 i) (fun _ => h56 i) (fun _ => h57 i) (fun _ => h58 i) (fun _ => h59 i) (fun _ => h60 i)
    (fun _ => h61 i) (fun _ => h62 i) (fun _ => h63 i) (fun _ => h64 i) (fun _ => h65 i) (fun _ => h66 i)
    (fun _ => h67 i) (fun _ => h68 i) (fun _ => h69 i) (fun _ => h70 i) (fun _ => h71 i) (fun _ => h72 i)
    (fun _ => h73 i) (fun _ => h74 i) (fun _ => h75 i) (fun _ => h76 i) (fun _ => h77 i) (fun _ => h78 i)
    (fun _ => h79 i) (fun _ => h80 i) (fun _ => h81 i) (fun _ => h82 i) (fun _ => h83 i) (fun _ => h84 i)
    (fun _ => h85 i) (fun _ => h86 i) (fun _ => h87 i) (fun _ => h88 i) (fun _ => h89 i) (fun _ => h90 i)
    (fun _ => h91 i) (fun _ => h92 i) (fun _ => h93 i) (fun _ => h94 i) (fun _ => h95 i) (fun _ => h96 i)
    (fun _ => h97 i) (fun _ => h98 i) (fun _ => h99 i) (fun _ => h100 i) (fun _ => h101 i) (fun _ => h102 i)
    (fun _ => h103 i) (fun _ => h104 i) (fun _ => h105 i) (fun _ => h106 i) (fun _ => h107 i) (fun _ => h108 i)
    (fun _ => h109 i) (fun _ => h110 i) (fun _ => h111 i) (fun _ => h112 i) (fun _ => h113 i) (fun _ => h114 i)
    (fun _ => h115 i) (fun _ => h116 i) (fun _ => h117 i) (fun _ => h118 i) (fun _ => h119 i) (fun _ => h120 i)
    (fun _ => h121 i) (fun _ => h122 i) (fun _ => h123 i) (fun _ => h124 i) (fun _ => h125 i) (fun _ => h126 i)
    (fun _ => h127 i)
    (fun _ => 0#32)

/-- A table that selects among 128 tables reads the list of those tables. -/
theorem node_of (h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 h65 h66 h67 h68 h69 h70 h71 h72 h73 h74 h75 h76 h77 h78 h79 h80 h81 h82 h83 h84 h85 h86
    h87 h88 h89 h90 h91 h92 h93 h94 h95 h96 h97 h98 h99 h100 h101 h102 h103 h104 h105 h106 h107 h108 h109 h110 h111
    h112 h113 h114 h115 h116 h117 h118 h119 h120 h121 h122 h123 h124 h125 h126 h127 : Nat → BitVec 32) :
    Node (node
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56 h57
      h58 h59 h60 h61 h62 h63 h64 h65 h66 h67 h68 h69 h70 h71 h72 h73 h74 h75 h76 h77 h78 h79 h80 h81 h82 h83 h84 h85
      h86 h87 h88 h89 h90 h91 h92 h93 h94 h95 h96 h97 h98 h99 h100 h101 h102 h103 h104 h105 h106 h107 h108 h109 h110
      h111 h112 h113 h114 h115 h116 h117 h118 h119 h120 h121 h122 h123 h124 h125 h126 h127)
      [h0, h1, h2, h3, h4, h5, h6, h7, h8, h9, h10, h11, h12, h13, h14, h15, h16, h17, h18, h19, h20, h21, h22, h23,
       h24, h25, h26, h27, h28, h29, h30, h31, h32, h33, h34, h35, h36, h37, h38, h39, h40, h41, h42, h43, h44, h45,
       h46, h47, h48, h49, h50, h51, h52, h53, h54, h55, h56, h57, h58, h59, h60, h61, h62, h63, h64, h65, h66, h67,
       h68, h69, h70, h71, h72, h73, h74, h75, h76, h77, h78, h79, h80, h81, h82, h83, h84, h85, h86, h87, h88, h89,
       h90, h91, h92, h93, h94, h95, h96, h97, h98, h99, h100, h101, h102, h103, h104, h105, h106, h107, h108, h109,
       h110, h111, h112, h113, h114, h115, h116, h117, h118, h119, h120, h121, h122, h123, h124, h125, h126, h127] := by
  refine ⟨fun i => ?_⟩
  unfold node
  have h : i / 128 % 128 < 128 := Nat.mod_lt _ (by decide)
  beta_reduce
  generalize i / 128 % 128 = x at h ⊢
  interval_cases x <;> rfl

/-- The table of the last 65 tables. -/
def nodeL (h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 : Nat → BitVec 32) : Nat → BitVec 32 := fun i =>
  lit0t1_8.match_1 (fun _ => BitVec 32) (i / 128 % 128)
    (fun _ => h0 i) (fun _ => h1 i) (fun _ => h2 i) (fun _ => h3 i) (fun _ => h4 i) (fun _ => h5 i) (fun _ => h6 i)
    (fun _ => h7 i) (fun _ => h8 i) (fun _ => h9 i) (fun _ => h10 i) (fun _ => h11 i) (fun _ => h12 i)
    (fun _ => h13 i) (fun _ => h14 i) (fun _ => h15 i) (fun _ => h16 i) (fun _ => h17 i) (fun _ => h18 i)
    (fun _ => h19 i) (fun _ => h20 i) (fun _ => h21 i) (fun _ => h22 i) (fun _ => h23 i) (fun _ => h24 i)
    (fun _ => h25 i) (fun _ => h26 i) (fun _ => h27 i) (fun _ => h28 i) (fun _ => h29 i) (fun _ => h30 i)
    (fun _ => h31 i) (fun _ => h32 i) (fun _ => h33 i) (fun _ => h34 i) (fun _ => h35 i) (fun _ => h36 i)
    (fun _ => h37 i) (fun _ => h38 i) (fun _ => h39 i) (fun _ => h40 i) (fun _ => h41 i) (fun _ => h42 i)
    (fun _ => h43 i) (fun _ => h44 i) (fun _ => h45 i) (fun _ => h46 i) (fun _ => h47 i) (fun _ => h48 i)
    (fun _ => h49 i) (fun _ => h50 i) (fun _ => h51 i) (fun _ => h52 i) (fun _ => h53 i) (fun _ => h54 i)
    (fun _ => h55 i) (fun _ => h56 i) (fun _ => h57 i) (fun _ => h58 i) (fun _ => h59 i) (fun _ => h60 i)
    (fun _ => h61 i) (fun _ => h62 i) (fun _ => h63 i) (fun _ => h64 i)
    (fun _ => 0#32)

/-- A table that selects among 65 tables reads the list of those tables. -/
theorem nodeL_of (h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 : Nat → BitVec 32) :
    Node (nodeL
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56 h57
      h58 h59 h60 h61 h62 h63 h64)
      [h0, h1, h2, h3, h4, h5, h6, h7, h8, h9, h10, h11, h12, h13, h14, h15, h16, h17, h18, h19, h20, h21, h22, h23,
       h24, h25, h26, h27, h28, h29, h30, h31, h32, h33, h34, h35, h36, h37, h38, h39, h40, h41, h42, h43, h44, h45,
       h46, h47, h48, h49, h50, h51, h52, h53, h54, h55, h56, h57, h58, h59, h60, h61, h62, h63, h64] := by
  refine ⟨fun i => ?_⟩
  unfold nodeL
  have h : i / 128 % 128 < 128 := Nat.mod_lt _ (by decide)
  beta_reduce
  generalize i / 128 % 128 = x at h ⊢
  interval_cases x <;> rfl

/-- A table with the list of its words. -/
structure Tab where
  fn : Nat → BitVec 32
  words : List (BitVec 32)
  row : Row fn words

/-- A table with the list of its words, the table named first. -/
def tab (f : Nat → BitVec 32) {l : List (BitVec 32)} (h : Row f l) : Tab := ⟨f, l, h⟩

/-! ### The rows of the matrix -/

/-- Part 0 of the rows of the matrix, each with the list of its words. -/
def part0 : List Tab := [
  tab lit0t0_0 (row_of ..), tab lit0t0_1 (row_of ..), tab lit0t0_2 (row_of ..), tab lit0t0_3 (row_of ..),
  tab lit0t0_4 (row_of ..), tab lit0t0_5 (row_of ..), tab lit0t0_6 (row_of ..), tab lit0t0_7 (row_of ..),
  tab lit0t0_8 (row_of ..), tab lit0t0_9 (row_of ..), tab lit0t0_10 (row_of ..), tab lit0t0_11 (row_of ..),
  tab lit0t0_12 (row_of ..), tab lit0t0_13 (row_of ..), tab lit0t0_14 (row_of ..), tab lit0t0_15 (row_of ..),
  tab lit0t0_16 (row_of ..), tab lit0t0_17 (row_of ..), tab lit0t0_18 (row_of ..), tab lit0t0_19 (row_of ..),
  tab lit0t0_20 (row_of ..), tab lit0t0_21 (row_of ..), tab lit0t0_22 (row_of ..), tab lit0t0_23 (row_of ..),
  tab lit0t0_24 (row_of ..), tab lit0t0_25 (row_of ..), tab lit0t0_26 (row_of ..), tab lit0t0_27 (row_of ..),
  tab lit0t0_28 (row_of ..), tab lit0t0_29 (row_of ..), tab lit0t0_30 (row_of ..), tab lit0t0_31 (row_of ..),
  tab lit0t0_32 (row_of ..), tab lit0t0_33 (row_of ..), tab lit0t0_34 (row_of ..), tab lit0t0_35 (row_of ..),
  tab lit0t0_36 (row_of ..), tab lit0t0_37 (row_of ..), tab lit0t0_38 (row_of ..), tab lit0t0_39 (row_of ..),
  tab lit0t0_40 (row_of ..), tab lit0t0_41 (row_of ..), tab lit0t0_42 (row_of ..), tab lit0t0_43 (row_of ..),
  tab lit0t0_44 (row_of ..), tab lit0t0_45 (row_of ..), tab lit0t0_46 (row_of ..), tab lit0t0_47 (row_of ..),
  tab lit0t0_48 (row_of ..), tab lit0t0_49 (row_of ..), tab lit0t0_50 (row_of ..), tab lit0t0_51 (row_of ..),
  tab lit0t0_52 (row_of ..), tab lit0t0_53 (row_of ..), tab lit0t0_54 (row_of ..), tab lit0t0_55 (row_of ..),
  tab lit0t0_56 (row_of ..), tab lit0t0_57 (row_of ..), tab lit0t0_58 (row_of ..), tab lit0t0_59 (row_of ..),
  tab lit0t0_60 (row_of ..), tab lit0t0_61 (row_of ..), tab lit0t0_62 (row_of ..), tab lit0t0_63 (row_of ..),
  tab lit0t0_64 (row_of ..), tab lit0t0_65 (row_of ..), tab lit0t0_66 (row_of ..), tab lit0t0_67 (row_of ..),
  tab lit0t0_68 (row_of ..), tab lit0t0_69 (row_of ..), tab lit0t0_70 (row_of ..), tab lit0t0_71 (row_of ..),
  tab lit0t0_72 (row_of ..), tab lit0t0_73 (row_of ..), tab lit0t0_74 (row_of ..), tab lit0t0_75 (row_of ..),
  tab lit0t0_76 (row_of ..), tab lit0t0_77 (row_of ..), tab lit0t0_78 (row_of ..), tab lit0t0_79 (row_of ..),
  tab lit0t0_80 (row_of ..), tab lit0t0_81 (row_of ..), tab lit0t0_82 (row_of ..), tab lit0t0_83 (row_of ..),
  tab lit0t0_84 (row_of ..), tab lit0t0_85 (row_of ..), tab lit0t0_86 (row_of ..), tab lit0t0_87 (row_of ..),
  tab lit0t0_88 (row_of ..), tab lit0t0_89 (row_of ..), tab lit0t0_90 (row_of ..), tab lit0t0_91 (row_of ..),
  tab lit0t0_92 (row_of ..), tab lit0t0_93 (row_of ..), tab lit0t0_94 (row_of ..), tab lit0t0_95 (row_of ..),
  tab lit0t0_96 (row_of ..), tab lit0t0_97 (row_of ..), tab lit0t0_98 (row_of ..), tab lit0t0_99 (row_of ..),
  tab lit0t0_100 (row_of ..), tab lit0t0_101 (row_of ..), tab lit0t0_102 (row_of ..), tab lit0t0_103 (row_of ..),
  tab lit0t0_104 (row_of ..), tab lit0t0_105 (row_of ..), tab lit0t0_106 (row_of ..), tab lit0t0_107 (row_of ..),
  tab lit0t0_108 (row_of ..), tab lit0t0_109 (row_of ..), tab lit0t0_110 (row_of ..), tab lit0t0_111 (row_of ..),
  tab lit0t0_112 (row_of ..), tab lit0t0_113 (row_of ..), tab lit0t0_114 (row_of ..), tab lit0t0_115 (row_of ..),
  tab lit0t0_116 (row_of ..), tab lit0t0_117 (row_of ..), tab lit0t0_118 (row_of ..), tab lit0t0_119 (row_of ..),
  tab lit0t0_120 (row_of ..), tab lit0t0_121 (row_of ..), tab lit0t0_122 (row_of ..), tab lit0t0_123 (row_of ..),
  tab lit0t0_124 (row_of ..), tab lit0t0_125 (row_of ..), tab lit0t0_126 (row_of ..), tab lit0t0_127 (row_of ..)]

/-- Part 1 of the rows of the matrix, each with the list of its words. -/
def part1 : List Tab := [
  tab lit0t0_128 (row_of ..), tab lit0t0_129 (row_of ..), tab lit0t0_130 (row_of ..), tab lit0t0_131 (row_of ..),
  tab lit0t0_132 (row_of ..), tab lit0t0_133 (row_of ..), tab lit0t0_134 (row_of ..), tab lit0t0_135 (row_of ..),
  tab lit0t0_136 (row_of ..), tab lit0t0_137 (row_of ..), tab lit0t0_138 (row_of ..), tab lit0t0_139 (row_of ..),
  tab lit0t0_140 (row_of ..), tab lit0t0_141 (row_of ..), tab lit0t0_142 (row_of ..), tab lit0t0_143 (row_of ..),
  tab lit0t0_144 (row_of ..), tab lit0t0_145 (row_of ..), tab lit0t0_146 (row_of ..), tab lit0t0_147 (row_of ..),
  tab lit0t0_148 (row_of ..), tab lit0t0_149 (row_of ..), tab lit0t0_150 (row_of ..), tab lit0t0_151 (row_of ..),
  tab lit0t0_152 (row_of ..), tab lit0t0_153 (row_of ..), tab lit0t0_154 (row_of ..), tab lit0t0_155 (row_of ..),
  tab lit0t0_156 (row_of ..), tab lit0t0_157 (row_of ..), tab lit0t0_158 (row_of ..), tab lit0t0_159 (row_of ..),
  tab lit0t0_160 (row_of ..), tab lit0t0_161 (row_of ..), tab lit0t0_162 (row_of ..), tab lit0t0_163 (row_of ..),
  tab lit0t0_164 (row_of ..), tab lit0t0_165 (row_of ..), tab lit0t0_166 (row_of ..), tab lit0t0_167 (row_of ..),
  tab lit0t0_168 (row_of ..), tab lit0t0_169 (row_of ..), tab lit0t0_170 (row_of ..), tab lit0t0_171 (row_of ..),
  tab lit0t0_172 (row_of ..), tab lit0t0_173 (row_of ..), tab lit0t0_174 (row_of ..), tab lit0t0_175 (row_of ..),
  tab lit0t0_176 (row_of ..), tab lit0t0_177 (row_of ..), tab lit0t0_178 (row_of ..), tab lit0t0_179 (row_of ..),
  tab lit0t0_180 (row_of ..), tab lit0t0_181 (row_of ..), tab lit0t0_182 (row_of ..), tab lit0t0_183 (row_of ..),
  tab lit0t0_184 (row_of ..), tab lit0t0_185 (row_of ..), tab lit0t0_186 (row_of ..), tab lit0t0_187 (row_of ..),
  tab lit0t0_188 (row_of ..), tab lit0t0_189 (row_of ..), tab lit0t0_190 (row_of ..), tab lit0t0_191 (row_of ..),
  tab lit0t0_192 (row_of ..), tab lit0t0_193 (row_of ..), tab lit0t0_194 (row_of ..), tab lit0t0_195 (row_of ..),
  tab lit0t0_196 (row_of ..), tab lit0t0_197 (row_of ..), tab lit0t0_198 (row_of ..), tab lit0t0_199 (row_of ..),
  tab lit0t0_200 (row_of ..), tab lit0t0_201 (row_of ..), tab lit0t0_202 (row_of ..), tab lit0t0_203 (row_of ..),
  tab lit0t0_204 (row_of ..), tab lit0t0_205 (row_of ..), tab lit0t0_206 (row_of ..), tab lit0t0_207 (row_of ..),
  tab lit0t0_208 (row_of ..), tab lit0t0_209 (row_of ..), tab lit0t0_210 (row_of ..), tab lit0t0_211 (row_of ..),
  tab lit0t0_212 (row_of ..), tab lit0t0_213 (row_of ..), tab lit0t0_214 (row_of ..), tab lit0t0_215 (row_of ..),
  tab lit0t0_216 (row_of ..), tab lit0t0_217 (row_of ..), tab lit0t0_218 (row_of ..), tab lit0t0_219 (row_of ..),
  tab lit0t0_220 (row_of ..), tab lit0t0_221 (row_of ..), tab lit0t0_222 (row_of ..), tab lit0t0_223 (row_of ..),
  tab lit0t0_224 (row_of ..), tab lit0t0_225 (row_of ..), tab lit0t0_226 (row_of ..), tab lit0t0_227 (row_of ..),
  tab lit0t0_228 (row_of ..), tab lit0t0_229 (row_of ..), tab lit0t0_230 (row_of ..), tab lit0t0_231 (row_of ..),
  tab lit0t0_232 (row_of ..), tab lit0t0_233 (row_of ..), tab lit0t0_234 (row_of ..), tab lit0t0_235 (row_of ..),
  tab lit0t0_236 (row_of ..), tab lit0t0_237 (row_of ..), tab lit0t0_238 (row_of ..), tab lit0t0_239 (row_of ..),
  tab lit0t0_240 (row_of ..), tab lit0t0_241 (row_of ..), tab lit0t0_242 (row_of ..), tab lit0t0_243 (row_of ..),
  tab lit0t0_244 (row_of ..), tab lit0t0_245 (row_of ..), tab lit0t0_246 (row_of ..), tab lit0t0_247 (row_of ..),
  tab lit0t0_248 (row_of ..), tab lit0t0_249 (row_of ..), tab lit0t0_250 (row_of ..), tab lit0t0_251 (row_of ..),
  tab lit0t0_252 (row_of ..), tab lit0t0_253 (row_of ..), tab lit0t0_254 (row_of ..), tab lit0t0_255 (row_of ..)]

/-- Part 2 of the rows of the matrix, each with the list of its words. -/
def part2 : List Tab := [
  tab lit0t0_256 (row_of ..), tab lit0t0_257 (row_of ..), tab lit0t0_258 (row_of ..), tab lit0t0_259 (row_of ..),
  tab lit0t0_260 (row_of ..), tab lit0t0_261 (row_of ..), tab lit0t0_262 (row_of ..), tab lit0t0_263 (row_of ..),
  tab lit0t0_264 (row_of ..), tab lit0t0_265 (row_of ..), tab lit0t0_266 (row_of ..), tab lit0t0_267 (row_of ..),
  tab lit0t0_268 (row_of ..), tab lit0t0_269 (row_of ..), tab lit0t0_270 (row_of ..), tab lit0t0_271 (row_of ..),
  tab lit0t0_272 (row_of ..), tab lit0t0_273 (row_of ..), tab lit0t0_274 (row_of ..), tab lit0t0_275 (row_of ..),
  tab lit0t0_276 (row_of ..), tab lit0t0_277 (row_of ..), tab lit0t0_278 (row_of ..), tab lit0t0_279 (row_of ..),
  tab lit0t0_280 (row_of ..), tab lit0t0_281 (row_of ..), tab lit0t0_282 (row_of ..), tab lit0t0_283 (row_of ..),
  tab lit0t0_284 (row_of ..), tab lit0t0_285 (row_of ..), tab lit0t0_286 (row_of ..), tab lit0t0_287 (row_of ..),
  tab lit0t0_288 (row_of ..), tab lit0t0_289 (row_of ..), tab lit0t0_290 (row_of ..), tab lit0t0_291 (row_of ..),
  tab lit0t0_292 (row_of ..), tab lit0t0_293 (row_of ..), tab lit0t0_294 (row_of ..), tab lit0t0_295 (row_of ..),
  tab lit0t0_296 (row_of ..), tab lit0t0_297 (row_of ..), tab lit0t0_298 (row_of ..), tab lit0t0_299 (row_of ..),
  tab lit0t0_300 (row_of ..), tab lit0t0_301 (row_of ..), tab lit0t0_302 (row_of ..), tab lit0t0_303 (row_of ..),
  tab lit0t0_304 (row_of ..), tab lit0t0_305 (row_of ..), tab lit0t0_306 (row_of ..), tab lit0t0_307 (row_of ..),
  tab lit0t0_308 (row_of ..), tab lit0t0_309 (row_of ..), tab lit0t0_310 (row_of ..), tab lit0t0_311 (row_of ..),
  tab lit0t0_312 (row_of ..), tab lit0t0_313 (row_of ..), tab lit0t0_314 (row_of ..), tab lit0t0_315 (row_of ..),
  tab lit0t0_316 (row_of ..), tab lit0t0_317 (row_of ..), tab lit0t0_318 (row_of ..), tab lit0t0_319 (row_of ..),
  tab lit0t0_320 (row_of ..), tab lit0t0_321 (row_of ..), tab lit0t0_322 (row_of ..), tab lit0t0_323 (row_of ..),
  tab lit0t0_324 (row_of ..), tab lit0t0_325 (row_of ..), tab lit0t0_326 (row_of ..), tab lit0t0_327 (row_of ..),
  tab lit0t0_328 (row_of ..), tab lit0t0_329 (row_of ..), tab lit0t0_330 (row_of ..), tab lit0t0_331 (row_of ..),
  tab lit0t0_332 (row_of ..), tab lit0t0_333 (row_of ..), tab lit0t0_334 (row_of ..), tab lit0t0_335 (row_of ..),
  tab lit0t0_336 (row_of ..), tab lit0t0_337 (row_of ..), tab lit0t0_338 (row_of ..), tab lit0t0_339 (row_of ..),
  tab lit0t0_340 (row_of ..), tab lit0t0_341 (row_of ..), tab lit0t0_342 (row_of ..), tab lit0t0_343 (row_of ..),
  tab lit0t0_344 (row_of ..), tab lit0t0_345 (row_of ..), tab lit0t0_346 (row_of ..), tab lit0t0_347 (row_of ..),
  tab lit0t0_348 (row_of ..), tab lit0t0_349 (row_of ..), tab lit0t0_350 (row_of ..), tab lit0t0_351 (row_of ..),
  tab lit0t0_352 (row_of ..), tab lit0t0_353 (row_of ..), tab lit0t0_354 (row_of ..), tab lit0t0_355 (row_of ..),
  tab lit0t0_356 (row_of ..), tab lit0t0_357 (row_of ..), tab lit0t0_358 (row_of ..), tab lit0t0_359 (row_of ..),
  tab lit0t0_360 (row_of ..), tab lit0t0_361 (row_of ..), tab lit0t0_362 (row_of ..), tab lit0t0_363 (row_of ..),
  tab lit0t0_364 (row_of ..), tab lit0t0_365 (row_of ..), tab lit0t0_366 (row_of ..), tab lit0t0_367 (row_of ..),
  tab lit0t0_368 (row_of ..), tab lit0t0_369 (row_of ..), tab lit0t0_370 (row_of ..), tab lit0t0_371 (row_of ..),
  tab lit0t0_372 (row_of ..), tab lit0t0_373 (row_of ..), tab lit0t0_374 (row_of ..), tab lit0t0_375 (row_of ..),
  tab lit0t0_376 (row_of ..), tab lit0t0_377 (row_of ..), tab lit0t0_378 (row_of ..), tab lit0t0_379 (row_of ..),
  tab lit0t0_380 (row_of ..), tab lit0t0_381 (row_of ..), tab lit0t0_382 (row_of ..), tab lit0t0_383 (row_of ..)]

/-- Part 3 of the rows of the matrix, each with the list of its words. -/
def part3 : List Tab := [
  tab lit0t0_384 (row_of ..), tab lit0t0_385 (row_of ..), tab lit0t0_386 (row_of ..), tab lit0t0_387 (row_of ..),
  tab lit0t0_388 (row_of ..), tab lit0t0_389 (row_of ..), tab lit0t0_390 (row_of ..), tab lit0t0_391 (row_of ..),
  tab lit0t0_392 (row_of ..), tab lit0t0_393 (row_of ..), tab lit0t0_394 (row_of ..), tab lit0t0_395 (row_of ..),
  tab lit0t0_396 (row_of ..), tab lit0t0_397 (row_of ..), tab lit0t0_398 (row_of ..), tab lit0t0_399 (row_of ..),
  tab lit0t0_400 (row_of ..), tab lit0t0_401 (row_of ..), tab lit0t0_402 (row_of ..), tab lit0t0_403 (row_of ..),
  tab lit0t0_404 (row_of ..), tab lit0t0_405 (row_of ..), tab lit0t0_406 (row_of ..), tab lit0t0_407 (row_of ..),
  tab lit0t0_408 (row_of ..), tab lit0t0_409 (row_of ..), tab lit0t0_410 (row_of ..), tab lit0t0_411 (row_of ..),
  tab lit0t0_412 (row_of ..), tab lit0t0_413 (row_of ..), tab lit0t0_414 (row_of ..), tab lit0t0_415 (row_of ..),
  tab lit0t0_416 (row_of ..), tab lit0t0_417 (row_of ..), tab lit0t0_418 (row_of ..), tab lit0t0_419 (row_of ..),
  tab lit0t0_420 (row_of ..), tab lit0t0_421 (row_of ..), tab lit0t0_422 (row_of ..), tab lit0t0_423 (row_of ..),
  tab lit0t0_424 (row_of ..), tab lit0t0_425 (row_of ..), tab lit0t0_426 (row_of ..), tab lit0t0_427 (row_of ..),
  tab lit0t0_428 (row_of ..), tab lit0t0_429 (row_of ..), tab lit0t0_430 (row_of ..), tab lit0t0_431 (row_of ..),
  tab lit0t0_432 (row_of ..), tab lit0t0_433 (row_of ..), tab lit0t0_434 (row_of ..), tab lit0t0_435 (row_of ..),
  tab lit0t0_436 (row_of ..), tab lit0t0_437 (row_of ..), tab lit0t0_438 (row_of ..), tab lit0t0_439 (row_of ..),
  tab lit0t0_440 (row_of ..), tab lit0t0_441 (row_of ..), tab lit0t0_442 (row_of ..), tab lit0t0_443 (row_of ..),
  tab lit0t0_444 (row_of ..), tab lit0t0_445 (row_of ..), tab lit0t0_446 (row_of ..), tab lit0t0_447 (row_of ..),
  tab lit0t0_448 (row_of ..), tab lit0t0_449 (row_of ..), tab lit0t0_450 (row_of ..), tab lit0t0_451 (row_of ..),
  tab lit0t0_452 (row_of ..), tab lit0t0_453 (row_of ..), tab lit0t0_454 (row_of ..), tab lit0t0_455 (row_of ..),
  tab lit0t0_456 (row_of ..), tab lit0t0_457 (row_of ..), tab lit0t0_458 (row_of ..), tab lit0t0_459 (row_of ..),
  tab lit0t0_460 (row_of ..), tab lit0t0_461 (row_of ..), tab lit0t0_462 (row_of ..), tab lit0t0_463 (row_of ..),
  tab lit0t0_464 (row_of ..), tab lit0t0_465 (row_of ..), tab lit0t0_466 (row_of ..), tab lit0t0_467 (row_of ..),
  tab lit0t0_468 (row_of ..), tab lit0t0_469 (row_of ..), tab lit0t0_470 (row_of ..), tab lit0t0_471 (row_of ..),
  tab lit0t0_472 (row_of ..), tab lit0t0_473 (row_of ..), tab lit0t0_474 (row_of ..), tab lit0t0_475 (row_of ..),
  tab lit0t0_476 (row_of ..), tab lit0t0_477 (row_of ..), tab lit0t0_478 (row_of ..), tab lit0t0_479 (row_of ..),
  tab lit0t0_480 (row_of ..), tab lit0t0_481 (row_of ..), tab lit0t0_482 (row_of ..), tab lit0t0_483 (row_of ..),
  tab lit0t0_484 (row_of ..), tab lit0t0_485 (row_of ..), tab lit0t0_486 (row_of ..), tab lit0t0_487 (row_of ..),
  tab lit0t0_488 (row_of ..), tab lit0t0_489 (row_of ..), tab lit0t0_490 (row_of ..), tab lit0t0_491 (row_of ..),
  tab lit0t0_492 (row_of ..), tab lit0t0_493 (row_of ..), tab lit0t0_494 (row_of ..), tab lit0t0_495 (row_of ..),
  tab lit0t0_496 (row_of ..), tab lit0t0_497 (row_of ..), tab lit0t0_498 (row_of ..), tab lit0t0_499 (row_of ..),
  tab lit0t0_500 (row_of ..), tab lit0t0_501 (row_of ..), tab lit0t0_502 (row_of ..), tab lit0t0_503 (row_of ..),
  tab lit0t0_504 (row_of ..), tab lit0t0_505 (row_of ..), tab lit0t0_506 (row_of ..), tab lit0t0_507 (row_of ..),
  tab lit0t0_508 (row_of ..), tab lit0t0_509 (row_of ..), tab lit0t0_510 (row_of ..), tab lit0t0_511 (row_of ..)]

/-- Part 4 of the rows of the matrix, each with the list of its words. -/
def part4 : List Tab := [
  tab lit0t0_512 (row_of ..), tab lit0t0_513 (row_of ..), tab lit0t0_514 (row_of ..), tab lit0t0_515 (row_of ..),
  tab lit0t0_516 (row_of ..), tab lit0t0_517 (row_of ..), tab lit0t0_518 (row_of ..), tab lit0t0_519 (row_of ..),
  tab lit0t0_520 (row_of ..), tab lit0t0_521 (row_of ..), tab lit0t0_522 (row_of ..), tab lit0t0_523 (row_of ..),
  tab lit0t0_524 (row_of ..), tab lit0t0_525 (row_of ..), tab lit0t0_526 (row_of ..), tab lit0t0_527 (row_of ..),
  tab lit0t0_528 (row_of ..), tab lit0t0_529 (row_of ..), tab lit0t0_530 (row_of ..), tab lit0t0_531 (row_of ..),
  tab lit0t0_532 (row_of ..), tab lit0t0_533 (row_of ..), tab lit0t0_534 (row_of ..), tab lit0t0_535 (row_of ..),
  tab lit0t0_536 (row_of ..), tab lit0t0_537 (row_of ..), tab lit0t0_538 (row_of ..), tab lit0t0_539 (row_of ..),
  tab lit0t0_540 (row_of ..), tab lit0t0_541 (row_of ..), tab lit0t0_542 (row_of ..), tab lit0t0_543 (row_of ..),
  tab lit0t0_544 (row_of ..), tab lit0t0_545 (row_of ..), tab lit0t0_546 (row_of ..), tab lit0t0_547 (row_of ..),
  tab lit0t0_548 (row_of ..), tab lit0t0_549 (row_of ..), tab lit0t0_550 (row_of ..), tab lit0t0_551 (row_of ..),
  tab lit0t0_552 (row_of ..), tab lit0t0_553 (row_of ..), tab lit0t0_554 (row_of ..), tab lit0t0_555 (row_of ..),
  tab lit0t0_556 (row_of ..), tab lit0t0_557 (row_of ..), tab lit0t0_558 (row_of ..), tab lit0t0_559 (row_of ..),
  tab lit0t0_560 (row_of ..), tab lit0t0_561 (row_of ..), tab lit0t0_562 (row_of ..), tab lit0t0_563 (row_of ..),
  tab lit0t0_564 (row_of ..), tab lit0t0_565 (row_of ..), tab lit0t0_566 (row_of ..), tab lit0t0_567 (row_of ..),
  tab lit0t0_568 (row_of ..), tab lit0t0_569 (row_of ..), tab lit0t0_570 (row_of ..), tab lit0t0_571 (row_of ..),
  tab lit0t0_572 (row_of ..), tab lit0t0_573 (row_of ..), tab lit0t0_574 (row_of ..), tab lit0t0_575 (row_of ..),
  tab lit0t0_576 (row_of ..), tab lit0t0_577 (row_of ..), tab lit0t0_578 (row_of ..), tab lit0t0_579 (row_of ..),
  tab lit0t0_580 (row_of ..), tab lit0t0_581 (row_of ..), tab lit0t0_582 (row_of ..), tab lit0t0_583 (row_of ..),
  tab lit0t0_584 (row_of ..), tab lit0t0_585 (row_of ..), tab lit0t0_586 (row_of ..), tab lit0t0_587 (row_of ..),
  tab lit0t0_588 (row_of ..), tab lit0t0_589 (row_of ..), tab lit0t0_590 (row_of ..), tab lit0t0_591 (row_of ..),
  tab lit0t0_592 (row_of ..), tab lit0t0_593 (row_of ..), tab lit0t0_594 (row_of ..), tab lit0t0_595 (row_of ..),
  tab lit0t0_596 (row_of ..), tab lit0t0_597 (row_of ..), tab lit0t0_598 (row_of ..), tab lit0t0_599 (row_of ..),
  tab lit0t0_600 (row_of ..), tab lit0t0_601 (row_of ..), tab lit0t0_602 (row_of ..), tab lit0t0_603 (row_of ..),
  tab lit0t0_604 (row_of ..), tab lit0t0_605 (row_of ..), tab lit0t0_606 (row_of ..), tab lit0t0_607 (row_of ..),
  tab lit0t0_608 (row_of ..), tab lit0t0_609 (row_of ..), tab lit0t0_610 (row_of ..), tab lit0t0_611 (row_of ..),
  tab lit0t0_612 (row_of ..), tab lit0t0_613 (row_of ..), tab lit0t0_614 (row_of ..), tab lit0t0_615 (row_of ..),
  tab lit0t0_616 (row_of ..), tab lit0t0_617 (row_of ..), tab lit0t0_618 (row_of ..), tab lit0t0_619 (row_of ..),
  tab lit0t0_620 (row_of ..), tab lit0t0_621 (row_of ..), tab lit0t0_622 (row_of ..), tab lit0t0_623 (row_of ..),
  tab lit0t0_624 (row_of ..), tab lit0t0_625 (row_of ..), tab lit0t0_626 (row_of ..), tab lit0t0_627 (row_of ..),
  tab lit0t0_628 (row_of ..), tab lit0t0_629 (row_of ..), tab lit0t0_630 (row_of ..), tab lit0t0_631 (row_of ..),
  tab lit0t0_632 (row_of ..), tab lit0t0_633 (row_of ..), tab lit0t0_634 (row_of ..), tab lit0t0_635 (row_of ..),
  tab lit0t0_636 (row_of ..), tab lit0t0_637 (row_of ..), tab lit0t0_638 (row_of ..), tab lit0t0_639 (row_of ..)]

/-- Part 5 of the rows of the matrix, each with the list of its words. -/
def part5 : List Tab := [
  tab lit0t0_640 (row_of ..), tab lit0t0_641 (row_of ..), tab lit0t0_642 (row_of ..), tab lit0t0_643 (row_of ..),
  tab lit0t0_644 (row_of ..), tab lit0t0_645 (row_of ..), tab lit0t0_646 (row_of ..), tab lit0t0_647 (row_of ..),
  tab lit0t0_648 (row_of ..), tab lit0t0_649 (row_of ..), tab lit0t0_650 (row_of ..), tab lit0t0_651 (row_of ..),
  tab lit0t0_652 (row_of ..), tab lit0t0_653 (row_of ..), tab lit0t0_654 (row_of ..), tab lit0t0_655 (row_of ..),
  tab lit0t0_656 (row_of ..), tab lit0t0_657 (row_of ..), tab lit0t0_658 (row_of ..), tab lit0t0_659 (row_of ..),
  tab lit0t0_660 (row_of ..), tab lit0t0_661 (row_of ..), tab lit0t0_662 (row_of ..), tab lit0t0_663 (row_of ..),
  tab lit0t0_664 (row_of ..), tab lit0t0_665 (row_of ..), tab lit0t0_666 (row_of ..), tab lit0t0_667 (row_of ..),
  tab lit0t0_668 (row_of ..), tab lit0t0_669 (row_of ..), tab lit0t0_670 (row_of ..), tab lit0t0_671 (row_of ..),
  tab lit0t0_672 (row_of ..), tab lit0t0_673 (row_of ..), tab lit0t0_674 (row_of ..), tab lit0t0_675 (row_of ..),
  tab lit0t0_676 (row_of ..), tab lit0t0_677 (row_of ..), tab lit0t0_678 (row_of ..), tab lit0t0_679 (row_of ..),
  tab lit0t0_680 (row_of ..), tab lit0t0_681 (row_of ..), tab lit0t0_682 (row_of ..), tab lit0t0_683 (row_of ..),
  tab lit0t0_684 (row_of ..), tab lit0t0_685 (row_of ..), tab lit0t0_686 (row_of ..), tab lit0t0_687 (row_of ..),
  tab lit0t0_688 (row_of ..), tab lit0t0_689 (row_of ..), tab lit0t0_690 (row_of ..), tab lit0t0_691 (row_of ..),
  tab lit0t0_692 (row_of ..), tab lit0t0_693 (row_of ..), tab lit0t0_694 (row_of ..), tab lit0t0_695 (row_of ..),
  tab lit0t0_696 (row_of ..), tab lit0t0_697 (row_of ..), tab lit0t0_698 (row_of ..), tab lit0t0_699 (row_of ..),
  tab lit0t0_700 (row_of ..), tab lit0t0_701 (row_of ..), tab lit0t0_702 (row_of ..), tab lit0t0_703 (row_of ..),
  tab lit0t0_704 (row_of ..), tab lit0t0_705 (row_of ..), tab lit0t0_706 (row_of ..), tab lit0t0_707 (row_of ..),
  tab lit0t0_708 (row_of ..), tab lit0t0_709 (row_of ..), tab lit0t0_710 (row_of ..), tab lit0t0_711 (row_of ..),
  tab lit0t0_712 (row_of ..), tab lit0t0_713 (row_of ..), tab lit0t0_714 (row_of ..), tab lit0t0_715 (row_of ..),
  tab lit0t0_716 (row_of ..), tab lit0t0_717 (row_of ..), tab lit0t0_718 (row_of ..), tab lit0t0_719 (row_of ..),
  tab lit0t0_720 (row_of ..), tab lit0t0_721 (row_of ..), tab lit0t0_722 (row_of ..), tab lit0t0_723 (row_of ..),
  tab lit0t0_724 (row_of ..), tab lit0t0_725 (row_of ..), tab lit0t0_726 (row_of ..), tab lit0t0_727 (row_of ..),
  tab lit0t0_728 (row_of ..), tab lit0t0_729 (row_of ..), tab lit0t0_730 (row_of ..), tab lit0t0_731 (row_of ..),
  tab lit0t0_732 (row_of ..), tab lit0t0_733 (row_of ..), tab lit0t0_734 (row_of ..), tab lit0t0_735 (row_of ..),
  tab lit0t0_736 (row_of ..), tab lit0t0_737 (row_of ..), tab lit0t0_738 (row_of ..), tab lit0t0_739 (row_of ..),
  tab lit0t0_740 (row_of ..), tab lit0t0_741 (row_of ..), tab lit0t0_742 (row_of ..), tab lit0t0_743 (row_of ..),
  tab lit0t0_744 (row_of ..), tab lit0t0_745 (row_of ..), tab lit0t0_746 (row_of ..), tab lit0t0_747 (row_of ..),
  tab lit0t0_748 (row_of ..), tab lit0t0_749 (row_of ..), tab lit0t0_750 (row_of ..), tab lit0t0_751 (row_of ..),
  tab lit0t0_752 (row_of ..), tab lit0t0_753 (row_of ..), tab lit0t0_754 (row_of ..), tab lit0t0_755 (row_of ..),
  tab lit0t0_756 (row_of ..), tab lit0t0_757 (row_of ..), tab lit0t0_758 (row_of ..), tab lit0t0_759 (row_of ..),
  tab lit0t0_760 (row_of ..), tab lit0t0_761 (row_of ..), tab lit0t0_762 (row_of ..), tab lit0t0_763 (row_of ..),
  tab lit0t0_764 (row_of ..), tab lit0t0_765 (row_of ..), tab lit0t0_766 (row_of ..), tab lit0t0_767 (row_of ..)]

/-- Part 6 of the rows of the matrix, each with the list of its words. -/
def part6 : List Tab := [
  tab lit0t0_768 (row_of ..), tab lit0t0_769 (row_of ..), tab lit0t0_770 (row_of ..), tab lit0t0_771 (row_of ..),
  tab lit0t0_772 (row_of ..), tab lit0t0_773 (row_of ..), tab lit0t0_774 (row_of ..), tab lit0t0_775 (row_of ..),
  tab lit0t0_776 (row_of ..), tab lit0t0_777 (row_of ..), tab lit0t0_778 (row_of ..), tab lit0t0_779 (row_of ..),
  tab lit0t0_780 (row_of ..), tab lit0t0_781 (row_of ..), tab lit0t0_782 (row_of ..), tab lit0t0_783 (row_of ..),
  tab lit0t0_784 (row_of ..), tab lit0t0_785 (row_of ..), tab lit0t0_786 (row_of ..), tab lit0t0_787 (row_of ..),
  tab lit0t0_788 (row_of ..), tab lit0t0_789 (row_of ..), tab lit0t0_790 (row_of ..), tab lit0t0_791 (row_of ..),
  tab lit0t0_792 (row_of ..), tab lit0t0_793 (row_of ..), tab lit0t0_794 (row_of ..), tab lit0t0_795 (row_of ..),
  tab lit0t0_796 (row_of ..), tab lit0t0_797 (row_of ..), tab lit0t0_798 (row_of ..), tab lit0t0_799 (row_of ..),
  tab lit0t0_800 (row_of ..), tab lit0t0_801 (row_of ..), tab lit0t0_802 (row_of ..), tab lit0t0_803 (row_of ..),
  tab lit0t0_804 (row_of ..), tab lit0t0_805 (row_of ..), tab lit0t0_806 (row_of ..), tab lit0t0_807 (row_of ..),
  tab lit0t0_808 (row_of ..), tab lit0t0_809 (row_of ..), tab lit0t0_810 (row_of ..), tab lit0t0_811 (row_of ..),
  tab lit0t0_812 (row_of ..), tab lit0t0_813 (row_of ..), tab lit0t0_814 (row_of ..), tab lit0t0_815 (row_of ..),
  tab lit0t0_816 (row_of ..), tab lit0t0_817 (row_of ..), tab lit0t0_818 (row_of ..), tab lit0t0_819 (row_of ..),
  tab lit0t0_820 (row_of ..), tab lit0t0_821 (row_of ..), tab lit0t0_822 (row_of ..), tab lit0t0_823 (row_of ..),
  tab lit0t0_824 (row_of ..), tab lit0t0_825 (row_of ..), tab lit0t0_826 (row_of ..), tab lit0t0_827 (row_of ..),
  tab lit0t0_828 (row_of ..), tab lit0t0_829 (row_of ..), tab lit0t0_830 (row_of ..), tab lit0t0_831 (row_of ..),
  tab lit0t0_832 (row_of ..), tab lit0t0_833 (row_of ..), tab lit0t0_834 (row_of ..), tab lit0t0_835 (row_of ..),
  tab lit0t0_836 (row_of ..), tab lit0t0_837 (row_of ..), tab lit0t0_838 (row_of ..), tab lit0t0_839 (row_of ..),
  tab lit0t0_840 (row_of ..), tab lit0t0_841 (row_of ..), tab lit0t0_842 (row_of ..), tab lit0t0_843 (row_of ..),
  tab lit0t0_844 (row_of ..), tab lit0t0_845 (row_of ..), tab lit0t0_846 (row_of ..), tab lit0t0_847 (row_of ..),
  tab lit0t0_848 (row_of ..), tab lit0t0_849 (row_of ..), tab lit0t0_850 (row_of ..), tab lit0t0_851 (row_of ..),
  tab lit0t0_852 (row_of ..), tab lit0t0_853 (row_of ..), tab lit0t0_854 (row_of ..), tab lit0t0_855 (row_of ..),
  tab lit0t0_856 (row_of ..), tab lit0t0_857 (row_of ..), tab lit0t0_858 (row_of ..), tab lit0t0_859 (row_of ..),
  tab lit0t0_860 (row_of ..), tab lit0t0_861 (row_of ..), tab lit0t0_862 (row_of ..), tab lit0t0_863 (row_of ..),
  tab lit0t0_864 (row_of ..), tab lit0t0_865 (row_of ..), tab lit0t0_866 (row_of ..), tab lit0t0_867 (row_of ..),
  tab lit0t0_868 (row_of ..), tab lit0t0_869 (row_of ..), tab lit0t0_870 (row_of ..), tab lit0t0_871 (row_of ..),
  tab lit0t0_872 (row_of ..), tab lit0t0_873 (row_of ..), tab lit0t0_874 (row_of ..), tab lit0t0_875 (row_of ..),
  tab lit0t0_876 (row_of ..), tab lit0t0_877 (row_of ..), tab lit0t0_878 (row_of ..), tab lit0t0_879 (row_of ..),
  tab lit0t0_880 (row_of ..), tab lit0t0_881 (row_of ..), tab lit0t0_882 (row_of ..), tab lit0t0_883 (row_of ..),
  tab lit0t0_884 (row_of ..), tab lit0t0_885 (row_of ..), tab lit0t0_886 (row_of ..), tab lit0t0_887 (row_of ..),
  tab lit0t0_888 (row_of ..), tab lit0t0_889 (row_of ..), tab lit0t0_890 (row_of ..), tab lit0t0_891 (row_of ..),
  tab lit0t0_892 (row_of ..), tab lit0t0_893 (row_of ..), tab lit0t0_894 (row_of ..), tab lit0t0_895 (row_of ..)]

/-- Part 7 of the rows of the matrix, each with the list of its words. -/
def part7 : List Tab := [
  tab lit0t0_896 (row_of ..), tab lit0t0_897 (row_of ..), tab lit0t0_898 (row_of ..), tab lit0t0_899 (row_of ..),
  tab lit0t0_900 (row_of ..), tab lit0t0_901 (row_of ..), tab lit0t0_902 (row_of ..), tab lit0t0_903 (row_of ..),
  tab lit0t0_904 (row_of ..), tab lit0t0_905 (row_of ..), tab lit0t0_906 (row_of ..), tab lit0t0_907 (row_of ..),
  tab lit0t0_908 (row_of ..), tab lit0t0_909 (row_of ..), tab lit0t0_910 (row_of ..), tab lit0t0_911 (row_of ..),
  tab lit0t0_912 (row_of ..), tab lit0t0_913 (row_of ..), tab lit0t0_914 (row_of ..), tab lit0t0_915 (row_of ..),
  tab lit0t0_916 (row_of ..), tab lit0t0_917 (row_of ..), tab lit0t0_918 (row_of ..), tab lit0t0_919 (row_of ..),
  tab lit0t0_920 (row_of ..), tab lit0t0_921 (row_of ..), tab lit0t0_922 (row_of ..), tab lit0t0_923 (row_of ..),
  tab lit0t0_924 (row_of ..), tab lit0t0_925 (row_of ..), tab lit0t0_926 (row_of ..), tab lit0t0_927 (row_of ..),
  tab lit0t0_928 (row_of ..), tab lit0t0_929 (row_of ..), tab lit0t0_930 (row_of ..), tab lit0t0_931 (row_of ..),
  tab lit0t0_932 (row_of ..), tab lit0t0_933 (row_of ..), tab lit0t0_934 (row_of ..), tab lit0t0_935 (row_of ..),
  tab lit0t0_936 (row_of ..), tab lit0t0_937 (row_of ..), tab lit0t0_938 (row_of ..), tab lit0t0_939 (row_of ..),
  tab lit0t0_940 (row_of ..), tab lit0t0_941 (row_of ..), tab lit0t0_942 (row_of ..), tab lit0t0_943 (row_of ..),
  tab lit0t0_944 (row_of ..), tab lit0t0_945 (row_of ..), tab lit0t0_946 (row_of ..), tab lit0t0_947 (row_of ..),
  tab lit0t0_948 (row_of ..), tab lit0t0_949 (row_of ..), tab lit0t0_950 (row_of ..), tab lit0t0_951 (row_of ..),
  tab lit0t0_952 (row_of ..), tab lit0t0_953 (row_of ..), tab lit0t0_954 (row_of ..), tab lit0t0_955 (row_of ..),
  tab lit0t0_956 (row_of ..), tab lit0t0_957 (row_of ..), tab lit0t0_958 (row_of ..), tab lit0t0_959 (row_of ..),
  tab lit0t0_960 (row_of ..), tab lit0t0_961 (row_of ..), tab lit0t0_962 (row_of ..), tab lit0t0_963 (row_of ..),
  tab lit0t0_964 (row_of ..), tab lit0t0_965 (row_of ..), tab lit0t0_966 (row_of ..), tab lit0t0_967 (row_of ..),
  tab lit0t0_968 (row_of ..), tab lit0t0_969 (row_of ..), tab lit0t0_970 (row_of ..), tab lit0t0_971 (row_of ..),
  tab lit0t0_972 (row_of ..), tab lit0t0_973 (row_of ..), tab lit0t0_974 (row_of ..), tab lit0t0_975 (row_of ..),
  tab lit0t0_976 (row_of ..), tab lit0t0_977 (row_of ..), tab lit0t0_978 (row_of ..), tab lit0t0_979 (row_of ..),
  tab lit0t0_980 (row_of ..), tab lit0t0_981 (row_of ..), tab lit0t0_982 (row_of ..), tab lit0t0_983 (row_of ..),
  tab lit0t0_984 (row_of ..), tab lit0t0_985 (row_of ..), tab lit0t0_986 (row_of ..), tab lit0t0_987 (row_of ..),
  tab lit0t0_988 (row_of ..), tab lit0t0_989 (row_of ..), tab lit0t0_990 (row_of ..), tab lit0t0_991 (row_of ..),
  tab lit0t0_992 (row_of ..), tab lit0t0_993 (row_of ..), tab lit0t0_994 (row_of ..), tab lit0t0_995 (row_of ..),
  tab lit0t0_996 (row_of ..), tab lit0t0_997 (row_of ..), tab lit0t0_998 (row_of ..), tab lit0t0_999 (row_of ..),
  tab lit0t0_1000 (row_of ..), tab lit0t0_1001 (row_of ..), tab lit0t0_1002 (row_of ..), tab lit0t0_1003 (row_of ..),
  tab lit0t0_1004 (row_of ..), tab lit0t0_1005 (row_of ..), tab lit0t0_1006 (row_of ..), tab lit0t0_1007 (row_of ..),
  tab lit0t0_1008 (row_of ..), tab lit0t0_1009 (row_of ..), tab lit0t0_1010 (row_of ..), tab lit0t0_1011 (row_of ..),
  tab lit0t0_1012 (row_of ..), tab lit0t0_1013 (row_of ..), tab lit0t0_1014 (row_of ..), tab lit0t0_1015 (row_of ..),
  tab lit0t0_1016 (row_of ..), tab lit0t0_1017 (row_of ..), tab lit0t0_1018 (row_of ..), tab lit0t0_1019 (row_of ..),
  tab lit0t0_1020 (row_of ..), tab lit0t0_1021 (row_of ..), tab lit0t0_1022 (row_of ..), tab lit0t0_1023 (row_of ..)]

/-- Part 8 of the rows of the matrix, each with the list of its words. -/
def part8 : List Tab := [
  tab lit0t0_1024 (row_of ..), tab lit0t0_1025 (row_of ..), tab lit0t0_1026 (row_of ..), tab lit0t0_1027 (row_of ..),
  tab lit0t0_1028 (row_of ..), tab lit0t0_1029 (row_of ..), tab lit0t0_1030 (row_of ..), tab lit0t0_1031 (row_of ..),
  tab lit0t0_1032 (row_of ..), tab lit0t0_1033 (row_of ..), tab lit0t0_1034 (row_of ..), tab lit0t0_1035 (row_of ..),
  tab lit0t0_1036 (row_of ..), tab lit0t0_1037 (row_of ..), tab lit0t0_1038 (row_of ..), tab lit0t0_1039 (row_of ..),
  tab lit0t0_1040 (row_of ..), tab lit0t0_1041 (row_of ..), tab lit0t0_1042 (row_of ..), tab lit0t0_1043 (row_of ..),
  tab lit0t0_1044 (row_of ..), tab lit0t0_1045 (row_of ..), tab lit0t0_1046 (row_of ..), tab lit0t0_1047 (row_of ..),
  tab lit0t0_1048 (row_of ..), tab lit0t0_1049 (row_of ..), tab lit0t0_1050 (row_of ..), tab lit0t0_1051 (row_of ..),
  tab lit0t0_1052 (row_of ..), tab lit0t0_1053 (row_of ..), tab lit0t0_1054 (row_of ..), tab lit0t0_1055 (row_of ..),
  tab lit0t0_1056 (row_of ..), tab lit0t0_1057 (row_of ..), tab lit0t0_1058 (row_of ..), tab lit0t0_1059 (row_of ..),
  tab lit0t0_1060 (row_of ..), tab lit0t0_1061 (row_of ..), tab lit0t0_1062 (row_of ..), tab lit0t0_1063 (row_of ..),
  tab lit0t0_1064 (row_of ..), tab lit0t0_1065 (row_of ..), tab lit0t0_1066 (row_of ..), tab lit0t0_1067 (row_of ..),
  tab lit0t0_1068 (row_of ..), tab lit0t0_1069 (row_of ..), tab lit0t0_1070 (row_of ..), tab lit0t0_1071 (row_of ..),
  tab lit0t0_1072 (row_of ..), tab lit0t0_1073 (row_of ..), tab lit0t0_1074 (row_of ..), tab lit0t0_1075 (row_of ..),
  tab lit0t0_1076 (row_of ..), tab lit0t0_1077 (row_of ..), tab lit0t0_1078 (row_of ..), tab lit0t0_1079 (row_of ..),
  tab lit0t0_1080 (row_of ..), tab lit0t0_1081 (row_of ..), tab lit0t0_1082 (row_of ..), tab lit0t0_1083 (row_of ..),
  tab lit0t0_1084 (row_of ..), tab lit0t0_1085 (row_of ..), tab lit0t0_1086 (row_of ..), tab lit0t0_1087 (row_of ..),
  tab lit0t0_1088 (row_of ..)]

/-- Part 0 of the table selects among its rows. -/
theorem node0 : Node lit0t1_0 (part0.map Tab.fn) := by
  have h : Node lit0t1_0 _ := node_of ..
  exact h

/-- Part 1 of the table selects among its rows. -/
theorem node1 : Node lit0t1_1 (part1.map Tab.fn) := by
  have h : Node lit0t1_1 _ := node_of ..
  exact h

/-- Part 2 of the table selects among its rows. -/
theorem node2 : Node lit0t1_2 (part2.map Tab.fn) := by
  have h : Node lit0t1_2 _ := node_of ..
  exact h

/-- Part 3 of the table selects among its rows. -/
theorem node3 : Node lit0t1_3 (part3.map Tab.fn) := by
  have h : Node lit0t1_3 _ := node_of ..
  exact h

/-- Part 4 of the table selects among its rows. -/
theorem node4 : Node lit0t1_4 (part4.map Tab.fn) := by
  have h : Node lit0t1_4 _ := node_of ..
  exact h

/-- Part 5 of the table selects among its rows. -/
theorem node5 : Node lit0t1_5 (part5.map Tab.fn) := by
  have h : Node lit0t1_5 _ := node_of ..
  exact h

/-- Part 6 of the table selects among its rows. -/
theorem node6 : Node lit0t1_6 (part6.map Tab.fn) := by
  have h : Node lit0t1_6 _ := node_of ..
  exact h

/-- Part 7 of the table selects among its rows. -/
theorem node7 : Node lit0t1_7 (part7.map Tab.fn) := by
  have h : Node lit0t1_7 _ := node_of ..
  exact h

/-- Part 8 of the table selects among its rows. -/
theorem node8 : Node lit0t1_8 (part8.map Tab.fn) := by
  have h : Node lit0t1_8 _ := nodeL_of ..
  exact h

end Cert.KernelIdeal.Table
-- ==== Proof.TableCheck.lean ====
/- The words of the matrix of the spiral are the coefficients of the spiral. -/
module

public import proofs.«01_k».proof.Proof.Table

@[expose] public section

set_option maxRecDepth 16384

noncomputable section

namespace Cert.KernelIdeal.Table

open Cert.KernelIdeal Cert.Vit

/-- The coefficient of place `m` among the coefficients that are the digits of `N`. -/
def digit (N m : Nat) : Nat := Nat.mod (Nat.div N (Nat.pow base m)) base

/-- Whether a word denotes `d / 2 ^ 16`. -/
def okw (n d : Nat) : Bool :=
  cond (Nat.beq n 0) (Nat.beq d 0) (Nat.ble 110 (n / 2 ^ 23) && Nat.ble (n / 2 ^ 23) 200
    && Nat.beq (Nat.mul (2 ^ 23 + n % 2 ^ 23) (2 ^ (n / 2 ^ 23))) (Nat.mul d (2 ^ 134)))

/-- Whether the words of row `m` denote the coefficients of place `m`. -/
def rowOk (m : Nat) (ws : List (BitVec 32)) : List Nat → Bool :=
  List.rec (motive := fun _ => List Nat → Bool) (fun Ns => Ns.isEmpty)
    (fun w _ r Ns => List.rec (motive := fun _ => Bool) false (fun N Ns _ => okw w.toNat (digit N m) && r Ns) Ns) ws

/-- Whether the words of the rows from row `m` on denote the coefficients. -/
def rowsOk (ts : List Tab) : Nat → Bool :=
  List.rec (motive := fun _ => Nat → Bool) (fun _ => true) (fun t _ r m => rowOk m t.words cols && r (Nat.add m 1)) ts

/-- Part 0 of the matrix holds the coefficients of the rings. -/
theorem ok0 : rowsOk part0 0 = true := by decide +kernel

/-- Part 1 of the matrix holds the coefficients of the rings. -/
theorem ok1 : rowsOk part1 128 = true := by decide +kernel

/-- Part 2 of the matrix holds the coefficients of the rings. -/
theorem ok2 : rowsOk part2 256 = true := by decide +kernel

/-- Part 3 of the matrix holds the coefficients of the rings. -/
theorem ok3 : rowsOk part3 384 = true := by decide +kernel

/-- Part 4 of the matrix holds the coefficients of the rings. -/
theorem ok4 : rowsOk part4 512 = true := by decide +kernel

/-- Part 5 of the matrix holds the coefficients of the rings. -/
theorem ok5 : rowsOk part5 640 = true := by decide +kernel

/-- Part 6 of the matrix holds the coefficients of the rings. -/
theorem ok6 : rowsOk part6 768 = true := by decide +kernel

/-- Part 7 of the matrix holds the coefficients of the rings. -/
theorem ok7 : rowsOk part7 896 = true := by decide +kernel

/-- Part 8 of the matrix holds the coefficients of the rings. -/
theorem ok8 : rowsOk part8 1024 = true := by decide +kernel

end Cert.KernelIdeal.Table
-- ==== Proof.TableRead.lean ====
/- An entry of the matrix of the spiral, as a real number. -/
module

public import proofs.«01_k».proof.Proof.TableCheck

@[expose] public section

set_option maxRecDepth 16384

noncomputable section

namespace Cert.KernelIdeal.Table

open Cert.KernelIdeal Cert.Vit Idealize.ShloMosaic

/-- What a checked row says of its words. -/
theorem rowOk_at (m : Nat) (ws : List (BitVec 32)) (Ns : List Nat) (h : rowOk m ws Ns = true) (p : Nat) (hp : p < Ns.length) :
    okw (ws.getD p 0#32).toNat (digit (Ns.getD p 0) m) = true := by
  induction ws generalizing Ns p with
  | nil =>
    have : Ns.isEmpty = true := h
    rw [List.isEmpty_iff] at this
    subst this
    exact absurd hp (Nat.not_lt_zero _)
  | cons w ws ih =>
    cases Ns with
    | nil => exact absurd hp (Nat.not_lt_zero _)
    | cons N Ns =>
      have h' : (okw w.toNat (digit N m) && rowOk m ws Ns) = true := h
      obtain ⟨a, b⟩ := Bool.and_eq_true_iff.1 h'
      cases p with
      | zero => exact a
      | succ p => exact ih Ns b p (Nat.lt_of_succ_lt_succ hp)

/-- What checked rows say of one of them. -/
theorem rowsOk_at (ts : List Tab) (m : Nat) (h : rowsOk ts m = true) (k : Nat) (hk : k < ts.length) :
    rowOk (m + k) (ts[k]).words cols = true := by
  induction ts generalizing m k with
  | nil => exact absurd hk (Nat.not_lt_zero _)
  | cons t ts ih =>
    have h' : (rowOk m t.words cols && rowsOk ts (Nat.add m 1)) = true := h
    obtain ⟨a, b⟩ := Bool.and_eq_true_iff.1 h'
    cases k with
    | zero => exact a
    | succ k =>
      have := ih (m + 1) b k (Nat.lt_of_succ_lt_succ hk)
      rw [show m + (k + 1) = m + 1 + k by omega]
      exact this

/-- There are 128 tokens with coefficients. -/
theorem cols_length : cols.length = 128 := by
  unfold cols
  rw [List.length_map]
  exact List.length_map ..

/-- One entry of a checked part of the matrix. -/
theorem part_at {g : Nat → BitVec 32} {ts : List Tab} {m0 : Nat} (hn : Node g (ts.map Tab.fn)) (h : rowsOk ts m0 = true) (i : Nat)
    (hk : i / 128 % 128 < ts.length) :
    okw (g i).toNat (digit (cols.getD (i % 128) 0) (m0 + i / 128 % 128)) = true := by
  have e : g i = (ts[i / 128 % 128]).words.getD (i % 128) 0#32 := by
    rw [hn.reads i, ← (ts[i / 128 % 128]).row.reads i]
    simp [hk]
  rw [e]
  exact rowOk_at _ _ _ (rowsOk_at ts m0 h _ hk) _ (by rw [cols_length]; exact Nat.mod_lt _ (by decide))

/-- Every entry of the matrix is the coefficient of its place in its token. -/
theorem entry_ok (i : Nat) (hi : i < 139392) : okw (lit0t i).toNat (digit (cols.getD (i % 128) 0) (i / 128)) = true := by
  have ha : i / 16384 < 9 := by omega
  have hb : i / 128 = 128 * (i / 16384) + i / 128 % 128 := by omega
  have hc : i / 16384 = 8 → i / 128 % 128 < 65 := by omega
  have hd : i / 128 % 128 < 128 := Nat.mod_lt _ (by decide)
  rw [hb]
  unfold lit0t
  generalize i / 16384 = a at *
  interval_cases a
  · exact part_at node0 ok0 i hd
  · exact part_at node1 ok1 i hd
  · exact part_at node2 ok2 i hd
  · exact part_at node3 ok3 i hd
  · exact part_at node4 ok4 i hd
  · exact part_at node5 ok5 i hd
  · exact part_at node6 ok6 i hd
  · exact part_at node7 ok7 i hd
  · exact part_at node8 ok8 i (hc rfl)

/-- What a checked word denotes. -/
theorem okw_value (w : BitVec 32) (d : Nat) (h : okw w.toNat d = true) :
    Ideal.ofBits .f32 w = (((d : ℝ) / 2 ^ 16 : ℝ) : EReal) := by
  unfold okw at h
  cases e : Nat.beq w.toNat 0 with
  | true =>
    rw [e] at h
    obtain rfl : d = 0 := Nat.eq_of_beq_eq_true h
    obtain rfl : w = 0#32 := BitVec.eq_of_toNat_eq (Nat.eq_of_beq_eq_true e)
    rw [word_zero]
    norm_num
  | false =>
    rw [e] at h
    have h : (Nat.ble 110 (w.toNat / 2 ^ 23) && Nat.ble (w.toNat / 2 ^ 23) 200
      && Nat.beq (Nat.mul (2 ^ 23 + w.toNat % 2 ^ 23) (2 ^ (w.toNat / 2 ^ 23))) (Nat.mul d (2 ^ 134))) = true := h
    simp only [Bool.and_eq_true] at h
    obtain ⟨⟨h1, h2⟩, h3⟩ := h
    have h1 := Nat.le_of_ble_eq_true h1
    have h2 := Nat.le_of_ble_eq_true h2
    have h3 : (2 ^ 23 + w.toNat % 2 ^ 23) * 2 ^ (w.toNat / 2 ^ 23) = d * 2 ^ 134 := Nat.eq_of_beq_eq_true h3
    obtain ⟨x, hx⟩ : ∃ x, w.toNat / 2 ^ 23 = 110 + x := ⟨w.toNat / 2 ^ 23 - 110, by omega⟩
    rw [word_pos w x (w.toNat % 2 ^ 23) ?_ ?_ ?_ (by omega)]
    · rw [hx, pow_add, show (2 : Nat) ^ 134 = 2 ^ 24 * 2 ^ 110 by rw [← pow_add]] at h3
      have h4 : (2 ^ 23 + w.toNat % 2 ^ 23) * 2 ^ x = d * 2 ^ 24 := by
        have p : 0 < (2 : Nat) ^ 110 := by positivity
        refine Nat.eq_of_mul_eq_mul_right p ?_
        calc (2 ^ 23 + w.toNat % 2 ^ 23) * 2 ^ x * 2 ^ 110 = (2 ^ 23 + w.toNat % 2 ^ 23) * (2 ^ 110 * 2 ^ x) := by ring
          _ = d * (2 ^ 24 * 2 ^ 110) := h3
          _ = d * 2 ^ 24 * 2 ^ 110 := by ring
      rw [h4]
      congr 1
      push_cast
      norm_num
      ring
    · refine BitVec.eq_of_toNat_eq ?_
      rw [BitVec.extractLsb'_toNat, Nat.shiftRight_eq_div_pow]
      have := w.isLt
      show w.toNat / 2 ^ 31 % 2 = 0
      omega
    · rw [BitVec.extractLsb'_toNat, Nat.shiftRight_eq_div_pow, hx, Nat.mod_eq_of_lt (by omega)]
    · rw [BitVec.extractLsb'_toNat, Nat.shiftRight_zero]

/-- The entry of the matrix at place `m` and token `p`. -/
theorem entry_value (m : Fin 1089) (p : Fin 128) :
    Ideal.ofBits .f32 (lit0t (m.val * 128 + p.val)) = (((digit (cols.getD p.val 0) m.val : ℝ) / 2 ^ 16 : ℝ) : EReal) := by
  have := m.isLt
  have := p.isLt
  have h := entry_ok (m.val * 128 + p.val) (by omega)
  rw [show (m.val * 128 + p.val) % 128 = p.val by omega, show (m.val * 128 + p.val) / 128 = m.val by omega] at h
  exact okw_value _ _ h

end Cert.KernelIdeal.Table
-- ==== Proof.PeTable.lean ====
/- The table of positions: the kernel's and the reference's hold the same real numbers, the kernel's first row being
   the reference's second. -/
module

public import proofs.«01_k».proof.Proof.TableRead
public import proofs.«01_k».proof.ReferenceIdeal

@[expose] public section

set_option maxRecDepth 16384

noncomputable section

namespace Cert.KernelIdeal.Table

open Cert.KernelIdeal Cert.Vit Idealize.ShloMosaic

/-- A table of the kernel and a table of the reference with the words both hold. -/
structure Pair where
  fn : Nat → BitVec 32
  gn : Nat → BitVec 32
  words : List (BitVec 32)
  row : Row fn words
  row' : Row gn words

/-- The same, the tables named first. -/
def pair (f g : Nat → BitVec 32) {l : List (BitVec 32)} (h : Row f l) (h' : Row g l) : Pair := ⟨f, g, l, h, h'⟩

/-- The first 128 rows of the kernel's position table, each with the equal row of the reference's. -/
def pairs0 : List Pair := [
  pair lit1t0_0 ReferenceIdeal.lit47t0_2 (row_of ..) (row_of ..),
  pair lit1t0_1 ReferenceIdeal.lit47t0_3 (row_of ..) (row_of ..),
  pair lit1t0_2 ReferenceIdeal.lit47t0_4 (row_of ..) (row_of ..),
  pair lit1t0_3 ReferenceIdeal.lit47t0_5 (row_of ..) (row_of ..),
  pair lit1t0_4 ReferenceIdeal.lit47t0_6 (row_of ..) (row_of ..),
  pair lit1t0_5 ReferenceIdeal.lit47t0_7 (row_of ..) (row_of ..),
  pair lit1t0_6 ReferenceIdeal.lit47t0_8 (row_of ..) (row_of ..),
  pair lit1t0_7 ReferenceIdeal.lit47t0_9 (row_of ..) (row_of ..),
  pair lit1t0_8 ReferenceIdeal.lit47t0_10 (row_of ..) (row_of ..),
  pair lit1t0_9 ReferenceIdeal.lit47t0_11 (row_of ..) (row_of ..),
  pair lit1t0_10 ReferenceIdeal.lit47t0_12 (row_of ..) (row_of ..),
  pair lit1t0_11 ReferenceIdeal.lit47t0_13 (row_of ..) (row_of ..),
  pair lit1t0_12 ReferenceIdeal.lit47t0_14 (row_of ..) (row_of ..),
  pair lit1t0_13 ReferenceIdeal.lit47t0_15 (row_of ..) (row_of ..),
  pair lit1t0_14 ReferenceIdeal.lit47t0_16 (row_of ..) (row_of ..),
  pair lit1t0_15 ReferenceIdeal.lit47t0_17 (row_of ..) (row_of ..),
  pair lit1t0_16 ReferenceIdeal.lit47t0_18 (row_of ..) (row_of ..),
  pair lit1t0_17 ReferenceIdeal.lit47t0_19 (row_of ..) (row_of ..),
  pair lit1t0_18 ReferenceIdeal.lit47t0_20 (row_of ..) (row_of ..),
  pair lit1t0_19 ReferenceIdeal.lit47t0_21 (row_of ..) (row_of ..),
  pair lit1t0_20 ReferenceIdeal.lit47t0_22 (row_of ..) (row_of ..),
  pair lit1t0_21 ReferenceIdeal.lit47t0_23 (row_of ..) (row_of ..),
  pair lit1t0_22 ReferenceIdeal.lit47t0_24 (row_of ..) (row_of ..),
  pair lit1t0_23 ReferenceIdeal.lit47t0_25 (row_of ..) (row_of ..),
  pair lit1t0_24 ReferenceIdeal.lit47t0_26 (row_of ..) (row_of ..),
  pair lit1t0_25 ReferenceIdeal.lit47t0_27 (row_of ..) (row_of ..),
  pair lit1t0_26 ReferenceIdeal.lit47t0_28 (row_of ..) (row_of ..),
  pair lit1t0_27 ReferenceIdeal.lit47t0_29 (row_of ..) (row_of ..),
  pair lit1t0_28 ReferenceIdeal.lit47t0_30 (row_of ..) (row_of ..),
  pair lit1t0_29 ReferenceIdeal.lit47t0_31 (row_of ..) (row_of ..),
  pair lit1t0_30 ReferenceIdeal.lit47t0_32 (row_of ..) (row_of ..),
  pair lit1t0_31 ReferenceIdeal.lit47t0_33 (row_of ..) (row_of ..),
  pair lit1t0_32 ReferenceIdeal.lit47t0_34 (row_of ..) (row_of ..),
  pair lit1t0_33 ReferenceIdeal.lit47t0_35 (row_of ..) (row_of ..),
  pair lit1t0_34 ReferenceIdeal.lit47t0_36 (row_of ..) (row_of ..),
  pair lit1t0_35 ReferenceIdeal.lit47t0_37 (row_of ..) (row_of ..),
  pair lit1t0_36 ReferenceIdeal.lit47t0_38 (row_of ..) (row_of ..),
  pair lit1t0_37 ReferenceIdeal.lit47t0_39 (row_of ..) (row_of ..),
  pair lit1t0_38 ReferenceIdeal.lit47t0_40 (row_of ..) (row_of ..),
  pair lit1t0_39 ReferenceIdeal.lit47t0_41 (row_of ..) (row_of ..),
  pair lit1t0_40 ReferenceIdeal.lit47t0_42 (row_of ..) (row_of ..),
  pair lit1t0_41 ReferenceIdeal.lit47t0_43 (row_of ..) (row_of ..),
  pair lit1t0_42 ReferenceIdeal.lit47t0_44 (row_of ..) (row_of ..),
  pair lit1t0_43 ReferenceIdeal.lit47t0_45 (row_of ..) (row_of ..),
  pair lit1t0_44 ReferenceIdeal.lit47t0_46 (row_of ..) (row_of ..),
  pair lit1t0_45 ReferenceIdeal.lit47t0_47 (row_of ..) (row_of ..),
  pair lit1t0_46 ReferenceIdeal.lit47t0_48 (row_of ..) (row_of ..),
  pair lit1t0_47 ReferenceIdeal.lit47t0_49 (row_of ..) (row_of ..),
  pair lit1t0_48 ReferenceIdeal.lit47t0_50 (row_of ..) (row_of ..),
  pair lit1t0_49 ReferenceIdeal.lit47t0_51 (row_of ..) (row_of ..),
  pair lit1t0_50 ReferenceIdeal.lit47t0_52 (row_of ..) (row_of ..),
  pair lit1t0_51 ReferenceIdeal.lit47t0_53 (row_of ..) (row_of ..),
  pair lit1t0_52 ReferenceIdeal.lit47t0_54 (row_of ..) (row_of ..),
  pair lit1t0_53 ReferenceIdeal.lit47t0_55 (row_of ..) (row_of ..),
  pair lit1t0_54 ReferenceIdeal.lit47t0_56 (row_of ..) (row_of ..),
  pair lit1t0_55 ReferenceIdeal.lit47t0_57 (row_of ..) (row_of ..),
  pair lit1t0_56 ReferenceIdeal.lit47t0_58 (row_of ..) (row_of ..),
  pair lit1t0_57 ReferenceIdeal.lit47t0_59 (row_of ..) (row_of ..),
  pair lit1t0_58 ReferenceIdeal.lit47t0_60 (row_of ..) (row_of ..),
  pair lit1t0_59 ReferenceIdeal.lit47t0_61 (row_of ..) (row_of ..),
  pair lit1t0_60 ReferenceIdeal.lit47t0_62 (row_of ..) (row_of ..),
  pair lit1t0_61 ReferenceIdeal.lit47t0_63 (row_of ..) (row_of ..),
  pair lit1t0_62 ReferenceIdeal.lit47t0_64 (row_of ..) (row_of ..),
  pair lit1t0_63 ReferenceIdeal.lit47t0_65 (row_of ..) (row_of ..),
  pair lit1t0_64 ReferenceIdeal.lit47t0_66 (row_of ..) (row_of ..),
  pair lit1t0_65 ReferenceIdeal.lit47t0_67 (row_of ..) (row_of ..),
  pair lit1t0_66 ReferenceIdeal.lit47t0_68 (row_of ..) (row_of ..),
  pair lit1t0_67 ReferenceIdeal.lit47t0_69 (row_of ..) (row_of ..),
  pair lit1t0_68 ReferenceIdeal.lit47t0_70 (row_of ..) (row_of ..),
  pair lit1t0_69 ReferenceIdeal.lit47t0_71 (row_of ..) (row_of ..),
  pair lit1t0_70 ReferenceIdeal.lit47t0_72 (row_of ..) (row_of ..),
  pair lit1t0_71 ReferenceIdeal.lit47t0_73 (row_of ..) (row_of ..),
  pair lit1t0_72 ReferenceIdeal.lit47t0_74 (row_of ..) (row_of ..),
  pair lit1t0_73 ReferenceIdeal.lit47t0_75 (row_of ..) (row_of ..),
  pair lit1t0_74 ReferenceIdeal.lit47t0_76 (row_of ..) (row_of ..),
  pair lit1t0_75 ReferenceIdeal.lit47t0_77 (row_of ..) (row_of ..),
  pair lit1t0_76 ReferenceIdeal.lit47t0_78 (row_of ..) (row_of ..),
  pair lit1t0_77 ReferenceIdeal.lit47t0_79 (row_of ..) (row_of ..),
  pair lit1t0_78 ReferenceIdeal.lit47t0_80 (row_of ..) (row_of ..),
  pair lit1t0_79 ReferenceIdeal.lit47t0_81 (row_of ..) (row_of ..),
  pair lit1t0_80 ReferenceIdeal.lit47t0_82 (row_of ..) (row_of ..),
  pair lit1t0_81 ReferenceIdeal.lit47t0_83 (row_of ..) (row_of ..),
  pair lit1t0_82 ReferenceIdeal.lit47t0_84 (row_of ..) (row_of ..),
  pair lit1t0_83 ReferenceIdeal.lit47t0_85 (row_of ..) (row_of ..),
  pair lit1t0_84 ReferenceIdeal.lit47t0_86 (row_of ..) (row_of ..),
  pair lit1t0_85 ReferenceIdeal.lit47t0_87 (row_of ..) (row_of ..),
  pair lit1t0_86 ReferenceIdeal.lit47t0_88 (row_of ..) (row_of ..),
  pair lit1t0_87 ReferenceIdeal.lit47t0_89 (row_of ..) (row_of ..),
  pair lit1t0_88 ReferenceIdeal.lit47t0_90 (row_of ..) (row_of ..),
  pair lit1t0_89 ReferenceIdeal.lit47t0_91 (row_of ..) (row_of ..),
  pair lit1t0_90 ReferenceIdeal.lit47t0_92 (row_of ..) (row_of ..),
  pair lit1t0_91 ReferenceIdeal.lit47t0_93 (row_of ..) (row_of ..),
  pair lit1t0_92 ReferenceIdeal.lit47t0_94 (row_of ..) (row_of ..),
  pair lit1t0_93 ReferenceIdeal.lit47t0_95 (row_of ..) (row_of ..),
  pair lit1t0_94 ReferenceIdeal.lit47t0_96 (row_of ..) (row_of ..),
  pair lit1t0_95 ReferenceIdeal.lit47t0_97 (row_of ..) (row_of ..),
  pair lit1t0_96 ReferenceIdeal.lit47t0_98 (row_of ..) (row_of ..),
  pair lit1t0_97 ReferenceIdeal.lit47t0_99 (row_of ..) (row_of ..),
  pair lit1t0_98 ReferenceIdeal.lit47t0_100 (row_of ..) (row_of ..),
  pair lit1t0_99 ReferenceIdeal.lit47t0_101 (row_of ..) (row_of ..),
  pair lit1t0_100 ReferenceIdeal.lit47t0_102 (row_of ..) (row_of ..),
  pair lit1t0_101 ReferenceIdeal.lit47t0_103 (row_of ..) (row_of ..),
  pair lit1t0_102 ReferenceIdeal.lit47t0_104 (row_of ..) (row_of ..),
  pair lit1t0_103 ReferenceIdeal.lit47t0_105 (row_of ..) (row_of ..),
  pair lit1t0_104 ReferenceIdeal.lit47t0_106 (row_of ..) (row_of ..),
  pair lit1t0_105 ReferenceIdeal.lit47t0_107 (row_of ..) (row_of ..),
  pair lit1t0_106 ReferenceIdeal.lit47t0_108 (row_of ..) (row_of ..),
  pair lit1t0_107 ReferenceIdeal.lit47t0_109 (row_of ..) (row_of ..),
  pair lit1t0_108 ReferenceIdeal.lit47t0_110 (row_of ..) (row_of ..),
  pair lit1t0_109 ReferenceIdeal.lit47t0_111 (row_of ..) (row_of ..),
  pair lit1t0_110 ReferenceIdeal.lit47t0_112 (row_of ..) (row_of ..),
  pair lit1t0_111 ReferenceIdeal.lit47t0_113 (row_of ..) (row_of ..),
  pair lit1t0_112 ReferenceIdeal.lit47t0_114 (row_of ..) (row_of ..),
  pair lit1t0_113 ReferenceIdeal.lit47t0_115 (row_of ..) (row_of ..),
  pair lit1t0_114 ReferenceIdeal.lit47t0_116 (row_of ..) (row_of ..),
  pair lit1t0_115 ReferenceIdeal.lit47t0_117 (row_of ..) (row_of ..),
  pair lit1t0_116 ReferenceIdeal.lit47t0_118 (row_of ..) (row_of ..),
  pair lit1t0_117 ReferenceIdeal.lit47t0_119 (row_of ..) (row_of ..),
  pair lit1t0_118 ReferenceIdeal.lit47t0_120 (row_of ..) (row_of ..),
  pair lit1t0_119 ReferenceIdeal.lit47t0_121 (row_of ..) (row_of ..),
  pair lit1t0_120 ReferenceIdeal.lit47t0_122 (row_of ..) (row_of ..),
  pair lit1t0_121 ReferenceIdeal.lit47t0_123 (row_of ..) (row_of ..),
  pair lit1t0_122 ReferenceIdeal.lit47t0_124 (row_of ..) (row_of ..),
  pair lit1t0_123 ReferenceIdeal.lit47t0_125 (row_of ..) (row_of ..),
  pair lit1t0_124 ReferenceIdeal.lit47t0_126 (row_of ..) (row_of ..),
  pair lit1t0_125 ReferenceIdeal.lit47t0_127 (row_of ..) (row_of ..),
  pair lit1t0_126 ReferenceIdeal.lit47t0_128 (row_of ..) (row_of ..),
  pair lit1t0_127 ReferenceIdeal.lit47t0_129 (row_of ..) (row_of ..)]

/-- The next 128 rows of the kernel's position table, each with the equal row of the reference's. -/
def pairs1 : List Pair := [
  pair lit1t0_128 ReferenceIdeal.lit47t0_130 (row_of ..) (row_of ..),
  pair lit1t0_129 ReferenceIdeal.lit47t0_131 (row_of ..) (row_of ..),
  pair lit1t0_130 ReferenceIdeal.lit47t0_132 (row_of ..) (row_of ..),
  pair lit1t0_131 ReferenceIdeal.lit47t0_133 (row_of ..) (row_of ..),
  pair lit1t0_132 ReferenceIdeal.lit47t0_134 (row_of ..) (row_of ..),
  pair lit1t0_133 ReferenceIdeal.lit47t0_135 (row_of ..) (row_of ..),
  pair lit1t0_134 ReferenceIdeal.lit47t0_136 (row_of ..) (row_of ..),
  pair lit1t0_135 ReferenceIdeal.lit47t0_137 (row_of ..) (row_of ..),
  pair lit1t0_136 ReferenceIdeal.lit47t0_138 (row_of ..) (row_of ..),
  pair lit1t0_137 ReferenceIdeal.lit47t0_139 (row_of ..) (row_of ..),
  pair lit1t0_138 ReferenceIdeal.lit47t0_140 (row_of ..) (row_of ..),
  pair lit1t0_139 ReferenceIdeal.lit47t0_141 (row_of ..) (row_of ..),
  pair lit1t0_140 ReferenceIdeal.lit47t0_142 (row_of ..) (row_of ..),
  pair lit1t0_141 ReferenceIdeal.lit47t0_143 (row_of ..) (row_of ..),
  pair lit1t0_142 ReferenceIdeal.lit47t0_144 (row_of ..) (row_of ..),
  pair lit1t0_143 ReferenceIdeal.lit47t0_145 (row_of ..) (row_of ..),
  pair lit1t0_144 ReferenceIdeal.lit47t0_146 (row_of ..) (row_of ..),
  pair lit1t0_145 ReferenceIdeal.lit47t0_147 (row_of ..) (row_of ..),
  pair lit1t0_146 ReferenceIdeal.lit47t0_148 (row_of ..) (row_of ..),
  pair lit1t0_147 ReferenceIdeal.lit47t0_149 (row_of ..) (row_of ..),
  pair lit1t0_148 ReferenceIdeal.lit47t0_150 (row_of ..) (row_of ..),
  pair lit1t0_149 ReferenceIdeal.lit47t0_151 (row_of ..) (row_of ..),
  pair lit1t0_150 ReferenceIdeal.lit47t0_152 (row_of ..) (row_of ..),
  pair lit1t0_151 ReferenceIdeal.lit47t0_153 (row_of ..) (row_of ..),
  pair lit1t0_152 ReferenceIdeal.lit47t0_154 (row_of ..) (row_of ..),
  pair lit1t0_153 ReferenceIdeal.lit47t0_155 (row_of ..) (row_of ..),
  pair lit1t0_154 ReferenceIdeal.lit47t0_156 (row_of ..) (row_of ..),
  pair lit1t0_155 ReferenceIdeal.lit47t0_157 (row_of ..) (row_of ..),
  pair lit1t0_156 ReferenceIdeal.lit47t0_158 (row_of ..) (row_of ..),
  pair lit1t0_157 ReferenceIdeal.lit47t0_159 (row_of ..) (row_of ..),
  pair lit1t0_158 ReferenceIdeal.lit47t0_160 (row_of ..) (row_of ..),
  pair lit1t0_159 ReferenceIdeal.lit47t0_161 (row_of ..) (row_of ..),
  pair lit1t0_160 ReferenceIdeal.lit47t0_162 (row_of ..) (row_of ..),
  pair lit1t0_161 ReferenceIdeal.lit47t0_163 (row_of ..) (row_of ..),
  pair lit1t0_162 ReferenceIdeal.lit47t0_164 (row_of ..) (row_of ..),
  pair lit1t0_163 ReferenceIdeal.lit47t0_165 (row_of ..) (row_of ..),
  pair lit1t0_164 ReferenceIdeal.lit47t0_166 (row_of ..) (row_of ..),
  pair lit1t0_165 ReferenceIdeal.lit47t0_167 (row_of ..) (row_of ..),
  pair lit1t0_166 ReferenceIdeal.lit47t0_168 (row_of ..) (row_of ..),
  pair lit1t0_167 ReferenceIdeal.lit47t0_169 (row_of ..) (row_of ..),
  pair lit1t0_168 ReferenceIdeal.lit47t0_170 (row_of ..) (row_of ..),
  pair lit1t0_169 ReferenceIdeal.lit47t0_171 (row_of ..) (row_of ..),
  pair lit1t0_170 ReferenceIdeal.lit47t0_172 (row_of ..) (row_of ..),
  pair lit1t0_171 ReferenceIdeal.lit47t0_173 (row_of ..) (row_of ..),
  pair lit1t0_172 ReferenceIdeal.lit47t0_174 (row_of ..) (row_of ..),
  pair lit1t0_173 ReferenceIdeal.lit47t0_175 (row_of ..) (row_of ..),
  pair lit1t0_174 ReferenceIdeal.lit47t0_176 (row_of ..) (row_of ..),
  pair lit1t0_175 ReferenceIdeal.lit47t0_177 (row_of ..) (row_of ..),
  pair lit1t0_176 ReferenceIdeal.lit47t0_178 (row_of ..) (row_of ..),
  pair lit1t0_177 ReferenceIdeal.lit47t0_179 (row_of ..) (row_of ..),
  pair lit1t0_178 ReferenceIdeal.lit47t0_180 (row_of ..) (row_of ..),
  pair lit1t0_179 ReferenceIdeal.lit47t0_181 (row_of ..) (row_of ..),
  pair lit1t0_180 ReferenceIdeal.lit47t0_182 (row_of ..) (row_of ..),
  pair lit1t0_181 ReferenceIdeal.lit47t0_183 (row_of ..) (row_of ..),
  pair lit1t0_182 ReferenceIdeal.lit47t0_184 (row_of ..) (row_of ..),
  pair lit1t0_183 ReferenceIdeal.lit47t0_185 (row_of ..) (row_of ..),
  pair lit1t0_184 ReferenceIdeal.lit47t0_186 (row_of ..) (row_of ..),
  pair lit1t0_185 ReferenceIdeal.lit47t0_187 (row_of ..) (row_of ..),
  pair lit1t0_186 ReferenceIdeal.lit47t0_188 (row_of ..) (row_of ..),
  pair lit1t0_187 ReferenceIdeal.lit47t0_189 (row_of ..) (row_of ..),
  pair lit1t0_188 ReferenceIdeal.lit47t0_190 (row_of ..) (row_of ..),
  pair lit1t0_189 ReferenceIdeal.lit47t0_191 (row_of ..) (row_of ..),
  pair lit1t0_190 ReferenceIdeal.lit47t0_192 (row_of ..) (row_of ..),
  pair lit1t0_191 ReferenceIdeal.lit47t0_193 (row_of ..) (row_of ..),
  pair lit1t0_192 ReferenceIdeal.lit47t0_194 (row_of ..) (row_of ..),
  pair lit1t0_193 ReferenceIdeal.lit47t0_195 (row_of ..) (row_of ..),
  pair lit1t0_194 ReferenceIdeal.lit47t0_196 (row_of ..) (row_of ..),
  pair lit1t0_195 ReferenceIdeal.lit47t0_197 (row_of ..) (row_of ..),
  pair lit1t0_196 ReferenceIdeal.lit47t0_198 (row_of ..) (row_of ..),
  pair lit1t0_197 ReferenceIdeal.lit47t0_199 (row_of ..) (row_of ..),
  pair lit1t0_198 ReferenceIdeal.lit47t0_200 (row_of ..) (row_of ..),
  pair lit1t0_199 ReferenceIdeal.lit47t0_201 (row_of ..) (row_of ..),
  pair lit1t0_200 ReferenceIdeal.lit47t0_202 (row_of ..) (row_of ..),
  pair lit1t0_201 ReferenceIdeal.lit47t0_203 (row_of ..) (row_of ..),
  pair lit1t0_202 ReferenceIdeal.lit47t0_204 (row_of ..) (row_of ..),
  pair lit1t0_203 ReferenceIdeal.lit47t0_205 (row_of ..) (row_of ..),
  pair lit1t0_204 ReferenceIdeal.lit47t0_206 (row_of ..) (row_of ..),
  pair lit1t0_205 ReferenceIdeal.lit47t0_207 (row_of ..) (row_of ..),
  pair lit1t0_206 ReferenceIdeal.lit47t0_208 (row_of ..) (row_of ..),
  pair lit1t0_207 ReferenceIdeal.lit47t0_209 (row_of ..) (row_of ..),
  pair lit1t0_208 ReferenceIdeal.lit47t0_210 (row_of ..) (row_of ..),
  pair lit1t0_209 ReferenceIdeal.lit47t0_211 (row_of ..) (row_of ..),
  pair lit1t0_210 ReferenceIdeal.lit47t0_212 (row_of ..) (row_of ..),
  pair lit1t0_211 ReferenceIdeal.lit47t0_213 (row_of ..) (row_of ..),
  pair lit1t0_212 ReferenceIdeal.lit47t0_214 (row_of ..) (row_of ..),
  pair lit1t0_213 ReferenceIdeal.lit47t0_215 (row_of ..) (row_of ..),
  pair lit1t0_214 ReferenceIdeal.lit47t0_216 (row_of ..) (row_of ..),
  pair lit1t0_215 ReferenceIdeal.lit47t0_217 (row_of ..) (row_of ..),
  pair lit1t0_216 ReferenceIdeal.lit47t0_218 (row_of ..) (row_of ..),
  pair lit1t0_217 ReferenceIdeal.lit47t0_219 (row_of ..) (row_of ..),
  pair lit1t0_218 ReferenceIdeal.lit47t0_220 (row_of ..) (row_of ..),
  pair lit1t0_219 ReferenceIdeal.lit47t0_221 (row_of ..) (row_of ..),
  pair lit1t0_220 ReferenceIdeal.lit47t0_222 (row_of ..) (row_of ..),
  pair lit1t0_221 ReferenceIdeal.lit47t0_223 (row_of ..) (row_of ..),
  pair lit1t0_222 ReferenceIdeal.lit47t0_224 (row_of ..) (row_of ..),
  pair lit1t0_223 ReferenceIdeal.lit47t0_225 (row_of ..) (row_of ..),
  pair lit1t0_224 ReferenceIdeal.lit47t0_226 (row_of ..) (row_of ..),
  pair lit1t0_225 ReferenceIdeal.lit47t0_227 (row_of ..) (row_of ..),
  pair lit1t0_226 ReferenceIdeal.lit47t0_228 (row_of ..) (row_of ..),
  pair lit1t0_227 ReferenceIdeal.lit47t0_229 (row_of ..) (row_of ..),
  pair lit1t0_228 ReferenceIdeal.lit47t0_230 (row_of ..) (row_of ..),
  pair lit1t0_229 ReferenceIdeal.lit47t0_231 (row_of ..) (row_of ..),
  pair lit1t0_230 ReferenceIdeal.lit47t0_232 (row_of ..) (row_of ..),
  pair lit1t0_231 ReferenceIdeal.lit47t0_233 (row_of ..) (row_of ..),
  pair lit1t0_232 ReferenceIdeal.lit47t0_234 (row_of ..) (row_of ..),
  pair lit1t0_233 ReferenceIdeal.lit47t0_235 (row_of ..) (row_of ..),
  pair lit1t0_234 ReferenceIdeal.lit47t0_236 (row_of ..) (row_of ..),
  pair lit1t0_235 ReferenceIdeal.lit47t0_237 (row_of ..) (row_of ..),
  pair lit1t0_236 ReferenceIdeal.lit47t0_238 (row_of ..) (row_of ..),
  pair lit1t0_237 ReferenceIdeal.lit47t0_239 (row_of ..) (row_of ..),
  pair lit1t0_238 ReferenceIdeal.lit47t0_240 (row_of ..) (row_of ..),
  pair lit1t0_239 ReferenceIdeal.lit47t0_241 (row_of ..) (row_of ..),
  pair lit1t0_240 ReferenceIdeal.lit47t0_242 (row_of ..) (row_of ..),
  pair lit1t0_241 ReferenceIdeal.lit47t0_243 (row_of ..) (row_of ..),
  pair lit1t0_242 ReferenceIdeal.lit47t0_244 (row_of ..) (row_of ..),
  pair lit1t0_243 ReferenceIdeal.lit47t0_245 (row_of ..) (row_of ..),
  pair lit1t0_244 ReferenceIdeal.lit47t0_246 (row_of ..) (row_of ..),
  pair lit1t0_245 ReferenceIdeal.lit47t0_247 (row_of ..) (row_of ..),
  pair lit1t0_246 ReferenceIdeal.lit47t0_248 (row_of ..) (row_of ..),
  pair lit1t0_247 ReferenceIdeal.lit47t0_249 (row_of ..) (row_of ..),
  pair lit1t0_248 ReferenceIdeal.lit47t0_250 (row_of ..) (row_of ..),
  pair lit1t0_249 ReferenceIdeal.lit47t0_251 (row_of ..) (row_of ..),
  pair lit1t0_250 ReferenceIdeal.lit47t0_252 (row_of ..) (row_of ..),
  pair lit1t0_251 ReferenceIdeal.lit47t0_253 (row_of ..) (row_of ..),
  pair lit1t0_252 ReferenceIdeal.lit47t0_254 (row_of ..) (row_of ..),
  pair lit1t0_253 ReferenceIdeal.lit47t0_255 (row_of ..) (row_of ..),
  pair lit1t0_254 ReferenceIdeal.lit47t0_256 (row_of ..) (row_of ..),
  pair lit1t0_255 ReferenceIdeal.lit47t0_257 (row_of ..) (row_of ..)]

/-- The last two rows of the kernel's position table, which are the first two of the reference's. -/
def pairs2 : List Pair := [
  pair lit1t0_256 ReferenceIdeal.lit47t0_0 (row_of ..) (row_of ..),
  pair lit1t0_257 ReferenceIdeal.lit47t0_1 (row_of ..) (row_of ..)]

/-- All the pairs, in the order of the kernel's rows. -/
def pairs : List Pair := pairs0 ++ (pairs1 ++ pairs2)

/-- All the pairs, in the order of the reference's rows. -/
def pairs' : List Pair := pairs2 ++ (pairs0 ++ pairs1)

/-- No word of the position table is an infinity or not a number. -/
theorem pairs_real : (pairs.all fun q => q.words.all fun w => !(Nat.beq (w.toNat / 2 ^ 23 % 256) 255)) = true := by decide +kernel

/-- There are 258 pairs in the kernel's order. -/
theorem pairs_length : pairs.length = 258 := by decide +kernel

/-- There are 258 pairs in the reference's order. -/
theorem pairs_length' : pairs'.length = 258 := by decide +kernel

/-- The first two of the tables of a table. -/
structure Node2 (f g h : Nat → BitVec 32) : Prop where
  reads : ∀ i, i / 128 % 128 < 2 → f i = ([g, h].getD (i / 128 % 128) fun _ => 0#32) i

/-- The first part of the kernel's table reads the first 128 pairs. -/
theorem kernel0 : Node lit1t1_0 (((pairs.drop 0).take 128).map Pair.fn) := by
  have h : Node lit1t1_0 _ := node_of ..
  exact h

/-- The second part of the kernel's table reads the next 128 pairs. -/
theorem kernel1 : Node lit1t1_1 (((pairs.drop 128).take 128).map Pair.fn) := by
  have h : Node lit1t1_1 _ := node_of ..
  exact h

/-- The third part of the kernel's table reads its last two rows. -/
theorem kernel2 : Node2 lit1t1_2 lit1t0_256 lit1t0_257 := by
  refine ⟨fun i h => ?_⟩
  unfold lit1t1_2
  generalize i / 128 % 128 = x at *
  interval_cases x <;> rfl

/-- The first part of the reference's table reads the first 128 pairs in its order. -/
theorem reference0 : Node ReferenceIdeal.lit47t1_0 (((pairs'.drop 0).take 128).map Pair.gn) := by
  have h : Node ReferenceIdeal.lit47t1_0 _ := node_of ..
  exact h

/-- The second part of the reference's table reads the next 128 pairs in its order. -/
theorem reference1 : Node ReferenceIdeal.lit47t1_1 (((pairs'.drop 128).take 128).map Pair.gn) := by
  have h : Node ReferenceIdeal.lit47t1_1 _ := node_of ..
  exact h

/-- The third part of the reference's table reads its last two rows. -/
theorem reference2 : Node2 ReferenceIdeal.lit47t1_2 ReferenceIdeal.lit47t0_256 ReferenceIdeal.lit47t0_257 := by
  refine ⟨fun i h => ?_⟩
  unfold ReferenceIdeal.lit47t1_2
  generalize i / 128 % 128 = x at *
  interval_cases x <;> rfl

/-- A table that selects among 128 consecutive rows of a list reads the row that the index names. -/
theorem chunk {f : Nat → BitVec 32} {l : List Pair} {π : Pair → Nat → BitVec 32} {o : Nat}
    (h : Node f (((l.drop o).take 128).map π)) (i : Nat) (hi : o + i / 128 % 128 < l.length) : f i = π (l[o + i / 128 % 128]) i := by
  have hd : i / 128 % 128 < 128 := Nat.mod_lt _ (by decide)
  have hl : i / 128 % 128 < l.length - o := by omega
  rw [h.reads i]
  simp [hd, hl]

/-- A word of the kernel's table. -/
theorem kernel_word (i : Nat) (hi : i < 33024) :
    lit1t i = (pairs[i / 128]'(by rw [pairs_length]; omega)).words.getD (i % 128) 0#32 := by
  rw [← (pairs[i / 128]'(by rw [pairs_length]; omega)).row.reads i]
  have ha : i / 16384 < 3 := by omega
  have hc : i / 16384 = 2 → i / 128 % 128 < 2 := by omega
  have hd : i / 128 % 128 < 128 := Nat.mod_lt _ (by decide)
  have hlt : 128 * (i / 16384) + i / 128 % 128 < 258 := by omega
  have key : lit1t i = (pairs[128 * (i / 16384) + i / 128 % 128]'(by rw [pairs_length]; exact hlt)).fn i := by
    unfold lit1t
    generalize i / 16384 = a at *
    interval_cases a
    · exact chunk kernel0 i (by rw [pairs_length]; omega)
    · exact chunk kernel1 i (by rw [pairs_length]; omega)
    · refine (kernel2.reads i (hc rfl)).trans ?_
      have hc := hc rfl
      generalize i / 128 % 128 = x at *
      interval_cases x <;> rfl
  rw [key]
  congr 2
  omega

/-- A word of the reference's table. -/
theorem reference_word (i : Nat) (hi : i < 33024) :
    ReferenceIdeal.lit47t i = (pairs'[i / 128]'(by rw [pairs_length']; omega)).words.getD (i % 128) 0#32 := by
  rw [← (pairs'[i / 128]'(by rw [pairs_length']; omega)).row'.reads i]
  have ha : i / 16384 < 3 := by omega
  have hc : i / 16384 = 2 → i / 128 % 128 < 2 := by omega
  have hd : i / 128 % 128 < 128 := Nat.mod_lt _ (by decide)
  have hlt : 128 * (i / 16384) + i / 128 % 128 < 258 := by omega
  have key : ReferenceIdeal.lit47t i = (pairs'[128 * (i / 16384) + i / 128 % 128]'(by rw [pairs_length']; exact hlt)).gn i := by
    unfold ReferenceIdeal.lit47t
    generalize i / 16384 = a at *
    interval_cases a
    · exact chunk reference0 i (by rw [pairs_length']; omega)
    · exact chunk reference1 i (by rw [pairs_length']; omega)
    · refine (reference2.reads i (hc rfl)).trans ?_
      have hc := hc rfl
      generalize i / 128 % 128 = x at *
      interval_cases x <;> rfl
  rw [key]
  congr 2
  omega

/-- The reference's words are the kernel's, two tables of 128 further on. -/
theorem same_word (j : Nat) (hj : j < 256) :
    (pairs'[j + 2]'(by rw [pairs_length']; omega)) = (pairs[j]'(by rw [pairs_length]; omega)) := by
  have e0 : pairs0.length = 128 := by decide +kernel
  have e1 : pairs1.length = 128 := by decide +kernel
  have e2 : pairs2.length = 2 := by decide +kernel
  have h : pairs'[j + 2]? = pairs[j]? := by
    show (pairs2 ++ (pairs0 ++ pairs1))[j + 2]? = (pairs0 ++ (pairs1 ++ pairs2))[j]?
    rw [List.getElem?_append_right (by omega), e2, Nat.add_sub_cancel]
    by_cases h : j < 128
    · rw [List.getElem?_append_left (by omega), List.getElem?_append_left (by omega)]
    · rw [List.getElem?_append_right (by omega), List.getElem?_append_right (by omega), List.getElem?_append_left (by omega)]
  refine Option.some.inj ?_
  rw [← List.getElem?_eq_getElem, ← List.getElem?_eq_getElem]
  exact h

/-- The reference's first two tables are the kernel's last two. -/
theorem same_word' (j : Nat) (hj : j < 2) :
    (pairs'[j]'(by rw [pairs_length']; omega)) = (pairs[j + 256]'(by rw [pairs_length]; omega)) := by
  have e0 : pairs0.length = 128 := by decide +kernel
  have e1 : pairs1.length = 128 := by decide +kernel
  have e2 : pairs2.length = 2 := by decide +kernel
  have h : pairs'[j]? = pairs[j + 256]? := by
    show (pairs2 ++ (pairs0 ++ pairs1))[j]? = (pairs0 ++ (pairs1 ++ pairs2))[j + 256]?
    rw [List.getElem?_append_left (by omega), List.getElem?_append_right (by omega), List.getElem?_append_right (by omega), e0, e1]
    congr 1
  refine Option.some.inj ?_
  rw [← List.getElem?_eq_getElem, ← List.getElem?_eq_getElem]
  exact h

/-- Every word of the kernel's table denotes a real number. -/
theorem kernel_real (i : Nat) (hi : i < 33024) : ∃ r : ℝ, Ideal.ofBits .f32 (lit1t i) = (r : EReal) := by
  refine word_real _ fun h => ?_
  rw [kernel_word i hi] at h
  have a := List.all_eq_true.1 pairs_real _ (List.getElem_mem (by rw [pairs_length]; omega : i / 128 < pairs.length))
  have hp : 0 < 1 := by decide
  by_cases hl : i % 128 < (pairs[i / 128]'(by rw [pairs_length]; omega)).words.length
  · have b := List.all_eq_true.1 a _ (List.getElem_mem hl)
    simp only [List.getD_eq_getElem?_getD, List.getElem?_eq_getElem hl, Option.getD_some] at h
    rw [BitVec.extractLsb'_toNat, Nat.shiftRight_eq_div_pow] at h
    rw [h] at b
    exact absurd b (by decide)
  · simp only [List.getD_eq_getElem?_getD, List.getElem?_eq_none (Nat.le_of_not_lt hl), Option.getD_none] at h
    exact absurd h (by decide)

/-- The table of positions in real numbers, in the order of the reference: row `0` is the class token's. -/
def posR (i : Fin 129) (d : Fin 256) : ℝ := (Ideal.ofBits .f32 (ReferenceIdeal.lit47t (i.val * 256 + d.val))).toReal

/-- The kernel's position word of patch token `i` is the reference's, one row later. -/
theorem kernel_patch (i : Fin 128) (d : Fin 256) :
    lit1t (i.val * 256 + d.val) = ReferenceIdeal.lit47t (i.succ.val * 256 + d.val) := by
  have := i.isLt
  have := d.isLt
  have es : i.succ.val = i.val + 1 := rfl
  rw [kernel_word _ (by omega), reference_word _ (by omega)]
  have e : (i.succ.val * 256 + d.val) / 128 = (i.val * 256 + d.val) / 128 + 2 := by omega
  have e' : (i.succ.val * 256 + d.val) % 128 = (i.val * 256 + d.val) % 128 := by omega
  simp only [e, e']
  rw [same_word _ (by omega)]

/-- The kernel's last position row is the reference's first. -/
theorem kernel_class (d : Fin 256) : lit1t (128 * 256 + d.val) = ReferenceIdeal.lit47t d.val := by
  have := d.isLt
  rw [kernel_word _ (by omega), reference_word _ (by omega)]
  have e : (128 * 256 + d.val) / 128 = d.val / 128 + 256 := by omega
  have e' : (128 * 256 + d.val) % 128 = d.val % 128 := by omega
  simp only [e, e']
  rw [same_word' _ (by omega)]

/-- Every position word of the reference is the real number `posR`. -/
theorem posR_eq (i : Fin 129) (d : Fin 256) :
    Ideal.ofBits .f32 (ReferenceIdeal.lit47t (i.val * 256 + d.val)) = ((posR i d : ℝ) : EReal) := by
  have h : ∃ r : ℝ, Ideal.ofBits .f32 (ReferenceIdeal.lit47t (i.val * 256 + d.val)) = (r : EReal) := by
    have := d.isLt
    rcases Fin.eq_zero_or_eq_succ i with rfl | ⟨k, rfl⟩
    · have e := kernel_class d
      rw [show ((0 : Fin 129).val * 256 + d.val) = d.val by simp, ← e]
      exact kernel_real _ (by omega)
    · have := k.isLt
      rw [← kernel_patch k d]
      exact kernel_real _ (by omega)
  obtain ⟨r, hr⟩ := h
  unfold posR
  rw [hr]
  rfl

/-- The kernel's table at the row of patch `i`. -/
theorem kernel_pos (i : Fin 128) (d : Fin 256) : Ideal.ofBits .f32 (lit1t (i.val * 256 + d.val)) = ((posR i.succ d : ℝ) : EReal) := by
  rw [kernel_patch, posR_eq]

/-- The kernel's table at the row of the class token. -/
theorem kernel_pos_class (d : Fin 256) : Ideal.ofBits .f32 (lit1t (128 * 256 + d.val)) = ((posR 0 d : ℝ) : EReal) := by
  rw [kernel_class, ← posR_eq]
  simp

end Cert.KernelIdeal.Table
-- ==== Proof.RefTok.lean ====
/- The tokens of the reference in real numbers. -/
module

public import proofs.«01_k».proof.Proof.Spiral
public import proofs.«01_k».proof.Proof.PeTable

@[expose] public section

set_option maxRecDepth 16384

noncomputable section

namespace Cert.Vit

open Cert.KernelIdeal.Table
open scoped BigOperators

/-- Token `p` of image `b` at channel `c`: the spiral's combination of the entries of the picture. -/
def tokR (X : Fin 64 → Fin 128 → Fin 1089 → ℝ) (b : Fin 64) (c p : Fin 128) : ℝ :=
  (∑ m : Fin 1089, (digit (cols.getD p.val 0) m.val : ℝ) * X b c m) / 2 ^ 16

/-- The embedded patch `p`, its position added. -/
def patchR (X : Fin 64 → Fin 128 → Fin 1089 → ℝ) (eW : Fin 128 → Fin 256 → ℝ) (eb : Fin 256 → ℝ) (b : Fin 64) (p : Fin 128) (d : Fin 256) : ℝ :=
  (∑ c, tokR X b c p * eW c d) + eb d + posR p.succ d

/-- The tokens, the class token first. -/
def tokensR (X : Fin 64 → Fin 128 → Fin 1089 → ℝ) (eW : Fin 128 → Fin 256 → ℝ) (eb cls : Fin 256 → ℝ) (b : Fin 64) (i : Fin 129)
    (d : Fin 256) : ℝ :=
  Fin.cases (cls d + posR 0 d) (fun p => patchR X eW eb b p d) i

end Cert.Vit

namespace Cert.ReferenceIdeal.Spiral

open Cert.ReferenceIdeal Cert.ReferenceIdeal.Gen Cert.ReferenceIdeal.Value Idealize.ShloMosaic Idealize.ShloMosaic.Tactic Cert.Vit Cert.ReferenceIdeal.Layer
  Cert.KernelIdeal.Table
open scoped BigOperators

/-- The place of token `p`. -/
theorem place_lt (p : Fin 128) : ((ringAt 15).getD p.val (0, 0, 0)).1 < 1089 := by
  revert p
  decide +kernel

/-- The place of token `p`. -/
def place (p : Fin 128) : Fin 1089 := ⟨((ringAt 15).getD p.val (0, 0, 0)).1, place_lt p⟩

variable {V : Valuation τ sig (Elt Ideal)} {X : Fin 64 → Fin 128 → Fin 1089 → ℝ}

/-- The coefficients after a ring come from those before it. -/
theorem coefs_succ (r : Nat) : coefs (r + 1) = next r (coefs r) (ringAt r) := rfl

/-- The value after the last ring at the place of a token. -/
theorem last_at (h : ∀ b c p, res_main_v0 V (ix3 b c p) = ((X b c p : ℝ) : EReal)) (b : Fin 64) (c p : Fin 128) :
    lastv V (ix3 b c (place p)) = ((tokR X b c p : ℝ) : EReal) := by
  have inv := inv_last V h
  have hn : (ringAt 15).length = 128 := by decide +kernel
  have hl : p.val < (ringAt 15).length := by rw [hn]; exact p.isLt
  have hc : coefs 16 = next 15 (coefs 15) (ringAt 15) := coefs_succ 15
  have hl' : p.val < (coefs 16).length := by
    rw [hc]
    unfold next
    rw [List.length_map]
    exact hl
  obtain ⟨hp, f, hf, ef, vf⟩ := inv.places _ (List.getElem_mem hl')
  have e1 : ((coefs 16)[p.val]).1 = (place p).val := by
    unfold place
    simp only [getD_getElem _ _ hl]
    simp only [hc, next, List.getElem_map]
  have e2 : cols.getD p.val 0 = ((coefs 16)[p.val]).2 := by
    unfold cols
    rw [getD_getElem _ _ (by rw [List.length_map]; exact hl'), List.getElem_map]
  have e3 : (⟨((coefs 16)[p.val]).1, hp⟩ : Fin 1089) = place p := Fin.ext e1
  have v := vf b c
  rw [e3] at v
  rw [v]
  unfold tokR
  refine congrArg Real.toEReal (congrArg (· / (2 : ℝ) ^ 16) (Finset.sum_congr rfl fun m _ => ?_))
  refine congrArg (fun k : Nat => (k : ℝ) * X b c m) ?_
  have hb : ∀ m, f m < base := fun m => lt_of_le_of_lt (hf m) (by unfold base; norm_num)
  rw [e2, ef]
  exact (digit_sum f hb 1089 m.val m.isLt).symm

/-- The index words of the last ring are its places. -/
theorem last_words : Words 15 (fun t => t.1) (fun i => lit46 (S128.rowMajor i)) := by decide +kernel

variable (V)

/-- The tokens before they are embedded. -/
def tokv : A S64x128x128 :=
  addf (res_main_v389 V) (subf (Host.gather gather_S64x128x1089_S128x1_S64x128x128_01_2_n_n_2_1_641281 (lastv V) (prep bcast_S128_S128x1_0 bcast_S_S128 (res_main_c_111 V)))
    (res_main_v389 V))

/-- The embedded tokens. -/
def embv (t : A S64x128x128) : A S64x129x256 :=
  addf (concatenate S64x129x256 1 [⟨S64x1x256, (broadcastInDim S64x1x256 ![0, 1, 2] bcast_S1x1x256_S64x1x256_0_1_2 (V (Proc.devRef .tc main_arg3)))⟩, ⟨S64x128x256, (addf (Host.dotGeneral (φ₂ := .f32) dot_S64x128x128_S128x256_S64x128x256_2_0_01_1_n_n none (transpose S64x128x128 [0, 2, 1] t transposes_S64x128x128_S64x128x128_0_2_1) (V (Proc.devRef .tc main_arg1) : A S128x256)) (broadcastInDim S64x128x256 ![0, 1, 2] bcast_S1x1x256_S64x128x256_0_1_2 (broadcastInDim S1x1x256 ![2] bcast_S256_S1x1x256_2 (V (Proc.devRef .tc main_arg2)))))⟩] concatenates_S64x1x256_S64x128x256_S64x129x256_d1) (broadcastInDim S64x129x256 ![0, 1, 2] bcast_S1x129x256_S64x129x256_0_1_2 ((fun i => FloatOps.ofBits .f32 (lit47 (S1x129x256.rowMajor i)))))

/-- The reference's tokens with their positions are the embedding of the spiral tokens. -/
theorem run_tokens : res_main_v405 V = embv V (tokv V) := rfl

variable {V}

/-- The sum of an array and a difference reads entry by entry. -/
theorem comb_at (x y : A S64x128x128) (i : S64x128x128.Idx) : addf x (subf y x) i = x i + (y i - x i) := rfl

/-- Stepping from one real number by the difference to another ends at the other. -/
theorem step_to {u v : EReal} {x y : ℝ} (hu : u = (x : EReal)) (hv : v = (y : EReal)) : u + (v - u) = (y : EReal) := by
  rw [hu, hv, ← EReal.coe_sub, ← EReal.coe_add]
  exact congrArg Real.toEReal (by ring)

/-- The sum of two real numbers. -/
theorem sum_two {u v : EReal} {x y : ℝ} (hu : u = (x : EReal)) (hv : v = (y : EReal)) : u + v = ((x + y : ℝ) : EReal) := by
  rw [hu, hv, EReal.coe_add]

/-- The dot product of two real rows, with two real numbers added. -/
theorem dot_two {n : Nat} {t w : Fin n → EReal} {T W : Fin n → ℝ} {b p : EReal} {B P : ℝ} (ht : ∀ c, t c = (T c : EReal))
    (hw : ∀ c, w c = (W c : EReal)) (hb : b = (B : EReal)) (hp : p = (P : EReal)) :
    ((∑ c, t c * w c) + b) + p = (((∑ c, T c * W c) + B + P : ℝ) : EReal) := by
  simp only [ht, hw, hb, hp, ← EReal.coe_mul, coe_sum, ← EReal.coe_add]

/-- The reference's spiral token is the model's weighted sum over the image. -/
theorem tokv_at (h : ∀ b c p, res_main_v0 V (ix3 b c p) = ((X b c p : ℝ) : EReal)) (b : Fin 64) (c p : Fin 128) :
    tokv V (ix3 b c p) = ((tokR X b c p : ℝ) : EReal) := by
  have hw : (prep bcast_S128_S128x1_0 bcast_S_S128 (res_main_c_111 V) (ix2 p (0 : Fin 1))).toInt = ((place p).val : Int) := by
    rw [prep_at]
    exact last_words p
  have e1 : res_main_v389 V (ix3 b c p) = ((X b c (place p) : ℝ) : EReal) := by
    rw [← h]
    exact gather_at _ (res_main_v0 V) _ b c p (place p) hw
  have e2 : Host.gather gather_S64x128x1089_S128x1_S64x128x128_01_2_n_n_2_1_641281 (lastv V) (prep bcast_S128_S128x1_0 bcast_S_S128 (res_main_c_111 V)) (ix3 b c p)
      = ((tokR X b c p : ℝ) : EReal) := by
    rw [← last_at h]
    exact gather_at _ (lastv V) _ b c p (place p) hw
  exact (comb_at (res_main_v389 V) _ (ix3 b c p)).trans (step_to e1 e2)

variable {eW : Fin 128 → Fin 256 → ℝ} {eb cls : Fin 256 → ℝ}

/-- The embedded tokens in real numbers. -/
theorem tokens_at (h : ∀ b c p, res_main_v0 V (ix3 b c p) = ((X b c p : ℝ) : EReal))
    (h1 : ∀ c d, (V (Proc.devRef .tc main_arg1) : A S128x256) (ix2 c d) = ((eW c d : ℝ) : EReal))
    (h2 : ∀ d, (V (Proc.devRef .tc main_arg2) : A S256) (ix1 d) = ((eb d : ℝ) : EReal))
    (h3 : ∀ d, (V (Proc.devRef .tc main_arg3) : A S1x1x256) (ix3 0 0 d) = ((cls d : ℝ) : EReal)) (b : Fin 64) (i : Fin 129) (d : Fin 256) :
    res_main_v405 V (ix3 b i d) = ((tokensR X eW eb cls b i d : ℝ) : EReal) := by
  rw [run_tokens]
  have hp : ∀ i : Fin 129, FloatOps.ofBits (F := Ideal) .f32 (lit47 (S1x129x256.rowMajor (ix3 (0 : Fin 1) i d))) = ((posR i d : ℝ) : EReal) := by
    intro i
    rw [← posR_eq]
    refine congrArg (fun k => Ideal.ofBits .f32 (lit47t k)) ?_
    refine (Shape.rowMajor_val_three (d := ![1, 129, 256]) (ix3 (0 : Fin 1) i d)).trans ?_
    show (0 * 129 + i.val) * 256 + d.val = _
    omega
  rcases Fin.eq_zero_or_eq_succ i with rfl | ⟨p, rfl⟩
  · pointwise [embv]
    exact sum_two (h3 d) (hp 0)
  · pointwise [embv]
    rw [dif_neg (by simp)]
    exact dot_two (fun c => tokv_at h b c p) (fun c => h1 c d) (h2 d) (hp p.succ)

end Cert.ReferenceIdeal.Spiral
-- ==== Proof.Inputs.lean ====
/- The arguments of the network, and what both programs compute of them. -/
module

public import proofs.«01_k».proof.Proof.RefTok

@[expose] public section

noncomputable section

namespace Cert.Vit

open scoped BigOperators

/-- The arguments, by coordinates. -/
structure Inputs where
  x : Fin 64 → Fin 128 → Fin 1089 → EReal
  ew : Fin 128 → Fin 256 → EReal
  eb : Fin 256 → EReal
  cls : Fin 256 → EReal
  wqkv : Fin 4 → Fin 256 → Fin 1536 → EReal
  wo : Fin 4 → Fin 512 → Fin 256 → EReal
  bo : Fin 4 → Fin 256 → EReal
  g1 : Fin 4 → Fin 256 → EReal
  be1 : Fin 4 → Fin 256 → EReal
  w1 : Fin 4 → Fin 256 → Fin 512 → EReal
  b1 : Fin 4 → Fin 512 → EReal
  w2 : Fin 4 → Fin 512 → Fin 256 → EReal
  b2 : Fin 4 → Fin 256 → EReal
  g2 : Fin 4 → Fin 256 → EReal
  be2 : Fin 4 → Fin 256 → EReal
  hg : Fin 256 → EReal
  hb : Fin 256 → EReal
  wh : Fin 256 → Fin 16 → EReal
  bh : Fin 16 → EReal

/-- A number that is neither infinity. -/
def IsReal (v : EReal) : Prop := v = ((v.toReal : ℝ) : EReal)

/-- Every argument before the head holds real numbers. -/
structure Inputs.Real (I : Inputs) : Prop where
  x : ∀ b c p, IsReal (I.x b c p)
  ew : ∀ c d, IsReal (I.ew c d)
  eb : ∀ d, IsReal (I.eb d)
  cls : ∀ d, IsReal (I.cls d)
  wqkv : ∀ l c e, IsReal (I.wqkv l c e)
  wo : ∀ l c e, IsReal (I.wo l c e)
  bo : ∀ l d, IsReal (I.bo l d)
  g1 : ∀ l d, IsReal (I.g1 l d)
  be1 : ∀ l d, IsReal (I.be1 l d)
  w1 : ∀ l c e, IsReal (I.w1 l c e)
  b1 : ∀ l d, IsReal (I.b1 l d)
  w2 : ∀ l c e, IsReal (I.w2 l c e)
  b2 : ∀ l d, IsReal (I.b2 l d)
  g2 : ∀ l d, IsReal (I.g2 l d)
  be2 : ∀ l d, IsReal (I.be2 l d)

/-- The weights of layer `l`. -/
def Inputs.layerAt (I : Inputs) (l : Fin 4) : LayerW where
  wqkv c e := (I.wqkv l c e).toReal
  wo c e := (I.wo l c e).toReal
  bo d := (I.bo l d).toReal
  g1 d := (I.g1 l d).toReal
  be1 d := (I.be1 l d).toReal
  w1 c e := (I.w1 l c e).toReal
  b1 d := (I.b1 l d).toReal
  w2 c e := (I.w2 l c e).toReal
  b2 d := (I.b2 l d).toReal
  g2 d := (I.g2 l d).toReal
  be2 d := (I.be2 l d).toReal

/-- The weights of the layers. -/
def Inputs.layer (I : Inputs) (l : Nat) : LayerW := I.layerAt ⟨l % 4, Nat.mod_lt _ (by omega)⟩

/-- The weights of layer `l`, found by a natural number, are those of layer `l`. -/
theorem Inputs.layer_val (I : Inputs) (l : Fin 4) : I.layer l.val = I.layerAt l :=
  congrArg I.layerAt (Fin.ext (Nat.mod_eq_of_lt l.isLt))

/-- The embedded tokens of image `b`. -/
def Inputs.tokens (I : Inputs) (b : Fin 64) : Fin 129 → Fin 256 → ℝ :=
  tokensR (fun b c p => (I.x b c p).toReal) (fun c d => (I.ew c d).toReal) (fun d => (I.eb d).toReal) (fun d => (I.cls d).toReal) b

/-- The normalised mean of the tokens of image `b` after the layers. -/
def Inputs.pooled (I : Inputs) (b : Fin 64) : Fin 256 → ℝ := unitRow (pool (layers I.layer (I.tokens b) 4))

/-- Score `k` of image `b`. -/
def Inputs.score (I : Inputs) (b : Fin 64) (k : Fin 16) : EReal :=
  (∑ d, ((I.pooled b d : EReal) * I.hg d + I.hb d) * I.wh d k) + I.bh k

/-- The tokens in another order, the class token last. -/
def Inputs.turned (I : Inputs) (b : Fin 64) (i : Fin 129) : Fin 256 → ℝ := I.tokens b (finRotate 129 i)

/-- In the turned order, place `i` holds patch token `i`, which stands one later in the reference's order. -/
theorem Inputs.turned_patch (I : Inputs) (b : Fin 64) (i : Fin 128) : I.turned b i.castSucc = I.tokens b i.succ := by
  unfold Inputs.turned
  refine congrArg (I.tokens b) (Fin.ext ?_)
  rw [coe_finRotate_of_ne_last (Fin.castSucc_lt_last i).ne]
  rfl

/-- In the turned order the last token is the class token. -/
theorem Inputs.turned_class (I : Inputs) (b : Fin 64) : I.turned b (Fin.last 128) = I.tokens b 0 :=
  congrArg (I.tokens b) finRotate_last

/-- The order of the tokens does not change their mean after the layers. -/
theorem Inputs.pooled_turned (I : Inputs) (b : Fin 64) : unitRow (pool (layers I.layer (I.turned b) 4)) = I.pooled b := by
  unfold Inputs.pooled
  refine congrArg unitRow (funext fun d => ?_)
  unfold pool
  refine congrArg (· / (129 : ℝ)) ?_
  have h := layers_rename (finRotate 129) I.layer (I.tokens b) 4
  rw [show I.turned b = fun i => I.tokens b (finRotate 129 i) from rfl, h]
  exact Equiv.sum_comp (finRotate 129) fun i => layers I.layer (I.tokens b) 4 i d

end Cert.Vit

end
-- ==== Proof.RefResult.lean ====
/- The reference's result in terms of its arguments. -/
module

public import proofs.«01_k».proof.Proof.Inputs

@[expose] public section

set_option maxRecDepth 16384

noncomputable section

namespace Cert.ReferenceIdeal.Result

open Cert.ReferenceIdeal Cert.ReferenceIdeal.Gen Cert.ReferenceIdeal.Value Cert.ReferenceIdeal.Layer Cert.ReferenceIdeal.Spiral Idealize.ShloMosaic Idealize.ShloMosaic.Tactic Cert.Vit
open Idealize.ShloMosaic.StableHlo
open scoped BigOperators

/-- The arguments of the reference. -/
def inputs (V : Valuation τ sig (Elt Ideal)) : Inputs where
  x b c p := (V (Proc.devRef .tc main_arg0) : A S64x128x33x33) (ix4 b c ⟨p.val / 33, by omega⟩ ⟨p.val % 33, Nat.mod_lt _ (by omega)⟩)
  ew c d := (V (Proc.devRef .tc main_arg1) : A S128x256) (ix2 c d)
  eb d := (V (Proc.devRef .tc main_arg2) : A S256) (ix1 d)
  cls d := (V (Proc.devRef .tc main_arg3) : A S1x1x256) (ix3 0 0 d)
  wqkv l c e := (V (Proc.devRef .tc main_arg4) : A S4x256x1536) (ix3 l c e)
  wo l c e := (V (Proc.devRef .tc main_arg5) : A S4x512x256) (ix3 l c e)
  bo l d := (V (Proc.devRef .tc main_arg6) : A S4x256) (ix2 l d)
  g1 l d := (V (Proc.devRef .tc main_arg7) : A S4x256) (ix2 l d)
  be1 l d := (V (Proc.devRef .tc main_arg8) : A S4x256) (ix2 l d)
  w1 l c e := (V (Proc.devRef .tc main_arg9) : A S4x256x512) (ix3 l c e)
  b1 l d := (V (Proc.devRef .tc main_arg10) : A S4x512) (ix2 l d)
  w2 l c e := (V (Proc.devRef .tc main_arg11) : A S4x512x256) (ix3 l c e)
  b2 l d := (V (Proc.devRef .tc main_arg12) : A S4x256) (ix2 l d)
  g2 l d := (V (Proc.devRef .tc main_arg13) : A S4x256) (ix2 l d)
  be2 l d := (V (Proc.devRef .tc main_arg14) : A S4x256) (ix2 l d)
  hg d := (V (Proc.devRef .tc main_arg15) : A S256) (ix1 d)
  hb d := (V (Proc.devRef .tc main_arg16) : A S256) (ix1 d)
  wh d k := (V (Proc.devRef .tc main_arg17) : A S256x16) (ix2 d k)
  bh k := (V (Proc.devRef .tc main_arg18) : A S16) (ix1 k)

variable {V : Valuation τ sig (Elt Ideal)}

/-- The reference's flattened image reads the argument at the same place. -/
theorem flat_at (b : Fin 64) (c : Fin 128) (p : Fin 1089) : res_main_v0 V (ix3 b c p) = (inputs V).x b c p := by
  pointwise [res_main_v0]
  rfl

/-- The weights of the layers are real. -/
theorem layers_real (h : (inputs V).Real) : ∀ l < 4, (weights V l).Real ((inputs V).layer l) :=
  weights_real (inputs V).layer (fun l c e => by rw [Inputs.layer_val]; exact h.wqkv l c e) (fun l c e => by rw [Inputs.layer_val]; exact h.wo l c e)
    (fun l d => by rw [Inputs.layer_val]; exact h.bo l d) (fun l d => by rw [Inputs.layer_val]; exact h.g1 l d)
    (fun l d => by rw [Inputs.layer_val]; exact h.be1 l d) (fun l c e => by rw [Inputs.layer_val]; exact h.w1 l c e)
    (fun l d => by rw [Inputs.layer_val]; exact h.b1 l d) (fun l c e => by rw [Inputs.layer_val]; exact h.w2 l c e)
    (fun l d => by rw [Inputs.layer_val]; exact h.b2 l d) (fun l d => by rw [Inputs.layer_val]; exact h.g2 l d)
    (fun l d => by rw [Inputs.layer_val]; exact h.be2 l d)

/-- The mean of the tokens after the layers. -/
theorem pooled_at (h : (inputs V).Real) (b : Fin 64) (d : Fin 256) :
    res_main_v836 V (ix2 b d) = ((pool (layers (inputs V).layer ((inputs V).tokens b) 4) d : ℝ) : EReal) := by
  rw [run_pooled]
  exact poolv_at (layersv_at 4 (layers_real h) fun b i d =>
    tokens_at (fun b c p => (flat_at b c p).trans (h.x b c p)) h.ew h.eb h.cls b i d) b d

/-- The result of the reference. -/
def res (V : Valuation τ sig (Elt Ideal)) : A S64x16 :=
  headv (res_main_v836 V) (V (Proc.devRef .tc main_arg15)) (V (Proc.devRef .tc main_arg16)) (V (Proc.devRef .tc main_arg17)) (V (Proc.devRef .tc main_arg18))

/-- Every score the reference computes. -/
theorem res_at (h : (inputs V).Real) (b : Fin 64) (k : Fin 16) : res V (ix2 b k) = (inputs V).score b k :=
  headv_at (pooled_at h) _ _ _ _ b k

/-- The result the reference leaves. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v858) = res (launchContents m c) :=
  (θ_run _ _ _).mono (fun _ h c => (h c).1) (Cert.ReferenceIdeal.Value.run m ρ)

end Cert.ReferenceIdeal.Result

end
-- ==== Proof.KerRun.lean ====
/- The value the run of the kernel's body stores in its output block is the model's. -/
module

public import proofs.«01_k».proof.Proof.KerModel

@[expose] public section

set_option maxRecDepth 16384

noncomputable section

namespace Cert.KernelIdeal.Body

open Cert.KernelIdeal Cert.KernelIdeal.Gen Idealize.ShloMosaic Idealize.ShloMosaic.Tactic

variable {F : FTy → Type} [FloatOps F] [Named F]

/-- One image lies in the block of images. -/
theorem inb_x (g : Nat) : ∀ a, (![g % 8, 0, 0] : Fin 3 → Nat) a + S1x128x1089.size a ≤ S8x128x1089.size a := by
  intro a; fin_cases a <;> simp <;> omega

/-- One layer lies in the array of fused projection weights. -/
theorem inb_S1x256x1536 (l : Nat) : ∀ a, (![l % 4, 0, 0] : Fin 3 → Nat) a + S1x256x1536.size a ≤ S4x256x1536.size a := by
  intro a; fin_cases a <;> simp <;> omega

/-- One layer lies in the arrays of weights of 512 rows and 256 columns. -/
theorem inb_S1x512x256 (l : Nat) : ∀ a, (![l % 4, 0, 0] : Fin 3 → Nat) a + S1x512x256.size a ≤ S4x512x256.size a := by
  intro a; fin_cases a <;> simp <;> omega

/-- One layer lies in the arrays of rows of 256 numbers. -/
theorem inb_S1x1x256 (l : Nat) : ∀ a, (![l % 4, 0, 0] : Fin 3 → Nat) a + S1x1x256.size a ≤ S4x1x256.size a := by
  intro a; fin_cases a <;> simp <;> omega

/-- One layer lies in the array of weights of 256 rows and 512 columns. -/
theorem inb_S1x256x512 (l : Nat) : ∀ a, (![l % 4, 0, 0] : Fin 3 → Nat) a + S1x256x512.size a ≤ S4x256x512.size a := by
  intro a; fin_cases a <;> simp <;> omega

/-- One layer lies in the array of rows of 512 numbers. -/
theorem inb_S1x1x512 (l : Nat) : ∀ a, (![l % 4, 0, 0] : Fin 3 → Nat) a + S1x1x512.size a ≤ S4x1x512.size a := by
  intro a; fin_cases a <;> simp <;> omega

/-- What one run of the body is given: the grid point, its windows and scratch buffers, and what the input windows hold. -/
structure Args (F : FTy → Type) [FloatOps F] [Named F] where
  c : Dev nD
  i : grid0.Coords
  arg1 : Memref sig .tc .vmem S8x128x1089 .f32
  harg1 : arg1.IsWhole
  arg2 : Memref sig .tc .vmem S1089x128 .bf16
  harg2 : arg2.IsWhole
  arg3 : Memref sig .tc .vmem S136x256 .f32
  harg3 : arg3.IsWhole
  arg4 : Memref sig .tc .vmem S128x256 .bf16
  harg4 : arg4.IsWhole
  arg5 : Memref sig .tc .vmem S1x256 .f32
  harg5 : arg5.IsWhole
  arg6 : Memref sig .tc .vmem S1x256 .f32
  harg6 : arg6.IsWhole
  arg7 : Memref sig .tc .vmem S4x256x1536 .bf16
  harg7 : arg7.IsWhole
  arg8 : Memref sig .tc .vmem S4x512x256 .bf16
  harg8 : arg8.IsWhole
  arg9 : Memref sig .tc .vmem S4x1x256 .f32
  harg9 : arg9.IsWhole
  arg10 : Memref sig .tc .vmem S4x1x256 .f32
  harg10 : arg10.IsWhole
  arg11 : Memref sig .tc .vmem S4x1x256 .f32
  harg11 : arg11.IsWhole
  arg12 : Memref sig .tc .vmem S4x256x512 .bf16
  harg12 : arg12.IsWhole
  arg13 : Memref sig .tc .vmem S4x1x512 .f32
  harg13 : arg13.IsWhole
  arg14 : Memref sig .tc .vmem S4x512x256 .bf16
  harg14 : arg14.IsWhole
  arg15 : Memref sig .tc .vmem S4x1x256 .f32
  harg15 : arg15.IsWhole
  arg16 : Memref sig .tc .vmem S4x1x256 .f32
  harg16 : arg16.IsWhole
  arg17 : Memref sig .tc .vmem S4x1x256 .f32
  harg17 : arg17.IsWhole
  arg18 : Memref sig .tc .vmem S1x256 .f32
  harg18 : arg18.IsWhole
  arg19 : Memref sig .tc .vmem S1x256 .f32
  harg19 : arg19.IsWhole
  arg20 : Memref sig .tc .vmem S256x128 .f32
  harg20 : arg20.IsWhole
  arg21 : Memref sig .tc .vmem S1x128 .f32
  harg21 : arg21.IsWhole
  arg22 : Memref sig .tc .vmem S8x1x128 .f32
  harg22 : arg22.IsWhole
  arg23 : Memref sig .tc .vmem S1088x256 .f32
  harg23 : arg23.IsWhole
  arg24 : Memref sig .tc .vmem S1088x512 .f32
  harg24 : arg24.IsWhole
  arg25 : Memref sig .tc .vmem S8x256 .f32
  harg25 : arg25.IsWhole
  arg26 : Memref sig .tc .vmem S136x128 .bf16
  harg26 : arg26.IsWhole
  x0 : Vec F S8x128x1089 .f32
  x1 : Vec F S1089x128 .bf16
  x2 : Vec F S136x256 .f32
  x3 : Vec F S128x256 .bf16
  x4 : Vec F S1x256 .f32
  x5 : Vec F S1x256 .f32
  x6 : Vec F S4x256x1536 .bf16
  x7 : Vec F S4x512x256 .bf16
  x8 : Vec F S4x1x256 .f32
  x9 : Vec F S4x1x256 .f32
  x10 : Vec F S4x1x256 .f32
  x11 : Vec F S4x256x512 .bf16
  x12 : Vec F S4x1x512 .f32
  x13 : Vec F S4x512x256 .bf16
  x14 : Vec F S4x1x256 .f32
  x15 : Vec F S4x1x256 .f32
  x16 : Vec F S4x1x256 .f32
  x17 : Vec F S1x256 .f32
  x18 : Vec F S1x256 .f32
  x19 : Vec F S256x128 .f32
  x20 : Vec F S1x128 .f32

/-- What the body loads. -/
def Args.loads (a : Args F) : Loads F where
  x g := View.readAt (Elt F) a.arg1.view (Rect.unit (s := S8x128x1089) ![g % 8, 0, 0] S1x128x1089.size (inb_x g)).toLoadRect (a.harg1.unread a.x0)
  wsp := View.readAt (Elt F) a.arg2.view (Rect.unit (s := S1089x128) ![0, 0] S1089x128.size inb_S1089x128_S1089x128_0_0).toLoadRect (a.harg2.unread a.x1)
  ew := View.readAt (Elt F) a.arg4.view (Rect.unit (s := S128x256) ![0, 0] S128x256.size inb_S128x256_S128x256_0_0).toLoadRect (a.harg4.unread a.x3)
  eb := View.readAt (Elt F) a.arg5.view (Rect.unit (s := S1x256) ![0, 0] S1x256.size inb_S1x256_S1x256_0_0).toLoadRect (a.harg5.unread a.x4)
  cls := View.readAt (Elt F) a.arg6.view (Rect.unit (s := S1x256) ![0, 0] S1x256.size inb_S1x256_S1x256_0_0).toLoadRect (a.harg6.unread a.x5)
  hg := View.readAt (Elt F) a.arg18.view (Rect.unit (s := S1x256) ![0, 0] S1x256.size inb_S1x256_S1x256_0_0).toLoadRect (a.harg18.unread a.x17)
  hb := View.readAt (Elt F) a.arg19.view (Rect.unit (s := S1x256) ![0, 0] S1x256.size inb_S1x256_S1x256_0_0).toLoadRect (a.harg19.unread a.x18)
  wh := View.readAt (Elt F) a.arg20.view (Rect.unit (s := S256x128) ![0, 0] S256x128.size inb_S256x128_S256x128_0_0).toLoadRect (a.harg20.unread a.x19)
  bh := View.readAt (Elt F) a.arg21.view (Rect.unit (s := S1x128) ![0, 0] S1x128.size inb_S1x128_S1x128_0_0).toLoadRect (a.harg21.unread a.x20)
  pe := View.readAt (Elt F) a.arg3.view (Rect.unit (s := S136x256) ![0, 0] S128x256.size inb_S136x256_S128x256_0_0).toLoadRect (a.harg3.unread a.x2)
  peLast := View.readAt (Elt F) a.arg3.view (Rect.unit (s := S136x256) ![128, 0] S1x256.size inb_S136x256_S1x256_128_0).toLoadRect (a.harg3.unread a.x2)
  wqkv l := View.readAt (Elt F) a.arg7.view (Rect.unit (s := S4x256x1536) ![l % 4, 0, 0] S1x256x1536.size (inb_S1x256x1536 l)).toLoadRect (a.harg7.unread a.x6)
  wo l := View.readAt (Elt F) a.arg8.view (Rect.unit (s := S4x512x256) ![l % 4, 0, 0] S1x512x256.size (inb_S1x512x256 l)).toLoadRect (a.harg8.unread a.x7)
  bo l := View.readAt (Elt F) a.arg9.view (Rect.unit (s := S4x1x256) ![l % 4, 0, 0] S1x1x256.size (inb_S1x1x256 l)).toLoadRect (a.harg9.unread a.x8)
  g1 l := View.readAt (Elt F) a.arg10.view (Rect.unit (s := S4x1x256) ![l % 4, 0, 0] S1x1x256.size (inb_S1x1x256 l)).toLoadRect (a.harg10.unread a.x9)
  be1 l := View.readAt (Elt F) a.arg11.view (Rect.unit (s := S4x1x256) ![l % 4, 0, 0] S1x1x256.size (inb_S1x1x256 l)).toLoadRect (a.harg11.unread a.x10)
  w1 l := View.readAt (Elt F) a.arg12.view (Rect.unit (s := S4x256x512) ![l % 4, 0, 0] S1x256x512.size (inb_S1x256x512 l)).toLoadRect (a.harg12.unread a.x11)
  b1 l := View.readAt (Elt F) a.arg13.view (Rect.unit (s := S4x1x512) ![l % 4, 0, 0] S1x1x512.size (inb_S1x1x512 l)).toLoadRect (a.harg13.unread a.x12)
  w2 l := View.readAt (Elt F) a.arg14.view (Rect.unit (s := S4x512x256) ![l % 4, 0, 0] S1x512x256.size (inb_S1x512x256 l)).toLoadRect (a.harg14.unread a.x13)
  b2 l := View.readAt (Elt F) a.arg15.view (Rect.unit (s := S4x1x256) ![l % 4, 0, 0] S1x1x256.size (inb_S1x1x256 l)).toLoadRect (a.harg15.unread a.x14)
  g2 l := View.readAt (Elt F) a.arg16.view (Rect.unit (s := S4x1x256) ![l % 4, 0, 0] S1x1x256.size (inb_S1x1x256 l)).toLoadRect (a.harg16.unread a.x15)
  be2 l := View.readAt (Elt F) a.arg17.view (Rect.unit (s := S4x1x256) ![l % 4, 0, 0] S1x1x256.size (inb_S1x1x256 l)).toLoadRect (a.harg17.unread a.x16)

/-- The state the run reaches after 0 layers. -/
noncomputable def Args.at0 (a : Args F) : St F :=
  ⟨kernelRun0_A.sl.v258 (F := F) a.c a.arg1 a.harg1 a.arg2 a.harg2 a.arg3 a.harg3 a.arg4 a.harg4 a.arg5 a.harg5 a.arg6 a.harg6 a.arg23 a.x0 a.x1 a.x2 a.x3 a.x4 a.x5,
    kernelRun0_A.sl.HS3_1 (F := F) , []⟩

/-- The state the run reaches after 1 layers. -/
noncomputable def Args.at1 (a : Args F) : St F :=
  ⟨kernelRun0_A.sl.v1955 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16,
    kernelRun0_A.sl.HS3_65 (F := F) a.c a.arg1 a.harg1 a.arg2 a.harg2 a.arg3 a.harg3 a.arg4 a.harg4 a.arg5 a.harg5 a.arg6 a.harg6 a.arg7 a.harg7 a.arg10 a.harg10 a.arg11 a.harg11 a.arg23 a.x0 a.x1 a.x2 a.x3 a.x4 a.x5 a.x6 a.x9 a.x10, kernelRun0_A.sl.HS1_64 (F := F) a.c a.arg1 a.harg1 a.arg2 a.harg2 a.arg3 a.harg3 a.arg4 a.harg4 a.arg5 a.harg5 a.arg6 a.harg6 a.arg7 a.harg7 a.arg10 a.harg10 a.arg11 a.harg11 a.arg23 a.arg26 a.x0 a.x1 a.x2 a.x3 a.x4 a.x5 a.x6 a.x9 a.x10⟩

/-- The state the run reaches after 2 layers. -/
noncomputable def Args.at2 (a : Args F) : St F :=
  ⟨kernelRun0_A.sl.v3646 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16,
    kernelRun0_A.sl.HS3_129 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16, kernelRun0_A.sl.HS1_128 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16⟩

/-- The state the run reaches after 3 layers. -/
noncomputable def Args.at3 (a : Args F) : St F :=
  ⟨kernelRun0_A.sl.v5337 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16,
    kernelRun0_A.sl.HS3_193 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16, kernelRun0_A.sl.HS1_192 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16⟩

/-- The state the run reaches after 4 layers. -/
noncomputable def Args.at4 (a : Args F) : St F :=
  ⟨kernelRun0_A.sl.v7028 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16,
    kernelRun0_A.sl.HS3_257 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16, kernelRun0_A.sl.HS1_256 (F := F) a.c a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg23 a.arg24 a.arg26 a.x0 a.x1 a.x2 a.x3 a.x4 a.x5 a.x6 a.x7 a.x8 a.x9 a.x10 a.x11 a.x12 a.x13 a.x14 a.x15 a.x16⟩

/-- The first layer's step gives the stream after one layer. -/
theorem run_layer0 (a : Args F) : stepK a.arg24 a.arg26 a.loads 0 a.at0 = a.at1 := by sl_kernel_rfl

/-- The second layer's step gives the stream after two layers. -/
theorem run_layer1 (a : Args F) : stepK a.arg24 a.arg26 a.loads 1 a.at1 = a.at2 := by sl_kernel_rfl

/-- The third layer's step gives the stream after three layers. -/
theorem run_layer2 (a : Args F) : stepK a.arg24 a.arg26 a.loads 2 a.at2 = a.at3 := by sl_kernel_rfl

/-- The fourth layer's step gives the stream after four layers. -/
theorem run_layer3 (a : Args F) : stepK a.arg24 a.arg26 a.loads 3 a.at3 = a.at4 := by sl_kernel_rfl

/-- The token stores give the stream before the layers. -/
theorem run_start (a : Args F) : startK a.arg23 a.loads = a.at0 := by sl_kernel_rfl

/-- The states are the ones the run reaches. -/
theorem run_states (a : Args F) : statesK a.arg23 a.arg24 a.arg26 a.loads 4 = a.at4 := by
  show stepK _ _ _ 3 (stepK _ _ _ 2 (stepK _ _ _ 1 (stepK _ _ _ 0 (startK a.arg23 a.loads)))) = _
  rw [run_start, run_layer0, run_layer1, run_layer2, run_layer3]

/-- What the run stores, from its last state. -/
theorem run_tail (a : Args F) :
    (kernelRun0_A a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 a.arg24 a.harg24 a.arg25 a.harg25 a.arg26 a.harg26 a.x0 a.x1 a.x2 a.x3 a.x4 a.x5 a.x6 a.x7 a.x8 a.x9 a.x10 a.x11 a.x12 a.x13 a.x14 a.x15 a.x16 a.x17 a.x18 a.x19 a.x20).1 = [⟨Rect.unit ![0, 0, 0] S8x1x128.size inb_S8x1x128_S8x1x128_0_0_0, scores a.loads (a.arg25.view.readCov (poolPieces a.at4.x 8) (Rect.unit ![0, 0] S8x256.size inb_S8x256_S8x256_0_0).toLoadRect)⟩] := by
  sl_kernel_rfl

/-- The one piece stored in the output block holds the model's value. -/
theorem run_piece (a : Args F) :
    (kernelRun0_A a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 a.arg24 a.harg24 a.arg25 a.harg25 a.arg26 a.harg26 a.x0 a.x1 a.x2 a.x3 a.x4 a.x5 a.x6 a.x7 a.x8 a.x9 a.x10 a.x11 a.x12 a.x13 a.x14 a.x15 a.x16 a.x17 a.x18 a.x19 a.x20).1 = [⟨Rect.unit ![0, 0, 0] S8x1x128.size inb_S8x1x128_S8x1x128_0_0_0, outK a.arg23 a.arg24 a.arg25 a.arg26 a.loads⟩] := by
  rw [run_tail, outK, run_states]

end Cert.KernelIdeal.Body
-- ==== Proof.KerBlock.lean ====
/- One run of the kernel's body: the scores it leaves when its windows hold their blocks. -/
module

public import proofs.«01_k».proof.Proof.Inputs
public import proofs.«01_k».proof.Proof.KerRun
public import Idealize.ShloMosaic.Lib.WholeRead

@[expose] public section

set_option maxRecDepth 16384

noncomputable section

namespace Cert.KernelIdeal.Body

open Cert.KernelIdeal Cert.KernelIdeal.Gen Idealize.ShloMosaic Idealize.ShloMosaic.Tactic Cert.Vit Cert.KernelIdeal.Table
open scoped BigOperators

/-- A load from a whole buffer is what the buffer holds at the shifted index. -/
theorem load_at {sp : Space} {s : Shape} {e : EltTy} {a : Memref sig .tc sp s e} (h : a.IsWhole) (X : Vec Ideal s e) {off size : Fin s.rank → Nat}
    (inb : ∀ k, off k + size k ≤ s.size k) (y : (Rect.unit (s := s) off size inb).toLoadRect.shape.Idx) (z : s.Idx)
    (hz : ∀ k, (z k).val = off k + (y k).val) :
    View.readAt (Elt Ideal) a.view (Rect.unit (s := s) off size inb).toLoadRect (h.unread X) y = X z := by
  refine (h.readAt_unread X _ y).trans (congrArg X (funext fun k => Fin.ext ?_))
  refine Eq.trans ?_ (hz k).symm
  show off k + 1 * (y k).val = _
  omega

/-- The windows of a run hold block `t` of the arguments, and the tables. -/
structure Args.Holds (a : Args Ideal) (I : Inputs) (t : Fin 8) : Prop where
  x0 : ∀ (g : Fin 8) (c : Fin 128) (p : Fin 1089), a.x0 (ix3 g c p) = I.x ⟨t.val * 8 + g.val, by omega⟩ c p
  x1 : ∀ (m : Fin 1089) (p : Fin 128), a.x1 (ix2 m p) = Ideal.ofBits .f32 (lit0t (m.val * 128 + p.val))
  x2 : ∀ (i : Fin 136) (d : Fin 256), a.x2 (ix2 i d) = Ideal.ofBits .f32 (lit1t (i.val * 256 + d.val))
  x3 : ∀ (c : Fin 128) (d : Fin 256), a.x3 (ix2 c d) = I.ew c d
  x4 : ∀ d : Fin 256, a.x4 (ix2 0 d) = I.eb d
  x5 : ∀ d : Fin 256, a.x5 (ix2 0 d) = I.cls d
  x6 : ∀ (l : Fin 4) (c : Fin 256) (e : Fin 1536), a.x6 (ix3 l c e) = I.wqkv l c e
  x7 : ∀ (l : Fin 4) (c : Fin 512) (e : Fin 256), a.x7 (ix3 l c e) = I.wo l c e
  x8 : ∀ (l : Fin 4) (d : Fin 256), a.x8 (ix3 l 0 d) = I.bo l d
  x9 : ∀ (l : Fin 4) (d : Fin 256), a.x9 (ix3 l 0 d) = I.g1 l d
  x10 : ∀ (l : Fin 4) (d : Fin 256), a.x10 (ix3 l 0 d) = I.be1 l d
  x11 : ∀ (l : Fin 4) (c : Fin 256) (e : Fin 512), a.x11 (ix3 l c e) = I.w1 l c e
  x12 : ∀ (l : Fin 4) (d : Fin 512), a.x12 (ix3 l 0 d) = I.b1 l d
  x13 : ∀ (l : Fin 4) (c : Fin 512) (e : Fin 256), a.x13 (ix3 l c e) = I.w2 l c e
  x14 : ∀ (l : Fin 4) (d : Fin 256), a.x14 (ix3 l 0 d) = I.b2 l d
  x15 : ∀ (l : Fin 4) (d : Fin 256), a.x15 (ix3 l 0 d) = I.g2 l d
  x16 : ∀ (l : Fin 4) (d : Fin 256), a.x16 (ix3 l 0 d) = I.be2 l d
  x17 : ∀ d : Fin 256, a.x17 (ix2 0 d) = I.hg d
  x18 : ∀ d : Fin 256, a.x18 (ix2 0 d) = I.hb d
  x19 : ∀ (d : Fin 256) (k : Fin 16), a.x19 (ix2 d (k.castLE (by omega))) = I.wh d k
  x20 : ∀ k : Fin 16, a.x20 (ix2 0 (k.castLE (by omega))) = I.bh k

section
variable {a : Args Ideal} {I : Inputs} {t : Fin 8}

/-- Two indices of matrices that differ by `o` in the row and agree in the column differ by the offset `(o, 0)`. -/
theorem off2 {n p : Nat} {u : Fin n} {v : Fin p} {n' p' : Nat} {u' : Fin n'} {v' : Fin p'} {o : Nat} (h0 : u'.val = o + u.val) (h1 : v'.val = v.val) :
    ∀ k : Fin 2, ((ix2 u' v' : (⟨2, ![n', p']⟩ : Shape).Idx) k).val = (![o, 0] : Fin 2 → Nat) k + ((ix2 u v : (⟨2, ![n, p]⟩ : Shape).Idx) k).val := by
  intro k
  fin_cases k
  · exact h0
  · exact h1.trans (Nat.zero_add _).symm

/-- Two indices of arrays of rank three that differ by `o` in the first coordinate and agree in the others differ by the offset `(o, 0, 0)`. -/
theorem off3 {n p q : Nat} {u : Fin n} {v : Fin p} {w : Fin q} {n' p' q' : Nat} {u' : Fin n'} {v' : Fin p'} {w' : Fin q'} {o : Nat}
    (h0 : u'.val = o + u.val) (h1 : v'.val = v.val) (h2 : w'.val = w.val) :
    ∀ k : Fin 3, ((ix3 u' v' w' : (⟨3, ![n', p', q']⟩ : Shape).Idx) k).val = (![o, 0, 0] : Fin 3 → Nat) k + ((ix3 u v w : (⟨3, ![n, p, q]⟩ : Shape).Idx) k).val := by
  intro k
  fin_cases k
  · exact h0
  · exact h1.trans (Nat.zero_add _).symm
  · exact h2.trans (Nat.zero_add _).symm

/-- The layer a run reads its weights from. -/
def lay (l : Nat) : Fin 4 := ⟨l % 4, Nat.mod_lt _ (by omega)⟩

/-- A matrix of a layer, as loaded. -/
theorem load_layer {p q : Nat} {sp : Space} {e : EltTy} {b : Memref sig .tc sp ⟨3, ![4, p, q]⟩ e} (h : b.IsWhole) (X : Vec Ideal ⟨3, ![4, p, q]⟩ e)
    (l : Nat) (inb : ∀ k, (![l % 4, 0, 0] : Fin 3 → Nat) k + (⟨3, ![1, p, q]⟩ : Shape).size k ≤ (⟨3, ![4, p, q]⟩ : Shape).size k) (u : Fin p) (v : Fin q) :
    View.readAt (Elt Ideal) b.view (Rect.unit (s := ⟨3, ![4, p, q]⟩) ![l % 4, 0, 0] (⟨3, ![1, p, q]⟩ : Shape).size inb).toLoadRect (h.unread X) (ix3 (0 : Fin 1) u v)
      = X (ix3 (lay l) u v) :=
  load_at h X inb _ _ (off3 rfl rfl rfl)

/-- A whole matrix, as loaded. -/
theorem load_whole {p q : Nat} {sp : Space} {e : EltTy} {b : Memref sig .tc sp ⟨2, ![p, q]⟩ e} (h : b.IsWhole) (X : Vec Ideal ⟨2, ![p, q]⟩ e)
    (inb : ∀ k, (![0, 0] : Fin 2 → Nat) k + (⟨2, ![p, q]⟩ : Shape).size k ≤ (⟨2, ![p, q]⟩ : Shape).size k) (u : Fin p) (v : Fin q) :
    View.readAt (Elt Ideal) b.view (Rect.unit (s := ⟨2, ![p, q]⟩) ![0, 0] (⟨2, ![p, q]⟩ : Shape).size inb).toLoadRect (h.unread X) (ix2 u v)
      = X (ix2 u v) :=
  load_at h X inb _ _ (off2 (Nat.zero_add _).symm rfl)

set_option maxHeartbeats 2000000 in
/-- The loaded weights of a layer are real. -/
theorem loads_real (hI : I.Real) (h : a.Holds I t) (l : Nat) : a.loads.Real l (I.layer l) where
  wqkv c e := (load_layer a.harg7 a.x6 l (inb_S1x256x1536 l) c e).trans ((h.x6 (lay l) c e).trans (hI.wqkv _ c e))
  wo c e := (load_layer a.harg8 a.x7 l (inb_S1x512x256 l) c e).trans ((h.x7 (lay l) c e).trans (hI.wo _ c e))
  bo d := (load_layer a.harg9 a.x8 l (inb_S1x1x256 l) 0 d).trans ((h.x8 (lay l) d).trans (hI.bo _ d))
  g1 d := (load_layer a.harg10 a.x9 l (inb_S1x1x256 l) 0 d).trans ((h.x9 (lay l) d).trans (hI.g1 _ d))
  be1 d := (load_layer a.harg11 a.x10 l (inb_S1x1x256 l) 0 d).trans ((h.x10 (lay l) d).trans (hI.be1 _ d))
  w1 c e := (load_layer a.harg12 a.x11 l (inb_S1x256x512 l) c e).trans ((h.x11 (lay l) c e).trans (hI.w1 _ c e))
  b1 d := (load_layer a.harg13 a.x12 l (inb_S1x1x512 l) 0 d).trans ((h.x12 (lay l) d).trans (hI.b1 _ d))
  w2 c e := (load_layer a.harg14 a.x13 l (inb_S1x512x256 l) c e).trans ((h.x13 (lay l) c e).trans (hI.w2 _ c e))
  b2 d := (load_layer a.harg15 a.x14 l (inb_S1x1x256 l) 0 d).trans ((h.x14 (lay l) d).trans (hI.b2 _ d))
  g2 d := (load_layer a.harg16 a.x15 l (inb_S1x1x256 l) 0 d).trans ((h.x15 (lay l) d).trans (hI.g2 _ d))
  be2 d := (load_layer a.harg17 a.x16 l (inb_S1x1x256 l) 0 d).trans ((h.x16 (lay l) d).trans (hI.be2 _ d))

/-- Image `g` of block `t`. -/
def img (t g : Fin 8) : Fin 64 := ⟨t.val * 8 + g.val, by omega⟩

/-- The projected token of the kernel is the token of the model. -/
theorem proj_at (hI : I.Real) (b : Fin 64) (c p : Fin 128) {u v : Fin 1089 → EReal} (hu : ∀ m, u m = I.x b c m)
    (hv : ∀ m, v m = Ideal.ofBits .f32 (lit0t (m.val * 128 + p.val))) :
    ∑ m, u m * v m = ((tokR (fun b c p => (I.x b c p).toReal) b c p : ℝ) : EReal) := by
  have e : ∀ m, u m * v m = (((I.x b c m).toReal * ((Cert.KernelIdeal.Table.digit (cols.getD p.val 0) m.val : ℝ) / 2 ^ 16) : ℝ) : EReal) := fun m => by
    rw [hu, hv, Cert.KernelIdeal.Table.entry_value, EReal.coe_mul, ← hI.x b c m]
  rw [Finset.sum_congr rfl fun m _ => e m, coe_sum]
  unfold tokR
  rw [Finset.sum_div]
  refine congrArg Real.toEReal (Finset.sum_congr rfl fun m _ => ?_)
  ring

/-- The kernel's embedded patch tokens of image `g` are the model's tokens in the turned order. -/
theorem embedded_at (hI : I.Real) (h : a.Holds I t) (g : Fin 8) (i : Fin 128) (d : Fin 256) :
    embedded a.loads g.val (ix2 i d) = ((I.turned (img t g) i.castSucc d : ℝ) : EReal) := by
  rw [Inputs.turned_patch]
  pointwise [embedded]
  refine Cert.ReferenceIdeal.Spiral.dot_two (fun c => proj_at hI (img t g) c i (fun m => ?_) fun m => ?_) (fun c => ?_) ?_ ?_
  · refine (load_at a.harg1 a.x0 (inb_x g.val) _ (ix3 g c m) (off3 ?_ rfl rfl)).trans (h.x0 g c m)
    show g.val = g.val % 8 + 0
    omega
  · exact (load_whole a.harg2 a.x1 _ m i).trans (h.x1 m i)
  · exact (load_whole a.harg4 a.x3 _ c d).trans ((h.x3 c d).trans (hI.ew c d))
  · exact (load_whole a.harg5 a.x4 _ 0 d).trans ((h.x4 d).trans (hI.eb d))
  · refine (load_at a.harg3 a.x2 inb_S136x256_S128x256_0_0 (ix2 i d) (ix2 (i.castLE (by omega)) d) (off2 (Nat.zero_add _).symm rfl)).trans ((h.x2 _ d).trans ?_)
    exact kernel_pos i d

/-- The kernel's class token row is the model's last token in the turned order. -/
theorem class_at (hI : I.Real) (h : a.Holds I t) (g : Fin 8) (d : Fin 256) :
    clsRow a.loads (ix2 0 d) = ((I.turned (img t g) (Fin.last 128) d : ℝ) : EReal) := by
  rw [Inputs.turned_class]
  pointwise [clsRow]
  refine Cert.ReferenceIdeal.Spiral.sum_two ((load_whole a.harg6 a.x5 _ 0 d).trans ((h.x5 d).trans (hI.cls d))) ?_
  refine (load_at a.harg3 a.x2 inb_S136x256_S1x256_128_0 (ix2 0 d) (ix2 (128 : Fin 136) d) (off2 rfl rfl)).trans ((h.x2 _ d).trans ?_)
  exact kernel_pos_class d

/-- The scores a run stores. -/
theorem score_at (hI : I.Real) (h : a.Holds I t) (g : Fin 8) (k : Fin 16) :
    outK a.arg23 a.arg24 a.arg25 a.arg26 a.loads (ix3 g 0 (k.castLE (by omega))) = I.score (img t g) k := by
  refine (outK_at a.arg23 a.arg24 a.arg25 a.arg26 (W := I.layer) (fun l _ => loads_real hI h l) (X := fun g => I.turned (img t g))
    (embedded_at hI h) (class_at hI h) g _).trans ?_
  rw [Inputs.pooled_turned]
  unfold Inputs.score
  refine congrArg₂ (· + ·) (Finset.sum_congr rfl fun d _ => congrArg₂ (· * ·) (congrArg₂ (· + ·) (congrArg₂ (· * ·) rfl ?_) ?_) ?_) ?_
  · exact (load_whole a.harg18 a.x17 _ 0 d).trans (h.x17 d)
  · exact (load_whole a.harg19 a.x18 _ 0 d).trans (h.x18 d)
  · exact (load_whole a.harg20 a.x19 _ d _).trans (h.x19 d k)
  · exact (load_whole a.harg21 a.x20 _ 0 _).trans (h.x20 k)

end

end Cert.KernelIdeal.Body

end
-- ==== Proof.KerHost.lean ====
/- What the kernel's windows hold: the host operations before the launch, and the blocks of their results. -/
module

public import proofs.«01_k».proof.Proof.KerBlock
public import proofs.«01_k».proof.Proof.Gen.KernelIdeal.Frame
public import Idealize.ShloMosaic.Lib.Pipeline.ValueKit

@[expose] public section

set_option maxRecDepth 16384

noncomputable section

namespace Cert.KernelIdeal.Host

open Cert.KernelIdeal Cert.KernelIdeal.Gen Cert.KernelIdeal.Body Idealize.ShloMosaic Idealize.ShloMosaic.TcCoe Idealize.ShloMosaic.Tactic Cert.Vit
open Idealize.SL.Sem
open scoped BigOperators

variable (m : (ℓ : Loc nD τ sig) → Buf (Elt Ideal) ℓ) (c : Dev nD)

/-- A buffer of numbers. -/
local notation "A" s => Vec Ideal s EltTy.f32

/-- The arguments of the kernel. -/
def inputs : Inputs where
  x b k p := (m ((c : Thread nD τ).loc main_arg0) : A S64x128x33x33) (ix4 b k ⟨p.val / 33, by omega⟩ ⟨p.val % 33, Nat.mod_lt _ (by omega)⟩)
  ew k d := (m ((c : Thread nD τ).loc main_arg1) : A S128x256) (ix2 k d)
  eb d := (m ((c : Thread nD τ).loc main_arg2) : A S256) (ix1 d)
  cls d := (m ((c : Thread nD τ).loc main_arg3) : A S1x1x256) (ix3 0 0 d)
  wqkv l k e := (m ((c : Thread nD τ).loc main_arg4) : A S4x256x1536) (ix3 l k e)
  wo l k e := (m ((c : Thread nD τ).loc main_arg5) : A S4x512x256) (ix3 l k e)
  bo l d := (m ((c : Thread nD τ).loc main_arg6) : A S4x256) (ix2 l d)
  g1 l d := (m ((c : Thread nD τ).loc main_arg7) : A S4x256) (ix2 l d)
  be1 l d := (m ((c : Thread nD τ).loc main_arg8) : A S4x256) (ix2 l d)
  w1 l k e := (m ((c : Thread nD τ).loc main_arg9) : A S4x256x512) (ix3 l k e)
  b1 l d := (m ((c : Thread nD τ).loc main_arg10) : A S4x512) (ix2 l d)
  w2 l k e := (m ((c : Thread nD τ).loc main_arg11) : A S4x512x256) (ix3 l k e)
  b2 l d := (m ((c : Thread nD τ).loc main_arg12) : A S4x256) (ix2 l d)
  g2 l d := (m ((c : Thread nD τ).loc main_arg13) : A S4x256) (ix2 l d)
  be2 l d := (m ((c : Thread nD τ).loc main_arg14) : A S4x256) (ix2 l d)
  hg d := (m ((c : Thread nD τ).loc main_arg15) : A S256) (ix1 d)
  hb d := (m ((c : Thread nD τ).loc main_arg16) : A S256) (ix1 d)
  wh d k := (m ((c : Thread nD τ).loc main_arg17) : A S256x16) (ix2 d k)
  bh k := (m ((c : Thread nD τ).loc main_arg18) : A S16) (ix1 k)

/-! ## The results of the host operations -/

set_option maxHeartbeats 4000000 in
/-- The block every window takes at a step. -/
theorem idx : ∀ t : Fin cfg0.N, win0_0.index t = ![t.val, 0, 0] ∧ win0_1.index t = ![0, 0] ∧ win0_2.index t = ![0, 0] ∧ win0_3.index t = ![0, 0] ∧ win0_4.index t = ![0, 0] ∧ win0_5.index t = ![0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] ∧ win0_12.index t = ![0, 0, 0] ∧ win0_13.index t = ![0, 0, 0] ∧ win0_14.index t = ![0, 0, 0] ∧ win0_15.index t = ![0, 0, 0] ∧ win0_16.index t = ![0, 0, 0] ∧ win0_17.index t = ![0, 0] ∧ win0_18.index t = ![0, 0] ∧ win0_19.index t = ![0, 0] ∧ win0_20.index t = ![0, 0] ∧ win0_21.index t = ![t.val, 0, 0] :=
  (by decide +kernel : ∀ t : Fin grid0.N, _)

/-- The grid has eight steps. -/
theorem steps : cfg0.N = 8 := by decide +kernel

/-- The step as a block number. -/
def stepOf (t : Fin cfg0.N) : Fin 8 := ⟨t.val, steps ▸ t.isLt⟩

/-- At step `t` the image window holds the eight images of block `t`. -/
theorem blk0 (t : Fin cfg0.N) (g : Fin 8) (k : Fin 128) (p : Fin 1089) :
    iblk m c 0 t (ix3 g k p) = (V m c main_v0 : A S64x128x1089) (ix3 (img (stepOf t) g) k p) := by
  blk_simp [iblk]
  refine congrArg (V m c main_v0) ?_
  blk_ext [(idx t).1, stepOf, img]

set_option maxHeartbeats 4000000 in
/-- Every other window holds its whole array. -/
theorem blks (t : Fin cfg0.N) :
    iblk m c 1 t = (V m c main_v19 : Vec Ideal S1089x128 EltTy.bf16)
    ∧ iblk m c 2 t = (V m c main_cst_0 : Vec Ideal S136x256 EltTy.f32)
    ∧ iblk m c 3 t = (V m c main_v20 : Vec Ideal S128x256 EltTy.bf16)
    ∧ iblk m c 4 t = (V m c main_v21 : Vec Ideal S1x256 EltTy.f32)
    ∧ iblk m c 5 t = (V m c main_v22 : Vec Ideal S1x256 EltTy.f32)
    ∧ iblk m c 6 t = (V m c main_v23 : Vec Ideal S4x256x1536 EltTy.bf16)
    ∧ iblk m c 7 t = (V m c main_v24 : Vec Ideal S4x512x256 EltTy.bf16)
    ∧ iblk m c 8 t = (V m c main_v25 : Vec Ideal S4x1x256 EltTy.f32)
    ∧ iblk m c 9 t = (V m c main_v26 : Vec Ideal S4x1x256 EltTy.f32)
    ∧ iblk m c 10 t = (V m c main_v27 : Vec Ideal S4x1x256 EltTy.f32)
    ∧ iblk m c 11 t = (V m c main_v28 : Vec Ideal S4x256x512 EltTy.bf16)
    ∧ iblk m c 12 t = (V m c main_v29 : Vec Ideal S4x1x512 EltTy.f32)
    ∧ iblk m c 13 t = (V m c main_v30 : Vec Ideal S4x512x256 EltTy.bf16)
    ∧ iblk m c 14 t = (V m c main_v31 : Vec Ideal S4x1x256 EltTy.f32)
    ∧ iblk m c 15 t = (V m c main_v32 : Vec Ideal S4x1x256 EltTy.f32)
    ∧ iblk m c 16 t = (V m c main_v33 : Vec Ideal S4x1x256 EltTy.f32)
    ∧ iblk m c 17 t = (V m c main_v34 : Vec Ideal S1x256 EltTy.f32)
    ∧ iblk m c 18 t = (V m c main_v35 : Vec Ideal S1x256 EltTy.f32)
    ∧ iblk m c 19 t = (V m c main_v1 : Vec Ideal S256x128 EltTy.f32)
    ∧ iblk m c 20 t = (V m c main_v3 : Vec Ideal S1x128 EltTy.f32) := by
  obtain ⟨-, e1, e2, e3, e4, e5, e6, e7, e8, e9, e10, e11, e12, e13, e14, e15, e16, e17, e18, e19, e20, -⟩ := idx t
  refine ⟨?_, ?_, ?_, ?_, ?_, ?_, ?_, ?_, ?_, ?_, ?_, ?_, ?_, ?_, ?_, ?_, ?_, ?_, ?_, ?_⟩
  all_goals
    funext y
    blk_simp [iblk]
    refine congrArg (V m c _) ?_
    blk_ext [e1, e2, e3, e4, e5, e6, e7, e8, e9, e10, e11, e12, e13, e14, e15, e16, e17, e18, e19, e20]

end Cert.KernelIdeal.Host

end
-- ==== Proof.KerEntry.lean ====
/- The kernel's windows hold their blocks of the arguments. -/
module

public import proofs.«01_k».proof.Proof.KerHost
public import Idealize.ShloMosaic.Lib.KernelVsHost

@[expose] public section

set_option maxRecDepth 16384

noncomputable section

namespace Cert.KernelIdeal.Host

open Cert.KernelIdeal Cert.KernelIdeal.Gen Cert.KernelIdeal.Body Idealize.ShloMosaic Idealize.ShloMosaic.TcCoe Idealize.ShloMosaic.Tactic Cert.Vit
open Idealize.SL.Sem
open scoped BigOperators

variable (m : (ℓ : Loc nD τ sig) → Buf (Elt Ideal) ℓ) (c : Dev nD)

/-- A buffer of numbers. -/
local notation "A" s => Vec Ideal s EltTy.f32

set_option maxHeartbeats 8000000 in
/-- What the windows' arrays hold when the kernel starts. -/
theorem entry :
    V m c main_v0 = shapeCast S64x128x1089 (m ((c : Thread nD τ).loc main_arg0) : A S64x128x33x33) shapeCasts_S64x128x33x33_S64x128x1089
    ∧ V m c main_v19 = (truncf (F := Ideal) .bf16 (fun i => FloatOps.ofBits (F := Ideal) .f32 (lit0 (S1089x128.rowMajor i)) : A S1089x128) bitsLt_bf16_f32 : Vec Ideal S1089x128 EltTy.bf16)
    ∧ V m c main_cst_0 = (fun i => FloatOps.ofBits (F := Ideal) .f32 (lit1 (S136x256.rowMajor i)) : A S136x256)
    ∧ V m c main_v20 = (truncf (F := Ideal) .bf16 (m ((c : Thread nD τ).loc main_arg1) : A S128x256) bitsLt_bf16_f32 : Vec Ideal S128x256 EltTy.bf16)
    ∧ V m c main_v21 = shapeCast S1x256 (m ((c : Thread nD τ).loc main_arg2) : A S256) shapeCasts_S256_S1x256
    ∧ V m c main_v22 = shapeCast S1x256 (m ((c : Thread nD τ).loc main_arg3) : A S1x1x256) shapeCasts_S1x1x256_S1x256
    ∧ V m c main_v23 = (truncf (F := Ideal) .bf16 (m ((c : Thread nD τ).loc main_arg4) : A S4x256x1536) bitsLt_bf16_f32 : Vec Ideal S4x256x1536 EltTy.bf16)
    ∧ V m c main_v24 = (truncf (F := Ideal) .bf16 (m ((c : Thread nD τ).loc main_arg5) : A S4x512x256) bitsLt_bf16_f32 : Vec Ideal S4x512x256 EltTy.bf16)
    ∧ V m c main_v25 = shapeCast S4x1x256 (m ((c : Thread nD τ).loc main_arg6) : A S4x256) shapeCasts_S4x256_S4x1x256
    ∧ V m c main_v26 = shapeCast S4x1x256 (m ((c : Thread nD τ).loc main_arg7) : A S4x256) shapeCasts_S4x256_S4x1x256
    ∧ V m c main_v27 = shapeCast S4x1x256 (m ((c : Thread nD τ).loc main_arg8) : A S4x256) shapeCasts_S4x256_S4x1x256
    ∧ V m c main_v28 = (truncf (F := Ideal) .bf16 (m ((c : Thread nD τ).loc main_arg9) : A S4x256x512) bitsLt_bf16_f32 : Vec Ideal S4x256x512 EltTy.bf16)
    ∧ V m c main_v29 = shapeCast S4x1x512 (m ((c : Thread nD τ).loc main_arg10) : A S4x512) shapeCasts_S4x512_S4x1x512
    ∧ V m c main_v30 = (truncf (F := Ideal) .bf16 (m ((c : Thread nD τ).loc main_arg11) : A S4x512x256) bitsLt_bf16_f32 : Vec Ideal S4x512x256 EltTy.bf16)
    ∧ V m c main_v31 = shapeCast S4x1x256 (m ((c : Thread nD τ).loc main_arg12) : A S4x256) shapeCasts_S4x256_S4x1x256
    ∧ V m c main_v32 = shapeCast S4x1x256 (m ((c : Thread nD τ).loc main_arg13) : A S4x256) shapeCasts_S4x256_S4x1x256
    ∧ V m c main_v33 = shapeCast S4x1x256 (m ((c : Thread nD τ).loc main_arg14) : A S4x256) shapeCasts_S4x256_S4x1x256
    ∧ V m c main_v34 = shapeCast S1x256 (m ((c : Thread nD τ).loc main_arg15) : A S256) shapeCasts_S256_S1x256
    ∧ V m c main_v35 = shapeCast S1x256 (m ((c : Thread nD τ).loc main_arg16) : A S256) shapeCasts_S256_S1x256
    ∧ V m c main_v1 = pad S256x128 ![0, 0] ![0, 112] ![0, 0] (m ((c : Thread nD τ).loc main_arg17) : A S256x16) (sitofp (F := Ideal) .f32 (constantI S_ 32 0#32) : A S_) pads_S256x16_S256x128_000_01120 h_S_
    ∧ V m c main_v3 = shapeCast S1x128 (pad S128 ![0] ![112] ![0] (m ((c : Thread nD τ).loc main_arg18) : A S16) (sitofp (F := Ideal) .f32 (constantI S_ 32 0#32) : A S_) pads_S16_S128_01120 h_S_) shapeCasts_S128_S1x128 := by
  refine ⟨?_, ?_, ?_, ?_, ?_, ?_, ?_, ?_, ?_, ?_, ?_, ?_, ?_, ?_, ?_, ?_, ?_, ?_, ?_, ?_, ?_⟩
  all_goals
    show StableHlo.after (List.flatten [hostOps0, hostOps0_1, hostOps0_2, hostOps0_3, hostOps0_4, hostOps0_5, hostOps0_6]) _ _ = _
    simp only [List.flatten_cons, List.flatten_nil, List.append_nil, List.cons_append, List.nil_append, StableHlo.TRef.binary, StableHlo.TRef.ternary, StableHlo.TRef.nullary, StableHlo.TRef.unary, StableHlo.TRef.toBuf, StableHlo.TRef.ofBuf, cast_eq]
    after_results_simp
    try rfl

/-- A vector laid out as one row. -/
theorem cast_row {n : Nat} (x : (⟨1, ![n]⟩ : Shape).Idx → EReal) (h : (⟨1, ![n]⟩ : Shape).ShapeCasts ⟨2, ![1, n]⟩) (d : Fin n) :
    shapeCast ⟨2, ![1, n]⟩ x h (ix2 0 d) = x (ix1 d) := by
  refine shapeCast_apply x h _ _ ?_
  refine (Shape.rowMajor_val_one (d := ![n]) (ix1 d)).trans (Eq.trans ?_ (Shape.rowMajor_val_two (d := ![1, n]) (ix2 0 d)).symm)
  show d.val = 0 * n + d.val
  omega

/-- The class token laid out as one row. -/
theorem cast_cls (x : S1x1x256.Idx → EReal) (d : Fin 256) : shapeCast S1x256 x shapeCasts_S1x1x256_S1x256 (ix2 0 d) = x (ix3 0 0 d) := by
  refine shapeCast_apply x _ _ _ ?_
  refine (Shape.rowMajor_val_three (d := ![1, 1, 256]) (ix3 0 0 d)).trans (Eq.trans ?_ (Shape.rowMajor_val_two (d := ![1, 256]) (ix2 0 d)).symm)
  show (0 * 1 + 0) * 256 + d.val = 0 * 256 + d.val
  omega

/-- A row of each layer, laid out with a unit axis between. -/
theorem cast_mid {p n : Nat} (x : (⟨2, ![p, n]⟩ : Shape).Idx → EReal) (h : (⟨2, ![p, n]⟩ : Shape).ShapeCasts ⟨3, ![p, 1, n]⟩) (l : Fin p) (d : Fin n) :
    shapeCast ⟨3, ![p, 1, n]⟩ x h (ix3 l 0 d) = x (ix2 l d) := by
  refine shapeCast_apply x h _ _ ?_
  refine (Shape.rowMajor_val_two (d := ![p, n]) (ix2 l d)).trans (Eq.trans ?_ (Shape.rowMajor_val_three (d := ![p, 1, n]) (ix3 l 0 d)).symm)
  show l.val * n + d.val = (l.val * 1 + 0) * n + d.val
  rw [Nat.mul_one, Nat.add_zero]

/-- The two axes of an image laid out as one. -/
theorem cast_image (x : S64x128x33x33.Idx → EReal) (b : Fin 64) (k : Fin 128) (p : Fin 1089) :
    shapeCast S64x128x1089 x shapeCasts_S64x128x33x33_S64x128x1089 (ix3 b k p) = x (ix4 b k ⟨p.val / 33, by omega⟩ ⟨p.val % 33, Nat.mod_lt _ (by omega)⟩) := by
  refine shapeCast_apply x _ _ _ ?_
  refine (Shape.rowMajor_val_four (d := ![64, 128, 33, 33]) (ix4 b k ⟨p.val / 33, by omega⟩ ⟨p.val % 33, Nat.mod_lt _ (by omega)⟩)).trans (Eq.trans ?_ (Shape.rowMajor_val_three (d := ![64, 128, 1089]) (ix3 b k p)).symm)
  show ((b.val * 128 + k.val) * 33 + p.val / 33) * 33 + p.val % 33 = (b.val * 128 + k.val) * 1089 + p.val
  omega

/-- The first columns of the padded head. -/
theorem pad_head (x : S256x16.Idx → EReal) (v : S_.Idx → EReal) (d : Fin 256) (k : Fin 16) :
    pad S256x128 ![0, 0] ![0, 112] ![0, 0] x v pads_S256x16_S256x128_000_01120 h_S_ (ix2 d (k.castLE (by omega))) = x (ix2 d k) := by
  refine pad_apply_of_inside _ _ _ x v _ _ _ (ix2 d k) fun a => ?_
  match a with
  | ⟨0, _⟩ => show d.val = 0 + d.val * (0 + 1); omega
  | ⟨1, _⟩ => show k.val = 0 + k.val * (0 + 1); omega

/-- The first entries of the padded offset of the head. -/
theorem pad_offset (x : S16.Idx → EReal) (v : S_.Idx → EReal) (k : Fin 16) :
    pad S128 ![0] ![112] ![0] x v pads_S16_S128_01120 h_S_ (ix1 (k.castLE (by omega))) = x (ix1 k) := by
  refine pad_apply_of_inside _ _ _ x v _ _ _ (ix1 k) fun a => ?_
  match a with
  | ⟨0, _⟩ => show k.val = 0 + k.val * (0 + 1); omega

/-- The arguments of the body at a step. -/
def argsAt (t : Fin cfg0.N) : Args Ideal :=
  { c := c, i := grid0.coords t, arg1 := ms0_0 t, harg1 := hs0_0 t, arg2 := ms0_1 t, harg2 := hs0_1 t, arg3 := ms0_2 t, harg3 := hs0_2 t, arg4 := ms0_3 t, harg4 := hs0_3 t, arg5 := ms0_4 t, harg5 := hs0_4 t, arg6 := ms0_5 t, harg6 := hs0_5 t, arg7 := ms0_6 t, harg7 := hs0_6 t, arg8 := ms0_7 t, harg8 := hs0_7 t, arg9 := ms0_8 t, harg9 := hs0_8 t, arg10 := ms0_9 t, harg10 := hs0_9 t, arg11 := ms0_10 t, harg11 := hs0_10 t, arg12 := ms0_11 t, harg12 := hs0_11 t, arg13 := ms0_12 t, harg13 := hs0_12 t, arg14 := ms0_13 t, harg14 := hs0_13 t, arg15 := ms0_14 t, harg15 := hs0_14 t, arg16 := ms0_15 t, harg16 := hs0_15 t, arg17 := ms0_16 t, harg17 := hs0_16 t, arg18 := ms0_17 t, harg18 := hs0_17 t, arg19 := ms0_18 t, harg19 := hs0_18 t, arg20 := ms0_19 t, harg20 := hs0_19 t, arg21 := ms0_20 t, harg21 := hs0_20 t, arg22 := ms0_21 t, harg22 := hs0_21 t, arg23 := scM0_0, harg23 := Memref.isWhole_whole _, arg24 := scM0_1, harg24 := Memref.isWhole_whole _, arg25 := scM0_2, harg25 := Memref.isWhole_whole _, arg26 := scM0_3, harg26 := Memref.isWhole_whole _, x0 := iblk m c 0 t, x1 := iblk m c 1 t, x2 := iblk m c 2 t, x3 := iblk m c 3 t, x4 := iblk m c 4 t, x5 := iblk m c 5 t, x6 := iblk m c 6 t, x7 := iblk m c 7 t, x8 := iblk m c 8 t, x9 := iblk m c 9 t, x10 := iblk m c 10 t, x11 := iblk m c 11 t, x12 := iblk m c 12 t, x13 := iblk m c 13 t, x14 := iblk m c 14 t, x15 := iblk m c 15 t, x16 := iblk m c 16 t, x17 := iblk m c 17 t, x18 := iblk m c 18 t, x19 := iblk m c 19 t, x20 := iblk m c 20 t }

set_option maxHeartbeats 4000000 in
/-- At a step the windows hold the step's eight images, the tables and the weights. -/
theorem holds (t : Fin cfg0.N) : (argsAt m c t).Holds (inputs m c) (stepOf t) := by
  obtain ⟨b1, b2, b3, b4, b5, b6, b7, b8, b9, b10, b11, b12, b13, b14, b15, b16, b17, b18, b19, b20⟩ := blks m c t
  obtain ⟨e0, e1, e2, e3, e4, e5, e6, e7, e8, e9, e10, e11, e12, e13, e14, e15, e16, e17, e18, e19, e20⟩ := entry m c
  exact {
    x0 := fun g k p => ((blk0 m c t g k p).trans (congrFun e0 _)).trans (cast_image _ _ k p)
    x1 := fun i p => ((congrFun b1 _).trans (congrFun e1 _)).trans (congrArg (fun k => Ideal.ofBits .f32 (lit0t k)) (Shape.rowMajor_val_two (d := ![1089, 128]) (ix2 i p)))
    x2 := fun i d => ((congrFun b2 _).trans (congrFun e2 _)).trans (congrArg (fun k => Ideal.ofBits .f32 (lit1t k)) (Shape.rowMajor_val_two (d := ![136, 256]) (ix2 i d)))
    x3 := fun _ _ => (congrFun b3 _).trans (congrFun e3 _)
    x4 := fun d => ((congrFun b4 _).trans (congrFun e4 _)).trans (cast_row (n := 256) _ _ d)
    x5 := fun d => ((congrFun b5 _).trans (congrFun e5 _)).trans (cast_cls _ d)
    x6 := fun _ _ _ => (congrFun b6 _).trans (congrFun e6 _)
    x7 := fun _ _ _ => (congrFun b7 _).trans (congrFun e7 _)
    x8 := fun l d => ((congrFun b8 _).trans (congrFun e8 _)).trans (cast_mid (p := 4) (n := 256) _ _ l d)
    x9 := fun l d => ((congrFun b9 _).trans (congrFun e9 _)).trans (cast_mid (p := 4) (n := 256) _ _ l d)
    x10 := fun l d => ((congrFun b10 _).trans (congrFun e10 _)).trans (cast_mid (p := 4) (n := 256) _ _ l d)
    x11 := fun _ _ _ => (congrFun b11 _).trans (congrFun e11 _)
    x12 := fun l d => ((congrFun b12 _).trans (congrFun e12 _)).trans (cast_mid (p := 4) (n := 512) _ _ l d)
    x13 := fun _ _ _ => (congrFun b13 _).trans (congrFun e13 _)
    x14 := fun l d => ((congrFun b14 _).trans (congrFun e14 _)).trans (cast_mid (p := 4) (n := 256) _ _ l d)
    x15 := fun l d => ((congrFun b15 _).trans (congrFun e15 _)).trans (cast_mid (p := 4) (n := 256) _ _ l d)
    x16 := fun l d => ((congrFun b16 _).trans (congrFun e16 _)).trans (cast_mid (p := 4) (n := 256) _ _ l d)
    x17 := fun d => ((congrFun b17 _).trans (congrFun e17 _)).trans (cast_row (n := 256) _ _ d)
    x18 := fun d => ((congrFun b18 _).trans (congrFun e18 _)).trans (cast_row (n := 256) _ _ d)
    x19 := fun d k => ((congrFun b19 _).trans (congrFun e19 _)).trans (pad_head _ _ d k)
    x20 := fun k => (((congrFun b20 _).trans (congrFun e20 _)).trans (cast_row (n := 128) _ _ _)).trans (pad_offset _ _ k) }

end Cert.KernelIdeal.Host

end
-- ==== Proof.KerResult.lean ====
/- The result of the kernel's program: the scores of all images. -/
module

public import proofs.«01_k».proof.Proof.KerEntry
public import Idealize.ShloMosaic.Lib.Claim

@[expose] public section

set_option maxRecDepth 16384

noncomputable section

namespace Cert.KernelIdeal.Host

open Cert.KernelIdeal Cert.KernelIdeal.Gen Cert.KernelIdeal.Body Idealize.ShloMosaic Idealize.ShloMosaic.TcCoe Idealize.ShloMosaic.Tactic Cert.Vit
open Idealize.SL.Sem

variable (m : (ℓ : Loc nD τ sig) → Buf (Elt Ideal) ℓ) (c : Dev nD)

/-- A buffer of numbers. -/
local notation "A" s => Vec Ideal s EltTy.f32

/-- What a run leaves in its output block is the model's value. -/
theorem out_of (a : Args Ideal) :
    out0_A_21 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 a.arg24 a.harg24 a.arg25 a.harg25 a.arg26 a.harg26 a.x0 a.x1 a.x2 a.x3 a.x4 a.x5 a.x6 a.x7 a.x8 a.x9 a.x10 a.x11 a.x12 a.x13 a.x14 a.x15 a.x16 a.x17 a.x18 a.x19 a.x20
      = outK a.arg23 a.arg24 a.arg25 a.arg26 a.loads := by
  funext y
  unfold out0_A_21
  refine (congrFun (View.read_writes_junk_eq_canon _ _) y).trans ?_
  refine (congrArg (fun L => View.canon L y) (run_piece a)).trans ?_
  refine canon_hit (s := S8x1x128) (e := .f32) (off := ![0, 0, 0]) (size := S8x1x128.size) inb_S8x1x128_S8x1x128_0_0_0 _ [] y y fun k => ?_
  match k with
  | ⟨0, _⟩ => exact (Nat.zero_add _).symm
  | ⟨1, _⟩ => exact (Nat.zero_add _).symm
  | ⟨2, _⟩ => exact (Nat.zero_add _).symm

set_option maxHeartbeats 2000000 in
/-- What a step leaves in its output block. -/
theorem out_at (t : Fin cfg0.N) (y : S8x1x128.Idx) : outsAt0 m c t y = outK scM0_0 scM0_1 scM0_2 scM0_3 (argsAt m c t).loads y :=
  congrFun (out_of (argsAt m c t)) y

/-- The scores a step leaves. -/
theorem score_out (hI : (inputs m c).Real) (t : Fin cfg0.N) (g : Fin 8) (k : Fin 16) :
    outsAt0 m c t (ix3 g 0 (k.castLE (by omega))) = (inputs m c).score (img (stepOf t) g) k :=
  (out_at m c t _).trans (score_at hI (holds m c t) g k)

/-- The output array, block by block. -/
def outArr : A S64x1x128 := fun i =>
  outsAt0 m c ⟨(i 0).val / 8, steps.symm ▸ Nat.div_lt_of_lt_mul (show (i 0).val < 8 * 8 from (i 0).isLt)⟩ (ix3 ⟨(i 0).val % 8, Nat.mod_lt _ (by omega)⟩ 0 (i 2))

/-- The same block read at the same place. -/
theorem out_same {t t' : Fin cfg0.N} (ht : t.val = t'.val) {y y' : S8x1x128.Idx} (hy : ∀ a, (y a).val = (y' a).val) : outsAt0 m c t y = outsAt0 m c t' y' := by
  obtain rfl : t = t' := Fin.ext ht
  exact congrArg _ (funext fun a => Fin.ext (hy a))

/-- After the launch the output array holds every block. -/
theorem arr : (dats m 0 c).arrAt 21 cfg0.N = outArr m c := by
  refine (dats m 0 c).arrAt_eq_of_covers 21 _ (by decide +kernel) fun t hf y => ?_
  blk_simp
  rw [after0_21]
  obtain ⟨-, -, -, -, -, -, -, -, -, -, -, -, -, -, -, -, -, -, -, -, -, e⟩ := idx t
  have h0 : (((win0_21.blk t).view.emb y : S64x1x128.Idx) 0).val = t.val * 8 + (y 0).val := by
    blk_simp [e]
  have h2 : (((win0_21.blk t).view.emb y : S64x1x128.Idx) 2).val = (y 2).val := by
    blk_simp [e]
  have hy : (y 0).val < 8 := (y 0).isLt
  refine out_same m c ?_ fun a => ?_
  · show t.val = _ / 8
    rw [h0]
    omega
  · match a with
    | ⟨0, _⟩ => show (y 0).val = _ % 8; rw [h0]; omega
    | ⟨1, _⟩ => show (y 1).val = 0; have : (y 1).val < 1 := (y 1).isLt; omega
    | ⟨2, _⟩ => exact h2.symm

/-- The host operations after the launch: the first sixteen columns. -/
theorem tail_eq (W : Valuation τ sig (Elt Ideal)) :
    StableHlo.after (List.flatten [hostOps1]) W (Proc.devRef .tc main_v38)
      = extractStridedSlice S64x16 ![0, 0] (shapeCast S64x128 (W (Proc.devRef .tc main_v36) : A S64x1x128) shapeCasts_S64x1x128_S64x128) slices_S64x128_S64x16_0_0 := by
  simp only [List.flatten_cons, List.flatten_nil, List.append_nil, StableHlo.TRef.unary, StableHlo.TRef.toBuf, StableHlo.TRef.ofBuf, cast_eq]
  after_results_simp
  try rfl

/-- Every score, as an array. -/
def scores : A S64x16 := fun i => (inputs m c).score (i 0) (i 1)

/-- The first sixteen columns of the output array are the scores. -/
theorem slice_scores (hI : (inputs m c).Real) :
    extractStridedSlice S64x16 ![0, 0] (shapeCast S64x128 (outArr m c) shapeCasts_S64x1x128_S64x128) slices_S64x128_S64x16_0_0 = scores m c := by
  funext i
  obtain ⟨b, k, rfl⟩ : ∃ (b : Fin 64) (k : Fin 16), i = ix2 b k := ⟨i 0, i 1, funext fun a => by match a with | ⟨0, _⟩ => rfl | ⟨1, _⟩ => rfl⟩
  have e : extractStridedSlice S64x16 ![0, 0] (shapeCast S64x128 (outArr m c) shapeCasts_S64x1x128_S64x128) slices_S64x128_S64x16_0_0 (ix2 b k)
      = outArr m c (ix3 b 0 (k.castLE (by omega))) := by
    refine Eq.trans (b := shapeCast S64x128 (outArr m c) shapeCasts_S64x1x128_S64x128 (ix2 b (k.castLE (by omega)))) ?_ ?_
    · refine congrArg (shapeCast S64x128 (outArr m c) shapeCasts_S64x1x128_S64x128) (funext fun a => Fin.ext ?_)
      match a with
      | ⟨0, _⟩ => exact Nat.zero_add _
      | ⟨1, _⟩ => exact Nat.zero_add _
    · refine shapeCast_apply _ _ _ _ ?_
      refine (Shape.rowMajor_val_three (d := ![64, 1, 128]) (ix3 b 0 (k.castLE (by omega)))).trans (Eq.trans ?_ (Shape.rowMajor_val_two (d := ![64, 128]) (ix2 b (k.castLE (by omega)))).symm)
      show (b.val * 1 + 0) * 128 + k.val = b.val * 128 + k.val
      omega
  refine e.trans ((score_out m c hI _ _ k).trans (congrArg (fun b => (inputs m c).score b k) (Fin.ext ?_)))
  show b.val / 8 * 8 + b.val % 8 = b.val
  omega

/-- The result is no window's array. -/
theorem result_free : main_v38 ∈ Pipeline.restRefs sig (cfgs 0).spec :=
  Pipeline.mem_restRefs_of main_v38 (by decide) (by decide)

/-- After the launch the output's buffer holds the output array. -/
theorem output_held (W : Valuation τ sig (Elt Ideal)) :
    Pipeline.withArrays (cfgs 0).spec c W (fun w => (dats m 0 c).arrAt w (cfgs 0).N) (Proc.devRef .tc main_v36) = outArr m c :=
  (Pipeline.withArrays_arr (cfgs 0).spec winFacts0.arr_inj c W (fun w => (dats m 0 c).arrAt w (cfgs 0).N) 21).trans (arr m c)

/-- What the last host operations leave in the result. -/
theorem after_launch (hI : (inputs m c).Real) : Pipeline.afterTail₀ cfgs (dats m) 0 (V0 m) [hostOps1] c main_v38 = scores m c := by
  unfold Pipeline.afterTail₀
  refine (tail_eq _).trans ?_
  rw [output_held]
  exact slice_scores m c hI

/-- The program leaves the scores. -/
theorem run_scores (ρ : Dev nD → PrngReg) (hI : ∀ c, (inputs m c).Real) :
    θ_run defs (onTc (τ := τ) (main (F := Ideal))) ⟨m, fun _ => 0, ρ⟩ fun r => ∀ c : Dev nD,
      r.2.mem ((c.tc : Thread nD τ).loc main_v38) = scores m c :=
  (θ_run _ _ _).mono (fun _ h c => ((h c).2 main_v38 result_free).trans (after_launch m c (hI c))) (run_main m ρ)

end Cert.KernelIdeal.Host

end
-- ==== Proof.Pre.lean ====
/- The precondition, opened: every number of the first fifteen arguments is real. -/
module

public import proofs.«01_k».proof.Proof.KerHost
public import proofs.«01_k».proof.Pre_finite_args
public import Idealize.ShloMosaic.Lib.ReduceAll
public import Idealize.ShloMosaic.Lib.KernelVsHost

@[expose] public section

set_option maxRecDepth 16384

noncomputable section

namespace Cert.Pre_finite_args

open Idealize.ShloMosaic Cert.Vit

/-- A conjunction of two bits is one only when both are. -/
theorem both {a b : IVec S_ 1} {j : S_.Idx} (h : andi a b j = 1#1) : a j = 1#1 ∧ b j = 1#1 :=
  (by decide : ∀ u v : BitVec 1, u &&& v = 1#1 → u = 1#1 ∧ v = 1#1) (a j) (b j) h

/-- The empty index is the only one. -/
instance : Subsingleton S_.Idx := ⟨fun _ _ => funext fun a => a.elim0⟩

/-- A number whose absolute value is below infinity is real. -/
theorem real_of_lt (x : Ideal .f32) (h : FloatOps.cmpf .olt (FloatOps.hostAbsf x) (FloatOps.ofBits (F := Ideal) .f32 0x7F800000#32) = 1#1) : IsReal x := by
  rw [← Ideal.xori_weird_eq_hostAbsf_olt_inf] at h
  have hn : ¬ ((x : EReal) = ⊤ ∨ (x : EReal) = ⊥) := fun e => by
    have hw : FloatOps.weird x = 1#1 := by
      show BitVec.ofBool (decide ((x : EReal) = ⊤ ∨ (x : EReal) = ⊥)) = 1#1
      rw [decide_eq_true e]
      rfl
    rw [hw] at h
    exact absurd h (by decide)
  exact (EReal.coe_toReal (fun e => hn (.inl e)) (fun e => hn (.inr e))).symm

/-- An array that passes the test holds real numbers. -/
theorem real_of_all {s : Shape} {axes : List (Fin s.rank)} (x : FVec Ideal s .f32) (hb : S_.BroadcastsInDim s (![] : Fin 0 → Fin s.rank)) (hr : s.ReducesTo axes S_) (hu : 0 < S_.numel)
    (j : S_.Idx) (e : Host.reduce IntOp.andi (cmpf .olt (Host.absf x) (broadcastInDim s ![] hb (constant S_ .f32 0x7F800000#32))) (constantI S_ 1 1#1) hr hu j = 1#1)
    (i : s.Idx) : IsReal (x i) :=
  real_of_lt (x i) (Host.reduce_andi_all _ _ _ _ j e i)

variable [Facts]

/-- What the precondition says of each argument it tests. -/
theorem all_real {a0 : FVec Ideal S64x128x33x33 .f32} {a1 : FVec Ideal S128x256 .f32} {a2 : FVec Ideal S256 .f32} {a3 : FVec Ideal S1x1x256 .f32}
    {a4 : FVec Ideal S4x256x1536 .f32} {a5 : FVec Ideal S4x512x256 .f32} {a6 a7 a8 : FVec Ideal S4x256 .f32} {a9 : FVec Ideal S4x256x512 .f32} {a10 : FVec Ideal S4x512 .f32}
    {a11 : FVec Ideal S4x512x256 .f32} {a12 a13 a14 : FVec Ideal S4x256 .f32} {a15 a16 : FVec Ideal S256 .f32} {a17 : FVec Ideal S256x16 .f32} {a18 : FVec Ideal S16 .f32}
    {j : S_.Idx} (e : fn a0 a1 a2 a3 a4 a5 a6 a7 a8 a9 a10 a11 a12 a13 a14 a15 a16 a17 a18 j = 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i))
      ∧ (∀ i, IsReal (a14 i)) := by
  unfold fn fn_part1 fn_part2 fn_part3 fn_part4 at e
  dsimp only at e
  obtain ⟨e, h14⟩ := both e
  obtain ⟨e, h13⟩ := both e
  obtain ⟨e, h12⟩ := both e
  obtain ⟨e, h11⟩ := both e
  obtain ⟨e, h10⟩ := both e
  obtain ⟨e, h9⟩ := both e
  obtain ⟨e, h8⟩ := both e
  obtain ⟨e, h7⟩ := both e
  obtain ⟨e, h6⟩ := both e
  obtain ⟨e, h5⟩ := both e
  obtain ⟨e, h4⟩ := both e
  obtain ⟨e, h3⟩ := both e
  obtain ⟨e, h2⟩ := both e
  obtain ⟨h0, h1⟩ := both e
  exact ⟨real_of_all _ _ _ _ j h0, real_of_all _ _ _ _ j h1, real_of_all _ _ _ _ j h2, real_of_all _ _ _ _ j h3, real_of_all _ _ _ _ j h4, real_of_all _ _ _ _ j h5,
    real_of_all _ _ _ _ j h6, real_of_all _ _ _ _ j h7, real_of_all _ _ _ _ j h8, real_of_all _ _ _ _ j h9, real_of_all _ _ _ _ j h10, real_of_all _ _ _ _ j h11,
    real_of_all _ _ _ _ j h12, real_of_all _ _ _ _ j h13, real_of_all _ _ _ _ j h14⟩

end Cert.Pre_finite_args

namespace Cert.KernelIdeal.Host

open Cert.KernelIdeal Cert.KernelIdeal.Gen Idealize.ShloMosaic Idealize.ShloMosaic.TcCoe Cert.Vit

/-- Where the precondition holds, the arguments of the model are real. -/
theorem inputs_real [Cert.Pre_finite_args.Facts] (m : (ℓ : Loc nD τ sig) → Buf (Elt Ideal) ℓ) (c : Dev nD) {j : Cert.Pre_finite_args.S_.Idx}
    (e : Cert.Pre_finite_args.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17)) (m ((c : Thread nD τ).loc main_arg18)) j = 1#1) :
    (inputs m c).Real := by
  obtain ⟨h0, h1, h2, h3, h4, h5, h6, h7, h8, h9, h10, h11, h12, h13, h14⟩ := Cert.Pre_finite_args.all_real e
  exact {
    x := fun _ _ _ => h0 _
    ew := fun _ _ => h1 _
    eb := fun _ => h2 _
    cls := fun _ => h3 _
    wqkv := fun _ _ _ => h4 _
    wo := fun _ _ _ => h5 _
    bo := fun _ _ => h6 _
    g1 := fun _ _ => h7 _
    be1 := fun _ _ => h8 _
    w1 := fun _ _ _ => h9 _
    b1 := fun _ _ => h10 _
    w2 := fun _ _ _ => h11 _
    b2 := fun _ _ => h12 _
    g2 := fun _ _ => h13 _
    be2 := fun _ _ => h14 _ }

end Cert.KernelIdeal.Host

end
-- ==== Proof.Agree.lean ====
/- The reference and the kernel, from the same arguments, leave the same scores. -/
module

public import proofs.«01_k».proof.Proof.RefResult
public import proofs.«01_k».proof.Proof.KerResult
public import proofs.«01_k».proof.Proof.Pre

@[expose] public section

set_option maxRecDepth 16384

noncomputable section

namespace Cert.Vit

open Idealize.ShloMosaic Idealize.SL.Sem

/-- Arguments equal in every part are equal. -/
theorem Inputs.same {I J : Inputs} (x : I.x = J.x) (ew : I.ew = J.ew) (eb : I.eb = J.eb) (cls : I.cls = J.cls) (wqkv : I.wqkv = J.wqkv) (wo : I.wo = J.wo)
    (bo : I.bo = J.bo) (g1 : I.g1 = J.g1) (be1 : I.be1 = J.be1) (w1 : I.w1 = J.w1) (b1 : I.b1 = J.b1) (w2 : I.w2 = J.w2) (b2 : I.b2 = J.b2) (g2 : I.g2 = J.g2)
    (be2 : I.be2 = J.be2) (hg : I.hg = J.hg) (hb : I.hb = J.hb) (wh : I.wh = J.wh) (bh : I.bh = J.bh) : I = J := by
  cases I
  cases J
  dsimp only at *
  subst x ew eb cls wqkv wo bo g1 be1 w1 b1 w2 b2 g2 be2 hg hb wh bh
  rfl

/-- The scores of the reference are the scores of the kernel, where their arguments are the same. -/
theorem res_eq_scores {V : Valuation Cert.ReferenceIdeal.τ Cert.ReferenceIdeal.sig (Elt Ideal)}
    (m : (ℓ : Loc Cert.KernelIdeal.nD Cert.KernelIdeal.τ Cert.KernelIdeal.sig) → Buf (Elt Ideal) ℓ) (c : Dev Cert.KernelIdeal.nD)
    (hI : (Cert.KernelIdeal.Host.inputs m c).Real) (e : Cert.ReferenceIdeal.Result.inputs V = Cert.KernelIdeal.Host.inputs m c) :
    Cert.ReferenceIdeal.Result.res V = Cert.KernelIdeal.Host.scores m c := by
  funext i
  obtain ⟨b, k, rfl⟩ : ∃ (b : Fin 64) (k : Fin 16), i = ix2 b k := ⟨i 0, i 1, funext fun a => by match a with | ⟨0, _⟩ => rfl | ⟨1, _⟩ => rfl⟩
  exact (Cert.ReferenceIdeal.Result.res_at (e ▸ hI) b k).trans (congrArg (fun I : Inputs => I.score b k) e)

end Cert.Vit

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_args
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From agreeing arguments both programs leave the same scores, where the precondition holds. -/
theorem algebraic [Cert.Pre_finite_args.Facts] : Cert.algebraic_KernelIdeal_ReferenceIdeal_pre_finite_args := fun m g m' g' hp h => by
  have hI : ∀ c, (Cert.KernelIdeal.Host.inputs m c).Real := fun c => Cert.KernelIdeal.Host.inputs_real m c (j := fun a => a.elim0) (congrFun (hp c) _)
  have e : ∀ c, Cert.ReferenceIdeal.Result.inputs (StableHlo.launchContents m' c) = Cert.KernelIdeal.Host.inputs m c := fun c => by
    obtain ⟨h0, h1, h2, h3, h4, h5, h6, h7, h8, h9, h10, h11, h12, h13, h14, h15, h16, h17, h18⟩ := h c
    exact Cert.Vit.Inputs.same
      (funext fun _ => funext fun _ => funext fun _ => congrFun h0 _)
      (funext fun _ => funext fun _ => congrFun h1 _)
      (funext fun _ => congrFun h2 _)
      (funext fun _ => congrFun h3 _)
      (funext fun _ => funext fun _ => funext fun _ => congrFun h4 _)
      (funext fun _ => funext fun _ => funext fun _ => congrFun h5 _)
      (funext fun _ => funext fun _ => congrFun h6 _)
      (funext fun _ => funext fun _ => congrFun h7 _)
      (funext fun _ => funext fun _ => congrFun h8 _)
      (funext fun _ => funext fun _ => funext fun _ => congrFun h9 _)
      (funext fun _ => funext fun _ => congrFun h10 _)
      (funext fun _ => funext fun _ => funext fun _ => congrFun h11 _)
      (funext fun _ => funext fun _ => congrFun h12 _)
      (funext fun _ => funext fun _ => congrFun h13 _)
      (funext fun _ => funext fun _ => congrFun h14 _)
      (funext fun _ => congrFun h15 _)
      (funext fun _ => congrFun h16 _)
      (funext fun _ => funext fun _ => congrFun h17 _)
      (funext fun _ => congrFun h18 _)
  exact ⟨fun c => Cert.KernelIdeal.Host.scores m c,
    (θ_run _ _ _).mono (fun _ h c => ⟨h.1 c, h.2 c⟩) (θ_run_and (Cert.KernelIdeal.Host.run_scores m g hI) (Cert.KernelIdeal.Gen.unchanged m g)),
    (θ_run _ _ _).mono (fun _ h c => ⟨(h.1 c).trans (Cert.Vit.res_eq_scores m c (hI c) (e c)), (h.2 c).2⟩)
      (θ_run_and (Cert.ReferenceIdeal.Result.run_res m' g') (Cert.ReferenceIdeal.Value.run m' g'))⟩

/-- Every claim. -/
theorem claim : Cert.Claim := ⟨Cert.Kernel.Gen.facts, Cert.KernelIdeal.Gen.facts, Cert.ReferenceIdeal.Gen.facts, Cert.Pre_finite_args.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun _ h => ⟨fun c => (h c).2, sem_eq_zero_of_no_sems rfl _⟩) (Cert.ReferenceIdeal.Value.run m ρ),
  fun m ρ _ => (θ_run _ _ _).mono (fun _ h => ⟨fun c => (h c).2, sem_eq_zero_of_no_sems rfl _⟩) (Cert.ReferenceIdeal.Value.run m ρ),
  IdealRules.named_const.statement _ _ _ _ _ rfl,
  algebraic⟩

end Cert.Proof

end
